-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scales [hPre_positive_scales : Cert.Pre_positive_scales.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scales [hPre_positive_scales : Cert.Pre_positive_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive_scales [hKernelIdeal : Cert.KernelIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive_scales [hReferenceIdeal : Cert.ReferenceIdeal.Facts] [hPre_positive_scales : Cert.Pre_positive_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2)
      ∧ r.2.mem ((c.tc : Thread Cert.Quantise.nD Cert.Quantise.τ).loc Cert.Quantise.main_arg3) = m ((c.tc : Thread Cert.Quantise.nD Cert.Quantise.τ).loc Cert.Quantise.main_arg3))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
      ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def preserves_Kernel_KernelIdeal : Prop :=
  IdealRules.named_const.Statement Cert.KernelIdeal.κ "sm_scale_log2e" .f32 0x3E0293EE#32 (((Real.sqrt 128)⁻¹ * (Real.log 2)⁻¹ : ℝ) : EReal)

def algebraic_KernelIdeal_ReferenceIdeal_pre_positive_scales [hKernelIdeal : Cert.KernelIdeal.Facts] [hReferenceIdeal : Cert.ReferenceIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)
      ∧ m' ((c.tc : Thread Cert.QuantiseReferenceIdeal.nD Cert.QuantiseReferenceIdeal.τ).loc Cert.QuantiseReferenceIdeal.main_arg3) = m ((c.tc : Thread Cert.QuantiseIdeal.nD Cert.QuantiseIdeal.τ).loc Cert.QuantiseIdeal.main_arg3)) →
    ∃ (v0 : (c : Dev Cert.QuantiseIdeal.nD) → Buf (Elt Ideal) ((c.tc : Thread Cert.QuantiseIdeal.nD Cert.QuantiseIdeal.τ).loc Cert.QuantiseIdeal.main_v28_0)) (v1 : (c : Dev Cert.QuantiseIdeal.nD) → Buf (Elt Ideal) ((c.tc : Thread Cert.QuantiseIdeal.nD Cert.QuantiseIdeal.τ).loc Cert.QuantiseIdeal.main_v28_1)) (v2 : (c : Dev Cert.QuantiseIdeal.nD) → Buf (Elt Ideal) ((c.tc : Thread Cert.QuantiseIdeal.nD Cert.QuantiseIdeal.τ).loc Cert.QuantiseIdeal.main_v28_2)) (v3 : (c : Dev Cert.QuantiseIdeal.nD) → Buf (Elt Ideal) ((c.tc : Thread Cert.QuantiseIdeal.nD Cert.QuantiseIdeal.τ).loc Cert.QuantiseIdeal.main_v28_3)) (v4 : (c : Dev Cert.QuantiseIdeal.nD) → Buf (Elt Ideal) ((c.tc : Thread Cert.QuantiseIdeal.nD Cert.QuantiseIdeal.τ).loc Cert.QuantiseIdeal.main_v28_4)) (v5 : (c : Dev Cert.QuantiseIdeal.nD) → Buf (Elt Ideal) ((c.tc : Thread Cert.QuantiseIdeal.nD Cert.QuantiseIdeal.τ).loc Cert.QuantiseIdeal.main_v28_5)) (v6 : (c : Dev Cert.QuantiseIdeal.nD) → Buf (Elt Ideal) ((c.tc : Thread Cert.QuantiseIdeal.nD Cert.QuantiseIdeal.τ).loc Cert.QuantiseIdeal.main_v28_6)) (v7 : (c : Dev Cert.QuantiseIdeal.nD) → Buf (Elt Ideal) ((c.tc : Thread Cert.QuantiseIdeal.nD Cert.QuantiseIdeal.τ).loc Cert.QuantiseIdeal.main_v28_7)) (v8 : (c : Dev Cert.QuantiseIdeal.nD) → Buf (Elt Ideal) ((c.tc : Thread Cert.QuantiseIdeal.nD Cert.QuantiseIdeal.τ).loc Cert.QuantiseIdeal.main_v28_8)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v28_0) = v0 c
          ∧ r.2.mem ((c.tc : Thread Cert.QuantiseIdeal.nD Cert.QuantiseIdeal.τ).loc Cert.QuantiseIdeal.main_v28_1) = v1 c
          ∧ r.2.mem ((c.tc : Thread Cert.QuantiseIdeal.nD Cert.QuantiseIdeal.τ).loc Cert.QuantiseIdeal.main_v28_2) = v2 c
          ∧ r.2.mem ((c.tc : Thread Cert.QuantiseIdeal.nD Cert.QuantiseIdeal.τ).loc Cert.QuantiseIdeal.main_v28_3) = v3 c
          ∧ r.2.mem ((c.tc : Thread Cert.QuantiseIdeal.nD Cert.QuantiseIdeal.τ).loc Cert.QuantiseIdeal.main_v28_4) = v4 c
          ∧ r.2.mem ((c.tc : Thread Cert.QuantiseIdeal.nD Cert.QuantiseIdeal.τ).loc Cert.QuantiseIdeal.main_v28_5) = v5 c
          ∧ r.2.mem ((c.tc : Thread Cert.QuantiseIdeal.nD Cert.QuantiseIdeal.τ).loc Cert.QuantiseIdeal.main_v28_6) = v6 c
          ∧ r.2.mem ((c.tc : Thread Cert.QuantiseIdeal.nD Cert.QuantiseIdeal.τ).loc Cert.QuantiseIdeal.main_v28_7) = v7 c
          ∧ r.2.mem ((c.tc : Thread Cert.QuantiseIdeal.nD Cert.QuantiseIdeal.τ).loc Cert.QuantiseIdeal.main_v28_8) = v8 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
          ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v1_0) = v0 c
          ∧ r.2.mem ((c.tc : Thread Cert.QuantiseReferenceIdeal.nD Cert.QuantiseReferenceIdeal.τ).loc Cert.QuantiseReferenceIdeal.main_v1_1) = v1 c
          ∧ r.2.mem ((c.tc : Thread Cert.QuantiseReferenceIdeal.nD Cert.QuantiseReferenceIdeal.τ).loc Cert.QuantiseReferenceIdeal.main_v1_2) = v2 c
          ∧ r.2.mem ((c.tc : Thread Cert.QuantiseReferenceIdeal.nD Cert.QuantiseReferenceIdeal.τ).loc Cert.QuantiseReferenceIdeal.main_v1_3) = v3 c
          ∧ r.2.mem ((c.tc : Thread Cert.QuantiseReferenceIdeal.nD Cert.QuantiseReferenceIdeal.τ).loc Cert.QuantiseReferenceIdeal.main_v1_4) = v4 c
          ∧ r.2.mem ((c.tc : Thread Cert.QuantiseReferenceIdeal.nD Cert.QuantiseReferenceIdeal.τ).loc Cert.QuantiseReferenceIdeal.main_v1_5) = v5 c
          ∧ r.2.mem ((c.tc : Thread Cert.QuantiseReferenceIdeal.nD Cert.QuantiseReferenceIdeal.τ).loc Cert.QuantiseReferenceIdeal.main_v1_6) = v6 c
          ∧ r.2.mem ((c.tc : Thread Cert.QuantiseReferenceIdeal.nD Cert.QuantiseReferenceIdeal.τ).loc Cert.QuantiseReferenceIdeal.main_v1_7) = v7 c
          ∧ r.2.mem ((c.tc : Thread Cert.QuantiseReferenceIdeal.nD Cert.QuantiseReferenceIdeal.τ).loc Cert.QuantiseReferenceIdeal.main_v1_8) = v8 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2)
          ∧ r.2.mem ((c.tc : Thread Cert.QuantiseReferenceIdeal.nD Cert.QuantiseReferenceIdeal.τ).loc Cert.QuantiseReferenceIdeal.main_arg3) = m' ((c.tc : Thread Cert.QuantiseReferenceIdeal.nD Cert.QuantiseReferenceIdeal.τ).loc Cert.QuantiseReferenceIdeal.main_arg3))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_positive_scales : Cert.Pre_positive_scales.Facts),
    quiescent_Kernel (hKernel := hKernel)
    ∧ quiescent_KernelIdeal (hKernelIdeal := hKernelIdeal)
    ∧ quiescent_KernelIdeal_pre_positive_scales (hKernelIdeal := hKernelIdeal) (hPre_positive_scales := hPre_positive_scales)
    ∧ quiescent_ReferenceIdeal (hReferenceIdeal := hReferenceIdeal)
    ∧ quiescent_ReferenceIdeal_pre_positive_scales (hReferenceIdeal := hReferenceIdeal) (hPre_positive_scales := hPre_positive_scales)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal_pre_positive_scales (hKernelIdeal := hKernelIdeal) (hReferenceIdeal := hReferenceIdeal) (hPre_positive_scales := hPre_positive_scales)
    ∧ preserves_Quantise_QuantiseIdeal
    ∧ algebraic_QuantiseIdeal_QuantiseReferenceIdeal (hQuantiseIdeal := hQuantiseIdeal) (hQuantiseReferenceIdeal := hQuantiseReferenceIdeal)
-- ==== Pre_positive_scales.lean ====
abbrev S9x8x8192x128 : Shape := ⟨4, ![9, 8, 8192, 128]⟩
abbrev S9x64x8 : Shape := ⟨3, ![9, 64, 8]⟩
abbrev S9x8x128x8192 : Shape := ⟨4, ![9, 8, 128, 8192]⟩
abbrev S9x8x128 : Shape := ⟨3, ![9, 8, 128]⟩
abbrev S_ : Shape := ⟨0, ![]⟩

class Facts : Prop where
  bcast_S_S9x64x8 : S_.BroadcastsInDim S9x64x8 (![] : Fin 0 → Fin S9x64x8.rank)
  reducesTo_S9x64x8_S_d0_1_2 : S9x64x8.ReducesTo [0, 1, 2] S_
  h_S_ : 0 < S_.numel

variable [Facts]

def fn {F : FTy → Type} [FloatOps F] (main_arg0 : FVec F S9x8x8192x128 .fp8e4m3) (main_arg1 : FVec F S9x64x8 .f32) (main_arg2 : FVec F S9x8x8192x128 .fp8e4m3) (main_arg3 : FVec F S9x64x8 .f32) (main_arg4 : FVec F S9x8x128x8192 .fp8e4m3) (main_arg5 : FVec F S9x8x128 .f32) : IVec S_ 1 :=
  let main_cst : FVec F S_ .f32 := constant S_ .f32 0x00000000#32
  let main_v0 : FVec F S9x64x8 .f32 := broadcastInDim S9x64x8 ![] bcast_S_S9x64x8 main_cst
  let main_v1 : IVec S9x64x8 1 := cmpf .ogt main_arg1 main_v0
  let main_c : IVec S_ 1 := constantI S_ 1 1#1
  let main_v2 : IVec S_ 1 := (fun x v => Host.reduce IntOp.andi x v reducesTo_S9x64x8_S_d0_1_2 h_S_) main_v1 main_c
  let main_cst_0 : FVec F S_ .f32 := constant S_ .f32 0x00000000#32
  let main_v3 : FVec F S9x64x8 .f32 := broadcastInDim S9x64x8 ![] bcast_S_S9x64x8 main_cst_0
  let main_v4 : IVec S9x64x8 1 := cmpf .ogt main_arg3 main_v3
  let main_c_1 : IVec S_ 1 := constantI S_ 1 1#1
  let main_v5 : IVec S_ 1 := (fun x v => Host.reduce IntOp.andi x v reducesTo_S9x64x8_S_d0_1_2 h_S_) main_v4 main_c_1
  let main_v6 : IVec S_ 1 := andi main_v2 main_v5
  main_v6
-- ==== Kernel.lean ====
abbrev S9x8x8192x128 : Shape := ⟨4, ![9, 8, 8192, 128]⟩
abbrev S9x64x8 : Shape := ⟨3, ![9, 64, 8]⟩
abbrev S9x8x128x8192 : Shape := ⟨4, ![9, 8, 128, 8192]⟩
abbrev S9x8x128 : Shape := ⟨3, ![9, 8, 128]⟩
abbrev S9x512x1 : Shape := ⟨3, ![9, 512, 1]⟩
abbrev S9x512x128 : Shape := ⟨3, ![9, 512, 128]⟩
abbrev S9x8192x1024 : Shape := ⟨3, ![9, 8192, 1024]⟩
abbrev S1x1x512x128 : Shape := ⟨4, ![1, 1, 512, 128]⟩
abbrev S1x1x8192x128 : Shape := ⟨4, ![1, 1, 8192, 128]⟩
abbrev S1x1x128x8192 : Shape := ⟨4, ![1, 1, 128, 8192]⟩
abbrev S1x512x128 : Shape := ⟨3, ![1, 512, 128]⟩
abbrev S1x8x128 : Shape := ⟨3, ![1, 8, 128]⟩
abbrev S8192x512 : Shape := ⟨2, ![8192, 512]⟩
abbrev S8x512 : Shape := ⟨2, ![8, 512]⟩
abbrev S128x512 : Shape := ⟨2, ![128, 512]⟩
abbrev S512x128 : Shape := ⟨2, ![512, 128]⟩
abbrev S1x1x128 : Shape := ⟨3, ![1, 1, 128]⟩
abbrev S1x128 : Shape := ⟨2, ![1, 128]⟩
abbrev S512x512 : Shape := ⟨2, ![512, 512]⟩
abbrev S16x8x512 : Shape := ⟨3, ![16, 8, 512]⟩
abbrev S1x512 : Shape := ⟨2, ![1, 512]⟩
abbrev S512 : Shape := ⟨1, ![512]⟩
abbrev S1x1x128x512 : Shape := ⟨4, ![1, 1, 128, 512]⟩

abbrev nBuf : Space → Nat
  | .hbm => 11
  | .vmem => 18
  | .smem => 0
  | _ => 0

abbrev bufTy : (tb : Table) → Fin (tcTables nBuf tb) → BufTy
  | .hbm, ⟨0, _⟩ => ⟨S9x8x8192x128, .fp8e4m3⟩
  | .hbm, ⟨1, _⟩ => ⟨S9x64x8, .f32⟩
  | .hbm, ⟨2, _⟩ => ⟨S9x8x8192x128, .fp8e4m3⟩
  | .hbm, ⟨3, _⟩ => ⟨S9x64x8, .f32⟩
  | .hbm, ⟨4, _⟩ => ⟨S9x8x128x8192, .fp8e4m3⟩
  | .hbm, ⟨5, _⟩ => ⟨S9x8x128, .f32⟩
  | .hbm, ⟨6, _⟩ => ⟨S9x512x1, .f32⟩
  | .hbm, ⟨7, _⟩ => ⟨S9x512x128, .f32⟩
  | .hbm, ⟨8, _⟩ => ⟨S9x512x1, .f32⟩
  | .hbm, ⟨9, _⟩ => ⟨S9x512x128, .f32⟩
  | .hbm, ⟨10, _⟩ => ⟨S9x8192x1024, .bf16⟩
  | .local _ .vmem, ⟨0, _⟩ => ⟨S1x1x512x128, .fp8e4m3⟩
  | .local _ .vmem, ⟨1, _⟩ => ⟨S1x1x512x128, .fp8e4m3⟩
  | .local _ .vmem, ⟨2, _⟩ => ⟨S1x1x8192x128, .fp8e4m3⟩
  | .local _ .vmem, ⟨3, _⟩ => ⟨S1x1x8192x128, .fp8e4m3⟩
  | .local _ .vmem, ⟨4, _⟩ => ⟨S1x1x128x8192, .fp8e4m3⟩
  | .local _ .vmem, ⟨5, _⟩ => ⟨S1x1x128x8192, .fp8e4m3⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x8x128, .f32⟩
  | .local _ .vmem, ⟨11, _⟩ => ⟨S1x8x128, .f32⟩
  | .local _ .vmem, ⟨12, _⟩ => ⟨S1x512x128, .bf16⟩
  | .local _ .vmem, ⟨13, _⟩ => ⟨S1x512x128, .bf16⟩
  | .local _ .vmem, ⟨14, _⟩ => ⟨S8192x512, .f32⟩
  | .local _ .vmem, ⟨15, _⟩ => ⟨S8x512, .f32⟩
  | .local _ .vmem, ⟨16, _⟩ => ⟨S8x512, .f32⟩
  | .local _ .vmem, ⟨17, _⟩ => ⟨S128x512, .f32⟩
  | _, _ => ⟨S9x8x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![9, 8, 16], ![false, false, false]⟩

def k0_off1 (i : grid0.Coords) (c0_i32 : BitVec 32) : Fin 3 → Nat :=
  let c0_3 : Index := 0#32
  let arg2 : BitVec 32 := BitVec.ofNat 32 (i 2).val
  let c4_i32 : BitVec 32 := 4#32
  let v2 : BitVec 32 := Scalar.muli arg2 c4_i32
  let v3 : BitVec 32 := Scalar.addi v2 c0_i32
  let c8_i32 : BitVec 32 := 8#32
  let v4 : BitVec 32 := Scalar.muli v3 c8_i32
  let arg1 : BitVec 32 := BitVec.ofNat 32 (i 1).val
  let v5 : BitVec 32 := Scalar.addi v4 arg1
  let v6 : Index := Scalar.indexCast v5
  let c0_4 : Index := 0#32
  ![0, v6.toNat, 0]
@[reducible] def k0_t1_loop (i : grid0.Coords) : Scf.Loop 32 :=
  let c0_i32_24 : BitVec 32 := 0#32
  let arg2 : BitVec 32 := BitVec.ofNat 32 (i 2).val
  let v42 : BitVec 32 := Scalar.subi arg2 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_26 : BitVec 32 := 1#32
  ⟨c0_i32_24, v46, c1_i32_26⟩
def k0_off2 (i : grid0.Coords) (k0_t1 : Fin (k0_t1_loop i).trips) : Fin 4 → Nat :=
  let c0_91 : Index := 0#32
  let c0_92 : Index := 0#32
  let c0_i32_24 : BitVec 32 := 0#32
  let c1_i32_26 : BitVec 32 := 1#32
  let arg14 : BitVec 32 := Scf.iv c0_i32_24 c1_i32_26 k0_t1
  let c512_i32_90 : BitVec 32 := 512#32
  let v175 : BitVec 32 := Scalar.muli arg14 c512_i32_90
  let v176 : Index := Scalar.indexCast v175
  let c0_93 : Index := 0#32
  ![0, 0, v176.toNat, 0]
def k0_off3 (i : grid0.Coords) (k0_t1 : Fin (k0_t1_loop i).trips) : Fin 2 → Nat :=
  let c0_i32_24 : BitVec 32 := 0#32
  let c1_i32_26 : BitVec 32 := 1#32
  let arg14 : BitVec 32 := Scf.iv c0_i32_24 c1_i32_26 k0_t1
  let c512_i32_95 : BitVec 32 := 512#32
  let v180 : BitVec 32 := Scalar.muli arg14 c512_i32_95
  let v181 : Index := Scalar.indexCast v180
  let c0_96 : Index := 0#32
  ![v181.toNat, 0]
def k0_off4 (i : grid0.Coords) (k0_t1 : Fin (k0_t1_loop i).trips) (c0_i32_101 : BitVec 32) : Fin 3 → Nat :=
  let c0_103 : Index := 0#32
  let c0_i32_24 : BitVec 32 := 0#32
  let c1_i32_26 : BitVec 32 := 1#32
  let arg14 : BitVec 32 := Scf.iv c0_i32_24 c1_i32_26 k0_t1
  let c4_i32_100 : BitVec 32 := 4#32
  let v189 : BitVec 32 := Scalar.muli arg14 c4_i32_100
  let v190 : BitVec 32 := Scalar.addi v189 c0_i32_101
  let c8_i32_102 : BitVec 32 := 8#32
  let v191 : BitVec 32 := Scalar.muli v190 c8_i32_102
  let arg1 : BitVec 32 := BitVec.ofNat 32 (i 1).val
  let v192 : BitVec 32 := Scalar.addi v191 arg1
  let v193 : Index := Scalar.indexCast v192
  let c0_104 : Index := 0#32
  ![0, v193.toNat, 0]
@[reducible] def k0_t2_loop (i : grid0.Coords) : Scf.Loop 32 :=
  let c0_i32_24 : BitVec 32 := 0#32
  let arg2 : BitVec 32 := BitVec.ofNat 32 (i 2).val
  let v42 : BitVec 32 := Scalar.subi arg2 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let v43 : BitVec 32 := Scalar.addi c0_i32_24 v42
  let c1_i32_27 : BitVec 32 := 1#32
  ⟨v46, v43, c1_i32_27⟩
def k0_off5 (i : grid0.Coords) (k0_t2 : Fin (k0_t2_loop i).trips) : Fin 4 → Nat :=
  let c0_91 : Index := 0#32
  let c0_92 : Index := 0#32
  let c0_i32_24 : BitVec 32 := 0#32
  let arg2 : BitVec 32 := BitVec.ofNat 32 (i 2).val
  let v42 : BitVec 32 := Scalar.subi arg2 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_27 : BitVec 32 := 1#32
  let arg14 : BitVec 32 := Scf.iv v46 c1_i32_27 k0_t2
  let c512_i32_90 : BitVec 32 := 512#32
  let v175 : BitVec 32 := Scalar.muli arg14 c512_i32_90
  let v176 : Index := Scalar.indexCast v175
  let c0_93 : Index := 0#32
  ![0, 0, v176.toNat, 0]
def k0_off6 (i : grid0.Coords) (k0_t2 : Fin (k0_t2_loop i).trips) : Fin 2 → Nat :=
  let c0_i32_24 : BitVec 32 := 0#32
  let arg2 : BitVec 32 := BitVec.ofNat 32 (i 2).val
  let v42 : BitVec 32 := Scalar.subi arg2 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_27 : BitVec 32 := 1#32
  let arg14 : BitVec 32 := Scf.iv v46 c1_i32_27 k0_t2
  let c512_i32_95 : BitVec 32 := 512#32
  let v180 : BitVec 32 := Scalar.muli arg14 c512_i32_95
  let v181 : Index := Scalar.indexCast v180
  let c0_96 : Index := 0#32
  ![v181.toNat, 0]
def k0_off7 (i : grid0.Coords) (k0_t2 : Fin (k0_t2_loop i).trips) (c0_i32_101 : BitVec 32) : Fin 3 → Nat :=
  let c0_103 : Index := 0#32
  let c0_i32_24 : BitVec 32 := 0#32
  let arg2 : BitVec 32 := BitVec.ofNat 32 (i 2).val
  let v42 : BitVec 32 := Scalar.subi arg2 c0_i32_24
  let c1_i32_25 : BitVec 32 := 1#32
  let v44 : BitVec 32 := Scalar.divsi v42 c1_i32_25
  let v45 : BitVec 32 := Scalar.muli v44 c1_i32_25
  let v46 : BitVec 32 := Scalar.addi c0_i32_24 v45
  let c1_i32_27 : BitVec 32 := 1#32
  let arg14 : BitVec 32 := Scf.iv v46 c1_i32_27 k0_t2
  let c4_i32_100 : BitVec 32 := 4#32
  let v189 : BitVec 32 := Scalar.muli arg14 c4_i32_100
  let v190 : BitVec 32 := Scalar.addi v189 c0_i32_101
  let c8_i32_102 : BitVec 32 := 8#32
  let v191 : BitVec 32 := Scalar.muli v190 c8_i32_102
  let arg1 : BitVec 32 := BitVec.ofNat 32 (i 1).val
  let v192 : BitVec 32 := Scalar.addi v191 arg1
  let v193 : Index := Scalar.indexCast v192
  let c0_104 : Index := 0#32
  ![0, v193.toNat, 0]
def k0_off8 (i : grid0.Coords) : Fin 4 → Nat :=
  let c0_28 : Index := 0#32
  let c0_29 : Index := 0#32
  let arg2 : BitVec 32 := BitVec.ofNat 32 (i 2).val
  let c512_i32 : BitVec 32 := 512#32
  let v47 : BitVec 32 := Scalar.muli arg2 c512_i32
  let v48 : Index := Scalar.indexCast v47
  let c0_30 : Index := 0#32
  ![0, 0, v48.toNat, 0]
def k0_off9 (i : grid0.Coords) : Fin 2 → Nat :=
  let arg2 : BitVec 32 := BitVec.ofNat 32 (i 2).val
  let c512_i32_33 : BitVec 32 := 512#32
  let v57 : BitVec 32 := Scalar.muli arg2 c512_i32_33
  let v58 : Index := Scalar.indexCast v57
  let c0_34 : Index := 0#32
  ![v58.toNat, 0]
@[reducible] def k0_t3_loop (i : grid0.Coords) : Scf.Loop 32 :=
  let c0_i32_75 : BitVec 32 := 0#32
  let arg2 : BitVec 32 := BitVec.ofNat 32 (i 2).val
  let c1_i32_73 : BitVec 32 := 1#32
  let v151 : BitVec 32 := Scalar.addi arg2 c1_i32_73
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_77 : BitVec 32 := 1#32
  ⟨c0_i32_75, v156, c1_i32_77⟩
def k0_off10 (i : grid0.Coords) (k0_t3 : Fin (k0_t3_loop i).trips) (c0_i32_93 : BitVec 32) : Fin 2 → Nat :=
  let c0_i32_75 : BitVec 32 := 0#32
  let c1_i32_77 : BitVec 32 := 1#32
  let arg14 : BitVec 32 := Scf.iv c0_i32_75 c1_i32_77 k0_t3
  let c512_i32_92 : BitVec 32 := 512#32
  let v176 : BitVec 32 := Scalar.muli arg14 c512_i32_92
  let v177 : BitVec 32 := Scalar.addi v176 c0_i32_93
  let v178 : Index := Scalar.indexCast v177
  let c0_94 : Index := 0#32
  ![v178.toNat, 0]
def k0_off11 (i : grid0.Coords) (k0_t3 : Fin (k0_t3_loop i).trips) (c0_i32_96 : BitVec 32) : Fin 3 → Nat :=
  let c0_98 : Index := 0#32
  let c0_i32_75 : BitVec 32 := 0#32
  let c1_i32_77 : BitVec 32 := 1#32
  let arg14 : BitVec 32 := Scf.iv c0_i32_75 c1_i32_77 k0_t3
  let c4_i32_95 : BitVec 32 := 4#32
  let v180 : BitVec 32 := Scalar.muli arg14 c4_i32_95
  let v181 : BitVec 32 := Scalar.addi v180 c0_i32_96
  let c8_i32_97 : BitVec 32 := 8#32
  let v182 : BitVec 32 := Scalar.muli v181 c8_i32_97
  let arg1 : BitVec 32 := BitVec.ofNat 32 (i 1).val
  let v183 : BitVec 32 := Scalar.addi v182 arg1
  let v184 : Index := Scalar.indexCast v183
  let c0_99 : Index := 0#32
  ![0, v184.toNat, 0]
def k0_off12 (i : grid0.Coords) (k0_t3 : Fin (k0_t3_loop i).trips) : Fin 4 → Nat :=
  let c0_138 : Index := 0#32
  let c0_139 : Index := 0#32
  let c0_140 : Index := 0#32
  let c0_i32_75 : BitVec 32 := 0#32
  let c1_i32_77 : BitVec 32 := 1#32
  let arg14 : BitVec 32 := Scf.iv c0_i32_75 c1_i32_77 k0_t3
  let c512_i32_137 : BitVec 32 := 512#32
  let v297 : BitVec 32 := Scalar.muli arg14 c512_i32_137
  let v298 : Index := Scalar.indexCast v297
  ![0, 0, 0, v298.toNat]
@[reducible] def k0_t4_loop (i : grid0.Coords) : Scf.Loop 32 :=
  let c0_i32_75 : BitVec 32 := 0#32
  let arg2 : BitVec 32 := BitVec.ofNat 32 (i 2).val
  let c1_i32_73 : BitVec 32 := 1#32
  let v151 : BitVec 32 := Scalar.addi arg2 c1_i32_73
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let v153 : BitVec 32 := Scalar.addi c0_i32_75 v152
  let c1_i32_78 : BitVec 32 := 1#32
  ⟨v156, v153, c1_i32_78⟩
def k0_off13 (i : grid0.Coords) (k0_t4 : Fin (k0_t4_loop i).trips) (c0_i32_93 : BitVec 32) : Fin 2 → Nat :=
  let c0_i32_75 : BitVec 32 := 0#32
  let arg2 : BitVec 32 := BitVec.ofNat 32 (i 2).val
  let c1_i32_73 : BitVec 32 := 1#32
  let v151 : BitVec 32 := Scalar.addi arg2 c1_i32_73
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg14 : BitVec 32 := Scf.iv v156 c1_i32_78 k0_t4
  let c512_i32_92 : BitVec 32 := 512#32
  let v176 : BitVec 32 := Scalar.muli arg14 c512_i32_92
  let v177 : BitVec 32 := Scalar.addi v176 c0_i32_93
  let v178 : Index := Scalar.indexCast v177
  let c0_94 : Index := 0#32
  ![v178.toNat, 0]
def k0_off14 (i : grid0.Coords) (k0_t4 : Fin (k0_t4_loop i).trips) (c0_i32_96 : BitVec 32) : Fin 3 → Nat :=
  let c0_98 : Index := 0#32
  let c0_i32_75 : BitVec 32 := 0#32
  let arg2 : BitVec 32 := BitVec.ofNat 32 (i 2).val
  let c1_i32_73 : BitVec 32 := 1#32
  let v151 : BitVec 32 := Scalar.addi arg2 c1_i32_73
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg14 : BitVec 32 := Scf.iv v156 c1_i32_78 k0_t4
  let c4_i32_95 : BitVec 32 := 4#32
  let v180 : BitVec 32 := Scalar.muli arg14 c4_i32_95
  let v181 : BitVec 32 := Scalar.addi v180 c0_i32_96
  let c8_i32_97 : BitVec 32 := 8#32
  let v182 : BitVec 32 := Scalar.muli v181 c8_i32_97
  let arg1 : BitVec 32 := BitVec.ofNat 32 (i 1).val
  let v183 : BitVec 32 := Scalar.addi v182 arg1
  let v184 : Index := Scalar.indexCast v183
  let c0_99 : Index := 0#32
  ![0, v184.toNat, 0]
def k0_off15 (i : grid0.Coords) (k0_t4 : Fin (k0_t4_loop i).trips) : Fin 4 → Nat :=
  let c0_138 : Index := 0#32
  let c0_139 : Index := 0#32
  let c0_140 : Index := 0#32
  let c0_i32_75 : BitVec 32 := 0#32
  let arg2 : BitVec 32 := BitVec.ofNat 32 (i 2).val
  let c1_i32_73 : BitVec 32 := 1#32
  let v151 : BitVec 32 := Scalar.addi arg2 c1_i32_73
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg14 : BitVec 32 := Scf.iv v156 c1_i32_78 k0_t4
  let c512_i32_137 : BitVec 32 := 512#32
  let v297 : BitVec 32 := Scalar.muli arg14 c512_i32_137
  let v298 : Index := Scalar.indexCast v297
  ![0, 0, 0, v298.toNat]
def k0_off16 (i : grid0.Coords) : Fin 3 → Nat :=
  let c0_85 : Index := 0#32
  let arg1 : BitVec 32 := BitVec.ofNat 32 (i 1).val
  let v166 : Index := Scalar.indexCast arg1
  let c0_86 : Index := 0#32
  ![0, v166.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "sm_scale" => some (((Real.sqrt 128)⁻¹ : ℝ) : EReal)
  | "sm_scale_log2e" => some (((Real.sqrt 128)⁻¹ * (Real.log 2)⁻¹ : ℝ) : EReal)
  | _ => none
-- ==== ReferenceIdeal.lean ====
abbrev S9x8x8192x128 : Shape := ⟨4, ![9, 8, 8192, 128]⟩
abbrev S9x64x8 : Shape := ⟨3, ![9, 64, 8]⟩
abbrev S9x8x128x8192 : Shape := ⟨4, ![9, 8, 128, 8192]⟩
abbrev S9x8x128 : Shape := ⟨3, ![9, 8, 128]⟩
abbrev S9x8192x1024 : Shape := ⟨3, ![9, 8192, 1024]⟩
abbrev S9x8x64 : Shape := ⟨3, ![9, 8, 64]⟩
abbrev S9x8x64x1 : Shape := ⟨4, ![9, 8, 64, 1]⟩
abbrev S9x8x64x128 : Shape := ⟨4, ![9, 8, 64, 128]⟩
abbrev S72x8192 : Shape := ⟨2, ![72, 8192]⟩
abbrev S72x8192x1 : Shape := ⟨3, ![72, 8192, 1]⟩
abbrev S72x1x8192 : Shape := ⟨3, ![72, 1, 8192]⟩
abbrev S72x8192x128 : Shape := ⟨3, ![72, 8192, 128]⟩
abbrev S72x128x8192 : Shape := ⟨3, ![72, 128, 8192]⟩
abbrev S72x1x128 : Shape := ⟨3, ![72, 1, 128]⟩
abbrev S72x8192x8192 : Shape := ⟨3, ![72, 8192, 8192]⟩
abbrev S9x8192x8x128 : Shape := ⟨4, ![9, 8192, 8, 128]⟩

abbrev nBuf : Space → Nat
  | .hbm => 7
  | .vmem => 7
  | .smem => 0
  | _ => 0

abbrev bufTy : (tb : Table) → Fin (tcTables nBuf tb) → BufTy
  | .hbm, ⟨0, _⟩ => ⟨S9x8x8192x128, .fp8e4m3⟩
  | .hbm, ⟨1, _⟩ => ⟨S9x64x8, .f32⟩
  | .hbm, ⟨2, _⟩ => ⟨S9x8x8192x128, .fp8e4m3⟩
  | .hbm, ⟨3, _⟩ => ⟨S9x64x8, .f32⟩
  | .hbm, ⟨4, _⟩ => ⟨S9x8x128x8192, .fp8e4m3⟩
  | .hbm, ⟨5, _⟩ => ⟨S9x8x128, .f32⟩
  | .hbm, ⟨6, _⟩ => ⟨S9x8192x1024, .bf16⟩
  | .local _ .vmem, ⟨0, _⟩ => ⟨S9x8x8192x128, .fp8e4m3⟩
  | .local _ .vmem, ⟨1, _⟩ => ⟨S9x64x8, .f32⟩
  | .local _ .vmem, ⟨2, _⟩ => ⟨S9x8x8192x128, .fp8e4m3⟩
  | .local _ .vmem, ⟨3, _⟩ => ⟨S9x64x8, .f32⟩
  | .local _ .vmem, ⟨4, _⟩ => ⟨S9x8x128x8192, .fp8e4m3⟩
  | .local _ .vmem, ⟨5, _⟩ => ⟨S9x8x128, .f32⟩
  | .local _ .vmem, ⟨6, _⟩ => ⟨S9x8192x1024, .bf16⟩
  | _, _ => ⟨S9x8x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "sm_scale" => some (((Real.sqrt 128)⁻¹ : ℝ) : EReal)
  | "sm_scale_log2e" => some (((Real.sqrt 128)⁻¹ * (Real.log 2)⁻¹ : ℝ) : EReal)
  | _ => none

abbrev grid0 : Pipeline.Grid := .none

abbrev stage0_0 : Fin 1 → Memref sig .tc .vmem S9x8x8192x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x8x8192x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8x128x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x8192x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quantise.lean ====
abbrev S9x8192x1024 : Shape := ⟨3, ![9, 8192, 1024]⟩
abbrev S8x128 : Shape := ⟨2, ![8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S8x128x1 : Shape := ⟨3, ![8, 128, 1]⟩
abbrev S1x128x128 : Shape := ⟨3, ![1, 128, 128]⟩
abbrev S8x128x128 : Shape := ⟨3, ![8, 128, 128]⟩
abbrev S4x128x128 : Shape := ⟨3, ![4, 128, 128]⟩
abbrev S4x128x256 : Shape := ⟨3, ![4, 128, 256]⟩
abbrev S4x256x256 : Shape := ⟨3, ![4, 256, 256]⟩
abbrev S9x8192x8x128 : Shape := ⟨4, ![9, 8192, 8, 128]⟩
abbrev S9x8x8192x128 : Shape := ⟨4, ![9, 8, 8192, 128]⟩
abbrev S9x512x128 : Shape := ⟨3, ![9, 512, 128]⟩
abbrev S9x8x128x8192 : Shape := ⟨4, ![9, 8, 128, 8192]⟩
abbrev S9x8x128 : Shape := ⟨3, ![9, 8, 128]⟩
abbrev S1x512x1024 : Shape := ⟨3, ![1, 512, 1024]⟩
abbrev S1x512x8x128 : Shape := ⟨4, ![1, 512, 8, 128]⟩
abbrev S1x8x512x128 : Shape := ⟨4, ![1, 8, 512, 128]⟩
abbrev S1x32x128 : Shape := ⟨3, ![1, 32, 128]⟩
abbrev S1x8x128x512 : Shape := ⟨4, ![1, 8, 128, 512]⟩
abbrev S1x8x128 : Shape := ⟨3, ![1, 8, 128]⟩
abbrev S512x1024 : Shape := ⟨2, ![512, 1024]⟩
abbrev S512x8x128 : Shape := ⟨3, ![512, 8, 128]⟩
abbrev S16x512x1024 : Shape := ⟨3, ![16, 512, 1024]⟩
abbrev S8x1024 : Shape := ⟨2, ![8, 1024]⟩
abbrev S1x1024 : Shape := ⟨2, ![1, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩
abbrev S1x1x128x128 : Shape := ⟨4, ![1, 1, 128, 128]⟩
abbrev S128x1x128 : Shape := ⟨3, ![128, 1, 128]⟩
abbrev S1x512x128 : Shape := ⟨3, ![1, 512, 128]⟩
abbrev S512x128 : Shape := ⟨2, ![512, 128]⟩
abbrev S512x1x128 : Shape := ⟨3, ![512, 1, 128]⟩
abbrev S128x512 : Shape := ⟨2, ![128, 512]⟩
abbrev S1x1x128x512 : Shape := ⟨4, ![1, 1, 128, 512]⟩
abbrev S64x8x1024 : Shape := ⟨3, ![64, 8, 1024]⟩
abbrev S1024 : Shape := ⟨1, ![1024]⟩
abbrev S1x1x128 : Shape := ⟨3, ![1, 1, 128]⟩

abbrev nBuf : Space → Nat
  | .hbm => 45
  | .vmem => 31
  | .smem => 0
  | _ => 0

abbrev bufTy : (tb : Table) → Fin (tcTables nBuf tb) → BufTy
  | .hbm, ⟨0, _⟩ => ⟨S9x8192x1024, .bf16⟩
  | .hbm, ⟨1, _⟩ => ⟨S9x8192x1024, .bf16⟩
  | .hbm, ⟨2, _⟩ => ⟨S9x8192x1024, .bf16⟩
  | .hbm, ⟨3, _⟩ => ⟨S8x128, .i8⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .f32⟩
  | .hbm, ⟨21, _⟩ => ⟨S8x128, .i32⟩
  | .hbm, ⟨22, _⟩ => ⟨S8x128, .f32⟩
  | .hbm, ⟨23, _⟩ => ⟨S8x128x1, .f32⟩
  | .hbm, ⟨24, _⟩ => ⟨S1x128x128, .f32⟩
  | .hbm, ⟨25, _⟩ => ⟨S8x128x128, .f32⟩
  | .hbm, ⟨26, _⟩ => ⟨S8x128x128, .f32⟩
  | .hbm, ⟨27, _⟩ => ⟨S8x128x128, .f32⟩
  | .hbm, ⟨28, _⟩ => ⟨S_, .f32⟩
  | .hbm, ⟨29, _⟩ => ⟨S4x128x128, .f32⟩
  | .hbm, ⟨30, _⟩ => ⟨S4x128x128, .f32⟩
  | .hbm, ⟨31, _⟩ => ⟨S4x128x256, .f32⟩
  | .hbm, ⟨32, _⟩ => ⟨S4x128x128, .f32⟩
  | .hbm, ⟨33, _⟩ => ⟨S4x128x256, .f32⟩
  | .hbm, ⟨34, _⟩ => ⟨S4x256x256, .f32⟩
  | .hbm, ⟨35, _⟩ => ⟨S4x256x256, .bf16⟩
  | .hbm, ⟨36, _⟩ => ⟨S9x8192x8x128, .fp8e4m3⟩
  | .hbm, ⟨37, _⟩ => ⟨S9x8x8192x128, .fp8e4m3⟩
  | .hbm, ⟨38, _⟩ => ⟨S9x512x128, .f32⟩
  | .hbm, ⟨39, _⟩ => ⟨S9x8192x8x128, .fp8e4m3⟩
  | .hbm, ⟨40, _⟩ => ⟨S9x8x8192x128, .fp8e4m3⟩
  | .hbm, ⟨41, _⟩ => ⟨S9x512x128, .f32⟩
  | .hbm, ⟨42, _⟩ => ⟨S9x8192x8x128, .fp8e4m3⟩
  | .hbm, ⟨43, _⟩ => ⟨S9x8x128x8192, .fp8e4m3⟩
  | .hbm, ⟨44, _⟩ => ⟨S9x8x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S4x256x256, .bf16⟩
  | .local _ .vmem, ⟨7, _⟩ => ⟨S4x256x256, .bf16⟩
  | .local _ .vmem, ⟨8, _⟩ => ⟨S1x512x8x128, .fp8e4m3⟩
  | .local _ .vmem, ⟨9, _⟩ => ⟨S1x512x8x128, .fp8e4m3⟩
  | .local _ .vmem, ⟨10, _⟩ => ⟨S1x8x512x128, .fp8e4m3⟩
  | .local _ .vmem, ⟨11, _⟩ => ⟨S1x8x512x128, .fp8e4m3⟩
  | .local _ .vmem, ⟨12, _⟩ => ⟨S1x32x128, .f32⟩
  | .local _ .vmem, ⟨13, _⟩ => ⟨S1x32x128, .f32⟩
  | .local _ .vmem, ⟨14, _⟩ => ⟨S1x512x8x128, .fp8e4m3⟩
  | .local _ .vmem, ⟨15, _⟩ => ⟨S1x512x8x128, .fp8e4m3⟩
  | .local _ .vmem, ⟨16, _⟩ => ⟨S1x8x512x128, .fp8e4m3⟩
  | .local _ .vmem, ⟨17, _⟩ => ⟨S1x8x512x128, .fp8e4m3⟩
  | .local _ .vmem, ⟨18, _⟩ => ⟨S1x32x128, .f32⟩
  | .local _ .vmem, ⟨19, _⟩ => ⟨S1x32x128, .f32⟩
  | .local _ .vmem, ⟨20, _⟩ => ⟨S1x512x8x128, .fp8e4m3⟩
  | .local _ .vmem, ⟨21, _⟩ => ⟨S1x512x8x128, .fp8e4m3⟩
  | .local _ .vmem, ⟨22, _⟩ => ⟨S1x8x128x512, .fp8e4m3⟩
  | .local _ .vmem, ⟨23, _⟩ => ⟨S1x8x128x512, .fp8e4m3⟩
  | .local _ .vmem, ⟨24, _⟩ => ⟨S1x8x128, .f32⟩
  | .local _ .vmem, ⟨25, _⟩ => ⟨S1x8x128, .f32⟩
  | .local _ .vmem, ⟨26, _⟩ => ⟨S512x1024, .f32⟩
  | .local _ .vmem, ⟨27, _⟩ => ⟨S512x8x128, .f32⟩
  | .local _ .vmem, ⟨28, _⟩ => ⟨S16x512x1024, .bf16⟩
  | .local _ .vmem, ⟨29, _⟩ => ⟨S8x1024, .f32⟩
  | .local _ .vmem, ⟨30, _⟩ => ⟨S1x1024, .f32⟩
  | _, _ => ⟨S9x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev main_v28_4 : Ref sig .tc := ⟨.hbm, 40, rfl⟩
abbrev main_v28_5 : Ref sig .tc := ⟨.hbm, 41, rfl⟩
abbrev main_v28_6 : Ref sig .tc := ⟨.hbm, 42, rfl⟩
abbrev main_v28_7 : Ref sig .tc := ⟨.hbm, 43, rfl⟩
abbrev main_v28_8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![10, 16], ![false, false]⟩

def k0_cond2 (i : grid0.Coords) : BitVec 1 :=
  let arg0 : BitVec 32 := BitVec.ofNat 32 (i 0).val
  let c0_i32_0 : BitVec 32 := 0#32
  let v3 : BitVec 1 := Scalar.cmpi .sgt arg0 c0_i32_0
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_off2 (i : grid0.Coords) : Fin 3 → Nat :=
  let arg1 : BitVec 32 := BitVec.ofNat 32 (i 1).val
  let v28 : Index := Scalar.indexCast arg1
  let c0_15 : Index := 0#32
  let c128 : Index := 128#32
  ![v28.toNat, 0, 128]
def k0_off3 (i : grid0.Coords) : Fin 3 → Nat :=
  let arg1 : BitVec 32 := BitVec.ofNat 32 (i 1).val
  let v47 : Index := Scalar.indexCast arg1
  let c0_26 : Index := 0#32
  let c256 : Index := 256#32
  ![v47.toNat, 0, 256]
def k0_off4 (i : grid0.Coords) : Fin 3 → Nat :=
  let arg1 : BitVec 32 := BitVec.ofNat 32 (i 1).val
  let v66 : Index := Scalar.indexCast arg1
  let c0_37 : Index := 0#32
  let c384 : Index := 384#32
  ![v66.toNat, 0, 384]
def k0_off5 (i : grid0.Coords) : Fin 3 → Nat :=
  let arg1 : BitVec 32 := BitVec.ofNat 32 (i 1).val
  let v85 : Index := Scalar.indexCast arg1
  let c0_48 : Index := 0#32
  let c512 : Index := 512#32
  ![v85.toNat, 0, 512]
def k0_off6 (i : grid0.Coords) : Fin 3 → Nat :=
  let arg1 : BitVec 32 := BitVec.ofNat 32 (i 1).val
  let v104 : Index := Scalar.indexCast arg1
  let c0_59 : Index := 0#32
  let c640 : Index := 640#32
  ![v104.toNat, 0, 640]
def k0_off7 (i : grid0.Coords) : Fin 3 → Nat :=
  let arg1 : BitVec 32 := BitVec.ofNat 32 (i 1).val
  let v123 : Index := Scalar.indexCast arg1
  let c0_70 : Index := 0#32
  let c768 : Index := 768#32
  ![v123.toNat, 0, 768]
def k0_off8 (i : grid0.Coords) : Fin 3 → Nat :=
  let arg1 : BitVec 32 := BitVec.ofNat 32 (i 1).val
  let v142 : Index := Scalar.indexCast arg1
  let c0_81 : Index := 0#32
  let c896 : Index := 896#32
  ![v142.toNat, 0, 896]
def k0_cond3 (i : grid0.Coords) : BitVec 1 :=
  let arg0 : BitVec 32 := BitVec.ofNat 32 (i 0).val
  let c9_i32_2 : BitVec 32 := 9#32
  let v6 : BitVec 1 := Scalar.cmpi .slt arg0 c9_i32_2
  let v7 : BitVec 32 := Scalar.extui v6
  let c0_i32_3 : BitVec 32 := 0#32
  let v8 : BitVec 1 := Scalar.cmpi .ne v7 c0_i32_3
  v8

def k0_off9 (i : grid0.Coords) : Fin 3 → Nat :=
  let arg1 : BitVec 32 := BitVec.ofNat 32 (i 1).val
  let v11 : Index := Scalar.indexCast arg1
  let c0_6 : Index := 0#32
  let c0_7 : Index := 0#32
  ![v11.toNat, 0, 0]
def k0_cond1 (i : grid0.Coords) : BitVec 1 :=
  let arg0 : BitVec 32 := BitVec.ofNat 32 (i 0).val
  let c9_i32 : BitVec 32 := 9#32
  let v0 : BitVec 1 := Scalar.cmpi .slt arg0 c9_i32
  let v1 : BitVec 32 := Scalar.extui v0
  let c0_i32 : BitVec 32 := 0#32
  let v2 : BitVec 1 := Scalar.cmpi .ne v1 c0_i32
  v2

def k0_cond4 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_13 : BitVec 32 := 0#32
  let v28 : BitVec 1 := Scalar.cmpi .ne v27 c0_i32_13
  v28

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  let c0_i32_1 : BitVec 32 := 0#32
  ![v0.toNat, v2.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  let c0_i32_1 : BitVec 32 := 0#32
  ![v0.toNat, c0_i32.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  let c0_i32_1 : BitVec 32 := 0#32
  ![v0.toNat, v2.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  let c0_i32_1 : BitVec 32 := 0#32
  ![v0.toNat, c0_i32.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  let c0_i32_4 : BitVec 32 := 0#32
  ![v1.toNat, v3.toNat, c0_i32_2.toNat, c0_i32_3.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  let c0_i32_4 : BitVec 32 := 0#32
  ![v1.toNat, c0_i32_2.toNat, c0_i32_3.toNat, v3.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c9_i32 : BitVec 32 := 9#32
  let v1 : BitVec 1 := Scalar.cmpi .slt arg0 c9_i32
  let c15_i32 : BitVec 32 := 15#32
  let v2 : BitVec 32 := Scalar.select v1 arg1 c15_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x8x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x8x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x8x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x512 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== QuantiseReferenceIdeal.lean ====
abbrev S9x8192x1024 : Shape := ⟨3, ![9, 8192, 1024]⟩
abbrev S8x128 : Shape := ⟨2, ![8, 128]⟩
abbrev S9x8192x8x128 : Shape := ⟨4, ![9, 8192, 8, 128]⟩
abbrev S9x8x8192x128 : Shape := ⟨4, ![9, 8, 8192, 128]⟩
abbrev S9x512x128 : Shape := ⟨3, ![9, 512, 128]⟩
abbrev S9x8x128x8192 : Shape := ⟨4, ![9, 8, 128, 8192]⟩
abbrev S9x8x128 : Shape := ⟨3, ![9, 8, 128]⟩
abbrev S128x128 : Shape := ⟨2, ![128, 128]⟩
abbrev S8x128x1 : Shape := ⟨3, ![8, 128, 1]⟩
abbrev S1x128x128 : Shape := ⟨3, ![1, 128, 128]⟩
abbrev S8x128x128 : Shape := ⟨3, ![8, 128, 128]⟩
abbrev S73728x8x128 : Shape := ⟨3, ![73728, 8, 128]⟩
abbrev S8x73728x128 : Shape := ⟨3, ![8, 73728, 128]⟩
abbrev S8x9x64x128x128 : Shape := ⟨5, ![8, 9, 64, 128, 128]⟩
abbrev S8x9x64x128 : Shape := ⟨4, ![8, 9, 64, 128]⟩
abbrev S8x9x64 : Shape := ⟨3, ![8, 9, 64]⟩
abbrev S8x9x64x254 : Shape := ⟨4, ![8, 9, 64, 254]⟩
abbrev S8x9x64x1 : Shape := ⟨4, ![8, 9, 64, 1]⟩
abbrev S8x9x64x1x1 : Shape := ⟨5, ![8, 9, 64, 1, 1]⟩
abbrev S8x9x8192x128 : Shape := ⟨4, ![8, 9, 8192, 128]⟩
abbrev S9x64x8 : Shape := ⟨3, ![9, 64, 8]⟩
abbrev S9x512x1 : Shape := ⟨3, ![9, 512, 1]⟩
abbrev S9x8x128x254 : Shape := ⟨4, ![9, 8, 128, 254]⟩
abbrev S9x8x128x1 : Shape := ⟨4, ![9, 8, 128, 1]⟩
abbrev S9x1x8x128 : Shape := ⟨4, ![9, 1, 8, 128]⟩

abbrev nBuf : Space → Nat
  | .hbm => 14
  | .vmem => 13
  | .smem => 0
  | _ => 0

abbrev bufTy : (tb : Table) → Fin (tcTables nBuf tb) → BufTy
  | .hbm, ⟨0, _⟩ => ⟨S9x8192x1024, .bf16⟩
  | .hbm, ⟨1, _⟩ => ⟨S9x8192x1024, .bf16⟩
  | .hbm, ⟨2, _⟩ => ⟨S9x8192x1024, .bf16⟩
  | .hbm, ⟨3, _⟩ => ⟨S8x128, .i8⟩
  | .hbm, ⟨4, _⟩ => ⟨S9x8192x8x128, .bf16⟩
  | .hbm, ⟨5, _⟩ => ⟨S9x8192x8x128, .fp8e4m3⟩
  | .hbm, ⟨6, _⟩ => ⟨S9x8x8192x128, .fp8e4m3⟩
  | .hbm, ⟨7, _⟩ => ⟨S9x512x128, .f32⟩
  | .hbm, ⟨8, _⟩ => ⟨S9x8192x8x128, .fp8e4m3⟩
  | .hbm, ⟨9, _⟩ => ⟨S9x8x8192x128, .fp8e4m3⟩
  | .hbm, ⟨10, _⟩ => ⟨S9x512x128, .f32⟩
  | .hbm, ⟨11, _⟩ => ⟨S9x8192x8x128, .fp8e4m3⟩
  | .hbm, ⟨12, _⟩ => ⟨S9x8x128x8192, .fp8e4m3⟩
  | .hbm, ⟨13, _⟩ => ⟨S9x8x128, .f32⟩
  | .local _ .vmem, ⟨0, _⟩ => ⟨S9x8192x1024, .bf16⟩
  | .local _ .vmem, ⟨1, _⟩ => ⟨S9x8192x1024, .bf16⟩
  | .local _ .vmem, ⟨2, _⟩ => ⟨S9x8192x8x128, .bf16⟩
  | .local _ .vmem, ⟨3, _⟩ => ⟨S8x128, .i8⟩
  | .local _ .vmem, ⟨4, _⟩ => ⟨S9x8192x8x128, .fp8e4m3⟩
  | .local _ .vmem, ⟨5, _⟩ => ⟨S9x8x8192x128, .fp8e4m3⟩
  | .local _ .vmem, ⟨6, _⟩ => ⟨S9x512x128, .f32⟩
  | .local _ .vmem, ⟨7, _⟩ => ⟨S9x8192x8x128, .fp8e4m3⟩
  | .local _ .vmem, ⟨8, _⟩ => ⟨S9x8x8192x128, .fp8e4m3⟩
  | .local _ .vmem, ⟨9, _⟩ => ⟨S9x512x128, .f32⟩
  | .local _ .vmem, ⟨10, _⟩ => ⟨S9x8192x8x128, .fp8e4m3⟩
  | .local _ .vmem, ⟨11, _⟩ => ⟨S9x8x128x8192, .fp8e4m3⟩
  | .local _ .vmem, ⟨12, _⟩ => ⟨S9x8x128, .f32⟩
  | _, _ => ⟨S9x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v1_7 : Ref sig .tc := ⟨.hbm, 12, rfl⟩
abbrev main_v1_8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S9x8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x8192x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8192x8x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x8x8192x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x8192x8x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x8x8192x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9x8192x8x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S9x8x128x8192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S9x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Words.lean ====
/- The integer words of the attention kernel as plain numbers: how many trips each loop makes at a grid point, and the
   offset of each load and store. At grid point `i` the head is `i 1` and the query block `i 2`; the two unrolled-by-one
   main loops make all the trips and the two remainder loops none. -/
module

public import proofs.«01_k».proof.Proof.Gen.KernelIdeal.Skeleton
public import Idealize.ShloMosaic.Lib.Tactic

@[expose] public section

set_option maxRecDepth 16384

noncomputable section

namespace Cert.KernelIdeal.Att

open Idealize.ShloMosaic Idealize.ShloMosaic.TcCoe
open Cert.KernelIdeal Cert.KernelIdeal.Gen

/-- The score loop makes one trip per earlier key block, -/
theorem trips1 (i : grid0.Coords) : (k0_t1_loop i).trips = (i 2).val := by
  have h : ∀ a : Fin 16, Scf.trips (0#32) (Scalar.addi 0#32 (Scalar.muli (Scalar.divsi (Scalar.subi (BitVec.ofNat 32 a.val) 0#32) 1#32) 1#32)) 1#32 = a.val := by decide
  exact h (i 2)
/-- its remainder loop none; -/
theorem trips2 (i : grid0.Coords) : (k0_t2_loop i).trips = 0 := by
  have h : ∀ a : Fin 16, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by decide
  exact h (i 2)
/-- the attending loop one trip per key block up to the diagonal, -/
theorem trips3 (i : grid0.Coords) : (k0_t3_loop i).trips = (i 2).val + 1 := by
  have h : ∀ a : Fin 16, (Scf.Loop.mk 0#32 (Scalar.addi 0#32 (Scalar.muli (Scalar.divsi (Scalar.subi (Scalar.addi (BitVec.ofNat 32 a.val) 1#32) 0#32) 1#32) 1#32)) 1#32).trips = a.val + 1 := by decide
  exact h (i 2)
/-- its remainder loop none. -/
theorem trips4 (i : grid0.Coords) : (k0_t4_loop i).trips = 0 := by
  unfold k0_t4_loop
  have h : ∀ a : Fin 16, (Scf.Loop.mk (Scalar.addi 0#32 (Scalar.muli (Scalar.divsi (Scalar.subi (Scalar.addi (BitVec.ofNat 32 a.val) 1#32) 0#32) 1#32) 1#32)) (Scalar.addi 0#32 (Scalar.subi (Scalar.addi (BitVec.ofNat 32 a.val) 1#32) 0#32)) 1#32).trips = 0 := by decide
  exact h (i 2)

theorem i1_lt (i : grid0.Coords) : (i 1).val < 8 := (i 1).isLt
theorem i2_lt (i : grid0.Coords) : (i 2).val < 16 := (i 2).isLt
theorem t1_lt {i : grid0.Coords} (k : Fin (k0_t1_loop i).trips) : k.val < 16 :=
  lt_trans (lt_of_lt_of_eq k.isLt (trips1 i)) (i2_lt i)
theorem t3_lt {i : grid0.Coords} (k : Fin (k0_t3_loop i).trips) : k.val < 16 :=
  lt_of_lt_of_le (lt_of_lt_of_eq k.isLt (trips3 i)) (i2_lt i)

theorem off1_eq (i : grid0.Coords) (s : Fin 4) : k0_off1 i (BitVec.ofNat 32 s.val) = ![0, ((i 2).val * 4 + s.val) * 8 + (i 1).val, 0] := by
  have h1 := i1_lt i; have h2 := i2_lt i; have hs := s.isLt
  unfold k0_off1
  have e : (Scalar.indexCast (Scalar.addi (Scalar.muli (Scalar.addi (Scalar.muli (BitVec.ofNat 32 (i 2).val) 4#32) (BitVec.ofNat 32 s.val)) 8#32) (BitVec.ofNat 32 (i 1).val))).toNat = ((i 2).val * 4 + s.val) * 8 + (i 1).val := by
    simp only [Scalar.indexCast, Scalar.addi, Scalar.muli, IntOp.addi, IntOp.muli, BitVec.toNat_add, BitVec.toNat_mul, BitVec.toNat_ofNat]; omega
  funext a; fin_cases a <;> first | rfl | exact e

theorem off2_eq (i : grid0.Coords) (k : Fin (k0_t1_loop i).trips) : k0_off2 i k = ![0, 0, 512 * k.val, 0] := by
  have hk := t1_lt k
  unfold k0_off2
  have e : (Scalar.indexCast (Scalar.muli (Scf.iv 0#32 1#32 k.val) 512#32)).toNat = 512 * k.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off3_eq (i : grid0.Coords) (k : Fin (k0_t1_loop i).trips) : k0_off3 i k = ![512 * k.val, 0] := by
  have hk := t1_lt k
  unfold k0_off3
  have e : (Scalar.indexCast (Scalar.muli (Scf.iv 0#32 1#32 k.val) 512#32)).toNat = 512 * k.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off4_eq (i : grid0.Coords) (k : Fin (k0_t1_loop i).trips) (s : Fin 4) : k0_off4 i k (BitVec.ofNat 32 s.val) = ![0, (k.val * 4 + s.val) * 8 + (i 1).val, 0] := by
  have h1 := i1_lt i; have h2 := t1_lt k; have hs := s.isLt
  unfold k0_off4
  have e : (Scalar.indexCast (Scalar.addi (Scalar.muli (Scalar.addi (Scalar.muli (Scf.iv 0#32 1#32 k.val) 4#32) (BitVec.ofNat 32 s.val)) 8#32) (BitVec.ofNat 32 (i 1).val))).toNat = (k.val * 4 + s.val) * 8 + (i 1).val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off8_eq (i : grid0.Coords) : k0_off8 i = ![0, 0, 512 * (i 2).val, 0] := by
  have hk := i2_lt i
  unfold k0_off8
  have e : (Scalar.indexCast (Scalar.muli (BitVec.ofNat 32 (i 2).val) 512#32)).toNat = 512 * (i 2).val := by
    simp only [Scalar.indexCast, Scalar.muli, IntOp.muli, BitVec.toNat_mul, BitVec.toNat_ofNat]; omega
  funext a; fin_cases a <;> first | rfl | exact e

theorem off9_eq (i : grid0.Coords) : k0_off9 i = ![512 * (i 2).val, 0] := by
  have hk := i2_lt i
  unfold k0_off9
  have e : (Scalar.indexCast (Scalar.muli (BitVec.ofNat 32 (i 2).val) 512#32)).toNat = 512 * (i 2).val := by
    simp only [Scalar.indexCast, Scalar.muli, IntOp.muli, BitVec.toNat_mul, BitVec.toNat_ofNat]; omega
  funext a; fin_cases a <;> first | rfl | exact e

theorem off10_eq (i : grid0.Coords) (k : Fin (k0_t3_loop i).trips) (s : Fin 4) : k0_off10 i k (BitVec.ofNat 32 (128 * s.val)) = ![512 * k.val + 128 * s.val, 0] := by
  have h2 := t3_lt k; have hs := s.isLt
  unfold k0_off10
  have e : (Scalar.indexCast (Scalar.addi (Scalar.muli (Scf.iv 0#32 1#32 k.val) 512#32) (BitVec.ofNat 32 (128 * s.val)))).toNat = 512 * k.val + 128 * s.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off11_eq (i : grid0.Coords) (k : Fin (k0_t3_loop i).trips) (s : Fin 4) : k0_off11 i k (BitVec.ofNat 32 s.val) = ![0, (k.val * 4 + s.val) * 8 + (i 1).val, 0] := by
  have h1 := i1_lt i; have h2 := t3_lt k; have hs := s.isLt
  unfold k0_off11
  have e : (Scalar.indexCast (Scalar.addi (Scalar.muli (Scalar.addi (Scalar.muli (Scf.iv 0#32 1#32 k.val) 4#32) (BitVec.ofNat 32 s.val)) 8#32) (BitVec.ofNat 32 (i 1).val))).toNat = (k.val * 4 + s.val) * 8 + (i 1).val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off12_eq (i : grid0.Coords) (k : Fin (k0_t3_loop i).trips) : k0_off12 i k = ![0, 0, 0, 512 * k.val] := by
  have hk := t3_lt k
  unfold k0_off12
  have e : (Scalar.indexCast (Scalar.muli (Scf.iv 0#32 1#32 k.val) 512#32)).toNat = 512 * k.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off16_eq (i : grid0.Coords) : k0_off16 i = ![0, (i 1).val, 0] := by
  have hk := i1_lt i
  unfold k0_off16
  have e : (Scalar.indexCast (BitVec.ofNat 32 (i 1).val)).toNat = (i 1).val := by
    simp only [Scalar.indexCast, BitVec.toNat_ofNat]; omega
  funext a; fin_cases a <;> first | rfl | exact e

end Cert.KernelIdeal.Att

end
-- ==== Proof.Block.lean ====
/- The block the attention kernel computes at a grid point, written plainly: from the query block, the keys, the
   values and the three scale blocks to the output block, in the kernel's own order of operations. Key blocks are numbered
   by natural numbers (wrapped at the array's end, which no block used reaches). -/
module

public import proofs.«01_k».proof.Proof.Gen.KernelIdeal.Skeleton
public import Idealize.ShloMosaic.Lib.Pipeline.Value
public import Idealize.ShloMosaic.Lib.ValueIdx

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F] [Named F]

/-! ## What the body reads -/

/-- Row `r` of a block of lane-broadcast scales. -/
def rowAt (x : Vec F S1x512x128 .f32) (r : ℕ) : Vec F S1x1x128 .f32 :=
  fun j => x (ix3 (0 : Fin 1) (⟨r % 512, Nat.mod_lt _ (by norm_num)⟩ : Fin 512) (j 2))
/-- The `k`-th block of 512 keys. -/
def kBlk (x4 : Vec F S1x1x8192x128 .fp8e4m3) (k : ℕ) : Vec F S1x1x512x128 .fp8e4m3 :=
  fun j => x4 (ix4 (0 : Fin 1) (0 : Fin 1) (⟨(512 * k + (j 2).val) % 8192, Nat.mod_lt _ (by norm_num)⟩ : Fin 8192) (j 3))
/-- The `k`-th block of 512 values, feature-major. -/
def vBlk (x5 : Vec F S1x1x128x8192 .fp8e4m3) (k : ℕ) : Vec F S1x1x128x512 .fp8e4m3 :=
  fun j => x5 (ix4 (0 : Fin 1) (0 : Fin 1) (j 2) (⟨(512 * k + (j 3).val) % 8192, Nat.mod_lt _ (by norm_num)⟩ : Fin 8192))
/-- Row `r` of the value scales. -/
def vsAt (x8 : Vec F S1x8x128 .f32) (r : ℕ) : Vec F S1x1x128 .f32 :=
  fun j => x8 (ix3 (0 : Fin 1) (⟨r % 8, Nat.mod_lt _ (by norm_num)⟩ : Fin 8) (j 2))

/-! ## The steps -/

/-- Query scale times the softmax scale, over one group of 128 queries. -/
def qFactor (r : Vec F S1x1x128 .f32) : FVec F S1x128 .f32 :=
  mulf (shapeCast S1x128 r shapeCasts_S1x1x128_S1x128) (broadcast S1x128 (Named.named κ "sm_scale_log2e" 0x3E0293EE#32))
/-- Key scale times query factor, over the 512 queries of a block. -/
def factorRow (g : Fin 4 → FVec F S1x128 .f32) (r : Vec F S1x1x128 .f32) : FVec F S1x512 .f32 :=
  concatenate S1x512 1 [⟨S1x128, mulf (shapeCast S1x128 r shapeCasts_S1x1x128_S1x128) (g 0)⟩, ⟨S1x128, mulf (shapeCast S1x128 r shapeCasts_S1x1x128_S1x128) (g 1)⟩,
    ⟨S1x128, mulf (shapeCast S1x128 r shapeCasts_S1x1x128_S1x128) (g 2)⟩, ⟨S1x128, mulf (shapeCast S1x128 r shapeCasts_S1x1x128_S1x128) (g 3)⟩]
    concatenates_S1x128_S1x128_S1x128_S1x128_S1x512_d1
/-- Rows `128 s …` of a block of scores. -/
def sub (S : FVec F S512x512 .f32) : Fin 4 → FVec F S128x512 .f32 :=
  ![extractStridedSlice S128x512 ![0, 0] S slices_S512x512_o0_0_S128x512, extractStridedSlice S128x512 ![128, 0] S slices_S512x512_o128_0_S128x512,
    extractStridedSlice S128x512 ![256, 0] S slices_S512x512_o256_0_S128x512, extractStridedSlice S128x512 ![384, 0] S slices_S512x512_o384_0_S128x512]
/-- The maximum over 16 groups of 8 rows. -/
def groupMax (p : FVec F S128x512 .f32) : FVec F S8x512 .f32 :=
  multiReduction .maximumf [0] S8x512 (shapeCast S16x8x512 p shapeCasts_S128x512_S16x8x512) 0xFF800000#32 reduces_S16x8x512_S8x512 (.inl rfl) rfl
/-- The sum over 16 groups of 8 rows. -/
def groupSum (p : FVec F S128x512 .f32) : FVec F S8x512 .f32 :=
  multiReduction .add [0] S8x512 (shapeCast S16x8x512 p shapeCasts_S128x512_S16x8x512) 0x00000000#32 reduces_S16x8x512_S8x512 (.inl rfl) rfl
/-- The maxima with one block of scores taken in. -/
def maxUpd (m : FVec F S8x512 .f32) (S : FVec F S512x512 .f32) (f : Fin 4 → FVec F S1x512 .f32) : FVec F S8x512 .f32 :=
  maximumf (maximumf (maximumf (maximumf m (mulf (groupMax (sub S 0)) (broadcastTo S8x512 (f 0) broadcasts_S1x512_S8x512)))
    (mulf (groupMax (sub S 1)) (broadcastTo S8x512 (f 1) broadcasts_S1x512_S8x512)))
    (mulf (groupMax (sub S 2)) (broadcastTo S8x512 (f 2) broadcasts_S1x512_S8x512)))
    (mulf (groupMax (sub S 3)) (broadcastTo S8x512 (f 3) broadcasts_S1x512_S8x512))
/-- The exponentials of 128 rows of scores. -/
def prob (p : FVec F S128x512 .f32) (f mf : FVec F S1x512 .f32) : FVec F S128x512 .f32 :=
  exp2 (subf (mulf p (broadcastTo S128x512 f broadcasts_S1x512_S128x512)) (broadcastTo S128x512 mf broadcasts_S1x512_S128x512))
/-- Clipped and rounded to 8 bits. -/
def enc (p : FVec F S128x512 .f32) : FVec F S128x512 .fp8e4m3 :=
  truncf .fp8e4m3 (minimumf (broadcast S128x512 (Scalar.ofBits .f32 0x43E00000#32)) (maximumf (broadcast S128x512 (Scalar.ofBits .f32 0xC3E00000#32)) p)) bitsLt_fp8e4m3_f32
/-- The sums with one block of exponentials taken in. -/
def sumUpd (l : FVec F S8x512 .f32) (p : Fin 4 → FVec F S128x512 .f32) : FVec F S8x512 .f32 :=
  addf (addf (addf (addf l (groupSum (p 0))) (groupSum (p 1))) (groupSum (p 2))) (groupSum (p 3))
/-- The accumulator with one block of exponentials taken in. -/
def accUpd (a : FVec F S128x512 .f32) (v : Vec F S1x1x128x512 .fp8e4m3) (p : Fin 4 → FVec F S128x512 .f32) : FVec F S128x512 .f32 :=
  addf a (matmul dot_S128x512_S512x512_S128x512_1_0_0_1_n_n none (shapeCast S128x512 v shapeCasts_S1x1x128x512_S128x512)
    (concatenate S512x512 0 [⟨S128x512, enc (p 0)⟩, ⟨S128x512, enc (p 1)⟩, ⟨S128x512, enc (p 2)⟩, ⟨S128x512, enc (p 3)⟩] concatenates_S128x512_S128x512_S128x512_S128x512_S512x512_d0)
    (constant S128x512 .f32 0x00000000#32))

/-! ## The block -/

section Block
variable (i : grid0.Coords) (x3 : Vec F S1x1x512x128 .fp8e4m3) (x4 : Vec F S1x1x8192x128 .fp8e4m3) (x5 : Vec F S1x1x128x8192 .fp8e4m3)
  (x6 x7 : Vec F S1x512x128 .f32) (x8 : Vec F S1x8x128 .f32)

/-- The query factors of the block's four groups. -/
def gOf : Fin 4 → FVec F S1x128 .f32 :=
  ![qFactor (rowAt x6 (((i 2).val * 4 + 0) * 8 + (i 1).val)), qFactor (rowAt x6 (((i 2).val * 4 + 1) * 8 + (i 1).val)),
    qFactor (rowAt x6 (((i 2).val * 4 + 2) * 8 + (i 1).val)), qFactor (rowAt x6 (((i 2).val * 4 + 3) * 8 + (i 1).val))]
/-- The factors of the four key groups of key block `k`. -/
def fOf (k : ℕ) : Fin 4 → FVec F S1x512 .f32 :=
  ![factorRow (gOf i x6) (rowAt x7 ((k * 4 + 0) * 8 + (i 1).val)), factorRow (gOf i x6) (rowAt x7 ((k * 4 + 1) * 8 + (i 1).val)),
    factorRow (gOf i x6) (rowAt x7 ((k * 4 + 2) * 8 + (i 1).val)), factorRow (gOf i x6) (rowAt x7 ((k * 4 + 3) * 8 + (i 1).val))]
/-- The scores of key block `k`, the diagonal block masked. -/
def score (k : ℕ) : FVec F S512x512 .f32 :=
  if k = (i 2).val then k0_pay45 (k0_pay37 x3) (kBlk x4 k) else k0_pay5 (k0_pay37 x3) (kBlk x4 k)
/-- The maxima over the first `k` key blocks. -/
def mAt : ℕ → FVec F S8x512 .f32
  | 0 => k0_pay42
  | k + 1 => maxUpd (mAt k) (score i x3 x4 k) (fOf i x6 x7 k)
/-- The maximum less eight, over all the key blocks. -/
def mFin : FVec F S1x512 .f32 := k0_pay52 (mAt i x3 x4 x6 x7 ((i 2).val + 1))
/-- The exponentials of key block `k`. -/
def probs (k : ℕ) : Fin 4 → FVec F S128x512 .f32 :=
  ![prob (sub (score i x3 x4 k) 0) (fOf i x6 x7 k 0) (mFin i x3 x4 x6 x7), prob (sub (score i x3 x4 k) 1) (fOf i x6 x7 k 1) (mFin i x3 x4 x6 x7),
    prob (sub (score i x3 x4 k) 2) (fOf i x6 x7 k 2) (mFin i x3 x4 x6 x7), prob (sub (score i x3 x4 k) 3) (fOf i x6 x7 k 3) (mFin i x3 x4 x6 x7)]
/-- The sums over the first `k` key blocks. -/
def lAt : ℕ → FVec F S8x512 .f32
  | 0 => k0_pay53
  | k + 1 => sumUpd (lAt k) (probs i x3 x4 x6 x7 k)
/-- The accumulator over the first `k` key blocks. -/
def aAt : ℕ → FVec F S128x512 .f32
  | 0 => k0_pay54
  | k + 1 => accUpd (aAt k) (vBlk x5 k) (probs i x3 x4 x6 x7 k)
/-- The output block. -/
def outBlk : FVec F S1x512x128 .bf16 :=
  k0_pay4 (lAt i x3 x4 x6 x7 ((i 2).val + 1)) (aAt i x3 x4 x5 x6 x7 ((i 2).val + 1)) (vsAt x8 (i 1).val)
/-- The scores as the scratch holds them, block under block. -/
def scoreArr (y : S8192x512.Idx) : F .f32 :=
  score i x3 x4 ((y 0).val / 512) (ix2 (⟨(y 0).val % 512, Nat.mod_lt _ (by norm_num)⟩ : Fin 512) (y 1))
end Block

end Cert.KernelIdeal.Att

end
-- ==== Proof.Trips.lean ====
/- One trip of each main loop of the attention kernel, and the loops: the block of scores trip `k` of the score loop
   stores and the maxima it leaves, the sums and the accumulator trip `k` of the attending loop leaves, each a function of
   what the trip read; then the same after any number of trips. -/
module

public import proofs.«01_k».proof.Proof.Gen.KernelIdeal.Loops
public import proofs.«01_k».proof.Proof.Words
public import proofs.«01_k».proof.Proof.Block
public import Idealize.ShloMosaic.Lib.Pipeline.ReadBack

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F] [Named F]

/-! ## Loads at known offsets -/

theorem ld_row (x : Vec F S1x512x128 .f32) (off : Fin 3 → ℕ) (r : ℕ) (h : off = ![0, r, 0]) (inb : ∀ a, off a + S1x1x128.size a ≤ S1x512x128.size a) :
    View.ld x (Rect.unit off S1x1x128.size inb) = rowAt x r := by
  subst h
  have hr : r < 512 := by have := inb 1; simpa [S1x1x128, S1x512x128] using this
  funext j
  refine congrArg x (funext fun a => Fin.ext ?_)
  have h0 : (j 0).val = 0 := Nat.lt_one_iff.mp (j 0).isLt
  have h1 : (j 1).val = 0 := Nat.lt_one_iff.mp (j 1).isLt
  fin_cases a
  · show 0 + 1 * (j 0).val = 0; omega
  · show r + 1 * (j 1).val = r % 512; omega
  · show 0 + 1 * (j 2).val = (j 2).val; omega

theorem ld_vs (x : Vec F S1x8x128 .f32) (off : Fin 3 → ℕ) (r : ℕ) (h : off = ![0, r, 0]) (inb : ∀ a, off a + S1x1x128.size a ≤ S1x8x128.size a) :
    View.ld x (Rect.unit off S1x1x128.size inb) = vsAt x r := by
  subst h
  have hr : r < 8 := by have := inb 1; simpa [S1x1x128, S1x8x128] using this
  funext j
  refine congrArg x (funext fun a => Fin.ext ?_)
  have h0 : (j 0).val = 0 := Nat.lt_one_iff.mp (j 0).isLt
  have h1 : (j 1).val = 0 := Nat.lt_one_iff.mp (j 1).isLt
  fin_cases a
  · show 0 + 1 * (j 0).val = 0; omega
  · show r + 1 * (j 1).val = r % 8; omega
  · show 0 + 1 * (j 2).val = (j 2).val; omega

theorem ld_k (x : Vec F S1x1x8192x128 .fp8e4m3) (off : Fin 4 → ℕ) (k : ℕ) (h : off = ![0, 0, 512 * k, 0]) (inb : ∀ a, off a + S1x1x512x128.size a ≤ S1x1x8192x128.size a) :
    View.ld x (Rect.unit off S1x1x512x128.size inb) = kBlk x k := by
  subst h
  have hr : 512 * k + 512 ≤ 8192 := inb 2
  funext j
  refine congrArg x (funext fun a => Fin.ext ?_)
  have h0 : (j 0).val = 0 := Nat.lt_one_iff.mp (j 0).isLt
  have h1 : (j 1).val = 0 := Nat.lt_one_iff.mp (j 1).isLt
  have h2 : (j 2).val < 512 := (j 2).isLt
  fin_cases a
  · show 0 + 1 * (j 0).val = 0; omega
  · show 0 + 1 * (j 1).val = 0; omega
  · show 512 * k + 1 * (j 2).val = (512 * k + (j 2).val) % 8192; omega
  · show 0 + 1 * (j 3).val = (j 3).val; omega

theorem ld_v (x : Vec F S1x1x128x8192 .fp8e4m3) (off : Fin 4 → ℕ) (k : ℕ) (h : off = ![0, 0, 0, 512 * k]) (inb : ∀ a, off a + S1x1x128x512.size a ≤ S1x1x128x8192.size a) :
    View.ld x (Rect.unit off S1x1x128x512.size inb) = vBlk x k := by
  subst h
  have hr : 512 * k + 512 ≤ 8192 := inb 3
  funext j
  refine congrArg x (funext fun a => Fin.ext ?_)
  have h0 : (j 0).val = 0 := Nat.lt_one_iff.mp (j 0).isLt
  have h1 : (j 1).val = 0 := Nat.lt_one_iff.mp (j 1).isLt
  have h2 : (j 3).val < 512 := (j 3).isLt
  fin_cases a
  · show 0 + 1 * (j 0).val = 0; omega
  · show 0 + 1 * (j 1).val = 0; omega
  · show 0 + 1 * (j 2).val = (j 2).val; omega
  · show 512 * k + 1 * (j 3).val = (512 * k + (j 3).val) % 8192; omega

theorem zero2 : (![0, 0] : Fin 2 → ℕ) = fun _ => 0 := by funext a; fin_cases a <;> rfl

/-- A store of a whole buffer leaves its payload, -/
theorem read_writes_unit_zero {sig : RefSig} {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-! ## The score loop -/

section Score
variable (i : grid0.Coords) (v1 : FVec F S512x128 .fp8e4m3) (v10 v19 v28 : FVec F S1x128 .f32) (v34 : Vec F S1x1x128 .f32)
  (x4 : Vec F S1x1x8192x128 .fp8e4m3) (x7 : Vec F S1x512x128 .f32)

/-- The key codes trip `k` of the score loop reads. -/
abbrev kTrip (k : Fin (k0_t1_loop i).trips) : Vec F S1x1x512x128 .fp8e4m3 :=
  View.ld x4 (Rect.unit (k0_off2 i k) S1x1x512x128.size (k0_off2_inb i k))
/-- Row `s` of the four key-scale rows trip `k` reads. -/
abbrev ksTrip (k : Fin (k0_t1_loop i).trips) (s : Fin 4) : Vec F S1x1x128 .f32 :=
  View.ld x7 (Rect.unit (k0_off4 i k (BitVec.ofNat 32 s.val)) S1x1x128.size (k0_off4_inb i k s))
/-- The maxima after trip `k` of the score loop, from the maxima `m` before it. -/
def mStep (k : Fin (k0_t1_loop i).trips) (m : Vec F S8x512 .f32) : Vec F S8x512 .f32 :=
  k0_pay43 (maxUpd m (k0_pay5 v1 (kTrip i x4 k)) ![factorRow ![v10, v19, v28, k0_pay41 v34] (ksTrip i x7 k 0), factorRow ![v10, v19, v28, k0_pay41 v34] (ksTrip i x7 k 1),
    factorRow ![v10, v19, v28, k0_pay41 v34] (ksTrip i x7 k 2), factorRow ![v10, v19, v28, k0_pay41 v34] (ksTrip i x7 k 3)])
end Score

section Trip1
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 arg2 : BitVec 32) (v1 : FVec F S512x128 .fp8e4m3) (v10 v19 v28 : FVec F S1x128 .f32) (v31 : BitVec 32) (v34 : Vec F S1x1x128 .f32)
  (X4 : BufTy.Contents (Elt F) arg4.view.ty) (X7 : BufTy.Contents (Elt F) arg7.view.ty)

/-- Trip `k` stores its block of scores at its own rows. -/
theorem trip1_scores (k : Fin (k0_t1_loop i).trips) (f10 : BufTy.Contents (Elt F) arg10.view.ty) (f11 : BufTy.Contents (Elt F) arg11.view.ty) :
    (trip_k0_t1 (F := F) 𝒱 c bd i arg3 harg3 arg4 harg4 arg5 harg5 arg6 harg6 arg7 harg7 arg8 harg8 arg9 harg9 arg10 harg10 arg11 harg11 arg12 harg12 arg13 harg13 arg1 arg2 v1 v10 v19 v28 v31 v34 X4 X7 k).1 f10 f11
      = [⟨Rect.unit (k0_off3 i k) S512x512.size (k0_off3_inb i k), k0_pay6 v1 (kTrip i (arg4.view.read (Elt F) X4) k)⟩] := by
  unfold trip_k0_t1; rfl
/-- Trip `k` stores the maxima whole. -/
theorem trip1_max (k : Fin (k0_t1_loop i).trips) (f10 : BufTy.Contents (Elt F) arg10.view.ty) (f11 : BufTy.Contents (Elt F) arg11.view.ty) :
    (trip_k0_t1 (F := F) 𝒱 c bd i arg3 harg3 arg4 harg4 arg5 harg5 arg6 harg6 arg7 harg7 arg8 harg8 arg9 harg9 arg10 harg10 arg11 harg11 arg12 harg12 arg13 harg13 arg1 arg2 v1 v10 v19 v28 v31 v34 X4 X7 k).2.1 f10 f11
      = [⟨Rect.unit ![0, 0] S8x512.size inb_S8x512_S8x512_0_0, mStep i v1 v10 v19 v28 v34 (arg4.view.read (Elt F) X4) (arg7.view.read (Elt F) X7) k
          (View.ld (arg11.view.read (Elt F) f11) (Rect.unit ![0, 0] S8x512.size inb_S8x512_S8x512_0_0))⟩] := by
  unfold trip_k0_t1; rfl
end Trip1

/-! ## The attending loop -/

section Attend
variable (i : grid0.Coords) (v10 v19 v28 v37 : FVec F S1x128 .f32) (v142 : FVec F S1x512 .f32)
  (x5 : Vec F S1x1x128x8192 .fp8e4m3) (x7 : Vec F S1x512x128 .f32) (x10 : Vec F S8192x512 .f32)

/-- The exponentials of the 128 rows of scores that step `s` of trip `k` reads. -/
def pTrip (k : Fin (k0_t3_loop i).trips) (s : Fin 4) : FVec F S128x512 .f32 :=
  prob (View.ld x10 (Rect.unit (k0_off10 i k (BitVec.ofNat 32 (128 * s.val))) S128x512.size (k0_off10_inb i k s)))
    (factorRow ![v10, v19, v28, v37] (View.ld x7 (Rect.unit (k0_off11 i k (BitVec.ofNat 32 s.val)) S1x1x128.size (k0_off11_inb i k s)))) v142
/-- The four steps' exponentials. -/
def pTrips (k : Fin (k0_t3_loop i).trips) : Fin 4 → FVec F S128x512 .f32 :=
  ![pTrip i v10 v19 v28 v37 v142 x7 x10 k 0, pTrip i v10 v19 v28 v37 v142 x7 x10 k 1, pTrip i v10 v19 v28 v37 v142 x7 x10 k 2, pTrip i v10 v19 v28 v37 v142 x7 x10 k 3]
end Attend

section Trip3
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 : BitVec 32) (v10 v19 v28 v37 : FVec F S1x128 .f32) (v142 : FVec F S1x512 .f32)
  (X5 : BufTy.Contents (Elt F) arg5.view.ty) (X7 : BufTy.Contents (Elt F) arg7.view.ty) (X10 : BufTy.Contents (Elt F) arg10.view.ty)

/-- Trip `k` stores the sums whole, -/
theorem trip3_sum (k : Fin (k0_t3_loop i).trips) (f12 : BufTy.Contents (Elt F) arg12.view.ty) (f13 : BufTy.Contents (Elt F) arg13.view.ty) :
    (trip_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 k).1 f12 f13
      = [⟨Rect.unit ![0, 0] S8x512.size inb_S8x512_S8x512_0_0, shapeCast S8x512 (sumUpd (View.ld (arg12.view.read (Elt F) f12) (Rect.unit ![0, 0] S8x512.size inb_S8x512_S8x512_0_0))
          (pTrips i v10 v19 v28 v37 v142 (arg7.view.read (Elt F) X7) (arg10.view.read (Elt F) X10) k)) shapeCasts_S8x512_S8x512⟩] := by
  unfold trip_k0_t3; rfl
/-- and the accumulator whole. -/
theorem trip3_acc (k : Fin (k0_t3_loop i).trips) (f12 : BufTy.Contents (Elt F) arg12.view.ty) (f13 : BufTy.Contents (Elt F) arg13.view.ty) :
    (trip_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 k).2.1 f12 f13
      = [⟨Rect.unit ![0, 0] S128x512.size inb_S128x512_S128x512_0_0, shapeCast S128x512 (accUpd (View.ld (arg13.view.read (Elt F) f13) (Rect.unit ![0, 0] S128x512.size inb_S128x512_S128x512_0_0))
          (View.ld (arg5.view.read (Elt F) X5) (Rect.unit (k0_off12 i k) S1x1x128x512.size (k0_off12_inb i k)))
          (pTrips i v10 v19 v28 v37 v142 (arg7.view.read (Elt F) X7) (arg10.view.read (Elt F) X10) k)) shapeCasts_S128x512_S128x512⟩] := by
  unfold trip_k0_t3; rfl
end Trip3
end Cert.KernelIdeal.Att

end
-- ==== Proof.Sweeps.lean ====
/- The two main loops of the attention kernel, trip after trip: after `n` trips of the score loop the score array holds
   the first `n` blocks of scores and the maxima are those over the first `n` blocks; after `n` trips of the attending loop
   the sums and the accumulator are those over the first `n` blocks. -/
module

public import proofs.«01_k».proof.Proof.Trips

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F] [Named F]

theorem unit_congr {s : Shape} {off off' : Fin s.rank → ℕ} (size : Fin s.rank → ℕ) (h : off = off') (inb : ∀ a, off a + size a ≤ s.size a) :
    Rect.unit off size inb = Rect.unit off' size (h ▸ inb) := by subst h; rfl

section
variable (i : grid0.Coords) (x3 : Vec F S1x1x512x128 .fp8e4m3) (x4 : Vec F S1x1x8192x128 .fp8e4m3) (x5 : Vec F S1x1x128x8192 .fp8e4m3)
  (x6 x7 : Vec F S1x512x128 .f32) (x8 : Vec F S1x8x128 .f32)

/-- A block stored at rows `512 k …` that is the `k`-th block of scores is the score array there. -/
theorem piece_score (off : Fin 2 → ℕ) (k : ℕ) (h : off = ![512 * k, 0]) (inb : ∀ a, off a + S512x512.size a ≤ S8192x512.size a) (x : S512x512.Idx) :
    score i x3 x4 k x = scoreArr i x3 x4 ((Rect.unit (s := S8192x512) off S512x512.size inb).emb x) := by
  subst h
  have h0 : (x 0).val < 512 := (x 0).isLt
  have e0 : (((Rect.unit (s := S8192x512) ![512 * k, 0] S512x512.size inb).emb x) 0).val = 512 * k + 1 * (x 0).val := rfl
  have e1 : (((Rect.unit (s := S8192x512) ![512 * k, 0] S512x512.size inb).emb x) 1).val = 0 + 1 * (x 1).val := rfl
  unfold scoreArr
  have q : (((Rect.unit (s := S8192x512) ![512 * k, 0] S512x512.size inb).emb x) 0).val / 512 = k := by omega
  rw [q]
  refine congrArg (score i x3 x4 k) (funext fun a => Fin.ext ?_)
  fin_cases a
  · show (x 0).val = (((Rect.unit (s := S8192x512) ![512 * k, 0] S512x512.size inb).emb x) 0).val % 512; omega
  · show (x 1).val = (((Rect.unit (s := S8192x512) ![512 * k, 0] S512x512.size inb).emb x) 1).val; omega

/-- The 128 rows of the score array at rows `512 k + 128 s …` are part `s` of the `k`-th block. -/
theorem ld_score (X : Vec F S8192x512 .f32) (k : ℕ) (s : Fin 4) (hX : ∀ y, (y 0).val / 512 = k → X y = scoreArr i x3 x4 y)
    (off : Fin 2 → ℕ) (h : off = ![512 * k + 128 * s.val, 0]) (inb : ∀ a, off a + S128x512.size a ≤ S8192x512.size a) :
    View.ld X (Rect.unit off S128x512.size inb) = sub (score i x3 x4 k) s := by
  subst h
  funext j
  have h0 : (j 0).val < 128 := (j 0).isLt
  have hs : s.val < 4 := s.isLt
  show X ((Rect.unit (s := S8192x512) ![512 * k + 128 * s.val, 0] S128x512.size inb).emb j) = _
  have e0 : (((Rect.unit (s := S8192x512) ![512 * k + 128 * s.val, 0] S128x512.size inb).emb j) 0).val = 512 * k + 128 * s.val + 1 * (j 0).val := rfl
  have e1 : (((Rect.unit (s := S8192x512) ![512 * k + 128 * s.val, 0] S128x512.size inb).emb j) 1).val = 0 + 1 * (j 1).val := rfl
  have q : (((Rect.unit (s := S8192x512) ![512 * k + 128 * s.val, 0] S128x512.size inb).emb j) 0).val / 512 = k := by omega
  rw [hX _ q]; unfold scoreArr; rw [q]
  have r0 : (((Rect.unit (s := S8192x512) ![512 * k + 128 * s.val, 0] S128x512.size inb).emb j) 0).val % 512 = 128 * s.val + (j 0).val := by omega
  have r1 : (((Rect.unit (s := S8192x512) ![512 * k + 128 * s.val, 0] S128x512.size inb).emb j) 1).val = 0 + (j 1).val := by omega
  fin_cases s <;>
  · refine congrArg (score i x3 x4 k) (funext fun a => Fin.ext ?_)
    fin_cases a
    · exact r0
    · exact r1
end

section Score
variable (i : grid0.Coords) (v10 v19 v28 : FVec F S1x128 .f32) (v34 : Vec F S1x1x128 .f32)
  (x3 : Vec F S1x1x512x128 .fp8e4m3) (x4 : Vec F S1x1x8192x128 .fp8e4m3) (x6 x7 : Vec F S1x512x128 .f32)

/-- Trip `k` of the score loop takes block `k` into the maxima. -/
theorem mStep_eq (hg : ![v10, v19, v28, k0_pay41 v34] = gOf i x6) (k : Fin (k0_t1_loop i).trips) (m : Vec F S8x512 .f32) :
    mStep i (k0_pay37 x3) v10 v19 v28 v34 x4 x7 k m = maxUpd m (score i x3 x4 k.val) (fOf i x6 x7 k.val) := by
  have hk : k.val ≠ (i 2).val := by have := lt_of_lt_of_eq k.isLt (trips1 i); omega
  have e : kTrip i x4 k = kBlk x4 k.val := ld_k x4 _ k.val (off2_eq i k) _
  have e0 : ksTrip i x7 k 0 = rowAt x7 ((k.val * 4 + 0) * 8 + (i 1).val) := ld_row x7 _ _ (off4_eq i k 0) _
  have e1 : ksTrip i x7 k 1 = rowAt x7 ((k.val * 4 + 1) * 8 + (i 1).val) := ld_row x7 _ _ (off4_eq i k 1) _
  have e2 : ksTrip i x7 k 2 = rowAt x7 ((k.val * 4 + 2) * 8 + (i 1).val) := ld_row x7 _ _ (off4_eq i k 2) _
  have e3 : ksTrip i x7 k 3 = rowAt x7 ((k.val * 4 + 3) * 8 + (i 1).val) := ld_row x7 _ _ (off4_eq i k 3) _
  unfold mStep fOf score
  rw [hg, if_neg hk, e, e0, e1, e2, e3]
  exact shapeCast_self _ _
end Score

section Loop1
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 arg2 : BitVec 32) (v10 v19 v28 : FVec F S1x128 .f32) (v31 : BitVec 32) (v34 : Vec F S1x1x128 .f32)
  (X4 : BufTy.Contents (Elt F) arg4.view.ty) (X7 : BufTy.Contents (Elt F) arg7.view.ty) (G10 : BufTy.Contents (Elt F) arg10.view.ty) (G11 : BufTy.Contents (Elt F) arg11.view.ty)
  (x3 : Vec F S1x1x512x128 .fp8e4m3) (x6 : Vec F S1x512x128 .f32)

/-- What one trip adds to the stored pieces. -/
theorem pb1_scores (n : ℕ) (ht : n < (k0_t1_loop i).trips) :
    (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 (n + 1)).1
      = ⟨Rect.unit (k0_off3 i ⟨n, ht⟩) S512x512.size (k0_off3_inb i ⟨n, ht⟩), k0_pay6 (k0_pay37 x3) (kTrip i (arg4.view.read (Elt F) X4) ⟨n, ht⟩)⟩
        :: (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).1 :=
  (congrArg Prod.fst (pb_k0_t1_succ (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 ⟨n, ht⟩)).trans
    (congrArg (· ++ _) (trip1_scores (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 ⟨n, ht⟩ _ _))
theorem pb1_max (n : ℕ) (ht : n < (k0_t1_loop i).trips) :
    (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 (n + 1)).2
      = ⟨Rect.unit ![0, 0] S8x512.size inb_S8x512_S8x512_0_0, mStep i (k0_pay37 x3) v10 v19 v28 v34 (arg4.view.read (Elt F) X4) (arg7.view.read (Elt F) X7) ⟨n, ht⟩
          (View.ld (arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).2))
            (Rect.unit ![0, 0] S8x512.size inb_S8x512_S8x512_0_0))⟩
        :: (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).2 :=
  (congrArg Prod.snd (pb_k0_t1_succ (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 ⟨n, ht⟩)).trans
    (congrArg (· ++ _) (trip1_max (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 ⟨n, ht⟩ _ _))

/-- After `n` trips of the score loop: every stored piece is of the score array, -/
theorem loop1_pieces : ∀ n, n ≤ (i 2).val → ∀ p ∈ (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).1,
    ∀ x : p.1.shape.Idx, p.2 x = scoreArr i x3 (arg4.view.read (Elt F) X4) (p.1.emb x)
  | 0, _, p, hp, x => by rw [pb_k0_t1.eq_1] at hp; exact absurd hp List.not_mem_nil
  | n + 1, hn, p, hp, x => by
      have ht : n < (k0_t1_loop i).trips := by rw [trips1]; omega
      have hk : n ≠ (i 2).val := by omega
      rw [pb1_scores (ht := ht)] at hp
      rcases List.mem_cons.mp hp with rfl | h
      · rw [← piece_score i x3 (arg4.view.read (Elt F) X4) _ n (off3_eq i ⟨n, ht⟩)]
        have e : kTrip i (arg4.view.read (Elt F) X4) ⟨n, ht⟩ = kBlk (arg4.view.read (Elt F) X4) n := ld_k _ _ n (off2_eq i ⟨n, ht⟩) _
        unfold score
        rw [if_neg hk, e]
        exact congrFun (shapeCast_self _ _) x
      · exact loop1_pieces n (by omega) p h x

/-- the pieces cover the first `512 n` rows, -/
theorem loop1_cover : ∀ n, n ≤ (i 2).val → ∀ y : S8192x512.Idx, (y 0).val < 512 * n →
    ∃ p ∈ (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).1, y ∈ p.1.set
  | 0, _, y, hy => by omega
  | n + 1, hn, y, hy => by
      have ht : n < (k0_t1_loop i).trips := by rw [trips1]; omega
      rw [pb1_scores (ht := ht)]
      by_cases h : (y 0).val < 512 * n
      · obtain ⟨p, hp, hm⟩ := loop1_cover n (by omega) y h
        exact ⟨p, List.mem_cons_of_mem _ hp, hm⟩
      · refine ⟨_, List.mem_cons_self, ?_⟩
        rw [Rect.mem_set_unit, off3_eq]
        intro a
        have h1 : (y 1).val < 512 := (y 1).isLt
        fin_cases a
        · show 512 * n ≤ (y 0).val ∧ (y 0).val < 512 * n + 512; omega
        · show 0 ≤ (y 1).val ∧ (y 1).val < 0 + 512; omega

/-- and the maxima are those over the first `n` blocks. -/
theorem loop1_max (hg : ![v10, v19, v28, k0_pay41 v34] = gOf i x6) (h0 : arg11.view.read (Elt F) G11 = k0_pay42) : ∀ n, n ≤ (i 2).val →
    arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).2)
      = mAt i x3 (arg4.view.read (Elt F) X4) x6 (arg7.view.read (Elt F) X7) n
  | 0, _ => by rw [pb_k0_t1.eq_1]; exact h0
  | n + 1, hn => by
      have ht : n < (k0_t1_loop i).trips := by rw [trips1]; omega
      rw [pb1_max (ht := ht), read_writes_unit_zero _ _ zero2, View.ld_unit_zero zero2,
        loop1_max hg h0 n (by omega), mStep_eq i v10 v19 v28 v34 x3 _ x6 _ hg]
      rfl
end Loop1

section Loop3
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 : BitVec 32) (v10 v19 v28 v37 : FVec F S1x128 .f32) (v142 : FVec F S1x512 .f32)
  (X5 : BufTy.Contents (Elt F) arg5.view.ty) (X7 : BufTy.Contents (Elt F) arg7.view.ty) (X10 : BufTy.Contents (Elt F) arg10.view.ty)
  (G12 : BufTy.Contents (Elt F) arg12.view.ty) (G13 : BufTy.Contents (Elt F) arg13.view.ty)
  (x3 : Vec F S1x1x512x128 .fp8e4m3) (x4 : Vec F S1x1x8192x128 .fp8e4m3) (x6 : Vec F S1x512x128 .f32)

/-- Trip `k` of the attending loop computes block `k`'s exponentials. -/
theorem pTrips_eq (hg : ![v10, v19, v28, v37] = gOf i x6) (x7 : Vec F S1x512x128 .f32) (X : Vec F S8192x512 .f32)
    (hX : ∀ y : S8192x512.Idx, (y 0).val / 512 ≤ (i 2).val → X y = scoreArr i x3 x4 y) (k : Fin (k0_t3_loop i).trips) :
    pTrips i v10 v19 v28 v37 (mFin i x3 x4 x6 x7) x7 X k = probs i x3 x4 x6 x7 k.val := by
  have hk : k.val ≤ (i 2).val := by have := lt_of_lt_of_eq k.isLt (trips3 i); omega
  have hX' : ∀ y : S8192x512.Idx, (y 0).val / 512 = k.val → X y = scoreArr i x3 x4 y := fun y h => hX y (by omega)
  unfold pTrips pTrip probs fOf
  rw [hg, ld_score i x3 x4 X k.val 0 hX' _ (off10_eq i k 0), ld_score i x3 x4 X k.val 1 hX' _ (off10_eq i k 1), ld_score i x3 x4 X k.val 2 hX' _ (off10_eq i k 2),
    ld_score i x3 x4 X k.val 3 hX' _ (off10_eq i k 3), ld_row x7 _ _ (off11_eq i k 0), ld_row x7 _ _ (off11_eq i k 1), ld_row x7 _ _ (off11_eq i k 2), ld_row x7 _ _ (off11_eq i k 3)]
  rfl

/-- What one trip stores. -/
theorem pb3_sum (n : ℕ) (ht : n < (k0_t3_loop i).trips) :
    (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 (n + 1)).1
      = ⟨Rect.unit ![0, 0] S8x512.size inb_S8x512_S8x512_0_0, shapeCast S8x512 (sumUpd (View.ld (arg12.view.read (Elt F) (arg12.view.writes (Elt F) G12
            (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).1)) (Rect.unit ![0, 0] S8x512.size inb_S8x512_S8x512_0_0))
          (pTrips i v10 v19 v28 v37 v142 (arg7.view.read (Elt F) X7) (arg10.view.read (Elt F) X10) ⟨n, ht⟩)) shapeCasts_S8x512_S8x512⟩
        :: (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).1 :=
  (congrArg Prod.fst (pb_k0_t3_succ (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 ⟨n, ht⟩)).trans
    (congrArg (· ++ _) (trip3_sum (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 ⟨n, ht⟩ _ _))
theorem pb3_acc (n : ℕ) (ht : n < (k0_t3_loop i).trips) :
    (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 (n + 1)).2
      = ⟨Rect.unit ![0, 0] S128x512.size inb_S128x512_S128x512_0_0, shapeCast S128x512 (accUpd (View.ld (arg13.view.read (Elt F) (arg13.view.writes (Elt F) G13
            (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).2)) (Rect.unit ![0, 0] S128x512.size inb_S128x512_S128x512_0_0))
          (View.ld (arg5.view.read (Elt F) X5) (Rect.unit (k0_off12 i ⟨n, ht⟩) S1x1x128x512.size (k0_off12_inb i ⟨n, ht⟩)))
          (pTrips i v10 v19 v28 v37 v142 (arg7.view.read (Elt F) X7) (arg10.view.read (Elt F) X10) ⟨n, ht⟩)) shapeCasts_S128x512_S128x512⟩
        :: (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).2 :=
  (congrArg Prod.snd (pb_k0_t3_succ (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 ⟨n, ht⟩)).trans
    (congrArg (· ++ _) (trip3_acc (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 ⟨n, ht⟩ _ _))

variable (hg : ![v10, v19, v28, v37] = gOf i x6) (hX : ∀ y : S8192x512.Idx, (y 0).val / 512 ≤ (i 2).val → arg10.view.read (Elt F) X10 y = scoreArr i x3 x4 y)
  (hm : v142 = mFin i x3 x4 x6 (arg7.view.read (Elt F) X7))
include hg hX hm

/-- After `n` trips of the attending loop the sums are those over the first `n` blocks, -/
theorem loop3_sum (h0 : arg12.view.read (Elt F) G12 = k0_pay53) : ∀ n, n ≤ (i 2).val + 1 →
    arg12.view.read (Elt F) (arg12.view.writes (Elt F) G12 (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).1)
      = lAt i x3 x4 x6 (arg7.view.read (Elt F) X7) n
  | 0, _ => by rw [pb_k0_t3.eq_1]; exact h0
  | n + 1, hn => by
      have ht : n < (k0_t3_loop i).trips := by rw [trips3]; omega
      rw [pb3_sum (ht := ht), read_writes_unit_zero _ _ zero2, View.ld_unit_zero zero2,
        loop3_sum h0 n (by omega), shapeCast_self, hm, pTrips_eq i v10 v19 v28 v37 x3 x4 x6 hg _ _ hX]
      rfl
/-- and so is the accumulator. -/
theorem loop3_acc (h0 : arg13.view.read (Elt F) G13 = k0_pay54) : ∀ n, n ≤ (i 2).val + 1 →
    arg13.view.read (Elt F) (arg13.view.writes (Elt F) G13 (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).2)
      = aAt i x3 x4 (arg5.view.read (Elt F) X5) x6 (arg7.view.read (Elt F) X7) n
  | 0, _ => by rw [pb_k0_t3.eq_1]; exact h0
  | n + 1, hn => by
      have ht : n < (k0_t3_loop i).trips := by rw [trips3]; omega
      rw [pb3_acc (ht := ht), read_writes_unit_zero _ _ zero2, View.ld_unit_zero zero2,
        loop3_acc h0 n (by omega), shapeCast_self, hm, pTrips_eq i v10 v19 v28 v37 x3 x4 x6 hg _ _ hX,
        ld_v (arg5.view.read (Elt F) X5) _ n (off12_eq i ⟨n, ht⟩)]
      rfl
end Loop3
end Cert.KernelIdeal.Att

end
-- ==== Proof.Body.lean ====
/- The attention kernel's body, run once: from the six input blocks and whatever the scratch holds, the body runs to its
   end, leaves the inputs as they were, and writes the output block by the pieces found here. The four counted loops are
   gone through by their invariants (the pieces of the trips before `k`), never unrolled. -/
module

public import proofs.«01_k».proof.Proof.Gen.KernelIdeal.Frame
public import proofs.«01_k».proof.Proof.Gen.KernelIdeal.Loops

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 8000000 in
/-- ONE RUN OF THE BODY at a grid point, on whole memrefs holding `f3 … f13`: the pieces it writes into the output
    block, and the entailment that says so. -/
def kernelRun0 (c : Dev nD) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (f10 : BufTy.Contents (Elt F) arg10.view.ty) (f11 : BufTy.Contents (Elt F) arg11.view.ty) (f12 : BufTy.Contents (Elt F) arg12.view.ty)
    (f13 : BufTy.Contents (Elt F) arg13.view.ty) :
    { L9 : List (View.Piece (Elt F) S1x512x128 .bf16) // ∀ (f9 : BufTy.Contents (Elt F) arg9.view.ty) (E : Set ℕ) (K : PUnit → sProp 𝕄),
      iprop((arg3.view.loc (c : Thread nD τ) ↦[arg3.view.set]{fullShare} f3) ∗ (arg4.view.loc (c : Thread nD τ) ↦[arg4.view.set]{fullShare} f4)
          ∗ (arg5.view.loc (c : Thread nD τ) ↦[arg5.view.set]{fullShare} f5) ∗ (arg6.view.loc (c : Thread nD τ) ↦[arg6.view.set]{fullShare} f6)
          ∗ (arg7.view.loc (c : Thread nD τ) ↦[arg7.view.set]{fullShare} f7) ∗ (arg8.view.loc (c : Thread nD τ) ↦[arg8.view.set]{fullShare} f8)
          ∗ (arg9.view.loc (c : Thread nD τ) ↦[arg9.view.set]{fullShare} f9)
          ∗ (arg10.view.loc (c : Thread nD τ) ↦[arg10.view.set]{fullShare} f10) ∗ (arg11.view.loc (c : Thread nD τ) ↦[arg11.view.set]{fullShare} f11)
          ∗ (arg12.view.loc (c : Thread nD τ) ↦[arg12.view.set]{fullShare} f12) ∗ (arg13.view.loc (c : Thread nD τ) ↦[arg13.view.set]{fullShare} f13)
          ∗ (iprop((arg3.view.loc (c : Thread nD τ) ↦[arg3.view.set]{fullShare} f3) ∗ (arg4.view.loc (c : Thread nD τ) ↦[arg4.view.set]{fullShare} f4)
              ∗ (arg5.view.loc (c : Thread nD τ) ↦[arg5.view.set]{fullShare} f5) ∗ (arg6.view.loc (c : Thread nD τ) ↦[arg6.view.set]{fullShare} f6)
              ∗ (arg7.view.loc (c : Thread nD τ) ↦[arg7.view.set]{fullShare} f7) ∗ (arg8.view.loc (c : Thread nD τ) ↦[arg8.view.set]{fullShare} f8)
              ∗ (arg9.view.loc (c : Thread nD τ) ↦[arg9.view.set]{fullShare} arg9.view.writes (Elt F) f9 L9)
              ∗ (∃ f, arg10.view.loc (c : Thread nD τ) ↦[arg10.view.set]{fullShare} f) ∗ (∃ f, arg11.view.loc (c : Thread nD τ) ↦[arg11.view.set]{fullShare} f)
              ∗ (∃ f, arg12.view.loc (c : Thread nD τ) ↦[arg12.view.set]{fullShare} f) ∗ (∃ f, arg13.view.loc (c : Thread nD τ) ↦[arg13.view.set]{fullShare} f)) -∗ K ⟨⟩))
        ⊢ wp frame (wpE (defs₀ (F := F)) Variants.none c none) E (cc0_attend i arg3 harg3 arg4 harg4 arg5 harg5 arg6 harg6 arg7 harg7 arg8 harg8 arg9 harg9 arg10 harg10 arg11 harg11 arg12 harg12 arg13 harg13) K } := by
  refine ⟨?_, fun f9 E K => ?run⟩
  case run =>
    simp only [cc0_attend_eq_skeleton]; unfold cc0_attend_skel
    simp only [k0_part11_eq_skeleton, k0_part12_eq_skeleton, k0_part13_eq_skeleton, k0_part14_eq_skeleton]
    iintro ⟨H3, H4, H5, H6, H7, H8, H9, H10, H11, H12, H13, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iexists _; iexact H13

end Cert.KernelIdeal.Att

end
-- ==== Proof.Stored.lean ====
/- What one run of the attention kernel's body stores: whatever the scratch buffers held on entry, the output block is the
   block `outBlk` of the six blocks read. -/
module

public import proofs.«01_k».proof.Proof.Sweeps
public import proofs.«01_k».proof.Proof.Body

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F] [Named F]

section
variable (c : Dev nD) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole)
    (f3 : BufTy.Contents (Elt F) arg3.view.ty)    (f4 : BufTy.Contents (Elt F) arg4.view.ty)    (f5 : BufTy.Contents (Elt F) arg5.view.ty)    (f6 : BufTy.Contents (Elt F) arg6.view.ty)    (f7 : BufTy.Contents (Elt F) arg7.view.ty)    (f8 : BufTy.Contents (Elt F) arg8.view.ty)    (f10 : BufTy.Contents (Elt F) arg10.view.ty)    (f11 : BufTy.Contents (Elt F) arg11.view.ty)    (f12 : BufTy.Contents (Elt F) arg12.view.ty)    (f13 : BufTy.Contents (Elt F) arg13.view.ty)

theorem zero3 : (![0, 0, 0] : Fin 3 → ℕ) = fun _ => 0 := by funext a; fin_cases a <;> rfl
theorem zero4 : (![0, 0, 0, 0] : Fin 4 → ℕ) = fun _ => 0 := by funext a; fin_cases a <;> rfl

theorem T1_eq : Scf.trips (k0_t1_loop i).lb (k0_t1_loop i).ub (k0_t1_loop i).st = (i 2).val := trips1 i
theorem T2_eq : Scf.trips (k0_t2_loop i).lb (k0_t2_loop i).ub (k0_t2_loop i).st = 0 := trips2 i
theorem T3_eq : Scf.trips (k0_t3_loop i).lb (k0_t3_loop i).ub (k0_t3_loop i).st = (i 2).val + 1 := trips3 i
theorem T4_eq : Scf.trips (k0_t4_loop i).lb (k0_t4_loop i).ub (k0_t4_loop i).st = 0 := trips4 i

theorem r_eq : kernelRun0.sl.r arg3 f3 = k0_pay37 (arg3.view.read (Elt F) f3) := by
  unfold kernelRun0.sl.r
  exact congrArg k0_pay37 (View.ld_unit_zero zero4 _ _)

/-- The four query factors. -/
theorem gs_eq : ![kernelRun0.sl.r_1 i arg6 f6, kernelRun0.sl.r_2 i arg6 f6, kernelRun0.sl.r_3 i arg6 f6, kernelRun0.sl.r_4 i arg6 f6] = gOf i (arg6.view.read (Elt F) f6) := by
  have e0 : kernelRun0.sl.r_1 i arg6 f6 = qFactor (rowAt (arg6.view.read (Elt F) f6) (((i 2).val * 4 + 0) * 8 + (i 1).val)) := by
    unfold kernelRun0.sl.r_1; exact congrArg qFactor (ld_row _ _ _ (off1_eq i 0) _)
  have e1 : kernelRun0.sl.r_2 i arg6 f6 = qFactor (rowAt (arg6.view.read (Elt F) f6) (((i 2).val * 4 + 1) * 8 + (i 1).val)) := by
    unfold kernelRun0.sl.r_2; exact congrArg qFactor (ld_row _ _ _ (off1_eq i 1) _)
  have e2 : kernelRun0.sl.r_3 i arg6 f6 = qFactor (rowAt (arg6.view.read (Elt F) f6) (((i 2).val * 4 + 2) * 8 + (i 1).val)) := by
    unfold kernelRun0.sl.r_3; exact congrArg qFactor (ld_row _ _ _ (off1_eq i 2) _)
  have e3 : kernelRun0.sl.r_4 i arg6 f6 = qFactor (rowAt (arg6.view.read (Elt F) f6) (((i 2).val * 4 + 3) * 8 + (i 1).val)) := by
    unfold kernelRun0.sl.r_4; exact congrArg qFactor (ld_row _ _ _ (off1_eq i 3) _)
  rw [e0, e1, e2, e3]; rfl

/-- The maxima before the diagonal block. -/
theorem v62_eq : kernelRun0.sl.v62 c i arg3 harg3 arg4 harg4 arg5 harg5 arg6 harg6 arg7 harg7 arg8 harg8 arg9 harg9 arg10 harg10 arg11 harg11 arg12 harg12 arg13 harg13 f3 f4 f6 f7 f10
    = mAt i (arg3.view.read (Elt F) f3) (arg4.view.read (Elt F) f4) (arg6.view.read (Elt F) f6) (arg7.view.read (Elt F) f7) (i 2).val := by
  unfold kernelRun0.sl.v62
  rw [T2_eq, pb_k0_t2.eq_1, T1_eq, r_eq]
  refine (View.ld_unit_zero zero2 _ _).trans ?_
  rw [List.nil_append, View.writes_append]
  refine loop1_max _ c none i arg3 harg3 arg4 harg4 arg5 harg5 arg6 harg6 arg7 harg7 arg8 harg8 arg9 harg9 arg10 harg10 arg11 harg11 arg12 harg12 arg13 harg13 _ _ _ _ _ _ _ f4 f7 f10 _ _ _ (gs_eq i arg6 f6) ?_ _ le_rfl
  unfold kernelRun0.sl.H11_1
  exact read_writes_unit_zero _ _ zero2 _ _ _

theorem r5_eq : kernelRun0.sl.r_5 i arg3 arg4 f3 f4 = score i (arg3.view.read (Elt F) f3) (arg4.view.read (Elt F) f4) (i 2).val := by
  unfold kernelRun0.sl.r_5 score
  rw [if_pos rfl, r_eq]
  exact congrArg (k0_pay45 _) (ld_k _ _ _ (off8_eq i) _)

/-- The maxima after it. -/
theorem v138_eq : kernelRun0.sl.v138 c i arg3 harg3 arg4 harg4 arg5 harg5 arg6 harg6 arg7 harg7 arg8 harg8 arg9 harg9 arg10 harg10 arg11 harg11 arg12 harg12 arg13 harg13 f3 f4 f6 f7 f10
    = mAt i (arg3.view.read (Elt F) f3) (arg4.view.read (Elt F) f4) (arg6.view.read (Elt F) f6) (arg7.view.read (Elt F) f7) ((i 2).val + 1) := by
  unfold kernelRun0.sl.v138 kernelRun0.sl.H11_1_1
  refine (View.readCov_cons_toLoadRect _ _ _ _).trans ?_
  show _ = maxUpd (mAt i _ _ _ _ _) (score i _ _ _) (fOf i _ _ _)
  rw [← v62_eq c i arg3 harg3 arg4 harg4 arg5 harg5 arg6 harg6 arg7 harg7 arg8 harg8 arg9 harg9 arg10 harg10 arg11 harg11 arg12 harg12 arg13 harg13 f3 f4 f6 f7 f10, ← r5_eq i arg3 arg4 f3 f4]
  unfold fOf
  have e0 := ld_row (arg7.view.read (Elt F) f7) (k0_off1 i 0#32) (((i 2).val * 4 + 0) * 8 + (i 1).val) (off1_eq i 0) (k0_off1_inb i 0)
  have e1 := ld_row (arg7.view.read (Elt F) f7) (k0_off1 i 1#32) (((i 2).val * 4 + 1) * 8 + (i 1).val) (off1_eq i 1) (k0_off1_inb i 1)
  have e2 := ld_row (arg7.view.read (Elt F) f7) (k0_off1 i 2#32) (((i 2).val * 4 + 2) * 8 + (i 1).val) (off1_eq i 2) (k0_off1_inb i 2)
  have e3 := ld_row (arg7.view.read (Elt F) f7) (k0_off1 i 3#32) (((i 2).val * 4 + 3) * 8 + (i 1).val) (off1_eq i 3) (k0_off1_inb i 3)
  rw [← gs_eq i arg6 f6, ← e0, ← e1, ← e2, ← e3]
  unfold kernelRun0.sl.r_7 kernelRun0.sl.r_8 kernelRun0.sl.r_9
  exact shapeCast_self _ _

theorem r10_eq : kernelRun0.sl.r_10 c i arg3 harg3 arg4 harg4 arg5 harg5 arg6 harg6 arg7 harg7 arg8 harg8 arg9 harg9 arg10 harg10 arg11 harg11 arg12 harg12 arg13 harg13 f3 f4 f6 f7 f10
    = mFin i (arg3.view.read (Elt F) f3) (arg4.view.read (Elt F) f4) (arg6.view.read (Elt F) f6) (arg7.view.read (Elt F) f7) := by
  unfold kernelRun0.sl.r_10 mFin; rw [v138_eq]

/-- The score array after the diagonal block. -/
theorem scores_eq (arg1 arg2 : BitVec 32) (v10 v19 v28 : FVec F S1x128 .f32) (v31 : BitVec 32) (v34 : Vec F S1x1x128 .f32) (G11 : BufTy.Contents (Elt F) arg11.view.ty)
    (y : S8192x512.Idx) (hy : (y 0).val / 512 ≤ (i 2).val) :
    arg10.view.read (Elt F) (arg10.view.writes (Elt F) f10
      (⟨Rect.unit (k0_off9 i) S512x512.size (k0_off9_inb i), k0_pay46 (k0_pay37 (arg3.view.read (Elt F) f3)) (View.readAt (Elt F) arg4.view (Rect.unit (s := S1x1x8192x128) (k0_off8 i) S1x1x512x128.size (k0_off8_inb i)).toLoadRect f4)⟩
        :: (pb_k0_t1 (F := F) Variants.none c none i arg3 harg3 arg4 harg4 arg5 harg5 arg6 harg6 arg7 harg7 arg8 harg8 arg9 harg9 arg10 harg10 arg11 harg11 arg12 harg12 arg13 harg13 arg1 arg2 (k0_pay37 (arg3.view.read (Elt F) f3)) v10 v19 v28 v31 v34 f4 f7 f10 G11 (i 2).val).1)) y
      = scoreArr i (arg3.view.read (Elt F) f3) (arg4.view.read (Elt F) f4) y := by
  refine View.read_writes_apply_of_pieces _ _ _ _ ?_ y ?_
  · intro p hp
    rcases List.mem_cons.mp hp with rfl | h
    · intro x
      rw [← piece_score i (arg3.view.read (Elt F) f3) (arg4.view.read (Elt F) f4) _ (i 2).val (off9_eq i)]
      have e : View.readAt (Elt F) arg4.view (Rect.unit (s := S1x1x8192x128) (k0_off8 i) S1x1x512x128.size (k0_off8_inb i)).toLoadRect f4 = kBlk (arg4.view.read (Elt F) f4) (i 2).val := ld_k _ _ _ (off8_eq i) _
      unfold score
      rw [if_pos rfl, e]
      exact congrFun (shapeCast_self (k0_pay45 (k0_pay37 (arg3.view.read (Elt F) f3)) (kBlk (arg4.view.read (Elt F) f4) (i 2).val)) shapeCasts_S512x512_S512x512) x
    · exact loop1_pieces _ c none i arg3 harg3 arg4 harg4 arg5 harg5 arg6 harg6 arg7 harg7 arg8 harg8 arg9 harg9 arg10 harg10 arg11 harg11 arg12 harg12 arg13 harg13 arg1 arg2 v10 v19 v28 v31 v34 f4 f7 f10 G11 _ _ le_rfl p h
  · by_cases h : (y 0).val < 512 * (i 2).val
    · obtain ⟨p, hp, hm⟩ := loop1_cover Variants.none c none i arg3 harg3 arg4 harg4 arg5 harg5 arg6 harg6 arg7 harg7 arg8 harg8 arg9 harg9 arg10 harg10 arg11 harg11 arg12 harg12 arg13 harg13 arg1 arg2 v10 v19 v28 v31 v34 f4 f7 f10 G11 (arg3.view.read (Elt F) f3) _ le_rfl y h
      exact ⟨p, List.mem_cons_of_mem _ hp, hm⟩
    · refine ⟨_, List.mem_cons_self, ?_⟩
      rw [Rect.mem_set_unit, off9_eq]
      intro a
      have h1 : (y 1).val < 512 := (y 1).isLt
      fin_cases a
      · show 512 * (i 2).val ≤ (y 0).val ∧ (y 0).val < 512 * (i 2).val + 512; omega
      · show 0 ≤ (y 1).val ∧ (y 1).val < 0 + 512; omega

/-- The sums the epilogue reads. -/
theorem v157_eq : kernelRun0.sl.v157 c i arg3 harg3 arg4 harg4 arg5 harg5 arg6 harg6 arg7 harg7 arg8 harg8 arg9 harg9 arg10 harg10 arg11 harg11 arg12 harg12 arg13 harg13 f3 f4 f5 f6 f7 f10
    = lAt i (arg3.view.read (Elt F) f3) (arg4.view.read (Elt F) f4) (arg6.view.read (Elt F) f6) (arg7.view.read (Elt F) f7) ((i 2).val + 1) := by
  unfold kernelRun0.sl.v157
  rw [T4_eq, pb_k0_t4.eq_1, T3_eq, T2_eq, pb_k0_t2.eq_1, T1_eq, r_eq]
  refine (View.ld_unit_zero zero2 _ _).trans ?_
  rw [List.nil_append, View.writes_append]
  refine loop3_sum Variants.none c none i arg3 harg3 arg4 harg4 arg5 harg5 arg6 harg6 arg7 harg7 arg8 harg8 arg9 harg9 arg10 harg10 arg11 harg11 arg12 harg12 arg13 harg13 _ _ _ _ _ _ f5 f7 _ _ _ _ _ _ (gs_eq i arg6 f6) (fun y hy => ?_) (r10_eq c i arg3 harg3 arg4 harg4 arg5 harg5 arg6 harg6 arg7 harg7 arg8 harg8 arg9 harg9 arg10 harg10 arg11 harg11 arg12 harg12 arg13 harg13 f3 f4 f6 f7 f10) ?_ _ le_rfl
  · exact scores_eq c i arg3 harg3 arg4 harg4 arg5 harg5 arg6 harg6 arg7 harg7 arg8 harg8 arg9 harg9 arg10 harg10 arg11 harg11 arg12 harg12 arg13 harg13 f3 f4 f7 f10 _ _ _ _ _ _ _ _ y hy
  · unfold kernelRun0.sl.H12_1
    exact read_writes_unit_zero _ _ zero2 _ _ _

/-- The accumulator the epilogue reads. -/
theorem v160_eq : kernelRun0.sl.v160 c i arg3 harg3 arg4 harg4 arg5 harg5 arg6 harg6 arg7 harg7 arg8 harg8 arg9 harg9 arg10 harg10 arg11 harg11 arg12 harg12 arg13 harg13 f3 f4 f5 f6 f7 f10
    = aAt i (arg3.view.read (Elt F) f3) (arg4.view.read (Elt F) f4) (arg5.view.read (Elt F) f5) (arg6.view.read (Elt F) f6) (arg7.view.read (Elt F) f7) ((i 2).val + 1) := by
  unfold kernelRun0.sl.v160
  rw [T4_eq, pb_k0_t4.eq_1, T3_eq, T2_eq, pb_k0_t2.eq_1, T1_eq, r_eq]
  refine (View.ld_unit_zero zero2 _ _).trans ?_
  rw [List.nil_append, View.writes_append]
  refine loop3_acc Variants.none c none i arg3 harg3 arg4 harg4 arg5 harg5 arg6 harg6 arg7 harg7 arg8 harg8 arg9 harg9 arg10 harg10 arg11 harg11 arg12 harg12 arg13 harg13 _ _ _ _ _ _ f5 f7 _ _ _ _ _ _ (gs_eq i arg6 f6) (fun y hy => ?_) (r10_eq c i arg3 harg3 arg4 harg4 arg5 harg5 arg6 harg6 arg7 harg7 arg8 harg8 arg9 harg9 arg10 harg10 arg11 harg11 arg12 harg12 arg13 harg13 f3 f4 f6 f7 f10) ?_ _ le_rfl
  · exact scores_eq c i arg3 harg3 arg4 harg4 arg5 harg5 arg6 harg6 arg7 harg7 arg8 harg8 arg9 harg9 arg10 harg10 arg11 harg11 arg12 harg12 arg13 harg13 f3 f4 f7 f10 _ _ _ _ _ _ _ _ y hy
  · unfold kernelRun0.sl.H13_1
    refine (read_writes_unit_zero _ _ zero2 _ _ _).trans ?_
    exact shapeCast_self _ _

/-- The stored block. -/
theorem stored_eq : View.canon (kernelRun0 c i arg3 harg3 arg4 harg4 arg5 harg5 arg6 harg6 arg7 harg7 arg8 harg8 arg9 harg9 arg10 harg10 arg11 harg11 arg12 harg12 arg13 harg13 f3 f4 f5 f6 f7 f8 f10 f11 f12 f13).1
    = outBlk i (arg3.view.read (Elt F) f3) (arg4.view.read (Elt F) f4) (arg5.view.read (Elt F) f5) (arg6.view.read (Elt F) f6) (arg7.view.read (Elt F) f7) (arg8.view.read (Elt F) f8) := by
  refine (View.canon_unit_zero zero3 _ _).trans ?_
  rw [v157_eq, v160_eq]
  exact congrArg (k0_pay4 _ _) (ld_vs _ _ _ (off16_eq i) _)

/-- The store covers the block. -/
theorem stored_cover (y : S1x512x128.Idx) : ∃ p ∈ (kernelRun0 c i arg3 harg3 arg4 harg4 arg5 harg5 arg6 harg6 arg7 harg7 arg8 harg8 arg9 harg9 arg10 harg10 arg11 harg11 arg12 harg12 arg13 harg13 f3 f4 f5 f6 f7 f8 f10 f11 f12 f13).1, y ∈ p.1.set :=
  ⟨_, List.mem_cons_self, View.mem_set_unit_zero zero3 inb_S1x512x128_S1x512x128_0_0_0 y⟩
end
end Cert.KernelIdeal.Att

end
-- ==== Proof.Frame.lean ====
/- The attention kernel's frame: the body's triple at any grid point, the pipeline's proof data with each output block at
   `outBlk` of the six blocks read there, the run, and that every execution ends with the argument arrays unchanged and
   every semaphore at zero. The scratch buffers are owned at anything before and after each point. -/
module

public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.FrameBody
public import Idealize.ShloMosaic.Lib.Claim
public import proofs.«01_k».proof.Proof.Stored

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F] [Named F]

local notation "𝕄" => MT nD τ sig Unit (Elt F) ℕ (UR sig nD τ) ℕ

/-- What the pipeline keeps between points: the four scratch buffers at anything, and the generator register. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA; rw [scopedRest0_eq]
  simp only [owns_whole]; try rfl

set_option maxHeartbeats 1000000 in
/-- The body on whole buffers: the inputs stay, the output is `outBlk` of them, the scratch buffers are left at something. -/
theorem sound_kernel (c : Dev nD) (i : grid0.Coords) (E : Set ℕ) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole)
    (x3 : Vec F S1x1x512x128 .fp8e4m3) (x4 : Vec F S1x1x8192x128 .fp8e4m3) (x5 : Vec F S1x1x128x8192 .fp8e4m3) (x6 : Vec F S1x512x128 .f32) (x7 : Vec F S1x512x128 .f32) (x8 : Vec F S1x8x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (outBlk i x3 x4 x5 x6 x7 x8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attend i arg3 harg3 arg4 harg4 arg5 harg5 arg6 harg6 arg7 harg7 arg8 harg8 arg9 harg9 arg10 harg10 arg11 harg11 arg12 harg12 arg13 harg13) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf3 hf4 hf5 hf6 hf7 hf8
  iapply ((kernelRun0 (F := F) c i arg3 harg3 arg4 harg4 arg5 harg5 arg6 harg6 arg7 harg7 arg8 harg8 arg9 harg9 arg10 harg10 arg11 harg11 arg12 harg12 arg13 harg13 f3 f4 f5 f6 f7 f8 f10 f11 f12 f13).2 f9 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, ⟨%g10, H10⟩, ⟨%g11, H11⟩, ⟨%g12, H12⟩, ⟨%g13, H13⟩⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (View.read_writes_eq_canon _ _ _ (stored_cover c i arg3 harg3 arg4 harg4 arg5 harg5 arg6 harg6 arg7 harg7 arg8 harg8 arg9 harg9 arg10 harg10 arg11 harg11 arg12 harg12 arg13 harg13 f3 f4 f5 f6 f7 f8 f10 f11 f12 f13)).trans (stored_eq c i arg3 harg3 arg4 harg4 arg5 harg5 arg6 harg6 arg7 harg7 arg8 harg8 arg9 harg9 arg10 harg10 arg11 harg11 arg12 harg12 arg13 harg13 f3 f4 f5 f6 f7 f8 f10 f11 f12 f13)
  isplitl [H10]
  · iexists _; iexists g10; isplitr; · ipureintro; rfl
    iexact H10
  isplitl [H11]
  · iexists _; iexists g11; isplitr; · ipureintro; rfl
    iexact H11
  isplitl [H12]
  · iexists _; iexists g12; isplitr; · ipureintro; rfl
    iexact H12
  iexists _; iexists g13; isplitr; · ipureintro; rfl
  iexact H13

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `outBlk` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk (grid0.coords t) (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA_eq]
  iintro ⟨⟨⟨HS0, HS1, HS2, HS3⟩, HP⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) Set.univ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 HP]
  · isplitl [HS0 HS1 HS2 HS3]
    · isplitl [HS0]; · iexact HS0
      isplitl [HS1]; · iexact HS1
      isplitl [HS2]; · iexact HS2
      iexact HS3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Att.facts, fun m ρ _ => Cert.KernelIdeal.Att.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Att

end
-- ==== Proof.Printed.Words.lean ====
/- The integer words of the attention kernel as plain numbers: how many trips each loop makes at a grid point, and the
   offset of each load and store. At grid point `i` the head is `i 1` and the query block `i 2`; the two unrolled-by-one
   main loops make all the trips and the two remainder loops none. -/
module

public import proofs.«01_k».proof.Proof.Gen.Kernel.Skeleton
public import Idealize.ShloMosaic.Lib.Tactic

@[expose] public section

set_option maxRecDepth 16384

noncomputable section

namespace Cert.Kernel.Att

open Idealize.ShloMosaic Idealize.ShloMosaic.TcCoe
open Cert.Kernel Cert.Kernel.Gen

/-- The score loop makes one trip per earlier key block, -/
theorem trips1 (i : grid0.Coords) : (k0_t1_loop i).trips = (i 2).val := by
  have h : ∀ a : Fin 16, Scf.trips (0#32) (Scalar.addi 0#32 (Scalar.muli (Scalar.divsi (Scalar.subi (BitVec.ofNat 32 a.val) 0#32) 1#32) 1#32)) 1#32 = a.val := by decide
  exact h (i 2)
/-- its remainder loop none; -/
theorem trips2 (i : grid0.Coords) : (k0_t2_loop i).trips = 0 := by
  have h : ∀ a : Fin 16, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0 := by decide
  exact h (i 2)
/-- the attending loop one trip per key block up to the diagonal, -/
theorem trips3 (i : grid0.Coords) : (k0_t3_loop i).trips = (i 2).val + 1 := by
  have h : ∀ a : Fin 16, (Scf.Loop.mk 0#32 (Scalar.addi 0#32 (Scalar.muli (Scalar.divsi (Scalar.subi (Scalar.addi (BitVec.ofNat 32 a.val) 1#32) 0#32) 1#32) 1#32)) 1#32).trips = a.val + 1 := by decide
  exact h (i 2)
/-- its remainder loop none. -/
theorem trips4 (i : grid0.Coords) : (k0_t4_loop i).trips = 0 := by
  unfold k0_t4_loop
  have h : ∀ a : Fin 16, (Scf.Loop.mk (Scalar.addi 0#32 (Scalar.muli (Scalar.divsi (Scalar.subi (Scalar.addi (BitVec.ofNat 32 a.val) 1#32) 0#32) 1#32) 1#32)) (Scalar.addi 0#32 (Scalar.subi (Scalar.addi (BitVec.ofNat 32 a.val) 1#32) 0#32)) 1#32).trips = 0 := by decide
  exact h (i 2)

theorem i1_lt (i : grid0.Coords) : (i 1).val < 8 := (i 1).isLt
theorem i2_lt (i : grid0.Coords) : (i 2).val < 16 := (i 2).isLt
theorem t1_lt {i : grid0.Coords} (k : Fin (k0_t1_loop i).trips) : k.val < 16 :=
  lt_trans (lt_of_lt_of_eq k.isLt (trips1 i)) (i2_lt i)
theorem t3_lt {i : grid0.Coords} (k : Fin (k0_t3_loop i).trips) : k.val < 16 :=
  lt_of_lt_of_le (lt_of_lt_of_eq k.isLt (trips3 i)) (i2_lt i)

theorem off1_eq (i : grid0.Coords) (s : Fin 4) : k0_off1 i (BitVec.ofNat 32 s.val) = ![0, ((i 2).val * 4 + s.val) * 8 + (i 1).val, 0] := by
  have h1 := i1_lt i; have h2 := i2_lt i; have hs := s.isLt
  unfold k0_off1
  have e : (Scalar.indexCast (Scalar.addi (Scalar.muli (Scalar.addi (Scalar.muli (BitVec.ofNat 32 (i 2).val) 4#32) (BitVec.ofNat 32 s.val)) 8#32) (BitVec.ofNat 32 (i 1).val))).toNat = ((i 2).val * 4 + s.val) * 8 + (i 1).val := by
    simp only [Scalar.indexCast, Scalar.addi, Scalar.muli, IntOp.addi, IntOp.muli, BitVec.toNat_add, BitVec.toNat_mul, BitVec.toNat_ofNat]; omega
  funext a; fin_cases a <;> first | rfl | exact e

theorem off2_eq (i : grid0.Coords) (k : Fin (k0_t1_loop i).trips) : k0_off2 i k = ![0, 0, 512 * k.val, 0] := by
  have hk := t1_lt k
  unfold k0_off2
  have e : (Scalar.indexCast (Scalar.muli (Scf.iv 0#32 1#32 k.val) 512#32)).toNat = 512 * k.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off3_eq (i : grid0.Coords) (k : Fin (k0_t1_loop i).trips) : k0_off3 i k = ![512 * k.val, 0] := by
  have hk := t1_lt k
  unfold k0_off3
  have e : (Scalar.indexCast (Scalar.muli (Scf.iv 0#32 1#32 k.val) 512#32)).toNat = 512 * k.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off4_eq (i : grid0.Coords) (k : Fin (k0_t1_loop i).trips) (s : Fin 4) : k0_off4 i k (BitVec.ofNat 32 s.val) = ![0, (k.val * 4 + s.val) * 8 + (i 1).val, 0] := by
  have h1 := i1_lt i; have h2 := t1_lt k; have hs := s.isLt
  unfold k0_off4
  have e : (Scalar.indexCast (Scalar.addi (Scalar.muli (Scalar.addi (Scalar.muli (Scf.iv 0#32 1#32 k.val) 4#32) (BitVec.ofNat 32 s.val)) 8#32) (BitVec.ofNat 32 (i 1).val))).toNat = (k.val * 4 + s.val) * 8 + (i 1).val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off8_eq (i : grid0.Coords) : k0_off8 i = ![0, 0, 512 * (i 2).val, 0] := by
  have hk := i2_lt i
  unfold k0_off8
  have e : (Scalar.indexCast (Scalar.muli (BitVec.ofNat 32 (i 2).val) 512#32)).toNat = 512 * (i 2).val := by
    simp only [Scalar.indexCast, Scalar.muli, IntOp.muli, BitVec.toNat_mul, BitVec.toNat_ofNat]; omega
  funext a; fin_cases a <;> first | rfl | exact e

theorem off9_eq (i : grid0.Coords) : k0_off9 i = ![512 * (i 2).val, 0] := by
  have hk := i2_lt i
  unfold k0_off9
  have e : (Scalar.indexCast (Scalar.muli (BitVec.ofNat 32 (i 2).val) 512#32)).toNat = 512 * (i 2).val := by
    simp only [Scalar.indexCast, Scalar.muli, IntOp.muli, BitVec.toNat_mul, BitVec.toNat_ofNat]; omega
  funext a; fin_cases a <;> first | rfl | exact e

theorem off10_eq (i : grid0.Coords) (k : Fin (k0_t3_loop i).trips) (s : Fin 4) : k0_off10 i k (BitVec.ofNat 32 (128 * s.val)) = ![512 * k.val + 128 * s.val, 0] := by
  have h2 := t3_lt k; have hs := s.isLt
  unfold k0_off10
  have e : (Scalar.indexCast (Scalar.addi (Scalar.muli (Scf.iv 0#32 1#32 k.val) 512#32) (BitVec.ofNat 32 (128 * s.val)))).toNat = 512 * k.val + 128 * s.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off11_eq (i : grid0.Coords) (k : Fin (k0_t3_loop i).trips) (s : Fin 4) : k0_off11 i k (BitVec.ofNat 32 s.val) = ![0, (k.val * 4 + s.val) * 8 + (i 1).val, 0] := by
  have h1 := i1_lt i; have h2 := t3_lt k; have hs := s.isLt
  unfold k0_off11
  have e : (Scalar.indexCast (Scalar.addi (Scalar.muli (Scalar.addi (Scalar.muli (Scf.iv 0#32 1#32 k.val) 4#32) (BitVec.ofNat 32 s.val)) 8#32) (BitVec.ofNat 32 (i 1).val))).toNat = (k.val * 4 + s.val) * 8 + (i 1).val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off12_eq (i : grid0.Coords) (k : Fin (k0_t3_loop i).trips) : k0_off12 i k = ![0, 0, 0, 512 * k.val] := by
  have hk := t3_lt k
  unfold k0_off12
  have e : (Scalar.indexCast (Scalar.muli (Scf.iv 0#32 1#32 k.val) 512#32)).toNat = 512 * k.val := by
    simp only [Scf.iv, Scalar.indexCast, Scalar.addi, Scalar.muli, IntOp.addi, IntOp.muli, BitVec.toNat_add, BitVec.toNat_mul, BitVec.toNat_ofNat]; omega
  funext a; fin_cases a <;> first | rfl | exact e

theorem off16_eq (i : grid0.Coords) : k0_off16 i = ![0, (i 1).val, 0] := by
  have hk := i1_lt i
  unfold k0_off16
  have e : (Scalar.indexCast (BitVec.ofNat 32 (i 1).val)).toNat = (i 1).val := by
    simp only [Scalar.indexCast, BitVec.toNat_ofNat]; omega
  funext a; fin_cases a <;> first | rfl | exact e

end Cert.Kernel.Att

end
-- ==== Proof.Printed.Block.lean ====
/- The block the attention kernel computes at a grid point, written plainly: from the query block, the keys, the
   values and the three scale blocks to the output block, in the kernel's own order of operations. Key blocks are numbered
   by natural numbers (wrapped at the array's end, which no block used reaches). -/
module

public import proofs.«01_k».proof.Proof.Gen.Kernel.Skeleton
public import Idealize.ShloMosaic.Lib.Pipeline.Value
public import Idealize.ShloMosaic.Lib.ValueIdx

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

/-! ## What the body reads -/

/-- Row `r` of a block of lane-broadcast scales. -/
def rowAt (x : Vec F S1x512x128 .f32) (r : ℕ) : Vec F S1x1x128 .f32 :=
  fun j => x (ix3 (0 : Fin 1) (⟨r % 512, Nat.mod_lt _ (by norm_num)⟩ : Fin 512) (j 2))
/-- The `k`-th block of 512 keys. -/
def kBlk (x4 : Vec F S1x1x8192x128 .fp8e4m3) (k : ℕ) : Vec F S1x1x512x128 .fp8e4m3 :=
  fun j => x4 (ix4 (0 : Fin 1) (0 : Fin 1) (⟨(512 * k + (j 2).val) % 8192, Nat.mod_lt _ (by norm_num)⟩ : Fin 8192) (j 3))
/-- The `k`-th block of 512 values, feature-major. -/
def vBlk (x5 : Vec F S1x1x128x8192 .fp8e4m3) (k : ℕ) : Vec F S1x1x128x512 .fp8e4m3 :=
  fun j => x5 (ix4 (0 : Fin 1) (0 : Fin 1) (j 2) (⟨(512 * k + (j 3).val) % 8192, Nat.mod_lt _ (by norm_num)⟩ : Fin 8192))
/-- Row `r` of the value scales. -/
def vsAt (x8 : Vec F S1x8x128 .f32) (r : ℕ) : Vec F S1x1x128 .f32 :=
  fun j => x8 (ix3 (0 : Fin 1) (⟨r % 8, Nat.mod_lt _ (by norm_num)⟩ : Fin 8) (j 2))

/-! ## The steps -/

/-- Query scale times the softmax scale, over one group of 128 queries. -/
def qFactor (r : Vec F S1x1x128 .f32) : FVec F S1x128 .f32 :=
  mulf (shapeCast S1x128 r shapeCasts_S1x1x128_S1x128) (broadcast S1x128 (Scalar.ofBits .f32 0x3E0293EE#32))
/-- Key scale times query factor, over the 512 queries of a block. -/
def factorRow (g : Fin 4 → FVec F S1x128 .f32) (r : Vec F S1x1x128 .f32) : FVec F S1x512 .f32 :=
  concatenate S1x512 1 [⟨S1x128, mulf (shapeCast S1x128 r shapeCasts_S1x1x128_S1x128) (g 0)⟩, ⟨S1x128, mulf (shapeCast S1x128 r shapeCasts_S1x1x128_S1x128) (g 1)⟩,
    ⟨S1x128, mulf (shapeCast S1x128 r shapeCasts_S1x1x128_S1x128) (g 2)⟩, ⟨S1x128, mulf (shapeCast S1x128 r shapeCasts_S1x1x128_S1x128) (g 3)⟩]
    concatenates_S1x128_S1x128_S1x128_S1x128_S1x512_d1
/-- Rows `128 s …` of a block of scores. -/
def sub (S : FVec F S512x512 .f32) : Fin 4 → FVec F S128x512 .f32 :=
  ![extractStridedSlice S128x512 ![0, 0] S slices_S512x512_o0_0_S128x512, extractStridedSlice S128x512 ![128, 0] S slices_S512x512_o128_0_S128x512,
    extractStridedSlice S128x512 ![256, 0] S slices_S512x512_o256_0_S128x512, extractStridedSlice S128x512 ![384, 0] S slices_S512x512_o384_0_S128x512]
/-- The maximum over 16 groups of 8 rows. -/
def groupMax (p : FVec F S128x512 .f32) : FVec F S8x512 .f32 :=
  multiReduction .maximumf [0] S8x512 (shapeCast S16x8x512 p shapeCasts_S128x512_S16x8x512) 0xFF800000#32 reduces_S16x8x512_S8x512 (.inl rfl) rfl
/-- The sum over 16 groups of 8 rows. -/
def groupSum (p : FVec F S128x512 .f32) : FVec F S8x512 .f32 :=
  multiReduction .add [0] S8x512 (shapeCast S16x8x512 p shapeCasts_S128x512_S16x8x512) 0x00000000#32 reduces_S16x8x512_S8x512 (.inl rfl) rfl
/-- The maxima with one block of scores taken in. -/
def maxUpd (m : FVec F S8x512 .f32) (S : FVec F S512x512 .f32) (f : Fin 4 → FVec F S1x512 .f32) : FVec F S8x512 .f32 :=
  maximumf (maximumf (maximumf (maximumf m (mulf (groupMax (sub S 0)) (broadcastTo S8x512 (f 0) broadcasts_S1x512_S8x512)))
    (mulf (groupMax (sub S 1)) (broadcastTo S8x512 (f 1) broadcasts_S1x512_S8x512)))
    (mulf (groupMax (sub S 2)) (broadcastTo S8x512 (f 2) broadcasts_S1x512_S8x512)))
    (mulf (groupMax (sub S 3)) (broadcastTo S8x512 (f 3) broadcasts_S1x512_S8x512))
/-- The exponentials of 128 rows of scores. -/
def prob (p : FVec F S128x512 .f32) (f mf : FVec F S1x512 .f32) : FVec F S128x512 .f32 :=
  exp2 (subf (mulf p (broadcastTo S128x512 f broadcasts_S1x512_S128x512)) (broadcastTo S128x512 mf broadcasts_S1x512_S128x512))
/-- Clipped and rounded to 8 bits. -/
def enc (p : FVec F S128x512 .f32) : FVec F S128x512 .fp8e4m3 :=
  truncf .fp8e4m3 (minimumf (broadcast S128x512 (Scalar.ofBits .f32 0x43E00000#32)) (maximumf (broadcast S128x512 (Scalar.ofBits .f32 0xC3E00000#32)) p)) bitsLt_fp8e4m3_f32
/-- The sums with one block of exponentials taken in. -/
def sumUpd (l : FVec F S8x512 .f32) (p : Fin 4 → FVec F S128x512 .f32) : FVec F S8x512 .f32 :=
  addf (addf (addf (addf l (groupSum (p 0))) (groupSum (p 1))) (groupSum (p 2))) (groupSum (p 3))
/-- The accumulator with one block of exponentials taken in. -/
def accUpd (a : FVec F S128x512 .f32) (v : Vec F S1x1x128x512 .fp8e4m3) (p : Fin 4 → FVec F S128x512 .f32) : FVec F S128x512 .f32 :=
  addf a (matmul dot_S128x512_S512x512_S128x512_1_0_0_1_n_n none (shapeCast S128x512 v shapeCasts_S1x1x128x512_S128x512)
    (concatenate S512x512 0 [⟨S128x512, enc (p 0)⟩, ⟨S128x512, enc (p 1)⟩, ⟨S128x512, enc (p 2)⟩, ⟨S128x512, enc (p 3)⟩] concatenates_S128x512_S128x512_S128x512_S128x512_S512x512_d0)
    (constant S128x512 .f32 0x00000000#32))

/-! ## The block -/

section Block
variable (i : grid0.Coords) (x3 : Vec F S1x1x512x128 .fp8e4m3) (x4 : Vec F S1x1x8192x128 .fp8e4m3) (x5 : Vec F S1x1x128x8192 .fp8e4m3)
  (x6 x7 : Vec F S1x512x128 .f32) (x8 : Vec F S1x8x128 .f32)

/-- The query factors of the block's four groups. -/
def gOf : Fin 4 → FVec F S1x128 .f32 :=
  ![qFactor (rowAt x6 (((i 2).val * 4 + 0) * 8 + (i 1).val)), qFactor (rowAt x6 (((i 2).val * 4 + 1) * 8 + (i 1).val)),
    qFactor (rowAt x6 (((i 2).val * 4 + 2) * 8 + (i 1).val)), qFactor (rowAt x6 (((i 2).val * 4 + 3) * 8 + (i 1).val))]
/-- The factors of the four key groups of key block `k`. -/
def fOf (k : ℕ) : Fin 4 → FVec F S1x512 .f32 :=
  ![factorRow (gOf i x6) (rowAt x7 ((k * 4 + 0) * 8 + (i 1).val)), factorRow (gOf i x6) (rowAt x7 ((k * 4 + 1) * 8 + (i 1).val)),
    factorRow (gOf i x6) (rowAt x7 ((k * 4 + 2) * 8 + (i 1).val)), factorRow (gOf i x6) (rowAt x7 ((k * 4 + 3) * 8 + (i 1).val))]
/-- The scores of key block `k`, the diagonal block masked. -/
def score (k : ℕ) : FVec F S512x512 .f32 :=
  if k = (i 2).val then k0_pay45 (k0_pay37 x3) (kBlk x4 k) else k0_pay5 (k0_pay37 x3) (kBlk x4 k)
/-- The maxima over the first `k` key blocks. -/
def mAt : ℕ → FVec F S8x512 .f32
  | 0 => k0_pay42
  | k + 1 => maxUpd (mAt k) (score i x3 x4 k) (fOf i x6 x7 k)
/-- The maximum less eight, over all the key blocks. -/
def mFin : FVec F S1x512 .f32 := k0_pay52 (mAt i x3 x4 x6 x7 ((i 2).val + 1))
/-- The exponentials of key block `k`. -/
def probs (k : ℕ) : Fin 4 → FVec F S128x512 .f32 :=
  ![prob (sub (score i x3 x4 k) 0) (fOf i x6 x7 k 0) (mFin i x3 x4 x6 x7), prob (sub (score i x3 x4 k) 1) (fOf i x6 x7 k 1) (mFin i x3 x4 x6 x7),
    prob (sub (score i x3 x4 k) 2) (fOf i x6 x7 k 2) (mFin i x3 x4 x6 x7), prob (sub (score i x3 x4 k) 3) (fOf i x6 x7 k 3) (mFin i x3 x4 x6 x7)]
/-- The sums over the first `k` key blocks. -/
def lAt : ℕ → FVec F S8x512 .f32
  | 0 => k0_pay53
  | k + 1 => sumUpd (lAt k) (probs i x3 x4 x6 x7 k)
/-- The accumulator over the first `k` key blocks. -/
def aAt : ℕ → FVec F S128x512 .f32
  | 0 => k0_pay54
  | k + 1 => accUpd (aAt k) (vBlk x5 k) (probs i x3 x4 x6 x7 k)
/-- The output block. -/
def outBlk : FVec F S1x512x128 .bf16 :=
  k0_pay4 (lAt i x3 x4 x6 x7 ((i 2).val + 1)) (aAt i x3 x4 x5 x6 x7 ((i 2).val + 1)) (vsAt x8 (i 1).val)
/-- The scores as the scratch holds them, block under block. -/
def scoreArr (y : S8192x512.Idx) : F .f32 :=
  score i x3 x4 ((y 0).val / 512) (ix2 (⟨(y 0).val % 512, Nat.mod_lt _ (by norm_num)⟩ : Fin 512) (y 1))
end Block

end Cert.Kernel.Att

end
-- ==== Proof.Printed.Trips.lean ====
/- One trip of each main loop of the attention kernel, and the loops: the block of scores trip `k` of the score loop
   stores and the maxima it leaves, the sums and the accumulator trip `k` of the attending loop leaves, each a function of
   what the trip read; then the same after any number of trips. -/
module

public import proofs.«01_k».proof.Proof.Gen.Kernel.Loops
public import proofs.«01_k».proof.Proof.Printed.Words
public import proofs.«01_k».proof.Proof.Printed.Block
public import Idealize.ShloMosaic.Lib.Pipeline.ReadBack

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

/-! ## Loads at known offsets -/

theorem ld_row (x : Vec F S1x512x128 .f32) (off : Fin 3 → ℕ) (r : ℕ) (h : off = ![0, r, 0]) (inb : ∀ a, off a + S1x1x128.size a ≤ S1x512x128.size a) :
    View.ld x (Rect.unit off S1x1x128.size inb) = rowAt x r := by
  subst h
  have hr : r < 512 := by have := inb 1; simpa [S1x1x128, S1x512x128] using this
  funext j
  refine congrArg x (funext fun a => Fin.ext ?_)
  have h0 : (j 0).val = 0 := Nat.lt_one_iff.mp (j 0).isLt
  have h1 : (j 1).val = 0 := Nat.lt_one_iff.mp (j 1).isLt
  fin_cases a
  · show 0 + 1 * (j 0).val = 0; omega
  · show r + 1 * (j 1).val = r % 512; omega
  · show 0 + 1 * (j 2).val = (j 2).val; omega

theorem ld_vs (x : Vec F S1x8x128 .f32) (off : Fin 3 → ℕ) (r : ℕ) (h : off = ![0, r, 0]) (inb : ∀ a, off a + S1x1x128.size a ≤ S1x8x128.size a) :
    View.ld x (Rect.unit off S1x1x128.size inb) = vsAt x r := by
  subst h
  have hr : r < 8 := by have := inb 1; simpa [S1x1x128, S1x8x128] using this
  funext j
  refine congrArg x (funext fun a => Fin.ext ?_)
  have h0 : (j 0).val = 0 := Nat.lt_one_iff.mp (j 0).isLt
  have h1 : (j 1).val = 0 := Nat.lt_one_iff.mp (j 1).isLt
  fin_cases a
  · show 0 + 1 * (j 0).val = 0; omega
  · show r + 1 * (j 1).val = r % 8; omega
  · show 0 + 1 * (j 2).val = (j 2).val; omega

theorem ld_k (x : Vec F S1x1x8192x128 .fp8e4m3) (off : Fin 4 → ℕ) (k : ℕ) (h : off = ![0, 0, 512 * k, 0]) (inb : ∀ a, off a + S1x1x512x128.size a ≤ S1x1x8192x128.size a) :
    View.ld x (Rect.unit off S1x1x512x128.size inb) = kBlk x k := by
  subst h
  have hr : 512 * k + 512 ≤ 8192 := inb 2
  funext j
  refine congrArg x (funext fun a => Fin.ext ?_)
  have h0 : (j 0).val = 0 := Nat.lt_one_iff.mp (j 0).isLt
  have h1 : (j 1).val = 0 := Nat.lt_one_iff.mp (j 1).isLt
  have h2 : (j 2).val < 512 := (j 2).isLt
  fin_cases a
  · show 0 + 1 * (j 0).val = 0; omega
  · show 0 + 1 * (j 1).val = 0; omega
  · show 512 * k + 1 * (j 2).val = (512 * k + (j 2).val) % 8192; omega
  · show 0 + 1 * (j 3).val = (j 3).val; omega

theorem ld_v (x : Vec F S1x1x128x8192 .fp8e4m3) (off : Fin 4 → ℕ) (k : ℕ) (h : off = ![0, 0, 0, 512 * k]) (inb : ∀ a, off a + S1x1x128x512.size a ≤ S1x1x128x8192.size a) :
    View.ld x (Rect.unit off S1x1x128x512.size inb) = vBlk x k := by
  subst h
  have hr : 512 * k + 512 ≤ 8192 := inb 3
  funext j
  refine congrArg x (funext fun a => Fin.ext ?_)
  have h0 : (j 0).val = 0 := Nat.lt_one_iff.mp (j 0).isLt
  have h1 : (j 1).val = 0 := Nat.lt_one_iff.mp (j 1).isLt
  have h2 : (j 3).val < 512 := (j 3).isLt
  fin_cases a
  · show 0 + 1 * (j 0).val = 0; omega
  · show 0 + 1 * (j 1).val = 0; omega
  · show 0 + 1 * (j 2).val = (j 2).val; omega
  · show 512 * k + 1 * (j 3).val = (512 * k + (j 3).val) % 8192; omega

theorem zero2 : (![0, 0] : Fin 2 → ℕ) = fun _ => 0 := by funext a; fin_cases a <;> rfl

/-- A store of a whole buffer leaves its payload, -/
theorem read_writes_unit_zero {sig : RefSig} {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

/-! ## The score loop -/

section Score
variable (i : grid0.Coords) (v1 : FVec F S512x128 .fp8e4m3) (v10 v19 v28 : FVec F S1x128 .f32) (v34 : Vec F S1x1x128 .f32)
  (x4 : Vec F S1x1x8192x128 .fp8e4m3) (x7 : Vec F S1x512x128 .f32)

/-- The key codes trip `k` of the score loop reads. -/
abbrev kTrip (k : Fin (k0_t1_loop i).trips) : Vec F S1x1x512x128 .fp8e4m3 :=
  View.ld x4 (Rect.unit (k0_off2 i k) S1x1x512x128.size (k0_off2_inb i k))
/-- Row `s` of the four key-scale rows trip `k` reads. -/
abbrev ksTrip (k : Fin (k0_t1_loop i).trips) (s : Fin 4) : Vec F S1x1x128 .f32 :=
  View.ld x7 (Rect.unit (k0_off4 i k (BitVec.ofNat 32 s.val)) S1x1x128.size (k0_off4_inb i k s))
/-- The maxima after trip `k` of the score loop, from the maxima `m` before it. -/
def mStep (k : Fin (k0_t1_loop i).trips) (m : Vec F S8x512 .f32) : Vec F S8x512 .f32 :=
  k0_pay43 (maxUpd m (k0_pay5 v1 (kTrip i x4 k)) ![factorRow ![v10, v19, v28, k0_pay41 v34] (ksTrip i x7 k 0), factorRow ![v10, v19, v28, k0_pay41 v34] (ksTrip i x7 k 1),
    factorRow ![v10, v19, v28, k0_pay41 v34] (ksTrip i x7 k 2), factorRow ![v10, v19, v28, k0_pay41 v34] (ksTrip i x7 k 3)])
end Score

section Trip1
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 arg2 : BitVec 32) (v1 : FVec F S512x128 .fp8e4m3) (v10 v19 v28 : FVec F S1x128 .f32) (v31 : BitVec 32) (v34 : Vec F S1x1x128 .f32)
  (X4 : BufTy.Contents (Elt F) arg4.view.ty) (X7 : BufTy.Contents (Elt F) arg7.view.ty)

/-- Trip `k` stores its block of scores at its own rows. -/
theorem trip1_scores (k : Fin (k0_t1_loop i).trips) (f10 : BufTy.Contents (Elt F) arg10.view.ty) (f11 : BufTy.Contents (Elt F) arg11.view.ty) :
    (trip_k0_t1 (F := F) 𝒱 c bd i arg3 harg3 arg4 harg4 arg5 harg5 arg6 harg6 arg7 harg7 arg8 harg8 arg9 harg9 arg10 harg10 arg11 harg11 arg12 harg12 arg13 harg13 arg1 arg2 v1 v10 v19 v28 v31 v34 X4 X7 k).1 f10 f11
      = [⟨Rect.unit (k0_off3 i k) S512x512.size (k0_off3_inb i k), k0_pay6 v1 (kTrip i (arg4.view.read (Elt F) X4) k)⟩] := by
  unfold trip_k0_t1; rfl
/-- Trip `k` stores the maxima whole. -/
theorem trip1_max (k : Fin (k0_t1_loop i).trips) (f10 : BufTy.Contents (Elt F) arg10.view.ty) (f11 : BufTy.Contents (Elt F) arg11.view.ty) :
    (trip_k0_t1 (F := F) 𝒱 c bd i arg3 harg3 arg4 harg4 arg5 harg5 arg6 harg6 arg7 harg7 arg8 harg8 arg9 harg9 arg10 harg10 arg11 harg11 arg12 harg12 arg13 harg13 arg1 arg2 v1 v10 v19 v28 v31 v34 X4 X7 k).2.1 f10 f11
      = [⟨Rect.unit ![0, 0] S8x512.size inb_S8x512_S8x512_0_0, mStep i v1 v10 v19 v28 v34 (arg4.view.read (Elt F) X4) (arg7.view.read (Elt F) X7) k
          (View.ld (arg11.view.read (Elt F) f11) (Rect.unit ![0, 0] S8x512.size inb_S8x512_S8x512_0_0))⟩] := by
  unfold trip_k0_t1; rfl
end Trip1

/-! ## The attending loop -/

section Attend
variable (i : grid0.Coords) (v10 v19 v28 v37 : FVec F S1x128 .f32) (v142 : FVec F S1x512 .f32)
  (x5 : Vec F S1x1x128x8192 .fp8e4m3) (x7 : Vec F S1x512x128 .f32) (x10 : Vec F S8192x512 .f32)

/-- The exponentials of the 128 rows of scores that step `s` of trip `k` reads. -/
def pTrip (k : Fin (k0_t3_loop i).trips) (s : Fin 4) : FVec F S128x512 .f32 :=
  prob (View.ld x10 (Rect.unit (k0_off10 i k (BitVec.ofNat 32 (128 * s.val))) S128x512.size (k0_off10_inb i k s)))
    (factorRow ![v10, v19, v28, v37] (View.ld x7 (Rect.unit (k0_off11 i k (BitVec.ofNat 32 s.val)) S1x1x128.size (k0_off11_inb i k s)))) v142
/-- The four steps' exponentials. -/
def pTrips (k : Fin (k0_t3_loop i).trips) : Fin 4 → FVec F S128x512 .f32 :=
  ![pTrip i v10 v19 v28 v37 v142 x7 x10 k 0, pTrip i v10 v19 v28 v37 v142 x7 x10 k 1, pTrip i v10 v19 v28 v37 v142 x7 x10 k 2, pTrip i v10 v19 v28 v37 v142 x7 x10 k 3]
end Attend

section Trip3
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 : BitVec 32) (v10 v19 v28 v37 : FVec F S1x128 .f32) (v142 : FVec F S1x512 .f32)
  (X5 : BufTy.Contents (Elt F) arg5.view.ty) (X7 : BufTy.Contents (Elt F) arg7.view.ty) (X10 : BufTy.Contents (Elt F) arg10.view.ty)

/-- Trip `k` stores the sums whole, -/
theorem trip3_sum (k : Fin (k0_t3_loop i).trips) (f12 : BufTy.Contents (Elt F) arg12.view.ty) (f13 : BufTy.Contents (Elt F) arg13.view.ty) :
    (trip_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 k).1 f12 f13
      = [⟨Rect.unit ![0, 0] S8x512.size inb_S8x512_S8x512_0_0, shapeCast S8x512 (sumUpd (View.ld (arg12.view.read (Elt F) f12) (Rect.unit ![0, 0] S8x512.size inb_S8x512_S8x512_0_0))
          (pTrips i v10 v19 v28 v37 v142 (arg7.view.read (Elt F) X7) (arg10.view.read (Elt F) X10) k)) shapeCasts_S8x512_S8x512⟩] := by
  unfold trip_k0_t3; rfl
/-- and the accumulator whole. -/
theorem trip3_acc (k : Fin (k0_t3_loop i).trips) (f12 : BufTy.Contents (Elt F) arg12.view.ty) (f13 : BufTy.Contents (Elt F) arg13.view.ty) :
    (trip_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 k).2.1 f12 f13
      = [⟨Rect.unit ![0, 0] S128x512.size inb_S128x512_S128x512_0_0, shapeCast S128x512 (accUpd (View.ld (arg13.view.read (Elt F) f13) (Rect.unit ![0, 0] S128x512.size inb_S128x512_S128x512_0_0))
          (View.ld (arg5.view.read (Elt F) X5) (Rect.unit (k0_off12 i k) S1x1x128x512.size (k0_off12_inb i k)))
          (pTrips i v10 v19 v28 v37 v142 (arg7.view.read (Elt F) X7) (arg10.view.read (Elt F) X10) k)) shapeCasts_S128x512_S128x512⟩] := by
  unfold trip_k0_t3; rfl
end Trip3
end Cert.Kernel.Att

end
-- ==== Proof.Printed.Sweeps.lean ====
/- The two main loops of the attention kernel, trip after trip: after `n` trips of the score loop the score array holds
   the first `n` blocks of scores and the maxima are those over the first `n` blocks; after `n` trips of the attending loop
   the sums and the accumulator are those over the first `n` blocks. -/
module

public import proofs.«01_k».proof.Proof.Printed.Trips

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

theorem unit_congr {s : Shape} {off off' : Fin s.rank → ℕ} (size : Fin s.rank → ℕ) (h : off = off') (inb : ∀ a, off a + size a ≤ s.size a) :
    Rect.unit off size inb = Rect.unit off' size (h ▸ inb) := by subst h; rfl

section
variable (i : grid0.Coords) (x3 : Vec F S1x1x512x128 .fp8e4m3) (x4 : Vec F S1x1x8192x128 .fp8e4m3) (x5 : Vec F S1x1x128x8192 .fp8e4m3)
  (x6 x7 : Vec F S1x512x128 .f32) (x8 : Vec F S1x8x128 .f32)

/-- A block stored at rows `512 k …` that is the `k`-th block of scores is the score array there. -/
theorem piece_score (off : Fin 2 → ℕ) (k : ℕ) (h : off = ![512 * k, 0]) (inb : ∀ a, off a + S512x512.size a ≤ S8192x512.size a) (x : S512x512.Idx) :
    score i x3 x4 k x = scoreArr i x3 x4 ((Rect.unit (s := S8192x512) off S512x512.size inb).emb x) := by
  subst h
  have h0 : (x 0).val < 512 := (x 0).isLt
  have e0 : (((Rect.unit (s := S8192x512) ![512 * k, 0] S512x512.size inb).emb x) 0).val = 512 * k + 1 * (x 0).val := rfl
  have e1 : (((Rect.unit (s := S8192x512) ![512 * k, 0] S512x512.size inb).emb x) 1).val = 0 + 1 * (x 1).val := rfl
  unfold scoreArr
  have q : (((Rect.unit (s := S8192x512) ![512 * k, 0] S512x512.size inb).emb x) 0).val / 512 = k := by omega
  rw [q]
  refine congrArg (score i x3 x4 k) (funext fun a => Fin.ext ?_)
  fin_cases a
  · show (x 0).val = (((Rect.unit (s := S8192x512) ![512 * k, 0] S512x512.size inb).emb x) 0).val % 512; omega
  · show (x 1).val = (((Rect.unit (s := S8192x512) ![512 * k, 0] S512x512.size inb).emb x) 1).val; omega

/-- The 128 rows of the score array at rows `512 k + 128 s …` are part `s` of the `k`-th block. -/
theorem ld_score (X : Vec F S8192x512 .f32) (k : ℕ) (s : Fin 4) (hX : ∀ y, (y 0).val / 512 = k → X y = scoreArr i x3 x4 y)
    (off : Fin 2 → ℕ) (h : off = ![512 * k + 128 * s.val, 0]) (inb : ∀ a, off a + S128x512.size a ≤ S8192x512.size a) :
    View.ld X (Rect.unit off S128x512.size inb) = sub (score i x3 x4 k) s := by
  subst h
  funext j
  have h0 : (j 0).val < 128 := (j 0).isLt
  have hs : s.val < 4 := s.isLt
  show X ((Rect.unit (s := S8192x512) ![512 * k + 128 * s.val, 0] S128x512.size inb).emb j) = _
  have e0 : (((Rect.unit (s := S8192x512) ![512 * k + 128 * s.val, 0] S128x512.size inb).emb j) 0).val = 512 * k + 128 * s.val + 1 * (j 0).val := rfl
  have e1 : (((Rect.unit (s := S8192x512) ![512 * k + 128 * s.val, 0] S128x512.size inb).emb j) 1).val = 0 + 1 * (j 1).val := rfl
  have q : (((Rect.unit (s := S8192x512) ![512 * k + 128 * s.val, 0] S128x512.size inb).emb j) 0).val / 512 = k := by omega
  rw [hX _ q]; unfold scoreArr; rw [q]
  have r0 : (((Rect.unit (s := S8192x512) ![512 * k + 128 * s.val, 0] S128x512.size inb).emb j) 0).val % 512 = 128 * s.val + (j 0).val := by omega
  have r1 : (((Rect.unit (s := S8192x512) ![512 * k + 128 * s.val, 0] S128x512.size inb).emb j) 1).val = 0 + (j 1).val := by omega
  fin_cases s <;>
  · refine congrArg (score i x3 x4 k) (funext fun a => Fin.ext ?_)
    fin_cases a
    · exact r0
    · exact r1
end

section Score
variable (i : grid0.Coords) (v10 v19 v28 : FVec F S1x128 .f32) (v34 : Vec F S1x1x128 .f32)
  (x3 : Vec F S1x1x512x128 .fp8e4m3) (x4 : Vec F S1x1x8192x128 .fp8e4m3) (x6 x7 : Vec F S1x512x128 .f32)

/-- Trip `k` of the score loop takes block `k` into the maxima. -/
theorem mStep_eq (hg : ![v10, v19, v28, k0_pay41 v34] = gOf i x6) (k : Fin (k0_t1_loop i).trips) (m : Vec F S8x512 .f32) :
    mStep i (k0_pay37 x3) v10 v19 v28 v34 x4 x7 k m = maxUpd m (score i x3 x4 k.val) (fOf i x6 x7 k.val) := by
  have hk : k.val ≠ (i 2).val := by have := lt_of_lt_of_eq k.isLt (trips1 i); omega
  have e : kTrip i x4 k = kBlk x4 k.val := ld_k x4 _ k.val (off2_eq i k) _
  have e0 : ksTrip i x7 k 0 = rowAt x7 ((k.val * 4 + 0) * 8 + (i 1).val) := ld_row x7 _ _ (off4_eq i k 0) _
  have e1 : ksTrip i x7 k 1 = rowAt x7 ((k.val * 4 + 1) * 8 + (i 1).val) := ld_row x7 _ _ (off4_eq i k 1) _
  have e2 : ksTrip i x7 k 2 = rowAt x7 ((k.val * 4 + 2) * 8 + (i 1).val) := ld_row x7 _ _ (off4_eq i k 2) _
  have e3 : ksTrip i x7 k 3 = rowAt x7 ((k.val * 4 + 3) * 8 + (i 1).val) := ld_row x7 _ _ (off4_eq i k 3) _
  unfold mStep fOf score
  rw [hg, if_neg hk, e, e0, e1, e2, e3]
  exact shapeCast_self _ _
end Score

section Loop1
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 arg2 : BitVec 32) (v10 v19 v28 : FVec F S1x128 .f32) (v31 : BitVec 32) (v34 : Vec F S1x1x128 .f32)
  (X4 : BufTy.Contents (Elt F) arg4.view.ty) (X7 : BufTy.Contents (Elt F) arg7.view.ty) (G10 : BufTy.Contents (Elt F) arg10.view.ty) (G11 : BufTy.Contents (Elt F) arg11.view.ty)
  (x3 : Vec F S1x1x512x128 .fp8e4m3) (x6 : Vec F S1x512x128 .f32)

/-- What one trip adds to the stored pieces. -/
theorem pb1_scores (n : ℕ) (ht : n < (k0_t1_loop i).trips) :
    (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 (n + 1)).1
      = ⟨Rect.unit (k0_off3 i ⟨n, ht⟩) S512x512.size (k0_off3_inb i ⟨n, ht⟩), k0_pay6 (k0_pay37 x3) (kTrip i (arg4.view.read (Elt F) X4) ⟨n, ht⟩)⟩
        :: (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).1 :=
  (congrArg Prod.fst (pb_k0_t1_succ (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 ⟨n, ht⟩)).trans
    (congrArg (· ++ _) (trip1_scores (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 ⟨n, ht⟩ _ _))
theorem pb1_max (n : ℕ) (ht : n < (k0_t1_loop i).trips) :
    (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 (n + 1)).2
      = ⟨Rect.unit ![0, 0] S8x512.size inb_S8x512_S8x512_0_0, mStep i (k0_pay37 x3) v10 v19 v28 v34 (arg4.view.read (Elt F) X4) (arg7.view.read (Elt F) X7) ⟨n, ht⟩
          (View.ld (arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).2))
            (Rect.unit ![0, 0] S8x512.size inb_S8x512_S8x512_0_0))⟩
        :: (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).2 :=
  (congrArg Prod.snd (pb_k0_t1_succ (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 ⟨n, ht⟩)).trans
    (congrArg (· ++ _) (trip1_max (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 ⟨n, ht⟩ _ _))

/-- After `n` trips of the score loop: every stored piece is of the score array, -/
theorem loop1_pieces : ∀ n, n ≤ (i 2).val → ∀ p ∈ (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).1,
    ∀ x : p.1.shape.Idx, p.2 x = scoreArr i x3 (arg4.view.read (Elt F) X4) (p.1.emb x)
  | 0, _, p, hp, x => by rw [pb_k0_t1.eq_1] at hp; exact absurd hp List.not_mem_nil
  | n + 1, hn, p, hp, x => by
      have ht : n < (k0_t1_loop i).trips := by rw [trips1]; omega
      have hk : n ≠ (i 2).val := by omega
      rw [pb1_scores (ht := ht)] at hp
      rcases List.mem_cons.mp hp with rfl | h
      · rw [← piece_score i x3 (arg4.view.read (Elt F) X4) _ n (off3_eq i ⟨n, ht⟩)]
        have e : kTrip i (arg4.view.read (Elt F) X4) ⟨n, ht⟩ = kBlk (arg4.view.read (Elt F) X4) n := ld_k _ _ n (off2_eq i ⟨n, ht⟩) _
        unfold score
        rw [if_neg hk, e]
        exact congrFun (shapeCast_self _ _) x
      · exact loop1_pieces n (by omega) p h x

/-- the pieces cover the first `512 n` rows, -/
theorem loop1_cover : ∀ n, n ≤ (i 2).val → ∀ y : S8192x512.Idx, (y 0).val < 512 * n →
    ∃ p ∈ (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).1, y ∈ p.1.set
  | 0, _, y, hy => by omega
  | n + 1, hn, y, hy => by
      have ht : n < (k0_t1_loop i).trips := by rw [trips1]; omega
      rw [pb1_scores (ht := ht)]
      by_cases h : (y 0).val < 512 * n
      · obtain ⟨p, hp, hm⟩ := loop1_cover n (by omega) y h
        exact ⟨p, List.mem_cons_of_mem _ hp, hm⟩
      · refine ⟨_, List.mem_cons_self, ?_⟩
        rw [Rect.mem_set_unit, off3_eq]
        intro a
        have h1 : (y 1).val < 512 := (y 1).isLt
        fin_cases a
        · show 512 * n ≤ (y 0).val ∧ (y 0).val < 512 * n + 512; omega
        · show 0 ≤ (y 1).val ∧ (y 1).val < 0 + 512; omega

/-- and the maxima are those over the first `n` blocks. -/
theorem loop1_max (hg : ![v10, v19, v28, k0_pay41 v34] = gOf i x6) (h0 : arg11.view.read (Elt F) G11 = k0_pay42) : ∀ n, n ≤ (i 2).val →
    arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg13 harg13 arg1 arg2 (k0_pay37 x3) v10 v19 v28 v31 v34 X4 X7 G10 G11 n).2)
      = mAt i x3 (arg4.view.read (Elt F) X4) x6 (arg7.view.read (Elt F) X7) n
  | 0, _ => by rw [pb_k0_t1.eq_1]; exact h0
  | n + 1, hn => by
      have ht : n < (k0_t1_loop i).trips := by rw [trips1]; omega
      rw [pb1_max (ht := ht), read_writes_unit_zero _ _ zero2, View.ld_unit_zero zero2,
        loop1_max hg h0 n (by omega), mStep_eq i v10 v19 v28 v34 x3 _ x6 _ hg]
      rfl
end Loop1

section Loop3
variable (𝒱 : Variants) (c : Dev nD) (bd : Option 𝒱.V) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole) (arg1 : BitVec 32) (v10 v19 v28 v37 : FVec F S1x128 .f32) (v142 : FVec F S1x512 .f32)
  (X5 : BufTy.Contents (Elt F) arg5.view.ty) (X7 : BufTy.Contents (Elt F) arg7.view.ty) (X10 : BufTy.Contents (Elt F) arg10.view.ty)
  (G12 : BufTy.Contents (Elt F) arg12.view.ty) (G13 : BufTy.Contents (Elt F) arg13.view.ty)
  (x3 : Vec F S1x1x512x128 .fp8e4m3) (x4 : Vec F S1x1x8192x128 .fp8e4m3) (x6 : Vec F S1x512x128 .f32)

/-- Trip `k` of the attending loop computes block `k`'s exponentials. -/
theorem pTrips_eq (hg : ![v10, v19, v28, v37] = gOf i x6) (x7 : Vec F S1x512x128 .f32) (X : Vec F S8192x512 .f32)
    (hX : ∀ y : S8192x512.Idx, (y 0).val / 512 ≤ (i 2).val → X y = scoreArr i x3 x4 y) (k : Fin (k0_t3_loop i).trips) :
    pTrips i v10 v19 v28 v37 (mFin i x3 x4 x6 x7) x7 X k = probs i x3 x4 x6 x7 k.val := by
  have hk : k.val ≤ (i 2).val := by have := lt_of_lt_of_eq k.isLt (trips3 i); omega
  have hX' : ∀ y : S8192x512.Idx, (y 0).val / 512 = k.val → X y = scoreArr i x3 x4 y := fun y h => hX y (by omega)
  unfold pTrips pTrip probs fOf
  rw [hg, ld_score i x3 x4 X k.val 0 hX' _ (off10_eq i k 0), ld_score i x3 x4 X k.val 1 hX' _ (off10_eq i k 1), ld_score i x3 x4 X k.val 2 hX' _ (off10_eq i k 2),
    ld_score i x3 x4 X k.val 3 hX' _ (off10_eq i k 3), ld_row x7 _ _ (off11_eq i k 0), ld_row x7 _ _ (off11_eq i k 1), ld_row x7 _ _ (off11_eq i k 2), ld_row x7 _ _ (off11_eq i k 3)]
  rfl

/-- What one trip stores. -/
theorem pb3_sum (n : ℕ) (ht : n < (k0_t3_loop i).trips) :
    (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 (n + 1)).1
      = ⟨Rect.unit ![0, 0] S8x512.size inb_S8x512_S8x512_0_0, shapeCast S8x512 (sumUpd (View.ld (arg12.view.read (Elt F) (arg12.view.writes (Elt F) G12
            (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).1)) (Rect.unit ![0, 0] S8x512.size inb_S8x512_S8x512_0_0))
          (pTrips i v10 v19 v28 v37 v142 (arg7.view.read (Elt F) X7) (arg10.view.read (Elt F) X10) ⟨n, ht⟩)) shapeCasts_S8x512_S8x512⟩
        :: (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).1 :=
  (congrArg Prod.fst (pb_k0_t3_succ (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 ⟨n, ht⟩)).trans
    (congrArg (· ++ _) (trip3_sum (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 ⟨n, ht⟩ _ _))
theorem pb3_acc (n : ℕ) (ht : n < (k0_t3_loop i).trips) :
    (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 (n + 1)).2
      = ⟨Rect.unit ![0, 0] S128x512.size inb_S128x512_S128x512_0_0, shapeCast S128x512 (accUpd (View.ld (arg13.view.read (Elt F) (arg13.view.writes (Elt F) G13
            (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).2)) (Rect.unit ![0, 0] S128x512.size inb_S128x512_S128x512_0_0))
          (View.ld (arg5.view.read (Elt F) X5) (Rect.unit (k0_off12 i ⟨n, ht⟩) S1x1x128x512.size (k0_off12_inb i ⟨n, ht⟩)))
          (pTrips i v10 v19 v28 v37 v142 (arg7.view.read (Elt F) X7) (arg10.view.read (Elt F) X10) ⟨n, ht⟩)) shapeCasts_S128x512_S128x512⟩
        :: (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).2 :=
  (congrArg Prod.snd (pb_k0_t3_succ (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 ⟨n, ht⟩)).trans
    (congrArg (· ++ _) (trip3_acc (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 ⟨n, ht⟩ _ _))

variable (hg : ![v10, v19, v28, v37] = gOf i x6) (hX : ∀ y : S8192x512.Idx, (y 0).val / 512 ≤ (i 2).val → arg10.view.read (Elt F) X10 y = scoreArr i x3 x4 y)
  (hm : v142 = mFin i x3 x4 x6 (arg7.view.read (Elt F) X7))
include hg hX hm

/-- After `n` trips of the attending loop the sums are those over the first `n` blocks, -/
theorem loop3_sum (h0 : arg12.view.read (Elt F) G12 = k0_pay53) : ∀ n, n ≤ (i 2).val + 1 →
    arg12.view.read (Elt F) (arg12.view.writes (Elt F) G12 (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).1)
      = lAt i x3 x4 x6 (arg7.view.read (Elt F) X7) n
  | 0, _ => by rw [pb_k0_t3.eq_1]; exact h0
  | n + 1, hn => by
      have ht : n < (k0_t3_loop i).trips := by rw [trips3]; omega
      rw [pb3_sum (ht := ht), read_writes_unit_zero _ _ zero2, View.ld_unit_zero zero2,
        loop3_sum h0 n (by omega), shapeCast_self, hm, pTrips_eq i v10 v19 v28 v37 x3 x4 x6 hg _ _ hX]
      rfl
/-- and so is the accumulator. -/
theorem loop3_acc (h0 : arg13.view.read (Elt F) G13 = k0_pay54) : ∀ n, n ≤ (i 2).val + 1 →
    arg13.view.read (Elt F) (arg13.view.writes (Elt F) G13 (pb_k0_t3 (F := F) 𝒱 c bd i arg3 harg3 arg4 harg4 arg5 harg5 arg6 harg6 arg7 harg7 arg8 harg8 arg9 harg9 arg10 harg10 arg11 harg11 arg12 harg12 arg13 harg13 arg1 v10 v19 v28 v37 v142 X5 X7 X10 G12 G13 n).2)
      = aAt i x3 x4 (arg5.view.read (Elt F) X5) x6 (arg7.view.read (Elt F) X7) n
  | 0, _ => by rw [pb_k0_t3.eq_1]; exact h0
  | n + 1, hn => by
      have ht : n < (k0_t3_loop i).trips := by rw [trips3]; omega
      rw [pb3_acc (ht := ht), read_writes_unit_zero _ _ zero2, View.ld_unit_zero zero2,
        loop3_acc h0 n (by omega), shapeCast_self, hm, pTrips_eq i v10 v19 v28 v37 x3 x4 x6 hg _ _ hX,
        ld_v (arg5.view.read (Elt F) X5) _ n (off12_eq i ⟨n, ht⟩)]
      rfl
end Loop3
end Cert.Kernel.Att

end
-- ==== Proof.Printed.Body.lean ====
/- The attention kernel's body, run once: from the six input blocks and whatever the scratch holds, the body runs to its
   end, leaves the inputs as they were, and writes the output block by the pieces found here. The four counted loops are
   gone through by their invariants (the pieces of the trips before `k`), never unrolled. -/
module

public import proofs.«01_k».proof.Proof.Gen.Kernel.Frame
public import proofs.«01_k».proof.Proof.Gen.Kernel.Loops

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- ONE RUN OF THE BODY at a grid point, on whole memrefs holding `f3 … f13`: the pieces it writes into the output
    block, and the entailment that says so. -/
def kernelRun0 (c : Dev nD) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole)
    (f3 : BufTy.Contents (Elt F) arg3.view.ty) (f4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty)
    (f10 : BufTy.Contents (Elt F) arg10.view.ty) (f11 : BufTy.Contents (Elt F) arg11.view.ty) (f12 : BufTy.Contents (Elt F) arg12.view.ty)
    (f13 : BufTy.Contents (Elt F) arg13.view.ty) :
    { L9 : List (View.Piece (Elt F) S1x512x128 .bf16) // ∀ (f9 : BufTy.Contents (Elt F) arg9.view.ty) (E : Set ℕ) (K : PUnit → sProp 𝕄),
      iprop((arg3.view.loc (c : Thread nD τ) ↦[arg3.view.set]{fullShare} f3) ∗ (arg4.view.loc (c : Thread nD τ) ↦[arg4.view.set]{fullShare} f4)
          ∗ (arg5.view.loc (c : Thread nD τ) ↦[arg5.view.set]{fullShare} f5) ∗ (arg6.view.loc (c : Thread nD τ) ↦[arg6.view.set]{fullShare} f6)
          ∗ (arg7.view.loc (c : Thread nD τ) ↦[arg7.view.set]{fullShare} f7) ∗ (arg8.view.loc (c : Thread nD τ) ↦[arg8.view.set]{fullShare} f8)
          ∗ (arg9.view.loc (c : Thread nD τ) ↦[arg9.view.set]{fullShare} f9)
          ∗ (arg10.view.loc (c : Thread nD τ) ↦[arg10.view.set]{fullShare} f10) ∗ (arg11.view.loc (c : Thread nD τ) ↦[arg11.view.set]{fullShare} f11)
          ∗ (arg12.view.loc (c : Thread nD τ) ↦[arg12.view.set]{fullShare} f12) ∗ (arg13.view.loc (c : Thread nD τ) ↦[arg13.view.set]{fullShare} f13)
          ∗ (iprop((arg3.view.loc (c : Thread nD τ) ↦[arg3.view.set]{fullShare} f3) ∗ (arg4.view.loc (c : Thread nD τ) ↦[arg4.view.set]{fullShare} f4)
              ∗ (arg5.view.loc (c : Thread nD τ) ↦[arg5.view.set]{fullShare} f5) ∗ (arg6.view.loc (c : Thread nD τ) ↦[arg6.view.set]{fullShare} f6)
              ∗ (arg7.view.loc (c : Thread nD τ) ↦[arg7.view.set]{fullShare} f7) ∗ (arg8.view.loc (c : Thread nD τ) ↦[arg8.view.set]{fullShare} f8)
              ∗ (arg9.view.loc (c : Thread nD τ) ↦[arg9.view.set]{fullShare} arg9.view.writes (Elt F) f9 L9)
              ∗ (∃ f, arg10.view.loc (c : Thread nD τ) ↦[arg10.view.set]{fullShare} f) ∗ (∃ f, arg11.view.loc (c : Thread nD τ) ↦[arg11.view.set]{fullShare} f)
              ∗ (∃ f, arg12.view.loc (c : Thread nD τ) ↦[arg12.view.set]{fullShare} f) ∗ (∃ f, arg13.view.loc (c : Thread nD τ) ↦[arg13.view.set]{fullShare} f)) -∗ K ⟨⟩))
        ⊢ wp frame (wpE (defs₀ (F := F)) Variants.none c none) E (cc0_attend i arg3 harg3 arg4 harg4 arg5 harg5 arg6 harg6 arg7 harg7 arg8 harg8 arg9 harg9 arg10 harg10 arg11 harg11 arg12 harg12 arg13 harg13) K } := by
  refine ⟨?_, fun f9 E K => ?run⟩
  case run =>
    simp only [cc0_attend_eq_skeleton]; unfold cc0_attend_skel
    simp only [k0_part11_eq_skeleton, k0_part12_eq_skeleton, k0_part13_eq_skeleton, k0_part14_eq_skeleton]
    iintro ⟨H3, H4, H5, H6, H7, H8, H9, H10, H11, H12, H13, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iexists _; iexact H13

end Cert.Kernel.Att

end
-- ==== Proof.Printed.Stored.lean ====
/- What one run of the attention kernel's body stores: whatever the scratch buffers held on entry, the output block is the
   block `outBlk` of the six blocks read. -/
module

public import proofs.«01_k».proof.Proof.Printed.Sweeps
public import proofs.«01_k».proof.Proof.Printed.Body

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

section
variable (c : Dev nD) (i : grid0.Coords) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole)
    (f3 : BufTy.Contents (Elt F) arg3.view.ty)    (f4 : BufTy.Contents (Elt F) arg4.view.ty)    (f5 : BufTy.Contents (Elt F) arg5.view.ty)    (f6 : BufTy.Contents (Elt F) arg6.view.ty)    (f7 : BufTy.Contents (Elt F) arg7.view.ty)    (f8 : BufTy.Contents (Elt F) arg8.view.ty)    (f10 : BufTy.Contents (Elt F) arg10.view.ty)    (f11 : BufTy.Contents (Elt F) arg11.view.ty)    (f12 : BufTy.Contents (Elt F) arg12.view.ty)    (f13 : BufTy.Contents (Elt F) arg13.view.ty)

theorem zero3 : (![0, 0, 0] : Fin 3 → ℕ) = fun _ => 0 := by funext a; fin_cases a <;> rfl
theorem zero4 : (![0, 0, 0, 0] : Fin 4 → ℕ) = fun _ => 0 := by funext a; fin_cases a <;> rfl

theorem T1_eq : Scf.trips (k0_t1_loop i).lb (k0_t1_loop i).ub (k0_t1_loop i).st = (i 2).val := trips1 i
theorem T2_eq : Scf.trips (k0_t2_loop i).lb (k0_t2_loop i).ub (k0_t2_loop i).st = 0 := trips2 i
theorem T3_eq : Scf.trips (k0_t3_loop i).lb (k0_t3_loop i).ub (k0_t3_loop i).st = (i 2).val + 1 := trips3 i
theorem T4_eq : Scf.trips (k0_t4_loop i).lb (k0_t4_loop i).ub (k0_t4_loop i).st = 0 := trips4 i

theorem r_eq : kernelRun0.sl.r arg3 f3 = k0_pay37 (arg3.view.read (Elt F) f3) := by
  unfold kernelRun0.sl.r
  exact congrArg k0_pay37 (View.ld_unit_zero zero4 _ _)

/-- The four query factors. -/
theorem gs_eq : ![kernelRun0.sl.r_1 i arg6 f6, kernelRun0.sl.r_2 i arg6 f6, kernelRun0.sl.r_3 i arg6 f6, kernelRun0.sl.r_4 i arg6 f6] = gOf i (arg6.view.read (Elt F) f6) := by
  have e0 : kernelRun0.sl.r_1 i arg6 f6 = qFactor (rowAt (arg6.view.read (Elt F) f6) (((i 2).val * 4 + 0) * 8 + (i 1).val)) := by
    unfold kernelRun0.sl.r_1; exact congrArg qFactor (ld_row _ _ _ (off1_eq i 0) _)
  have e1 : kernelRun0.sl.r_2 i arg6 f6 = qFactor (rowAt (arg6.view.read (Elt F) f6) (((i 2).val * 4 + 1) * 8 + (i 1).val)) := by
    unfold kernelRun0.sl.r_2; exact congrArg qFactor (ld_row _ _ _ (off1_eq i 1) _)
  have e2 : kernelRun0.sl.r_3 i arg6 f6 = qFactor (rowAt (arg6.view.read (Elt F) f6) (((i 2).val * 4 + 2) * 8 + (i 1).val)) := by
    unfold kernelRun0.sl.r_3; exact congrArg qFactor (ld_row _ _ _ (off1_eq i 2) _)
  have e3 : kernelRun0.sl.r_4 i arg6 f6 = qFactor (rowAt (arg6.view.read (Elt F) f6) (((i 2).val * 4 + 3) * 8 + (i 1).val)) := by
    unfold kernelRun0.sl.r_4; exact congrArg qFactor (ld_row _ _ _ (off1_eq i 3) _)
  rw [e0, e1, e2, e3]; rfl

/-- The maxima before the diagonal block. -/
theorem v62_eq : kernelRun0.sl.v62 c i arg3 harg3 arg4 harg4 arg5 harg5 arg6 harg6 arg7 harg7 arg8 harg8 arg9 harg9 arg10 harg10 arg11 harg11 arg12 harg12 arg13 harg13 f3 f4 f6 f7 f10
    = mAt i (arg3.view.read (Elt F) f3) (arg4.view.read (Elt F) f4) (arg6.view.read (Elt F) f6) (arg7.view.read (Elt F) f7) (i 2).val := by
  unfold kernelRun0.sl.v62
  rw [T2_eq, pb_k0_t2.eq_1, T1_eq, r_eq]
  refine (View.ld_unit_zero zero2 _ _).trans ?_
  rw [List.nil_append, View.writes_append]
  refine loop1_max _ c none i arg3 harg3 arg4 harg4 arg5 harg5 arg6 harg6 arg7 harg7 arg8 harg8 arg9 harg9 arg10 harg10 arg11 harg11 arg12 harg12 arg13 harg13 _ _ _ _ _ _ _ f4 f7 f10 _ _ _ (gs_eq i arg6 f6) ?_ _ le_rfl
  unfold kernelRun0.sl.H11_1
  exact read_writes_unit_zero _ _ zero2 _ _ _

theorem r5_eq : kernelRun0.sl.r_5 i arg3 arg4 f3 f4 = score i (arg3.view.read (Elt F) f3) (arg4.view.read (Elt F) f4) (i 2).val := by
  unfold kernelRun0.sl.r_5 score
  rw [if_pos rfl, r_eq]
  exact congrArg (k0_pay45 _) (ld_k _ _ _ (off8_eq i) _)

/-- The maxima after it. -/
theorem v138_eq : kernelRun0.sl.v138 c i arg3 harg3 arg4 harg4 arg5 harg5 arg6 harg6 arg7 harg7 arg8 harg8 arg9 harg9 arg10 harg10 arg11 harg11 arg12 harg12 arg13 harg13 f3 f4 f6 f7 f10
    = mAt i (arg3.view.read (Elt F) f3) (arg4.view.read (Elt F) f4) (arg6.view.read (Elt F) f6) (arg7.view.read (Elt F) f7) ((i 2).val + 1) := by
  unfold kernelRun0.sl.v138 kernelRun0.sl.H11_1_1
  refine (View.readCov_cons_toLoadRect _ _ _ _).trans ?_
  show _ = maxUpd (mAt i _ _ _ _ _) (score i _ _ _) (fOf i _ _ _)
  rw [← v62_eq c i arg3 harg3 arg4 harg4 arg5 harg5 arg6 harg6 arg7 harg7 arg8 harg8 arg9 harg9 arg10 harg10 arg11 harg11 arg12 harg12 arg13 harg13 f3 f4 f6 f7 f10, ← r5_eq i arg3 arg4 f3 f4]
  unfold fOf
  have e0 := ld_row (arg7.view.read (Elt F) f7) (k0_off1 i 0#32) (((i 2).val * 4 + 0) * 8 + (i 1).val) (off1_eq i 0) (k0_off1_inb i 0)
  have e1 := ld_row (arg7.view.read (Elt F) f7) (k0_off1 i 1#32) (((i 2).val * 4 + 1) * 8 + (i 1).val) (off1_eq i 1) (k0_off1_inb i 1)
  have e2 := ld_row (arg7.view.read (Elt F) f7) (k0_off1 i 2#32) (((i 2).val * 4 + 2) * 8 + (i 1).val) (off1_eq i 2) (k0_off1_inb i 2)
  have e3 := ld_row (arg7.view.read (Elt F) f7) (k0_off1 i 3#32) (((i 2).val * 4 + 3) * 8 + (i 1).val) (off1_eq i 3) (k0_off1_inb i 3)
  rw [← gs_eq i arg6 f6, ← e0, ← e1, ← e2, ← e3]
  unfold kernelRun0.sl.r_7 kernelRun0.sl.r_8 kernelRun0.sl.r_9
  exact shapeCast_self _ _

theorem r10_eq : kernelRun0.sl.r_10 c i arg3 harg3 arg4 harg4 arg5 harg5 arg6 harg6 arg7 harg7 arg8 harg8 arg9 harg9 arg10 harg10 arg11 harg11 arg12 harg12 arg13 harg13 f3 f4 f6 f7 f10
    = mFin i (arg3.view.read (Elt F) f3) (arg4.view.read (Elt F) f4) (arg6.view.read (Elt F) f6) (arg7.view.read (Elt F) f7) := by
  unfold kernelRun0.sl.r_10 mFin; rw [v138_eq]

/-- The score array after the diagonal block. -/
theorem scores_eq (arg1 arg2 : BitVec 32) (v10 v19 v28 : FVec F S1x128 .f32) (v31 : BitVec 32) (v34 : Vec F S1x1x128 .f32) (G11 : BufTy.Contents (Elt F) arg11.view.ty)
    (y : S8192x512.Idx) (hy : (y 0).val / 512 ≤ (i 2).val) :
    arg10.view.read (Elt F) (arg10.view.writes (Elt F) f10
      (⟨Rect.unit (k0_off9 i) S512x512.size (k0_off9_inb i), k0_pay46 (k0_pay37 (arg3.view.read (Elt F) f3)) (View.readAt (Elt F) arg4.view (Rect.unit (s := S1x1x8192x128) (k0_off8 i) S1x1x512x128.size (k0_off8_inb i)).toLoadRect f4)⟩
        :: (pb_k0_t1 (F := F) Variants.none c none i arg3 harg3 arg4 harg4 arg5 harg5 arg6 harg6 arg7 harg7 arg8 harg8 arg9 harg9 arg10 harg10 arg11 harg11 arg12 harg12 arg13 harg13 arg1 arg2 (k0_pay37 (arg3.view.read (Elt F) f3)) v10 v19 v28 v31 v34 f4 f7 f10 G11 (i 2).val).1)) y
      = scoreArr i (arg3.view.read (Elt F) f3) (arg4.view.read (Elt F) f4) y := by
  refine View.read_writes_apply_of_pieces _ _ _ _ ?_ y ?_
  · intro p hp
    rcases List.mem_cons.mp hp with rfl | h
    · intro x
      rw [← piece_score i (arg3.view.read (Elt F) f3) (arg4.view.read (Elt F) f4) _ (i 2).val (off9_eq i)]
      have e : View.readAt (Elt F) arg4.view (Rect.unit (s := S1x1x8192x128) (k0_off8 i) S1x1x512x128.size (k0_off8_inb i)).toLoadRect f4 = kBlk (arg4.view.read (Elt F) f4) (i 2).val := ld_k _ _ _ (off8_eq i) _
      unfold score
      rw [if_pos rfl, e]
      exact congrFun (shapeCast_self (k0_pay45 (k0_pay37 (arg3.view.read (Elt F) f3)) (kBlk (arg4.view.read (Elt F) f4) (i 2).val)) shapeCasts_S512x512_S512x512) x
    · exact loop1_pieces _ c none i arg3 harg3 arg4 harg4 arg5 harg5 arg6 harg6 arg7 harg7 arg8 harg8 arg9 harg9 arg10 harg10 arg11 harg11 arg12 harg12 arg13 harg13 arg1 arg2 v10 v19 v28 v31 v34 f4 f7 f10 G11 _ _ le_rfl p h
  · by_cases h : (y 0).val < 512 * (i 2).val
    · obtain ⟨p, hp, hm⟩ := loop1_cover Variants.none c none i arg3 harg3 arg4 harg4 arg5 harg5 arg6 harg6 arg7 harg7 arg8 harg8 arg9 harg9 arg10 harg10 arg11 harg11 arg12 harg12 arg13 harg13 arg1 arg2 v10 v19 v28 v31 v34 f4 f7 f10 G11 (arg3.view.read (Elt F) f3) _ le_rfl y h
      exact ⟨p, List.mem_cons_of_mem _ hp, hm⟩
    · refine ⟨_, List.mem_cons_self, ?_⟩
      rw [Rect.mem_set_unit, off9_eq]
      intro a
      have h1 : (y 1).val < 512 := (y 1).isLt
      fin_cases a
      · show 512 * (i 2).val ≤ (y 0).val ∧ (y 0).val < 512 * (i 2).val + 512; omega
      · show 0 ≤ (y 1).val ∧ (y 1).val < 0 + 512; omega

/-- The sums the epilogue reads. -/
theorem v157_eq : kernelRun0.sl.v157 c i arg3 harg3 arg4 harg4 arg5 harg5 arg6 harg6 arg7 harg7 arg8 harg8 arg9 harg9 arg10 harg10 arg11 harg11 arg12 harg12 arg13 harg13 f3 f4 f5 f6 f7 f10
    = lAt i (arg3.view.read (Elt F) f3) (arg4.view.read (Elt F) f4) (arg6.view.read (Elt F) f6) (arg7.view.read (Elt F) f7) ((i 2).val + 1) := by
  unfold kernelRun0.sl.v157
  rw [T4_eq, pb_k0_t4.eq_1, T3_eq, T2_eq, pb_k0_t2.eq_1, T1_eq, r_eq]
  refine (View.ld_unit_zero zero2 _ _).trans ?_
  rw [List.nil_append, View.writes_append]
  refine loop3_sum Variants.none c none i arg3 harg3 arg4 harg4 arg5 harg5 arg6 harg6 arg7 harg7 arg8 harg8 arg9 harg9 arg10 harg10 arg11 harg11 arg12 harg12 arg13 harg13 _ _ _ _ _ _ f5 f7 _ _ _ _ _ _ (gs_eq i arg6 f6) (fun y hy => ?_) (r10_eq c i arg3 harg3 arg4 harg4 arg5 harg5 arg6 harg6 arg7 harg7 arg8 harg8 arg9 harg9 arg10 harg10 arg11 harg11 arg12 harg12 arg13 harg13 f3 f4 f6 f7 f10) ?_ _ le_rfl
  · exact scores_eq c i arg3 harg3 arg4 harg4 arg5 harg5 arg6 harg6 arg7 harg7 arg8 harg8 arg9 harg9 arg10 harg10 arg11 harg11 arg12 harg12 arg13 harg13 f3 f4 f7 f10 _ _ _ _ _ _ _ _ y hy
  · unfold kernelRun0.sl.H12_1
    exact read_writes_unit_zero _ _ zero2 _ _ _

/-- The accumulator the epilogue reads. -/
theorem v160_eq : kernelRun0.sl.v160 c i arg3 harg3 arg4 harg4 arg5 harg5 arg6 harg6 arg7 harg7 arg8 harg8 arg9 harg9 arg10 harg10 arg11 harg11 arg12 harg12 arg13 harg13 f3 f4 f5 f6 f7 f10
    = aAt i (arg3.view.read (Elt F) f3) (arg4.view.read (Elt F) f4) (arg5.view.read (Elt F) f5) (arg6.view.read (Elt F) f6) (arg7.view.read (Elt F) f7) ((i 2).val + 1) := by
  unfold kernelRun0.sl.v160
  rw [T4_eq, pb_k0_t4.eq_1, T3_eq, T2_eq, pb_k0_t2.eq_1, T1_eq, r_eq]
  refine (View.ld_unit_zero zero2 _ _).trans ?_
  rw [List.nil_append, View.writes_append]
  refine loop3_acc Variants.none c none i arg3 harg3 arg4 harg4 arg5 harg5 arg6 harg6 arg7 harg7 arg8 harg8 arg9 harg9 arg10 harg10 arg11 harg11 arg12 harg12 arg13 harg13 _ _ _ _ _ _ f5 f7 _ _ _ _ _ _ (gs_eq i arg6 f6) (fun y hy => ?_) (r10_eq c i arg3 harg3 arg4 harg4 arg5 harg5 arg6 harg6 arg7 harg7 arg8 harg8 arg9 harg9 arg10 harg10 arg11 harg11 arg12 harg12 arg13 harg13 f3 f4 f6 f7 f10) ?_ _ le_rfl
  · exact scores_eq c i arg3 harg3 arg4 harg4 arg5 harg5 arg6 harg6 arg7 harg7 arg8 harg8 arg9 harg9 arg10 harg10 arg11 harg11 arg12 harg12 arg13 harg13 f3 f4 f7 f10 _ _ _ _ _ _ _ _ y hy
  · unfold kernelRun0.sl.H13_1
    refine (read_writes_unit_zero _ _ zero2 _ _ _).trans ?_
    exact shapeCast_self _ _

/-- The stored block. -/
theorem stored_eq : View.canon (kernelRun0 c i arg3 harg3 arg4 harg4 arg5 harg5 arg6 harg6 arg7 harg7 arg8 harg8 arg9 harg9 arg10 harg10 arg11 harg11 arg12 harg12 arg13 harg13 f3 f4 f5 f6 f7 f8 f10 f11 f12 f13).1
    = outBlk i (arg3.view.read (Elt F) f3) (arg4.view.read (Elt F) f4) (arg5.view.read (Elt F) f5) (arg6.view.read (Elt F) f6) (arg7.view.read (Elt F) f7) (arg8.view.read (Elt F) f8) := by
  refine (View.canon_unit_zero zero3 _ _).trans ?_
  rw [v157_eq, v160_eq]
  exact congrArg (k0_pay4 _ _) (ld_vs _ _ _ (off16_eq i) _)

/-- The store covers the block. -/
theorem stored_cover (y : S1x512x128.Idx) : ∃ p ∈ (kernelRun0 c i arg3 harg3 arg4 harg4 arg5 harg5 arg6 harg6 arg7 harg7 arg8 harg8 arg9 harg9 arg10 harg10 arg11 harg11 arg12 harg12 arg13 harg13 f3 f4 f5 f6 f7 f8 f10 f11 f12 f13).1, y ∈ p.1.set :=
  ⟨_, List.mem_cons_self, View.mem_set_unit_zero zero3 inb_S1x512x128_S1x512x128_0_0_0 y⟩
end
end Cert.Kernel.Att

end
-- ==== Proof.Printed.Frame.lean ====
/- The attention kernel's frame: the body's triple at any grid point, the pipeline's proof data with each output block at
   `outBlk` of the six blocks read there, the run, and that every execution ends with the argument arrays unchanged and
   every semaphore at zero. The scratch buffers are owned at anything before and after each point. -/
module

public import proofs.«01_k».proof.Proof.Gen.Kernel.Frame
public import proofs.«01_k».proof.Proof.Gen.Kernel.Points
public import proofs.«01_k».proof.Proof.Gen.Kernel.Launch
public import Idealize.ShloMosaic.Lib.Pipeline.FrameBody
public import Idealize.ShloMosaic.Lib.Claim
public import proofs.«01_k».proof.Proof.Printed.Stored

@[expose] public section

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Idealize.ShloMosaic.ValueIdx

variable {F : FTy → Type} [FloatOps F]

local notation "𝕄" => MT nD τ sig Unit (Elt F) ℕ (UR sig nD τ) ℕ

/-- What the pipeline keeps between points: the four scratch buffers at anything, and the generator register. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ ∃ r, prngReg c r) := by
  unfold Pipeline.ΦA; rw [scopedRest0_eq]
  simp only [owns_whole]; try rfl

set_option maxHeartbeats 1000000 in
/-- The body on whole buffers: the inputs stay, the output is `outBlk` of them, the scratch buffers are left at something. -/
theorem sound_kernel (c : Dev nD) (i : grid0.Coords) (E : Set ℕ) (arg3 : Memref sig .tc .vmem S1x1x512x128 .fp8e4m3) (harg3 : arg3.IsWhole) (arg4 : Memref sig .tc .vmem S1x1x8192x128 .fp8e4m3) (harg4 : arg4.IsWhole) (arg5 : Memref sig .tc .vmem S1x1x128x8192 .fp8e4m3) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x8x128 .f32) (harg8 : arg8.IsWhole) (arg9 : Memref sig .tc .vmem S1x512x128 .bf16) (harg9 : arg9.IsWhole) (arg10 : Memref sig .tc .vmem S8192x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S128x512 .f32) (harg13 : arg13.IsWhole)
    (x3 : Vec F S1x1x512x128 .fp8e4m3) (x4 : Vec F S1x1x8192x128 .fp8e4m3) (x5 : Vec F S1x1x128x8192 .fp8e4m3) (x6 : Vec F S1x512x128 .f32) (x7 : Vec F S1x512x128 .f32) (x8 : Vec F S1x8x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (outBlk i x3 x4 x5 x6 x7 x8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attend i arg3 harg3 arg4 harg4 arg5 harg5 arg6 harg6 arg7 harg7 arg8 harg8 arg9 harg9 arg10 harg10 arg11 harg11 arg12 harg12 arg13 harg13) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf3 hf4 hf5 hf6 hf7 hf8
  iapply ((kernelRun0 (F := F) c i arg3 harg3 arg4 harg4 arg5 harg5 arg6 harg6 arg7 harg7 arg8 harg8 arg9 harg9 arg10 harg10 arg11 harg11 arg12 harg12 arg13 harg13 f3 f4 f5 f6 f7 f8 f10 f11 f12 f13).2 f9 E K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, ⟨%g10, H10⟩, ⟨%g11, H11⟩, ⟨%g12, H12⟩, ⟨%g13, H13⟩⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (View.read_writes_eq_canon _ _ _ (stored_cover c i arg3 harg3 arg4 harg4 arg5 harg5 arg6 harg6 arg7 harg7 arg8 harg8 arg9 harg9 arg10 harg10 arg11 harg11 arg12 harg12 arg13 harg13 f3 f4 f5 f6 f7 f8 f10 f11 f12 f13)).trans (stored_eq c i arg3 harg3 arg4 harg4 arg5 harg5 arg6 harg6 arg7 harg7 arg8 harg8 arg9 harg9 arg10 harg10 arg11 harg11 arg12 harg12 arg13 harg13 f3 f4 f5 f6 f7 f8 f10 f11 f12 f13)
  isplitl [H10]
  · iexists _; iexists g10; isplitr; · ipureintro; rfl
    iexact H10
  isplitl [H11]
  · iexists _; iexists g11; isplitr; · ipureintro; rfl
    iexact H11
  isplitl [H12]
  · iexists _; iexists g12; isplitr; · ipureintro; rfl
    iexact H12
  iexists _; iexists g13; isplitr; · ipureintro; rfl
  iexact H13

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `outBlk` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk (grid0.coords t) (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA_eq]
  iintro ⟨⟨⟨HS0, HS1, HS2, HS3⟩, HP⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) Set.univ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 HP]
  · isplitl [HS0 HS1 HS2 HS3]
    · isplitl [HS0]; · iexact HS0
      isplitl [HS1]; · iexact HS1
      isplitl [HS2]; · iexact HS2
      iexact HS3
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Att.facts, fun m ρ _ => Cert.Kernel.Att.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Att

end
-- ==== Proof.Consts.lean ====
/- The float constants of the kernel and of the reference as the extended reals they denote, and the two named
   constants' values. -/
module

public import proofs.«01_k».proof.KernelIdeal
public import proofs.«01_k».proof.ReferenceIdeal
public import Idealize.ShloMosaic.PureOps.Ideal
public import Idealize.ShloMosaic.PureOps.IdealRules

@[expose] public section

noncomputable section

namespace Cert.Att

open Idealize.ShloMosaic

theorem bits_neg_inf : Ideal.ofBits .f32 0xFF800000#32 = (⊥ : EReal) := by
  simp [Ideal.ofBits, Ideal.ieee]
theorem bits_8 : Ideal.ofBits .f32 0x41000000#32 = ((8 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_256_inv : Ideal.ofBits .f32 0x3B800000#32 = ((1 / 256 : ℝ) : EReal) := by
  simp [Ideal.ofBits, Ideal.ieee, -EReal.coe_mul]; norm_num
theorem bits_448 : Ideal.ofBits .f32 0x43E00000#32 = ((448 : ℝ) : EReal) := by
  simp [Ideal.ofBits, Ideal.ieee, -EReal.coe_mul]; norm_num
theorem bits_neg_448 : Ideal.ofBits .f32 0xC3E00000#32 = ((-448 : ℝ) : EReal) := by
  simp [Ideal.ofBits, Ideal.ieee, -EReal.coe_mul, -EReal.coe_neg]; norm_num

/-- The kernel's scale constant: one over the root of 128, times the base-two logarithm of e. -/
theorem scale_kernel : Named.named (F := Ideal) Cert.KernelIdeal.κ "sm_scale_log2e" (φ := .f32) 0x3E0293EE#32
    = (((Real.sqrt 128)⁻¹ * (Real.log 2)⁻¹ : ℝ) : EReal) :=
  IdealRules.named_const.ideal_named_scalar _ _ _ _ rfl
/-- The reference's scale constant: one over the root of 128. -/
theorem scale_reference : Named.named (F := Ideal) Cert.ReferenceIdeal.κ "sm_scale" (φ := .f32) 0x3DB504F3#32
    = (((Real.sqrt 128)⁻¹ : ℝ) : EReal) :=
  IdealRules.named_const.ideal_named_scalar _ _ _ _ rfl

end Cert.Att

end
-- ==== Proof.Equation.lean ====
/- The equation between the two ways of computing one attention result, over the extended reals: the kernel's, which
   scales by a factor with the base-two logarithm of e folded in, subtracts the maximum less eight and raises two to the
   rest, and sums over the key blocks up to the diagonal; and the reference's, which scales, subtracts the maximum and
   exponentiates, and sums over all the keys. No reading of a program here. -/
module

public import Idealize.ShloMosaic.PureOps.Ideal

@[expose] public section

noncomputable section

namespace Cert.Att

open Idealize.ShloMosaic

/-- Clipping between two bounds. -/
def clip (lo hi x : EReal) : EReal := min hi (max lo x)

/-- A kernel score of key `t` for query `s`: masked first, then scaled by key scale × (query scale × constant). -/
def kScore (s : ℕ) (raw ks : ℕ → EReal) (qs c : EReal) (t : ℕ) : EReal :=
  (if t ≤ s then raw t else ⊥) * (ks t * (qs * c))
/-- The kernel's maximum over the first `n` keys. -/
def kMax (n s : ℕ) (raw ks : ℕ → EReal) (qs c : EReal) : EReal := (Finset.range n).sup (kScore s raw ks qs c)
/-- The kernel's exponential of key `t`. -/
def kProb (n s : ℕ) (raw ks : ℕ → EReal) (qs c eight : EReal) (t : ℕ) : EReal :=
  Ideal.exp2 (kScore s raw ks qs c t - (kMax n s raw ks qs c - eight))
/-- The kernel's result. -/
def kOut (n s : ℕ) (raw ks v : ℕ → EReal) (qs c eight lo hi vs : EReal) : EReal :=
  (∑ t ∈ Finset.range n, v t * clip lo hi (kProb n s raw ks qs c eight t))
    * Ideal.div 1 (∑ t ∈ Finset.range n, kProb n s raw ks qs c eight t) * vs

/-- A reference score: scaled, then masked. -/
def rScore (s : ℕ) (raw ks : ℕ → EReal) (qs c : EReal) (t : ℕ) : EReal :=
  if t ≤ s then raw t * (qs * c) * ks t else ⊥
/-- The reference's maximum over all `n` keys. -/
def rMax (n s : ℕ) (raw ks : ℕ → EReal) (qs c : EReal) : EReal := (Finset.range n).sup (rScore s raw ks qs c)
/-- The reference's exponential of key `t`. -/
def rProb (n s : ℕ) (raw ks : ℕ → EReal) (qs c : EReal) (t : ℕ) : EReal :=
  Ideal.exp (rScore s raw ks qs c t - rMax n s raw ks qs c)
/-- The reference's result. -/
def rOut (n s : ℕ) (raw ks v : ℕ → EReal) (qs c up down lo hi vs : EReal) : EReal :=
  (∑ t ∈ Finset.range n, clip lo hi (rProb n s raw ks qs c t * up) * v t) * down * vs
    * Ideal.div 1 (∑ t ∈ Finset.range n, rProb n s raw ks qs c t)

/-! ## Products by a factor that is not negative -/

/-- Multiplying by a factor ≥ 0 keeps the order. -/
theorem mono_mul {f : EReal} (hf : 0 ≤ f) : Monotone fun x : EReal => x * f :=
  fun _ _ h => mul_le_mul_of_nonneg_right h hf

/-- A maximum, multiplied by a positive factor, is the maximum of the products. -/
theorem sup_mul {ι : Type*} (S : Finset ι) (g : ι → EReal) {f : EReal} (hf : 0 < f) :
    S.sup g * f = S.sup fun i => g i * f := by
  refine Finset.comp_sup_eq_sup_comp (fun x : EReal => x * f) (fun x y => ?_) ?_
  · exact (mono_mul hf.le).map_sup x y
  · exact EReal.bot_mul_of_pos hf

/-- A sum of reals, read as extended reals term by term. -/
theorem coe_sum {ι : Type*} (S : Finset ι) (g : ι → ℝ) : ((∑ i ∈ S, g i : ℝ) : EReal) = ∑ i ∈ S, ((g i : ℝ) : EReal) := by
  classical
  induction S using Finset.induction_on with
  | empty => simp
  | insert a S ha ih => rw [Finset.sum_insert ha, Finset.sum_insert ha, EReal.coe_add, ih]

/-! ## Scores, maxima and exponentials -/

section
variable {n N s : ℕ} {raw ks : ℕ → EReal} {qs : EReal} {c k : ℝ}

/-- The kernel's score is the reference's, times the extra constant. -/
theorem kScore_eq (hc : 0 < c) (hk : 0 < k) (hq : 0 < qs) (hks : ∀ t, 0 < ks t) (t : ℕ) :
    kScore s raw ks qs ((c * k : ℝ) : EReal) t = rScore s raw ks qs (c : EReal) t * (k : EReal) := by
  have hk' : (0 : EReal) < (k : EReal) := by exact_mod_cast hk
  unfold kScore rScore
  split
  · rw [EReal.coe_mul]; ac_rfl
  · rw [EReal.bot_mul_of_pos hk']
    refine EReal.bot_mul_of_pos (EReal.mul_pos (hks t) (EReal.mul_pos hq ?_))
    exact_mod_cast mul_pos hc hk

/-- A score past the query is minus infinity. -/
theorem rScore_of_lt {t : ℕ} (h : s < t) : rScore s raw ks qs (c : EReal) t = ⊥ := if_neg (by omega)

/-- The maximum over the keys up to the diagonal block is the maximum over all the keys. -/
theorem rMax_eq (hs : s < n) (hn : n ≤ N) : rMax N s raw ks qs (c : EReal) = rMax n s raw ks qs (c : EReal) := by
  unfold rMax
  apply le_antisymm
  · refine Finset.sup_le fun t _ => ?_
    by_cases h : t < n
    · exact Finset.le_sup (f := rScore s raw ks qs (c : EReal)) (Finset.mem_range.2 h)
    · rw [rScore_of_lt (by omega)]; exact bot_le
  · exact Finset.sup_mono (Finset.range_subset_range.2 hn)

/-- The kernel's maximum is the reference's, times the extra constant. -/
theorem kMax_eq (hc : 0 < c) (hk : 0 < k) (hq : 0 < qs) (hks : ∀ t, 0 < ks t) (hs : s < n) (hn : n ≤ N) :
    kMax n s raw ks qs ((c * k : ℝ) : EReal) = rMax N s raw ks qs (c : EReal) * (k : EReal) := by
  have hk' : (0 : EReal) < (k : EReal) := by exact_mod_cast hk
  rw [rMax_eq hs hn]
  unfold kMax rMax
  rw [sup_mul _ _ hk']
  exact Finset.sup_congr rfl fun t _ => kScore_eq hc hk hq hks t

/-- A reference exponential is a real number, not negative. -/
theorem rProb_real {t : ℕ} (ht : t < N) : ∃ e : ℝ, 0 ≤ e ∧ rProb N s raw ks qs (c : EReal) t = (e : EReal)
    ∧ (s < t → e = 0)
    ∧ ∀ k : ℝ, 0 < k → k * Real.log 2 = 1 →
      Ideal.exp2 (rScore s raw ks qs (c : EReal) t * (k : EReal) - (rMax N s raw ks qs (c : EReal) * (k : EReal) - ((8 : ℝ) : EReal)))
        = ((256 * e : ℝ) : EReal) := by
  have hle : rScore s raw ks qs (c : EReal) t ≤ rMax N s raw ks qs (c : EReal) :=
    Finset.le_sup (f := rScore s raw ks qs (c : EReal)) (Finset.mem_range.2 ht)
  have hbot : s < t → rScore s raw ks qs (c : EReal) t = ⊥ := fun h => rScore_of_lt h
  unfold rProb
  generalize rScore s raw ks qs (c : EReal) t = x at hle hbot ⊢
  generalize rMax N s raw ks qs (c : EReal) = M at hle ⊢
  have pos (k : ℝ) (hk : 0 < k) : (0 : EReal) < (k : EReal) := by exact_mod_cast hk
  induction M with
  | top =>
    refine ⟨0, le_rfl, ?_, fun _ => rfl, fun k hk _ => ?_⟩
    · rw [EReal.sub_top]; simp
    · rw [EReal.top_mul_of_pos (pos k hk), EReal.top_sub_coe, EReal.sub_top]; simp
  | bot =>
    have hx : x = ⊥ := le_bot_iff.1 hle
    subst hx
    refine ⟨0, le_rfl, ?_, fun _ => rfl, fun k hk _ => ?_⟩
    · rw [EReal.bot_sub]; simp
    · rw [EReal.bot_mul_of_pos (pos k hk), EReal.bot_sub]; simp
  | coe m =>
    induction x with
    | top => exact absurd hle (not_le.2 (EReal.coe_lt_top m))
    | bot =>
      refine ⟨0, le_rfl, ?_, fun _ => rfl, fun k hk _ => ?_⟩
      · rw [EReal.bot_sub]; simp
      · rw [EReal.bot_mul_of_pos (pos k hk), EReal.bot_sub]; simp
    | coe r =>
      refine ⟨Real.exp (r - m), (Real.exp_pos _).le, ?_, fun h => absurd (hbot h) (EReal.coe_ne_bot r), fun k hk hl => ?_⟩
      · rw [← EReal.coe_sub]; rfl
      · rw [← EReal.coe_mul, ← EReal.coe_mul, ← EReal.coe_sub, ← EReal.coe_sub, Ideal.exp2_coe]
        congr 1
        have e8 : r * k - (m * k - 8) = (r - m) * k + (8 : ℕ) := by push_cast; ring
        show (2 : ℝ) ^ (r * k - (m * k - 8)) = _
        rw [e8, Real.rpow_add_natCast two_ne_zero, Real.rpow_def_of_pos two_pos,
          show Real.log 2 * ((r - m) * k) = r - m by rw [mul_comm, mul_assoc, hl, mul_one]]
        norm_num [mul_comm]

/-- THE EQUATION: with positive scales, the kernel's result is the reference's. -/
theorem out_eq {v : ℕ → EReal} {lo hi vs : EReal} (hc : 0 < c) (hk : 0 < k) (hl : k * Real.log 2 = 1) (hq : 0 < qs)
    (hks : ∀ t, 0 < ks t) (hs : s < n) (hn : n ≤ N) (hlo : lo ≤ 0) (hhi : 0 ≤ hi) :
    kOut n s raw ks v qs ((c * k : ℝ) : EReal) ((8 : ℝ) : EReal) lo hi vs
      = rOut N s raw ks v qs (c : EReal) ((256 : ℝ) : EReal) ((1 / 256 : ℝ) : EReal) lo hi vs := by
  have hex : ∀ t : ℕ, ∃ e : ℝ, 0 ≤ e ∧ (t < N → rProb N s raw ks qs (c : EReal) t = (e : EReal)
      ∧ kProb n s raw ks qs ((c * k : ℝ) : EReal) ((8 : ℝ) : EReal) t = ((256 * e : ℝ) : EReal)) ∧ (s < t → e = 0) := by
    intro t
    by_cases ht : t < N
    · obtain ⟨e, h0, h1, h2, h3⟩ := rProb_real (s := s) (raw := raw) (ks := ks) (qs := qs) (c := c) ht
      refine ⟨e, h0, fun _ => ⟨h1, ?_⟩, h2⟩
      unfold kProb
      rw [kScore_eq hc hk hq hks, kMax_eq hc hk hq hks hs hn]
      exact h3 k hk hl
    · exact ⟨0, le_rfl, fun h => absurd h ht, fun _ => rfl⟩
  choose e e0 e1 e2 using hex
  have c0 : clip lo hi 0 = 0 := by unfold clip; rw [max_eq_right hlo, min_eq_right hhi]
  have ez (t : ℕ) (h : t ∉ Finset.range n) : e t = 0 := e2 t (by rw [Finset.mem_range] at h; omega)
  have hsub : Finset.range n ⊆ Finset.range N := Finset.range_subset_range.2 hn
  -- the two denominators
  have hL : (∑ t ∈ Finset.range N, rProb N s raw ks qs (c : EReal) t) = ((∑ t ∈ Finset.range n, e t : ℝ) : EReal) := by
    rw [coe_sum, Finset.sum_congr rfl fun t ht => (e1 t (Finset.mem_range.1 ht)).1]
    refine (Finset.sum_subset hsub fun t _ h => ?_).symm
    rw [ez t h, EReal.coe_zero]
  have hK : (∑ t ∈ Finset.range n, kProb n s raw ks qs ((c * k : ℝ) : EReal) ((8 : ℝ) : EReal) t)
      = ((256 * ∑ t ∈ Finset.range n, e t : ℝ) : EReal) := by
    rw [Finset.mul_sum, coe_sum]
    exact Finset.sum_congr rfl fun t ht => (e1 t (Finset.mem_range.1 (hsub ht))).2
  -- the two numerators
  have hA : (∑ t ∈ Finset.range N, clip lo hi (rProb N s raw ks qs (c : EReal) t * ((256 : ℝ) : EReal)) * v t)
      = ∑ t ∈ Finset.range n, clip lo hi ((256 * e t : ℝ) : EReal) * v t := by
    rw [Finset.sum_congr rfl fun t ht => by rw [(e1 t (Finset.mem_range.1 ht)).1, ← EReal.coe_mul, mul_comm (e t)]]
    refine (Finset.sum_subset hsub fun t _ h => ?_).symm
    rw [ez t h, mul_zero, EReal.coe_zero, c0, zero_mul]
  have hB : (∑ t ∈ Finset.range n, v t * clip lo hi (kProb n s raw ks qs ((c * k : ℝ) : EReal) ((8 : ℝ) : EReal) t))
      = ∑ t ∈ Finset.range n, clip lo hi ((256 * e t : ℝ) : EReal) * v t :=
    Finset.sum_congr rfl fun t ht => by rw [(e1 t (Finset.mem_range.1 (hsub ht))).2, mul_comm]
  unfold kOut rOut
  rw [hL, hK, hA, hB]
  rcases (Finset.sum_nonneg fun t (_ : t ∈ Finset.range n) => e0 t).eq_or_lt' with h | h
  · have hz : ∑ t ∈ Finset.range n, clip lo hi ((256 * e t : ℝ) : EReal) * v t = 0 :=
      Finset.sum_eq_zero fun t ht => by
        rw [(Finset.sum_eq_zero_iff_of_nonneg fun t _ => e0 t).1 h t ht, mul_zero, EReal.coe_zero, c0, zero_mul]
    rw [hz]; simp
  · generalize (∑ t ∈ Finset.range n, e t : ℝ) = l at h
    rw [Ideal.div_coe h.ne', Ideal.div_coe (by positivity : (256 * l : ℝ) ≠ 0), one_mul, one_mul]
    rw [show (1 / (256 * l) : ℝ) = 1 / 256 * (1 / l) by field_simp, EReal.coe_mul]
    ac_rfl
end

end Cert.Att

end
-- ==== Proof.BlockValue.lean ====
/- The block the kernel computes, read at one query and one feature over the extended reals: the plain result of
   `Equation.lean` (`kOut`), for the block's keys, values and scales. -/
module

public import proofs.«01_k».proof.Proof.Block
public import proofs.«01_k».proof.Proof.Consts
public import proofs.«01_k».proof.Proof.Equation
public import Idealize.ShloMosaic.Lib.Pointwise

@[expose] public section

set_option maxRecDepth 16384

noncomputable section

namespace Cert.KernelIdeal.Att

open Cert.KernelIdeal Cert.KernelIdeal.Gen Cert.Att Idealize.ShloMosaic Idealize.ShloMosaic.TcCoe

/-! ## The steps at an index -/

/-- Row `u` of the `s`-th quarter of a block of scores. -/
theorem sub_apply (p : FVec Ideal S512x512 .f32) (s : Fin 4) (u : Fin 128) (r : Fin 512) :
    sub (F := Ideal) p s (ix2 u r) = p (ix2 (⟨128 * s.val + u.val, by omega⟩ : Fin 512) r) := by
  fin_cases s <;> (pointwise [sub]; try simp)

theorem groupMax_apply (p : FVec Ideal S128x512 .f32) (g : Fin 8) (r : Fin 512) : groupMax (F := Ideal) p (ix2 g r)
    = Finset.fold max ⊥ (fun x : Fin 16 => p (ix2 (⟨x.val * 8 + g.val, by omega⟩ : Fin 128) r)) Finset.univ := by
  pointwise [groupMax]
  rw [bits_neg_inf]

theorem groupSum_apply (p : FVec Ideal S128x512 .f32) (g : Fin 8) (r : Fin 512) : groupSum (F := Ideal) p (ix2 g r)
    = ∑ x : Fin 16, p (ix2 (⟨x.val * 8 + g.val, by omega⟩ : Fin 128) r) := by
  pointwise [groupSum]

/-- A maximum over a group, scaled by a positive factor, is at most `X` when every scaled score is. -/
theorem groupMax_mul_le (p : FVec Ideal S128x512 .f32) (g : Fin 8) (r : Fin 512) {f X : EReal} (hf : 0 < f) :
    groupMax (F := Ideal) p (ix2 g r) * f ≤ X
      ↔ ∀ x : Fin 16, p (ix2 (⟨x.val * 8 + g.val, by omega⟩ : Fin 128) r) * f ≤ X := by
  rw [groupMax_apply]
  have e : Finset.fold max ⊥ (fun x : Fin 16 => (p (ix2 (⟨x.val * 8 + g.val, by omega⟩ : Fin 128) r) : EReal)) Finset.univ
      = Finset.univ.sup fun x : Fin 16 => (p (ix2 (⟨x.val * 8 + g.val, by omega⟩ : Fin 128) r) : EReal) := rfl
  rw [e, sup_mul _ _ hf, Finset.sup_le_iff]
  exact ⟨fun h x => h x (Finset.mem_univ x), fun h x _ => h x⟩

theorem maxUpd_le (m : FVec Ideal S8x512 .f32) (S : FVec Ideal S512x512 .f32) (f : Fin 4 → FVec Ideal S1x512 .f32)
    (g : Fin 8) (r : Fin 512) {X : EReal} (hf : ∀ s, (0 : EReal) < f s (ix2 0 r)) :
    maxUpd (F := Ideal) m S f (ix2 g r) ≤ X
      ↔ m (ix2 g r) ≤ X ∧ ∀ (s : Fin 4) (x : Fin 16),
        (S (ix2 (⟨128 * s.val + (x.val * 8 + g.val), by omega⟩ : Fin 512) r) : EReal) * f s (ix2 0 r) ≤ X := by
  have e : maxUpd (F := Ideal) m S f (ix2 g r)
      = max (max (max (max (m (ix2 g r) : EReal) (groupMax (F := Ideal) (sub S 0) (ix2 g r) * f 0 (ix2 0 r)))
        (groupMax (F := Ideal) (sub S 1) (ix2 g r) * f 1 (ix2 0 r))) (groupMax (F := Ideal) (sub S 2) (ix2 g r) * f 2 (ix2 0 r)))
        (groupMax (F := Ideal) (sub S 3) (ix2 g r) * f 3 (ix2 0 r)) := by
    pointwise [maxUpd]
  rw [e]
  simp only [max_le_iff, groupMax_mul_le _ g r (hf _), sub_apply]
  constructor
  · rintro ⟨⟨⟨⟨h, h0⟩, h1⟩, h2⟩, h3⟩
    refine ⟨h, fun s => ?_⟩
    match s with
    | 0 => exact h0
    | 1 => exact h1
    | 2 => exact h2
    | 3 => exact h3
  · rintro ⟨h, hs⟩
    exact ⟨⟨⟨⟨h, hs 0⟩, hs 1⟩, hs 2⟩, hs 3⟩

theorem sumUpd_apply (l : FVec Ideal S8x512 .f32) (p : Fin 4 → FVec Ideal S128x512 .f32) (g : Fin 8) (r : Fin 512) :
    sumUpd (F := Ideal) l p (ix2 g r)
      = (l (ix2 g r) : EReal) + ∑ s : Fin 4, ∑ x : Fin 16, (p s (ix2 (⟨x.val * 8 + g.val, by omega⟩ : Fin 128) r) : EReal) := by
  have e : sumUpd (F := Ideal) l p (ix2 g r) = (l (ix2 g r) : EReal) + groupSum (F := Ideal) (p 0) (ix2 g r) + groupSum (F := Ideal) (p 1) (ix2 g r)
      + groupSum (F := Ideal) (p 2) (ix2 g r) + groupSum (F := Ideal) (p 3) (ix2 g r) := by
    pointwise [sumUpd]
  rw [e]
  simp only [groupSum_apply, Fin.sum_univ_four, add_assoc]

theorem accUpd_apply (a : FVec Ideal S128x512 .f32) (v : Vec Ideal S1x1x128x512 .fp8e4m3) (p : Fin 4 → FVec Ideal S128x512 .f32)
    (d : Fin 128) (r : Fin 512) : accUpd (F := Ideal) a v p (ix2 d r)
      = (a (ix2 d r) : EReal) + ∑ x : Fin 512, (v (ix4 0 0 d x) : EReal)
          * clip ((-448 : ℝ) : EReal) ((448 : ℝ) : EReal) (p (⟨x.val / 128, by omega⟩ : Fin 4) (ix2 (⟨x.val % 128, by omega⟩ : Fin 128) r)) := by
  pointwise [accUpd, enc]
  rw [bits_448, bits_neg_448]
  refine congrArg (fun z : EReal => (a (ix2 d r) : EReal) + z) (Finset.sum_congr rfl fun x _ => ?_)
  refine congrArg (fun z : EReal => (v (ix4 0 0 d x) : EReal) * z) ?_
  unfold clip
  rcases (by omega : x.val / 128 = 0 ∨ x.val / 128 = 1 ∨ x.val / 128 = 2 ∨ x.val / 128 = 3) with hq | hq | hq | hq
  · have : (⟨x.val / 128, by omega⟩ : Fin 4) = 0 := Fin.ext hq
    have h0 : x.val < 128 := by omega
    rw [dif_pos h0]
    rw [this]; congr 5; omega
  · have : (⟨x.val / 128, by omega⟩ : Fin 4) = 1 := Fin.ext hq
    have h0 : ¬x.val < 128 := by omega
    have h1 : x.val - 128 < 128 := by omega
    rw [dif_neg h0]; rw [dif_pos h1]
    rw [this]; congr 5; omega
  · have : (⟨x.val / 128, by omega⟩ : Fin 4) = 2 := Fin.ext hq
    have h0 : ¬x.val < 128 := by omega
    have h1 : ¬x.val - 128 < 128 := by omega
    have h2 : x.val - 128 - 128 < 128 := by omega
    rw [dif_neg h0]; rw [dif_neg h1]; rw [dif_pos h2]
    rw [this]; congr 5; omega
  · have : (⟨x.val / 128, by omega⟩ : Fin 4) = 3 := Fin.ext hq
    have h0 : ¬x.val < 128 := by omega
    have h1 : ¬x.val - 128 < 128 := by omega
    have h2 : ¬x.val - 128 - 128 < 128 := by omega
    rw [dif_neg h0]; rw [dif_neg h1]; rw [dif_neg h2]
    rw [this]; congr 5; omega

theorem prob_apply (p : FVec Ideal S128x512 .f32) (f mf : FVec Ideal S1x512 .f32) (u : Fin 128) (r : Fin 512) :
    prob (F := Ideal) p f mf (ix2 u r) = Ideal.exp2 ((p (ix2 u r) : EReal) * f (ix2 0 r) - mf (ix2 0 r)) := by
  pointwise [prob]
  rfl

theorem factorRow_apply (g : Fin 4 → FVec Ideal S1x128 .f32) (v : Vec Ideal S1x1x128 .f32) (r : Fin 512) {a : EReal}
    (hv : ∀ x : Fin 128, v (ix3 0 0 x) = a) {b : EReal} (hg : ∀ x : Fin 128, g (⟨r.val / 128, by omega⟩ : Fin 4) (ix2 0 x) = b) :
    factorRow (F := Ideal) g v (ix2 0 r) = a * b := by
  pointwise [factorRow]
  rcases (by omega : r.val / 128 = 0 ∨ r.val / 128 = 1 ∨ r.val / 128 = 2 ∨ r.val / 128 = 3) with hq | hq | hq | hq
  · have : (⟨r.val / 128, by omega⟩ : Fin 4) = 0 := Fin.ext hq
    have h0 : r.val < 128 := by omega
    rw [dif_pos h0]
    rw [this] at hg; rw [hv, hg]
  · have : (⟨r.val / 128, by omega⟩ : Fin 4) = 1 := Fin.ext hq
    have h0 : ¬r.val < 128 := by omega
    have h1 : r.val - 128 < 128 := by omega
    rw [dif_neg h0]; rw [dif_pos h1]
    rw [this] at hg; rw [hv, hg]
  · have : (⟨r.val / 128, by omega⟩ : Fin 4) = 2 := Fin.ext hq
    have h0 : ¬r.val < 128 := by omega
    have h1 : ¬r.val - 128 < 128 := by omega
    have h2 : r.val - 128 - 128 < 128 := by omega
    rw [dif_neg h0]; rw [dif_neg h1]; rw [dif_pos h2]
    rw [this] at hg; rw [hv, hg]
  · have : (⟨r.val / 128, by omega⟩ : Fin 4) = 3 := Fin.ext hq
    have h0 : ¬r.val < 128 := by omega
    have h1 : ¬r.val - 128 < 128 := by omega
    have h2 : ¬r.val - 128 - 128 < 128 := by omega
    rw [dif_neg h0]; rw [dif_neg h1]; rw [dif_neg h2]
    rw [this] at hg; rw [hv, hg]

theorem qFactor_apply (v : Vec Ideal S1x1x128 .f32) (x : Fin 128) : qFactor (F := Ideal) v (ix2 0 x)
    = (v (ix3 0 0 x) : EReal) * (((Real.sqrt 128)⁻¹ * (Real.log 2)⁻¹ : ℝ) : EReal) := by
  pointwise [qFactor]
  rw [scale_kernel]

theorem out_apply (l : FVec Ideal S8x512 .f32) (a : FVec Ideal S128x512 .f32) (v : Vec Ideal S1x1x128 .f32) (r : Fin 512)
    (d : Fin 128) : k0_pay4 (F := Ideal) l a v (ix3 0 r d)
      = (a (ix2 d r) : EReal) * Ideal.div 1 (∑ g : Fin 8, (l (ix2 g r) : EReal)) * v (ix3 0 0 d) := by
  pointwise [k0_pay4]

theorem max8_apply (l : FVec Ideal S8x512 .f32) (r : Fin 512) : k0_pay52 (F := Ideal) l (ix2 0 r)
    = (Finset.univ.sup fun g : Fin 8 => (l (ix2 g r) : EReal)) - ((8 : ℝ) : EReal) := by
  pointwise [k0_pay52]
  rw [bits_neg_inf, bits_8]
  rfl

theorem score_off (x3 : Vec Ideal S1x1x512x128 .fp8e4m3) (v : Vec Ideal S1x1x512x128 .fp8e4m3) (a r : Fin 512) :
    k0_pay5 (F := Ideal) (k0_pay37 x3) v (ix2 a r) = ∑ e : Fin 128, (v (ix4 0 0 a e) : EReal) * x3 (ix4 0 0 r e) := by
  pointwise [k0_pay5, k0_pay37]

theorem score_diag (x3 : Vec Ideal S1x1x512x128 .fp8e4m3) (v : Vec Ideal S1x1x512x128 .fp8e4m3) (a r : Fin 512) :
    k0_pay45 (F := Ideal) (k0_pay37 x3) v (ix2 a r)
      = if a.val ≤ r.val then ∑ e : Fin 128, (v (ix4 0 0 a e) : EReal) * x3 (ix4 0 0 r e) else (⊥ : EReal) := by
  pointwise [k0_pay45, k0_pay37]
  rw [bits_neg_inf]
  have ha : (BitVec.ofNat 32 a.val).toInt = a.val := by
    rw [BitVec.toInt_ofNat']; have := a.isLt; simp only [Int.bmod]; omega
  have hr : (BitVec.ofNat 32 r.val).toInt = r.val := by
    rw [BitVec.toInt_ofNat']; have := r.isLt; simp only [Int.bmod]; omega
  by_cases h : a.val ≤ r.val
  · rw [if_pos h]; simp [IntOp.cmpi, Scalar.select, BitVec.sle, ha, hr, h]
  · rw [if_neg h]; simp [IntOp.cmpi, Scalar.select, BitVec.sle, ha, hr, h]

end Cert.KernelIdeal.Att

end
-- ==== Proof.BlockSum.lean ====
/- The kernel's loops over the key blocks, summed up: the running maxima, sums and accumulator over the blocks up to
   the diagonal are one maximum and two sums over the keys, so that the output block at one query and one feature is
   `kOut` of `Equation.lean`. -/
module

public import proofs.«01_k».proof.Proof.BlockValue
public import proofs.«01_k».proof.Proof.Words

@[expose] public section

set_option maxRecDepth 16384

noncomputable section

namespace Cert.KernelIdeal.Att

open Cert.KernelIdeal Cert.KernelIdeal.Gen Cert.Att Idealize.ShloMosaic Idealize.ShloMosaic.TcCoe

/-- The scale constant of the kernel. -/
abbrev cK : EReal := (((Real.sqrt 128)⁻¹ * (Real.log 2)⁻¹ : ℝ) : EReal)

section
variable (i : grid0.Coords) (x3 : Vec Ideal S1x1x512x128 .fp8e4m3) (x4 : Vec Ideal S1x1x8192x128 .fp8e4m3) (x5 : Vec Ideal S1x1x128x8192 .fp8e4m3)
  (x6 x7 : Vec Ideal S1x512x128 .f32) (x8 : Vec Ideal S1x8x128 .f32)

/-- The product of key `t` and query `r` of the block. -/
def raw (r : Fin 512) (t : ℕ) : EReal :=
  ∑ e : Fin 128, (x4 (ix4 0 0 (⟨t % 8192, Nat.mod_lt _ (by norm_num)⟩ : Fin 8192) e) : EReal) * x3 (ix4 0 0 r e)
/-- The values' feature `d` at key `t`. -/
def val (d : Fin 128) (t : ℕ) : EReal := x5 (ix4 0 0 d (⟨t % 8192, Nat.mod_lt _ (by norm_num)⟩ : Fin 8192))
/-- A group's scale, out of the block of lane-broadcast scales. -/
def scaleOf (x : Vec Ideal S1x512x128 .f32) (g : ℕ) : EReal :=
  x (ix3 0 (⟨(g * 8 + (i 1).val) % 512, Nat.mod_lt _ (by norm_num)⟩ : Fin 512) 0)
/-- Every lane of a row of a block of scales holds the same number. -/
def Lanes (x : Vec Ideal S1x512x128 .f32) : Prop := ∀ (a : Fin 512) (l : Fin 128), (x (ix3 0 a l) : EReal) = x (ix3 0 a 0)

theorem rowAt_apply (x : Vec Ideal S1x512x128 .f32) (n : ℕ) (l : Fin 128) :
    rowAt (F := Ideal) x n (ix3 0 0 l) = x (ix3 0 (⟨n % 512, Nat.mod_lt _ (by norm_num)⟩ : Fin 512) l) := by
  exact (congrArg x (ix3_eq_valueIdx (0 : Fin 1) _ l)).symm

variable {x6 x7}

theorem gOf_apply (h6 : Lanes x6) (s : Fin 4) (l : Fin 128) :
    gOf (F := Ideal) i x6 s (ix2 0 l) = scaleOf i x6 ((i 2).val * 4 + s.val) * cK := by
  have key (n : ℕ) (e : n = (i 2).val * 4 + s.val) : qFactor (F := Ideal) (rowAt x6 (n * 8 + (i 1).val)) (ix2 0 l)
      = scaleOf i x6 ((i 2).val * 4 + s.val) * cK := by
    rw [qFactor_apply, rowAt_apply, h6, e]; rfl
  match s with
  | 0 => exact key _ rfl
  | 1 => exact key _ rfl
  | 2 => exact key _ rfl
  | 3 => exact key _ rfl

theorem fOf_apply (h6 : Lanes x6) (h7 : Lanes x7) (k : ℕ) (s : Fin 4) (r : Fin 512) :
    fOf (F := Ideal) i x6 x7 k s (ix2 0 r)
      = scaleOf i x7 (k * 4 + s.val) * (scaleOf i x6 ((i 2).val * 4 + r.val / 128) * cK) := by
  have key (n : ℕ) (e : n = k * 4 + s.val) : factorRow (F := Ideal) (gOf i x6) (rowAt x7 (n * 8 + (i 1).val)) (ix2 0 r)
      = scaleOf i x7 (k * 4 + s.val) * (scaleOf i x6 ((i 2).val * 4 + r.val / 128) * cK) := by
    refine factorRow_apply _ _ r (fun l => ?_) (fun l => gOf_apply i h6 _ l)
    rw [rowAt_apply, h7, e]; rfl
  match s with
  | 0 => exact key _ rfl
  | 1 => exact key _ rfl
  | 2 => exact key _ rfl
  | 3 => exact key _ rfl

theorem score_apply {k : ℕ} (hk : k ≤ (i 2).val) (a r : Fin 512) : score (F := Ideal) i x3 x4 k (ix2 a r)
    = if 512 * k + a.val ≤ 512 * (i 2).val + r.val then raw x3 x4 r (512 * k + a.val) else (⊥ : EReal) := by
  have e (a : Fin 512) (e : Fin 128) : kBlk (F := Ideal) x4 k (ix4 0 0 a e)
      = x4 (ix4 0 0 (⟨(512 * k + a.val) % 8192, Nat.mod_lt _ (by norm_num)⟩ : Fin 8192) e) := by
    exact (congrArg x4 (ix4_eq_valueIdx (0 : Fin 1) (0 : Fin 1) _ e)).symm
  unfold score raw
  split
  · next h =>
    rw [score_diag]; simp only [e]
    by_cases h' : a.val ≤ r.val
    · rw [if_pos h', if_pos (by omega)]
    · rw [if_neg h', if_neg (by omega)]
  · next h =>
    rw [score_off]; simp only [e]
    rw [if_pos (by omega)]

/-- The kernel's scores of the block: `kScore`, for query `r`. -/
abbrev ks (r : Fin 512) : ℕ → EReal :=
  kScore (512 * (i 2).val + r.val) (raw x3 x4 r) (fun t => scaleOf i x7 (t / 128)) (scaleOf i x6 ((i 2).val * 4 + r.val / 128)) cK

theorem scaled (h6 : Lanes x6) (h7 : Lanes x7) {k : ℕ} (hk : k ≤ (i 2).val) (s : Fin 4) (u : ℕ) (hu : u < 128) (r : Fin 512) :
    (score (F := Ideal) i x3 x4 k (ix2 (⟨128 * s.val + u, by omega⟩ : Fin 512) r) : EReal) * fOf (F := Ideal) i x6 x7 k s (ix2 0 r)
      = ks i x3 x4 (x6 := x6) (x7 := x7) r (512 * k + (128 * s.val + u)) := by
  rw [score_apply i x3 x4 hk, fOf_apply i h6 h7]
  unfold ks kScore
  dsimp only
  rw [show (512 * k + (128 * s.val + u)) / 128 = k * 4 + s.val by omega]

theorem factor_pos (h6 : Lanes x6) (h7 : Lanes x7) (p6 : ∀ g, 0 < scaleOf i x6 g) (p7 : ∀ g, 0 < scaleOf i x7 g)
    (k : ℕ) (s : Fin 4) (r : Fin 512) : (0 : EReal) < fOf (F := Ideal) i x6 x7 k s (ix2 0 r) := by
  rw [fOf_apply i h6 h7]
  refine EReal.mul_pos (p7 _) (EReal.mul_pos (p6 _) ?_)
  have : (0 : ℝ) < (Real.sqrt 128)⁻¹ * (Real.log 2)⁻¹ :=
    mul_pos (inv_pos.2 (Real.sqrt_pos.2 (by norm_num))) (inv_pos.2 (Real.log_pos (by norm_num)))
  exact EReal.coe_pos.2 this

/-- The running maxima after `n` key blocks: the maximum over a row group's keys in them. -/
theorem mAt_le (h6 : Lanes x6) (h7 : Lanes x7) (p6 : ∀ g, 0 < scaleOf i x6 g) (p7 : ∀ g, 0 < scaleOf i x7 g) (r : Fin 512)
    (g : Fin 8) (X : EReal) : ∀ n : ℕ, n ≤ (i 2).val + 1 → (mAt (F := Ideal) i x3 x4 x6 x7 n (ix2 g r) ≤ X
      ↔ ∀ t < 512 * n, t % 8 = g.val → ks i x3 x4 (x6 := x6) (x7 := x7) r t ≤ X)
  | 0, _ => by
    have e : mAt (F := Ideal) i x3 x4 x6 x7 0 (ix2 g r) = (⊥ : EReal) := by
      show k0_pay42 (F := Ideal) (ix2 g r) = _
      pointwise [k0_pay42]
      exact bits_neg_inf
    rw [e]
    exact ⟨fun _ t ht => by omega, fun _ => bot_le⟩
  | n + 1, hn => by
    have ih := mAt_le h6 h7 p6 p7 r g X n (by omega)
    show maxUpd (F := Ideal) (mAt i x3 x4 x6 x7 n) (score i x3 x4 n) (fOf i x6 x7 n) (ix2 g r) ≤ X ↔ _
    rw [maxUpd_le _ _ _ g r (fun s => factor_pos i h6 h7 p6 p7 n s r), ih]
    have e (s : Fin 4) (x : Fin 16) := scaled i x3 x4 h6 h7 (k := n) (by omega) s (x.val * 8 + g.val) (by omega) r
    constructor
    · rintro ⟨h, hs⟩ t ht hg
      by_cases hlt : t < 512 * n
      · exact h t hlt hg
      · have := hs (⟨(t - 512 * n) / 128, by omega⟩ : Fin 4) (⟨(t % 128) / 8, by omega⟩ : Fin 16)
        rw [e] at this
        rwa [show 512 * n + (128 * ((t - 512 * n) / 128) + (t % 128 / 8 * 8 + g.val)) = t by omega] at this
    · intro h
      refine ⟨fun t ht hg => h t (by omega) hg, fun s x => ?_⟩
      rw [e]
      exact h _ (by omega) (by omega)

/-- The maximum the kernel subtracts is that over all the keys up to the diagonal block, less eight. -/
theorem mFin_apply (h6 : Lanes x6) (h7 : Lanes x7) (p6 : ∀ g, 0 < scaleOf i x6 g) (p7 : ∀ g, 0 < scaleOf i x7 g) (r : Fin 512) :
    mFin (F := Ideal) i x3 x4 x6 x7 (ix2 0 r)
      = (Finset.range (512 * ((i 2).val + 1))).sup (ks i x3 x4 (x6 := x6) (x7 := x7) r) - ((8 : ℝ) : EReal) := by
  unfold mFin
  rw [max8_apply]
  congr 1
  refine eq_of_forall_ge_iff fun X => ?_
  rw [Finset.sup_le_iff, Finset.sup_le_iff]
  constructor
  · intro h t ht
    exact (mAt_le i x3 x4 h6 h7 p6 p7 r (⟨t % 8, by omega⟩ : Fin 8) X _ le_rfl).1 (h _ (Finset.mem_univ _)) t (Finset.mem_range.1 ht) rfl
  · intro h g _
    exact (mAt_le i x3 x4 h6 h7 p6 p7 r g X _ le_rfl).2 fun t ht _ => h t (Finset.mem_range.2 ht)

/-- The kernel's exponentials of the block: `kProb`, for query `r`. -/
abbrev kp (r : Fin 512) : ℕ → EReal :=
  kProb (512 * ((i 2).val + 1)) (512 * (i 2).val + r.val) (raw x3 x4 r) (fun t => scaleOf i x7 (t / 128)) (scaleOf i x6 ((i 2).val * 4 + r.val / 128)) cK ((8 : ℝ) : EReal)

theorem probs_apply (h6 : Lanes x6) (h7 : Lanes x7) (p6 : ∀ g, 0 < scaleOf i x6 g) (p7 : ∀ g, 0 < scaleOf i x7 g) {k : ℕ}
    (hk : k ≤ (i 2).val) (s : Fin 4) (u : ℕ) (hu : u < 128) (r : Fin 512) :
    probs (F := Ideal) i x3 x4 x6 x7 k s (ix2 (⟨u, hu⟩ : Fin 128) r)
      = kp i x3 x4 (x6 := x6) (x7 := x7) r (512 * k + (128 * s.val + u)) := by
  have e : probs (F := Ideal) i x3 x4 x6 x7 k s = prob (F := Ideal) (sub (score i x3 x4 k) s) (fOf i x6 x7 k s) (mFin i x3 x4 x6 x7) := by
    match s with
    | 0 => rfl
    | 1 => rfl
    | 2 => rfl
    | 3 => rfl
  rw [e, prob_apply, sub_apply]
  have e2 := scaled i x3 x4 h6 h7 hk s u hu r
  rw [e2, mFin_apply i x3 x4 h6 h7 p6 p7]
  rfl

/-! ## The sums -/

/-- A sum over the first `n` blocks of `b`, block by block. -/
theorem sum_blocks {M : Type*} [AddCommMonoid M] (f : ℕ → M) (b : ℕ) : ∀ n : ℕ,
    ∑ t ∈ Finset.range (b * n), f t = ∑ k ∈ Finset.range n, ∑ j ∈ Finset.range b, f (b * k + j)
  | 0 => by simp
  | n + 1 => by rw [Nat.mul_succ, Finset.sum_range_add, sum_blocks f b n, Finset.sum_range_succ]

theorem sum_block512 {M : Type*} [AddCommMonoid M] (f : ℕ → M) :
    ∑ g : Fin 8, ∑ s : Fin 4, ∑ x : Fin 16, f (128 * s.val + (x.val * 8 + g.val)) = ∑ j ∈ Finset.range 512, f j := by
  rw [show (512 : ℕ) = 128 * 4 by norm_num, sum_blocks f 128 4, Finset.sum_comm, Finset.sum_range]
  refine Finset.sum_congr rfl fun s _ => ?_
  rw [show (128 : ℕ) = 8 * 16 by norm_num, sum_blocks (fun j => f (8 * 16 * s.val + j)) 8 16, Finset.sum_comm, Finset.sum_range]
  refine Finset.sum_congr rfl fun x _ => ?_
  rw [Finset.sum_range]
  exact Finset.sum_congr rfl fun g _ => by rw [mul_comm x.val 8]

theorem lAt_apply (h6 : Lanes x6) (h7 : Lanes x7) (p6 : ∀ g, 0 < scaleOf i x6 g) (p7 : ∀ g, 0 < scaleOf i x7 g) (r : Fin 512)
    (g : Fin 8) : ∀ n : ℕ, n ≤ (i 2).val + 1 → lAt (F := Ideal) i x3 x4 x6 x7 n (ix2 g r)
      = ∑ k ∈ Finset.range n, ∑ s : Fin 4, ∑ x : Fin 16, kp i x3 x4 (x6 := x6) (x7 := x7) r (512 * k + (128 * s.val + (x.val * 8 + g.val)))
  | 0, _ => by
    show k0_pay53 (F := Ideal) (ix2 g r) = _
    rw [Finset.sum_range_zero]
    pointwise [k0_pay53]
  | n + 1, hn => by
    rw [Finset.sum_range_succ, ← lAt_apply h6 h7 p6 p7 r g n (by omega)]
    show sumUpd (F := Ideal) (lAt i x3 x4 x6 x7 n) (probs i x3 x4 x6 x7 n) (ix2 g r) = _
    rw [sumUpd_apply]
    congr 1
    refine Finset.sum_congr rfl fun s _ => Finset.sum_congr rfl fun x _ => ?_
    exact probs_apply i x3 x4 h6 h7 p6 p7 (by omega) s _ (by omega) r

theorem aAt_apply (h6 : Lanes x6) (h7 : Lanes x7) (p6 : ∀ g, 0 < scaleOf i x6 g) (p7 : ∀ g, 0 < scaleOf i x7 g) (r : Fin 512)
    (d : Fin 128) : ∀ n : ℕ, n ≤ (i 2).val + 1 → aAt (F := Ideal) i x3 x4 x5 x6 x7 n (ix2 d r)
      = ∑ k ∈ Finset.range n, ∑ j ∈ Finset.range 512, val x5 d (512 * k + j)
        * clip ((-448 : ℝ) : EReal) ((448 : ℝ) : EReal) (kp i x3 x4 (x6 := x6) (x7 := x7) r (512 * k + j))
  | 0, _ => by
    show k0_pay54 (F := Ideal) (ix2 d r) = _
    rw [Finset.sum_range_zero]
    pointwise [k0_pay54]
  | n + 1, hn => by
    rw [Finset.sum_range_succ, ← aAt_apply h6 h7 p6 p7 r d n (by omega)]
    show accUpd (F := Ideal) (aAt i x3 x4 x5 x6 x7 n) (vBlk x5 n) (probs i x3 x4 x6 x7 n) (ix2 d r) = _
    rw [accUpd_apply, Finset.sum_range]
    congr 1
    refine Finset.sum_congr rfl fun j _ => ?_
    rw [probs_apply i x3 x4 h6 h7 p6 p7 (by omega)]
    have e : vBlk (F := Ideal) x5 n (ix4 0 0 d j) = val x5 d (512 * n + j.val) := by
      exact (congrArg x5 (ix4_eq_valueIdx (0 : Fin 1) (0 : Fin 1) d _)).symm
    rw [e]
    show _ * clip _ _ (kp i x3 x4 r (512 * n + (128 * (j.val / 128) + j.val % 128))) = _
    rw [Nat.div_add_mod]

/-- THE OUTPUT BLOCK at query `r` and feature `d`. -/
theorem outBlk_apply (h6 : Lanes x6) (h7 : Lanes x7) (p6 : ∀ g, 0 < scaleOf i x6 g) (p7 : ∀ g, 0 < scaleOf i x7 g) (r : Fin 512)
    (d : Fin 128) : outBlk (F := Ideal) i x3 x4 x5 x6 x7 x8 (ix3 0 r d)
      = kOut (512 * ((i 2).val + 1)) (512 * (i 2).val + r.val) (raw x3 x4 r) (fun t => scaleOf i x7 (t / 128)) (val x5 d)
        (scaleOf i x6 ((i 2).val * 4 + r.val / 128)) cK ((8 : ℝ) : EReal) ((-448 : ℝ) : EReal) ((448 : ℝ) : EReal)
        (x8 (ix3 0 (⟨(i 1).val % 8, Nat.mod_lt _ (by norm_num)⟩ : Fin 8) d)) := by
  unfold outBlk kOut
  rw [out_apply, aAt_apply i x3 x4 x5 h6 h7 p6 p7 r d _ le_rfl, sum_blocks _ 512, sum_blocks _ 512]
  have e : vsAt (F := Ideal) x8 (i 1).val (ix3 0 0 d) = x8 (ix3 0 (⟨(i 1).val % 8, Nat.mod_lt _ (by norm_num)⟩ : Fin 8) d) := by
    exact (congrArg x8 (ix3_eq_valueIdx (0 : Fin 1) _ d)).symm
  rw [e]
  have el : ∑ g : Fin 8, (lAt (F := Ideal) i x3 x4 x6 x7 ((i 2).val + 1) (ix2 g r) : EReal)
      = ∑ k ∈ Finset.range ((i 2).val + 1), ∑ j ∈ Finset.range 512, kp i x3 x4 (x6 := x6) (x7 := x7) r (512 * k + j) := by
    rw [Finset.sum_congr rfl fun g _ => lAt_apply i x3 x4 h6 h7 p6 p7 r g _ le_rfl, Finset.sum_comm]
    exact Finset.sum_congr rfl fun k _ => sum_block512 fun j => kp i x3 x4 (x6 := x6) (x7 := x7) r (512 * k + j)
  rw [el]
end

end Cert.KernelIdeal.Att

end
-- ==== Proof.RefValue.lean ====
/- The reference's result read at one batch, query, head and feature over the extended reals: `rOut` of
   `Equation.lean`, for the arguments' rows. -/
module

public import proofs.«01_k».proof.Proof.Gen.ReferenceIdeal.Value
public import proofs.«01_k».proof.Proof.Consts
public import proofs.«01_k».proof.Proof.Equation
public import Idealize.ShloMosaic.Lib.Pointwise

@[expose] public section

set_option maxRecDepth 16384

noncomputable section

namespace Cert.ReferenceIdeal.Att

open Cert.ReferenceIdeal Cert.ReferenceIdeal.Gen Cert.Att Idealize.ShloMosaic Idealize.ShloMosaic.TcCoe

section
variable (a0 a2 : Vec Ideal S9x8x8192x128 .fp8e4m3) (a1 a3 : Vec Ideal S9x64x8 .f32) (a4 : Vec Ideal S9x8x128x8192 .fp8e4m3) (a5 : Vec Ideal S9x8x128 .f32)

/-- A natural number as a position of the sequence (no number past the end is ever used). -/
abbrev pos (t : ℕ) : Fin 8192 := ⟨t % 8192, Nat.mod_lt _ (by norm_num)⟩
/-- A natural number as a group of the sequence (no number past the end is ever used). -/
abbrev grp (t : ℕ) : Fin 64 := ⟨t % 64, Nat.mod_lt _ (by norm_num)⟩
/-- The product of query `s` and key `t` of batch `b`, head `h`. -/
def rawRef (b : Fin 9) (h : Fin 8) (s : Fin 8192) (t : ℕ) : EReal :=
  ∑ e : Fin 128, (a0 (ix4 b h s e) : EReal) * a2 (ix4 b h (pos t) e)
/-- The scale of key `t`'s group. -/
def ksRef (b : Fin 9) (h : Fin 8) (t : ℕ) : EReal := a3 (ix3 b (grp (t / 128)) h)
/-- Feature `d` of the values at key `t`. -/
def valRef (b : Fin 9) (h : Fin 8) (d : Fin 128) (t : ℕ) : EReal := a4 (ix4 b h d (pos t))

/-- Batch and head as one number. -/
abbrev bh (b : Fin 9) (h : Fin 8) : Fin 72 := ⟨b.val * 8 + h.val, by omega⟩

theorem bh_div (b : Fin 9) (h : Fin 8) (p : (bh b h).val / 8 < 9) : (⟨(bh b h).val / 8, p⟩ : Fin 9) = b :=
  Fin.ext (show (b.val * 8 + h.val) / 8 = b.val by omega)
theorem bh_mod (b : Fin 9) (h : Fin 8) (p : (bh b h).val % 8 < 8) : (⟨(bh b h).val % 8, p⟩ : Fin 8) = h :=
  Fin.ext (show (b.val * 8 + h.val) % 8 = h.val by omega)

/-- The scale constant of the reference. -/
abbrev cR : EReal := (((Real.sqrt 128)⁻¹ : ℝ) : EReal)

theorem score_apply (b : Fin 9) (h : Fin 8) (s t : Fin 8192) : k0_pay4 (F := Ideal) a1 a3 a0 a2 (ix3 (bh b h) s t)
    = rScore s.val (rawRef a0 a2 b h s) (ksRef a3 b h) (a1 (ix3 b (grp (s.val / 128)) h)) cR t.val := by
  pointwise [k0_pay4]
  rw [bits_neg_inf, scale_reference]
  have ht : (BitVec.ofNat 32 t.val).toInt = t.val := by
    rw [BitVec.toInt_ofNat']; have := t.isLt; simp only [Int.bmod]; omega
  have hs : (BitVec.ofNat 32 s.val).toInt = s.val := by
    rw [BitVec.toInt_ofNat']; have := s.isLt; simp only [Int.bmod]; omega
  have eg (x : Fin 8192) (p : x.val / 128 < 64) : (⟨x.val / 128, p⟩ : Fin 64) = grp (x.val / 128) :=
    Fin.ext (show x.val / 128 = x.val / 128 % 64 by omega)
  have et : pos t.val = t := Fin.ext (show t.val % 8192 = t.val by omega)
  unfold rScore rawRef ksRef
  rw [et]
  by_cases hle : t.val ≤ s.val
  · have c : IntOp.cmpi CmpIPredicate.sle (BitVec.ofNat 32 t.val) (BitVec.ofNat 32 s.val) = 1#1 := by
      simp [IntOp.cmpi, BitVec.sle, ht, hs, hle]
    rw [if_pos hle, c]
    have eb (p : (b.val * 8 + h.val) / 8 < 9) : (⟨(b.val * 8 + h.val) / 8, p⟩ : Fin 9) = b := bh_div b h p
    have eh (p : (b.val * 8 + h.val) % 8 < 8) : (⟨(b.val * 8 + h.val) % 8, p⟩ : Fin 8) = h := bh_mod b h p
    simp only [Scalar.select, eg, bh_div, bh_mod, eb, eh]
    rfl
  · have c : IntOp.cmpi CmpIPredicate.sle (BitVec.ofNat 32 t.val) (BitVec.ofNat 32 s.val) = 0#1 := by
      simp [IntOp.cmpi, BitVec.sle, ht, hs, hle]
    rw [if_neg hle, c]
    rfl

theorem max_apply (b : Fin 9) (h : Fin 8) (s : Fin 8192) : k0_pay5 (F := Ideal) a1 a3 a0 a2 (ix2 (bh b h) s)
    = rMax 8192 s.val (rawRef a0 a2 b h s) (ksRef a3 b h) (a1 (ix3 b (grp (s.val / 128)) h)) cR := by
  pointwise [k0_pay5]
  rw [bits_neg_inf]
  simp only [score_apply]
  unfold rMax
  generalize rScore s.val (rawRef a0 a2 b h s) (ksRef a3 b h) (a1 (ix3 b (grp (s.val / 128)) h)) cR = f
  have e : Finset.fold max ⊥ (fun x : Fin 8192 => f x.val) Finset.univ = Finset.univ.sup fun x : Fin 8192 => f x.val := rfl
  refine Eq.trans e (eq_of_forall_ge_iff fun X => ?_)
  rw [Finset.sup_le_iff, Finset.sup_le_iff]
  exact ⟨fun g t ht => g (⟨t, Finset.mem_range.1 ht⟩ : Fin 8192) (Finset.mem_univ _), fun g t _ => g t.val (Finset.mem_range.2 t.isLt)⟩

theorem out_apply (v21 : FVec Ideal S72x128x8192 .fp8e4m3) (v23 : FVec Ideal S72x1x128 .f32) (v33 : FVec Ideal S72x8192x8192 .f32)
    (v34 : FVec Ideal S72x8192 .f32) (b : Fin 9) (h : Fin 8) (d : Fin 128) (s : Fin 8192) (e : Fin 1024) (he : e.val = h.val * 128 + d.val) :
    k0_pay1 (F := Ideal) v21 v23 v33 v34 (ix3 b s e)
      = (∑ t : Fin 8192, clip ((-448 : ℝ) : EReal) ((448 : ℝ) : EReal)
            (Ideal.exp ((v33 (ix3 (bh b h) s t) : EReal) - v34 (ix2 (bh b h) s)) * ((256 : ℝ) : EReal)) * (v21 (ix3 (bh b h) d t) : EReal))
          * ((1 / 256 : ℝ) : EReal) * v23 (ix3 (bh b h) 0 d)
        * Ideal.div 1 (∑ t : Fin 8192, Ideal.exp ((v33 (ix3 (bh b h) s t) : EReal) - v34 (ix2 (bh b h) s))) := by
  have e1 (p : b.val * 8 + e.val / 128 < 72) : (⟨b.val * 8 + e.val / 128, p⟩ : Fin 72) = bh b h :=
    Fin.ext (show b.val * 8 + e.val / 128 = b.val * 8 + h.val by omega)
  have e2 (p : e.val % 128 < 128) : (⟨e.val % 128, p⟩ : Fin 128) = d := Fin.ext (show e.val % 128 = d.val by omega)
  pointwise [k0_pay1]
  rw [bits_448, bits_neg_448, bits_256, bits_256_inv]
  simp only [e1, e2]
  rfl

/-- THE REFERENCE'S RESULT at batch `b`, query `s`, head `h`, feature `d`. -/
theorem G6_apply (b : Fin 9) (h : Fin 8) (d : Fin 128) (s : Fin 8192) (e : Fin 1024) (he : e.val = h.val * 128 + d.val) :
    Value.G6 (F := Ideal) a0 a1 a2 a3 a4 a5 (ix3 b s e)
      = rOut 8192 s.val (rawRef a0 a2 b h s) (ksRef a3 b h) (valRef a4 b h d) (a1 (ix3 b (grp (s.val / 128)) h)) cR
        ((256 : ℝ) : EReal) ((1 / 256 : ℝ) : EReal) ((-448 : ℝ) : EReal) ((448 : ℝ) : EReal) (a5 (ix3 b h d)) := by
  unfold Value.G6
  rw [out_apply _ _ _ _ b h d s e he]
  have e4 (t : Fin 8192) : k0_pay2 (F := Ideal) a4 (ix3 (bh b h) d t) = valRef a4 b h d t.val := by
    pointwise [k0_pay2]
    rw [bh_div, bh_mod]
    unfold valRef
    rw [show pos t.val = t from Fin.ext (show t.val % 8192 = t.val by omega)]
  have e5 : k0_pay3 (F := Ideal) a5 (ix3 (bh b h) 0 d) = a5 (ix3 b h d) := by
    pointwise [k0_pay3]
    rw [bh_div, bh_mod]
  simp only [e4, e5, score_apply, max_apply]
  unfold rOut rProb
  rw [Finset.sum_range, Finset.sum_range]
end

end Cert.ReferenceIdeal.Att

end
-- ==== Proof.Array.lean ====
/- What the kernel's result array holds after the run: at batch, query, head and feature, `kOut` of `Equation.lean` for
   the argument arrays' rows; and, by the equation, the reference's function of the same arguments. -/
module

public import proofs.«01_k».proof.Proof.BlockSum
public import proofs.«01_k».proof.Proof.RefValue
public import proofs.«01_k».proof.Proof.Frame
public import Idealize.ShloMosaic.Lib.Pipeline.ValueKit

@[expose] public section

set_option maxRecDepth 16384

noncomputable section

namespace Cert.KernelIdeal.Att

open Cert.KernelIdeal Cert.KernelIdeal.Gen Cert.Att Idealize.ShloMosaic Idealize.ShloMosaic.TcCoe Idealize.SL.Sem
open Idealize.ShloMosaic.Pipeline (Dat)

variable (m : (ℓ : Loc nD τ sig) → Buf (Elt Ideal) ℓ)

/-- Which block of its array each window stages at a point. -/
theorem idx_facts : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, 0, 0]
    ∧ win0_4.index t = ![(grid0.coords t 0).val, 0, 0]
    ∧ win0_5.index t = ![(grid0.coords t 0).val, 0, 0]
    ∧ win0_6.index t = ![(grid0.coords t 0).val, (grid0.coords t 2).val, (grid0.coords t 1).val] :=
  (by decide +kernel : ∀ t : Fin grid0.N, _)

/-- The batch, the head and the query block of a point. -/
abbrev bOf (t : Fin cfg0.N) : Fin 9 := grid0.coords t 0
abbrev hOf (t : Fin cfg0.N) : Fin 8 := grid0.coords t 1
abbrev qOf (t : Fin cfg0.N) : Fin 16 := grid0.coords t 2

theorem blk0 (c : Dev nD) (t : Fin cfg0.N) (r : Fin 512) (e : Fin 128) :
    iblk (F := Ideal) m c 0 t (ix4 0 0 r e) = m ((c : Thread nD τ).loc main_arg0) (ix4 (bOf t) (hOf t) (⟨512 * (qOf t).val + r.val, by omega⟩ : Fin 8192) e) := by
  blk_ext [iblk, V_main_arg0, (idx_facts t).1]
  · exact Nat.add_zero _
  · exact Nat.add_zero _
  · exact congrArg (· + r.val) (Nat.mul_comm _ _)
theorem blk1 (c : Dev nD) (t : Fin cfg0.N) (r : Fin 8192) (e : Fin 128) :
    iblk (F := Ideal) m c 1 t (ix4 0 0 r e) = m ((c : Thread nD τ).loc main_arg2) (ix4 (bOf t) (hOf t) r e) := by
  blk_ext [iblk, V_main_arg2, (idx_facts t).2.1]
  · exact Nat.add_zero _
  · exact Nat.add_zero _
theorem blk2 (c : Dev nD) (t : Fin cfg0.N) (e : Fin 128) (r : Fin 8192) :
    iblk (F := Ideal) m c 2 t (ix4 0 0 e r) = m ((c : Thread nD τ).loc main_arg4) (ix4 (bOf t) (hOf t) e r) := by
  blk_ext [iblk, V_main_arg4, (idx_facts t).2.2.1]
  · exact Nat.add_zero _
  · exact Nat.add_zero _
theorem blk5 (c : Dev nD) (t : Fin cfg0.N) (h : Fin 8) (e : Fin 128) :
    iblk (F := Ideal) m c 5 t (ix3 0 h e) = m ((c : Thread nD τ).loc main_arg5) (ix3 (bOf t) h e) := by
  blk_ext [iblk, V_main_arg5, (idx_facts t).2.2.2.2.2.1]
  · exact Nat.add_zero _
theorem V_v1 (c : Dev nD) (b : Fin 9) (r : Fin 512) (l : Fin 128) :
    V m c main_v1 (ix3 b r l) = m ((c : Thread nD τ).loc main_arg1) (ix3 b (⟨r.val / 8, by omega⟩ : Fin 64) (⟨r.val % 8, by omega⟩ : Fin 8)) := by
  entry_read
  pointwise
theorem V_v3 (c : Dev nD) (b : Fin 9) (r : Fin 512) (l : Fin 128) :
    V m c main_v3 (ix3 b r l) = m ((c : Thread nD τ).loc main_arg3) (ix3 b (⟨r.val / 8, by omega⟩ : Fin 64) (⟨r.val % 8, by omega⟩ : Fin 8)) := by
  entry_read
  pointwise
theorem blk3 (c : Dev nD) (t : Fin cfg0.N) (r : Fin 512) (l : Fin 128) :
    iblk (F := Ideal) m c 3 t (ix3 0 r l) = V m c main_v1 (ix3 (bOf t) r l) := by
  blk_ext [iblk, (idx_facts t).2.2.2.1]
  · exact Nat.add_zero _
theorem blk4 (c : Dev nD) (t : Fin cfg0.N) (r : Fin 512) (l : Fin 128) :
    iblk (F := Ideal) m c 4 t (ix3 0 r l) = V m c main_v3 (ix3 (bOf t) r l) := by
  blk_ext [iblk, (idx_facts t).2.2.2.2.1]
  · exact Nat.add_zero _

/-! ## The blocks' rows are the arguments' rows -/

theorem scale3 (c : Dev nD) (t : Fin cfg0.N) (r : Fin 512) (l : Fin 128) : iblk (F := Ideal) m c 3 t (ix3 0 r l)
    = m ((c : Thread nD τ).loc main_arg1) (ix3 (bOf t) (⟨r.val / 8, by omega⟩ : Fin 64) (⟨r.val % 8, by omega⟩ : Fin 8)) := by
  rw [blk3, V_v1]
theorem scale4 (c : Dev nD) (t : Fin cfg0.N) (r : Fin 512) (l : Fin 128) : iblk (F := Ideal) m c 4 t (ix3 0 r l)
    = m ((c : Thread nD τ).loc main_arg3) (ix3 (bOf t) (⟨r.val / 8, by omega⟩ : Fin 64) (⟨r.val % 8, by omega⟩ : Fin 8)) := by
  rw [blk4, V_v3]

theorem lanes3 (c : Dev nD) (t : Fin cfg0.N) : Lanes (iblk (F := Ideal) m c 3 t) := fun a l => by rw [scale3, scale3]
theorem lanes4 (c : Dev nD) (t : Fin cfg0.N) : Lanes (iblk (F := Ideal) m c 4 t) := fun a l => by rw [scale4, scale4]

/-- Row `8 g + h` of the block of lane-broadcast scales belongs to group `g` and head `h`. -/
theorem row_div (t : Fin cfg0.N) (g : ℕ) (p : ((g * 8 + (hOf t).val) % 512) / 8 < 64) :
    (⟨((g * 8 + (hOf t).val) % 512) / 8, p⟩ : Fin 64) = ReferenceIdeal.Att.grp g :=
  Fin.ext (by show ((g * 8 + (hOf t).val) % 512) / 8 = g % 64; have := (hOf t).isLt; omega)
theorem row_mod (t : Fin cfg0.N) (g : ℕ) (p : ((g * 8 + (hOf t).val) % 512) % 8 < 8) :
    (⟨((g * 8 + (hOf t).val) % 512) % 8, p⟩ : Fin 8) = hOf t :=
  Fin.ext (by show ((g * 8 + (hOf t).val) % 512) % 8 = (hOf t).val; have := (hOf t).isLt; omega)

theorem scaleOf3 (c : Dev nD) (t : Fin cfg0.N) (g : ℕ) : scaleOf (grid0.coords t) (iblk (F := Ideal) m c 3 t) g
    = m ((c : Thread nD τ).loc main_arg1) (ix3 (bOf t) (ReferenceIdeal.Att.grp g) (hOf t)) := by
  unfold scaleOf
  rw [scale3]
  exact congrArg₂ (fun a b => m ((c : Thread nD τ).loc main_arg1) (ix3 (bOf t) a b)) (row_div t g _) (row_mod t g _)
theorem scaleOf4 (c : Dev nD) (t : Fin cfg0.N) (g : ℕ) : scaleOf (grid0.coords t) (iblk (F := Ideal) m c 4 t) g
    = m ((c : Thread nD τ).loc main_arg3) (ix3 (bOf t) (ReferenceIdeal.Att.grp g) (hOf t)) := by
  unfold scaleOf
  rw [scale4]
  exact congrArg₂ (fun a b => m ((c : Thread nD τ).loc main_arg3) (ix3 (bOf t) a b)) (row_div t g _) (row_mod t g _)

/-- The reference's function of the kernel's arguments. -/
abbrev target (c : Dev nD) : Vec Ideal S9x8192x1024 .bf16 :=
  ReferenceIdeal.Value.G6 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Every query scale and every key scale is positive. -/
def Positive (c : Dev nD) : Prop :=
  (∀ j, (0 : EReal) < m ((c : Thread nD τ).loc main_arg1) j) ∧ ∀ j, (0 : EReal) < m ((c : Thread nD τ).loc main_arg3) j

/-- What point `t` stores at query `r` and feature `d` of its block is the reference's result there. -/
theorem point_eq (c : Dev nD) (hp : Positive m c) (t : Fin cfg0.N) (r : Fin 512) (d : Fin 128) :
    outBlk (F := Ideal) (grid0.coords t) (iblk m c 0 t) (iblk m c 1 t) (iblk m c 2 t) (iblk m c 3 t) (iblk m c 4 t) (iblk m c 5 t) (ix3 0 r d)
      = target m c (ix3 (bOf t) (⟨512 * (qOf t).val + r.val, by omega⟩ : Fin 8192) (⟨(hOf t).val * 128 + d.val, by omega⟩ : Fin 1024)) := by
  rw [outBlk_apply (grid0.coords t) _ _ _ _ (lanes3 m c t) (lanes4 m c t) (fun g => by rw [scaleOf3]; exact hp.1 _) (fun g => by rw [scaleOf4]; exact hp.2 _) r d]
  unfold target
  rw [ReferenceIdeal.Att.G6_apply _ _ _ _ _ _ (bOf t) (hOf t) d _ _ rfl]
  have eraw : raw (iblk (F := Ideal) m c 0 t) (iblk (F := Ideal) m c 1 t) r
      = ReferenceIdeal.Att.rawRef (m ((c : Thread nD τ).loc main_arg0)) (m ((c : Thread nD τ).loc main_arg2)) (bOf t) (hOf t) (⟨512 * (qOf t).val + r.val, by omega⟩ : Fin 8192) := by
    funext k
    unfold raw ReferenceIdeal.Att.rawRef
    refine Finset.sum_congr rfl fun e _ => ?_
    rw [blk0, blk1]
    exact mul_comm _ _
  have eks : (fun k => scaleOf (grid0.coords t) (iblk (F := Ideal) m c 4 t) (k / 128))
      = ReferenceIdeal.Att.ksRef (m ((c : Thread nD τ).loc main_arg3)) (bOf t) (hOf t) := by
    funext k; rw [scaleOf4]; rfl
  have eval : val (iblk (F := Ideal) m c 2 t) d
      = ReferenceIdeal.Att.valRef (m ((c : Thread nD τ).loc main_arg4)) (bOf t) (hOf t) d := by
    funext k; unfold val; rw [blk2]; rfl
  have evs : iblk (F := Ideal) m c 5 t (ix3 0 (⟨(grid0.coords t 1).val % 8, Nat.mod_lt _ (by norm_num)⟩ : Fin 8) d)
      = m ((c : Thread nD τ).loc main_arg5) (ix3 (bOf t) (hOf t) d) := by
    rw [blk5]
    exact congrArg (fun h => m ((c : Thread nD τ).loc main_arg5) (ix3 (bOf t) h d)) (Fin.ext (Nat.mod_eq_of_lt (hOf t).isLt))
  have eqs : scaleOf (grid0.coords t) (iblk (F := Ideal) m c 3 t) ((grid0.coords t 2).val * 4 + r.val / 128)
      = m ((c : Thread nD τ).loc main_arg1) (ix3 (bOf t) (ReferenceIdeal.Att.grp ((512 * (qOf t).val + r.val) / 128)) (hOf t)) := by
    rw [scaleOf3]
    exact congrArg (fun g => m ((c : Thread nD τ).loc main_arg1) (ix3 (bOf t) (ReferenceIdeal.Att.grp g) (hOf t)))
      (by show (qOf t).val * 4 + r.val / 128 = (512 * (qOf t).val + r.val) / 128; omega)
  rw [eraw, eks, eval, evs, eqs]
  exact out_eq (inv_pos.2 (Real.sqrt_pos.2 (by norm_num))) (inv_pos.2 (Real.log_pos (by norm_num)))
    (inv_mul_cancel₀ (Real.log_pos (by norm_num)).ne') (hp.1 _) (fun k => hp.2 _)
    (by show 512 * (qOf t).val + r.val < 512 * ((qOf t).val + 1); omega)
    (by show 512 * ((qOf t).val + 1) ≤ 8192; have := (qOf t).isLt; omega)
    (EReal.coe_nonpos.2 (by norm_num)) (EReal.coe_nonneg.2 (by norm_num))

/-- Where an element of a point's output block lies in the array. -/
theorem emb6 (t : Fin cfg0.N) (r : Fin 512) (d : Fin 128) : (win0_6.blk t).view.emb (ix3 (0 : Fin 1) r d)
    = ix3 (bOf t) (⟨512 * (qOf t).val + r.val, by omega⟩ : Fin 8192) (⟨(hOf t).val * 128 + d.val, by omega⟩ : Fin 1024) := by
  blk_ext [(idx_facts t).2.2.2.2.2.2]
  · exact Nat.add_zero _
  · exact congrArg (· + r.val) (Nat.mul_comm _ _)

/-- THE RESULT ARRAY after the run is the reference's function of the arguments. -/
theorem final (c : Dev nD) (hp : Positive m c) : (dats (F := Ideal) m 0 c).arrAt 6 cfg0.N = target m c := by
  refine (dats m 0 c).arrAt_eq_of_covers 6 _ (by decide +kernel) fun t hf y => ?_
  blk_simp
  rw [after0_6]
  obtain ⟨r, d, rfl⟩ : ∃ (r : Fin 512) (d : Fin 128), y = ix3 (0 : Fin 1) r d := by
    refine ⟨y 1, y 2, (eq_ix3 y).trans ?_⟩
    rw [show y 0 = (0 : Fin 1) from Subsingleton.elim (α := Fin 1) _ _]
  exact (point_eq m c hp t r d).trans (congrArg (target m c) (emb6 t r d).symm)

/-- The run, its result named: the reference's function of the arguments; the arguments unchanged. -/
theorem run (ρ : Dev nD → PrngReg) (hp : ∀ c, Positive m c) : θ_run defs (onTc (τ := τ) (main (F := Ideal))) ⟨m, fun _ => 0, ρ⟩ fun r => ∀ c : Dev nD,
      r.2.mem ((c : Thread nD τ).loc main_v4) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.2 c).trans (final m c (hp c)), h.1 c⟩)
    (θ_run_and (unchanged m ρ) ((θ_run defs _ _).mono (fun _ h c => (h c).1 6) (run_main m ρ)))

end Cert.KernelIdeal.Att

end
-- ==== Proof.Precondition.lean ====
/- The precondition, read off its printed form: every scale of the queries and of the keys is above zero. -/
module

public import proofs.«01_k».proof.Defs
public import proofs.«01_k».proof.Proof.Gen.Pre_positive_scales
public import proofs.«01_k».proof.Proof.Array
public import Idealize.ShloMosaic.Lib.ReduceAll

@[expose] public section

noncomputable section

namespace Cert.KernelIdeal.Att

open Cert.KernelIdeal Cert.KernelIdeal.Gen Idealize.ShloMosaic Idealize.ShloMosaic.TcCoe

/-- A shape without axes has one index. -/
instance : Subsingleton Cert.Pre_positive_scales.S_.Idx := ⟨fun _ _ => funext fun k => k.elim0⟩

/-- Two bits whose conjunction is one are both one. -/
theorem and_one : ∀ a b : BitVec 1, IntOp.andi a b = 1#1 → a = 1#1 ∧ b = 1#1 := by decide

/-- A comparison "greater" of extended reals that answers one means greater. -/
theorem ogt_one (x y : EReal) (h : Ideal.cmp .ogt x y = 1#1) : y < x := by
  by_contra hn
  simp [Ideal.cmp, hn] at h

/-- The precondition gives positive scales on every device. -/
theorem positive (m : (ℓ : Loc nD τ sig) → Buf (Elt Ideal) ℓ) (h : Cert.Pre_KernelIdeal_positive_scales m) :
    ∀ c, Positive m c := by
  intro c
  have e := congrFun (h c) (fun k => k.elim0)
  dsimp only [Cert.Pre_positive_scales.fn] at e
  obtain ⟨e1, e2⟩ := and_one _ _ e
  refine ⟨fun j => ?_, fun j => ?_⟩
  · exact lt_of_eq_of_lt Ideal.ofBits_zero_f32.symm
      (ogt_one (m (c.tc.loc main_arg1) j) (Ideal.ofBits .f32 0x00000000#32) (Host.reduce_andi_all _ _ _ _ _ e1 j))
  · exact lt_of_eq_of_lt Ideal.ofBits_zero_f32.symm
      (ogt_one (m (c.tc.loc main_arg3) j) (Ideal.ofBits .f32 0x00000000#32) (Host.reduce_andi_all _ _ _ _ _ e2 j))

end Cert.KernelIdeal.Att

end
-- ==== Proof.Quant.Prog.lean ====
/- The quantise kernel's body written as a structured program: the rotation, the tiles' largest magnitudes, the power of
   two and the codes as one function for the query and the key, then the value's stretches. The printed body is this
   program, by definitional unfolding. -/
module

public import proofs.«01_k».proof.Proof.Gen.QuantiseIdeal.Skeleton
public import proofs.«01_k».proof.Proof.Gen.QuantiseIdeal.Frame

@[expose] public section

set_option synthInstance.maxSize 4096
set_option maxRecDepth 65536

noncomputable section

namespace Cert.QuantiseIdeal.Quant

open Idealize.ShloMosaic Idealize.SL.Sem
open Cert.QuantiseIdeal Cert.QuantiseIdeal.Gen

variable {F : FTy → Type} [FloatOps F]

/-! ## Side conditions at any tile, head or pair -/

theorem inb_tile : ∀ r : Fin 32, ∀ a, (![128 * (r.val / 8), 128 * (r.val % 8)] : Fin 2 → Nat) a + S128x128.size a ≤ S512x1024.size a := by decide
theorem inb_head : ∀ r : Fin 32, ∀ a, (![0, r.val % 8, 128 * (r.val / 8), 0] : Fin 4 → Nat) a + S1x1x128x128.size a ≤ S1x8x512x128.size a := by decide
theorem inb_tok : ∀ r : Fin 32, ∀ a, (![128 * (r.val / 8), r.val % 8, 0] : Fin 3 → Nat) a + S128x1x128.size a ≤ S512x8x128.size a := by decide
theorem packed_head : ∀ r : Fin 32, (Rect.unit (s := S1x8x512x128) ![0, r.val % 8, 128 * (r.val / 8), 0] S1x1x128x128.size (inb_head r)).PackedRows (EltTy.packing .fp8e4m3) := by decide
theorem slices_row : ∀ r : Fin 32, S32x128.Slices ![r.val, 0] S1x128 := by decide
theorem inb_x : ∀ p : Fin 4, ∀ a, (![0, 0, 256 * p.val] : Fin 3 → Nat) a + S1x512x256.size a ≤ S1x512x1024.size a := by decide
theorem inb_rot : ∀ p : Fin 4, ∀ a, (![p.val, 0, 0] : Fin 3 → Nat) a + S1x256x256.size a ≤ S4x256x256.size a := by decide
theorem inb_y : ∀ p : Fin 4, ∀ a, (![0, 256 * p.val] : Fin 2 → Nat) a + S512x256.size a ≤ S512x1024.size a := by decide
theorem inb_vinv : ∀ h : Fin 8, ∀ a, (![0, 128 * h.val] : Fin 2 → Nat) a + S1x128.size a ≤ S1x1024.size a := by decide
theorem inb_vtok : ∀ h : Fin 8, ∀ a, (![0, h.val, 0] : Fin 3 → Nat) a + S512x1x128.size a ≤ S512x8x128.size a := by decide
theorem inb_vt : ∀ h : Fin 8, ∀ a, (![0, h.val, 0, 0] : Fin 4 → Nat) a + S1x1x128x512.size a ≤ S1x8x128x512.size a := by decide
theorem packed_vt : ∀ h : Fin 8, (Rect.unit (s := S1x8x128x512) ![0, h.val, 0, 0] S1x1x128x512.size (inb_vt h)).PackedRows (EltTy.packing .fp8e4m3) := by decide
theorem inb_vs : ∀ h : Fin 8, ∀ a, (![0, h.val, 0] : Fin 3 → Nat) a + S1x1x128.size a ≤ S1x8x128.size a := by decide
theorem slices_vs : ∀ h : Fin 8, S1x1024.Slices ![0, 128 * h.val] S1x128 := by decide

/-- The offsets at which the value's block of head `h` is read in the stash. -/
def vOff (i : grid0.Coords) : Fin 8 → Fin 3 → Nat :=
  ![k0_off1 i, k0_off2 i, k0_off3 i, k0_off4 i, k0_off5 i, k0_off6 i, k0_off7 i, k0_off8 i]
theorem vOff_inb (i : grid0.Coords) (h2 : k0_cond2 i = 1#1) : ∀ h : Fin 8, ∀ a, (vOff i h) a + S1x512x128.size a ≤ S16x512x1024.size a
  | 0 => k0_off1_inb i h2 | 1 => k0_off2_inb i h2 | 2 => k0_off3_inb i h2 | 3 => k0_off4_inb i h2
  | 4 => k0_off5_inb i h2 | 5 => k0_off6_inb i h2 | 6 => k0_off7_inb i h2 | 7 => k0_off8_inb i h2

/-! ## The pure values -/

/-- A pair of heads rotated and scaled by the root of the head's length. -/
def rotated (x : Vec F S1x512x256 .bf16) (m : Vec F S1x256x256 .bf16) : FVec F S512x256 .f32 :=
  shapeCast S512x256 (mulf (matmul dot_S512x256_S256x256_S512x256_1_0_0_1_n_n none (shapeCast S512x256 x shapeCasts_S1x512x256_S512x256)
    (shapeCast S256x256 m shapeCasts_S1x256x256_S256x256) (constant S512x256 .f32 0x00000000#32)) (broadcast S512x256 (Scalar.ofBits .f32 0x3DB504F3#32)))
    shapeCasts_S512x256_S512x256

/-- A tile's largest magnitude by channel. -/
def colMax (y : Vec F S128x128 .f32) : FVec F S1x128 .f32 :=
  shapeCast S1x128 (multiReduction .maximumf [0] S128 (absf y) 0xFF800000#32 reduces_S128x128_S128 (.inl rfl) rfl : FVec F S128 .f32) shapeCasts_S128_S1x128

/-- The 32 tiles' largest magnitudes over 448, along the lanes. -/
def ratio (a0 a1 a2 a3 a4 a5 a6 a7 a8 a9 a10 a11 a12 a13 a14 a15 a16 a17 a18 a19 a20 a21 a22 a23 a24 a25 a26 a27 a28 a29 a30 a31 : Vec F S128x128 .f32) : FVec F S32x128 .f32 :=
  mulf (broadcastTo S32x128 (shapeCast S32x1 (shapeCast S32x1 (multiReduction .maximumf [1] S32 (concatenate S32x128 0 [⟨S1x128, colMax a0⟩, ⟨S1x128, colMax a1⟩, ⟨S1x128, colMax a2⟩, ⟨S1x128, colMax a3⟩, ⟨S1x128, colMax a4⟩, ⟨S1x128, colMax a5⟩, ⟨S1x128, colMax a6⟩, ⟨S1x128, colMax a7⟩, ⟨S1x128, colMax a8⟩, ⟨S1x128, colMax a9⟩, ⟨S1x128, colMax a10⟩, ⟨S1x128, colMax a11⟩, ⟨S1x128, colMax a12⟩, ⟨S1x128, colMax a13⟩, ⟨S1x128, colMax a14⟩, ⟨S1x128, colMax a15⟩, ⟨S1x128, colMax a16⟩, ⟨S1x128, colMax a17⟩, ⟨S1x128, colMax a18⟩, ⟨S1x128, colMax a19⟩, ⟨S1x128, colMax a20⟩, ⟨S1x128, colMax a21⟩, ⟨S1x128, colMax a22⟩, ⟨S1x128, colMax a23⟩, ⟨S1x128, colMax a24⟩, ⟨S1x128, colMax a25⟩, ⟨S1x128, colMax a26⟩, ⟨S1x128, colMax a27⟩, ⟨S1x128, colMax a28⟩, ⟨S1x128, colMax a29⟩, ⟨S1x128, colMax a30⟩, ⟨S1x128, colMax a31⟩] concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0 : FVec F S32x128 .f32)
    0xFF800000#32 reduces_S32x128_S32 (.inl rfl) rfl : FVec F S32 .f32) shapeCasts_S32_S32x1) shapeCasts_S32x1_S32x1) broadcasts_S32x1_S32x128)
    (broadcast S32x128 (Scalar.ofBits .f32 0x3B124925#32))

section Ladder
variable {s : Shape}

/-- Whether a rung is taken: the ratio is not below the scale times `lo`. -/
def above (r scale : FVec F s .f32) (lo : BitVec 32) : IVec s 1 := cmpf .oge r (mulf scale (broadcast s (Scalar.ofBits .f32 lo)))
/-- One rung for the scale, -/
def up (r scale : FVec F s .f32) (lo hi : BitVec 32) : FVec F s .f32 :=
  select (above r scale lo) (mulf scale (broadcast s (Scalar.ofBits .f32 hi))) scale
/-- and for its inverse. -/
def down (r scale inv : FVec F s .f32) (lo hi : BitVec 32) : FVec F s .f32 :=
  select (above r scale lo) (mulf inv (broadcast s (Scalar.ofBits .f32 hi))) inv

def s0 : FVec F s .f32 := broadcast s (Scalar.ofBits .f32 0x00800000#32)
def s1 (r : FVec F s .f32) : FVec F s .f32 := up r s0 0x7E000000#32 0x7E800000#32
def s2 (r : FVec F s .f32) : FVec F s .f32 := up r (s1 r) 0x5F000000#32 0x5F800000#32
def s3 (r : FVec F s .f32) : FVec F s .f32 := up r (s2 r) 0x4F000000#32 0x4F800000#32
def s4 (r : FVec F s .f32) : FVec F s .f32 := up r (s3 r) 0x47000000#32 0x47800000#32
def s5 (r : FVec F s .f32) : FVec F s .f32 := up r (s4 r) 0x43000000#32 0x43800000#32
def s6 (r : FVec F s .f32) : FVec F s .f32 := up r (s5 r) 0x41000000#32 0x41800000#32
def s7 (r : FVec F s .f32) : FVec F s .f32 := up r (s6 r) 0x40000000#32 0x40800000#32
def s8 (r : FVec F s .f32) : FVec F s .f32 := up r (s7 r) 0x3F800000#32 0x40000000#32
def i0 : FVec F s .f32 := broadcast s (Scalar.ofBits .f32 0x7E800000#32)
def i1 (r : FVec F s .f32) : FVec F s .f32 := down r s0 i0 0x7E000000#32 0x00800000#32
def i2 (r : FVec F s .f32) : FVec F s .f32 := down r (s1 r) (i1 r) 0x5F000000#32 0x1F800000#32
def i3 (r : FVec F s .f32) : FVec F s .f32 := down r (s2 r) (i2 r) 0x4F000000#32 0x2F800000#32
def i4 (r : FVec F s .f32) : FVec F s .f32 := down r (s3 r) (i3 r) 0x47000000#32 0x37800000#32
def i5 (r : FVec F s .f32) : FVec F s .f32 := down r (s4 r) (i4 r) 0x43000000#32 0x3B800000#32
def i6 (r : FVec F s .f32) : FVec F s .f32 := down r (s5 r) (i5 r) 0x41000000#32 0x3D800000#32
def i7 (r : FVec F s .f32) : FVec F s .f32 := down r (s6 r) (i6 r) 0x40000000#32 0x3E800000#32
def i8 (r : FVec F s .f32) : FVec F s .f32 := down r (s7 r) (i7 r) 0x3F800000#32 0x3F000000#32
/-- One where the ratio is zero, -/
def unit (r v : FVec F s .f32) : FVec F s .f32 :=
  select (cmpf .oeq r (broadcast s (Scalar.ofBits .f32 0x00000000#32))) (broadcast s (Scalar.ofBits .f32 0x3F800000#32)) v
/-- the scale of a ratio, -/
def scaleOf (r : FVec F s .f32) : FVec F s .f32 := unit r (s8 r)
/-- and its inverse. -/
def invOf (r : FVec F s .f32) : FVec F s .f32 := unit r (i8 r)
/-- Clipped to ±448. -/
def clip (v : FVec F s .f32) : FVec F s .f32 :=
  minimumf (broadcast s (Scalar.ofBits .f32 0x43E00000#32)) (maximumf (broadcast s (Scalar.ofBits .f32 0xC3E00000#32)) v)
end Ladder

/-- A tile's codes before rounding: times its inverse scale, clipped. -/
def codes (inv : FVec F S32x128 .f32) (r : Fin 32) (y : Vec F S128x128 .f32) : FVec F S128x128 .f32 :=
  clip (mulf y (broadcastTo S128x128 (extractStridedSlice S1x128 ![r.val, 0] inv (slices_row r)) broadcasts_S1x128_S128x128))

/-- A head of the value's block by its inverse scales, clipped. -/
def vcodes (v : Vec F S1x512x128 .bf16) (inv : Vec F S1x128 .f32) : FVec F S512x128 .f32 :=
  clip (mulf (extf .f32 (shapeCast S512x128 v shapeCasts_S1x512x128_S512x128) bitsLt_bf16_f32) (broadcastTo S512x128 inv broadcasts_S1x128_S512x128))

/-- The value's ratio by channel. -/
def vratio (m : Vec F S8x1024 .f32) : FVec F S1x1024 .f32 :=
  mulf (shapeCast S1x1024 (multiReduction .maximumf [0] S1024 m 0xFF800000#32 reduces_S8x1024_S1024 (.inl rfl) rfl : FVec F S1024 .f32) shapeCasts_S1024_S1x1024)
    (broadcast S1x1024 (Scalar.ofBits .f32 0x3B124925#32))

/-! ## The query's (the key's) stretch -/

section QK
variable (x : Memref sig .tc .vmem S1x512x1024 .bf16) (rt : Memref sig .tc .vmem S4x256x256 .bf16) (qc : Memref sig .tc .vmem S1x512x8x128 .fp8e4m3) (hqc : qc.IsWhole)
  (qh : Memref sig .tc .vmem S1x8x512x128 .fp8e4m3) (hqh : qh.IsWhole) (qs : Memref sig .tc .vmem S1x32x128 .f32) (y : Memref sig .tc .vmem S512x1024 .f32) (tok : Memref sig .tc .vmem S512x8x128 .f32)

/-- One pair of heads rotated. -/
def rotPair (p : Fin 4) : Prog (TpuEff nD τ sig (Elt F) Λ₀ .tc) PUnit := do
  let v ← Prog.lift (.load x (Rect.unit (s := S1x512x1024) ![0, 0, 256 * p.val] S1x512x256.size (inb_x p)).toLoadRect (View.loadsAt_vmem h_S1x512x256))
  let w ← Prog.lift (.load rt (Rect.unit (s := S4x256x256) ![p.val, 0, 0] S1x256x256.size (inb_rot p)).toLoadRect (View.loadsAt_vmem h_S1x256x256))
  let _ ← Prog.lift (.load y (Rect.unit (s := S512x1024) ![0, 256 * p.val] S512x256.size (inb_y p)).toLoadRect (View.loadsAt_vmem h_S512x256))
  Prog.lift (.store y (Rect.unit (s := S512x1024) ![0, 256 * p.val] S512x256.size (inb_y p)) (rotated v w) Finset.univ (View.stores_vmem_bits_univ h_S512x256 rfl) (.inl rfl))

/-- One tile read. -/
def tile (r : Fin 32) : Prog (TpuEff nD τ sig (Elt F) Λ₀ .tc) (Vec F S128x128 .f32) :=
  Prog.lift (.load y (Rect.unit (s := S512x1024) ![128 * (r.val / 8), 128 * (r.val % 8)] S128x128.size (inb_tile r)).toLoadRect (View.loadsAt_vmem h_S128x128))

/-- One tile's codes written, by head and by token. -/
def encode (inv : FVec F S32x128 .f32) (r : Fin 32) : Prog (TpuEff nD τ sig (Elt F) Λ₀ .tc) PUnit := do
  let v ← tile y r
  let _ ← Prog.lift (.load qh (Rect.unit (s := S1x8x512x128) ![0, r.val % 8, 128 * (r.val / 8), 0] S1x1x128x128.size (inb_head r)).toLoadRect (View.loadsAt_vmem h_S1x1x128x128))
  Prog.lift (.store qh (Rect.unit (s := S1x8x512x128) ![0, r.val % 8, 128 * (r.val / 8), 0] S1x1x128x128.size (inb_head r))
    (shapeCast S1x1x128x128 (truncf .fp8e4m3 (codes inv r v) bitsLt_fp8e4m3_f32) shapeCasts_S128x128_S1x1x128x128) Finset.univ
    (View.stores_vmem h_S1x1x128x128 (hqh.storeExact_slice rfl _ (packed_head r)) (fun _ => rfl)) (.inl rfl))
  let _ ← Prog.lift (.load tok (Rect.unit (s := S512x8x128) ![128 * (r.val / 8), r.val % 8, 0] S128x1x128.size (inb_tok r)).toLoadRect (View.loadsAt_vmem h_S128x1x128))
  Prog.lift (.store tok (Rect.unit (s := S512x8x128) ![128 * (r.val / 8), r.val % 8, 0] S128x1x128.size (inb_tok r))
    (shapeCast S128x1x128 (codes inv r v) shapeCasts_S128x128_S128x1x128) Finset.univ (View.stores_vmem_bits_univ h_S128x1x128 rfl) (.inl rfl))

/-- The tiles' codes, one tile after another. -/
def encodes (inv : FVec F S32x128 .f32) : List (Fin 32) → Prog (TpuEff nD τ sig (Elt F) Λ₀ .tc) PUnit
  | [] => pure ⟨⟩
  | r :: l => do
    encode qh hqh y tok inv r
    encodes inv l

/-- The 32 tiles in order. -/
abbrev tiles : List (Fin 32) := [0, 1, 2, 3, 4, 5, 6, 7, 8, 9, 10, 11, 12, 13, 14, 15, 16, 17, 18, 19, 20, 21, 22, 23, 24, 25, 26, 27, 28, 29, 30, 31]

/-- The token-ordered codes written out. -/
def writeTok (c : Memref sig .tc .vmem S1x512x8x128 .fp8e4m3) (hc : c.IsWhole) : Prog (TpuEff nD τ sig (Elt F) Λ₀ .tc) PUnit := do
  let v : Vec F S512x8x128 .f32 ← Prog.lift (.load tok (Rect.unit (s := S512x8x128) ![0, 0, 0] S512x8x128.size inb_S512x8x128_S512x8x128_0_0_0).toLoadRect (View.loadsAt_vmem h_S512x8x128))
  let _ : Vec F S1x512x8x128 .fp8e4m3 ← Prog.lift (.load c (Rect.unit (s := S1x512x8x128) ![0, 0, 0, 0] S1x512x8x128.size inb_S1x512x8x128_S1x512x8x128_0_0_0_0).toLoadRect (View.loadsAt_vmem h_S1x512x8x128))
  Prog.lift (.store c (Rect.unit (s := S1x512x8x128) ![0, 0, 0, 0] S1x512x8x128.size inb_S1x512x8x128_S1x512x8x128_0_0_0_0)
    (shapeCast S1x512x8x128 (truncf .fp8e4m3 v bitsLt_fp8e4m3_f32) shapeCasts_S512x8x128_S1x512x8x128) Finset.univ
    (View.stores_vmem h_S1x512x8x128 (hc.storeExact_slice rfl _ packedfp8e4m3_S1x512x8x128_S1x512x8x128_0_0_0_0) (fun _ => rfl)) (.inl rfl))

/-- The 32 tiles read for their largest magnitudes. -/
def ratios : Prog (TpuEff nD τ sig (Elt F) Λ₀ .tc) (FVec F S32x128 .f32) := do
  let a0 ← tile y 0
  let a1 ← tile y 1
  let a2 ← tile y 2
  let a3 ← tile y 3
  let a4 ← tile y 4
  let a5 ← tile y 5
  let a6 ← tile y 6
  let a7 ← tile y 7
  let a8 ← tile y 8
  let a9 ← tile y 9
  let a10 ← tile y 10
  let a11 ← tile y 11
  let a12 ← tile y 12
  let a13 ← tile y 13
  let a14 ← tile y 14
  let a15 ← tile y 15
  let a16 ← tile y 16
  let a17 ← tile y 17
  let a18 ← tile y 18
  let a19 ← tile y 19
  let a20 ← tile y 20
  let a21 ← tile y 21
  let a22 ← tile y 22
  let a23 ← tile y 23
  let a24 ← tile y 24
  let a25 ← tile y 25
  let a26 ← tile y 26
  let a27 ← tile y 27
  let a28 ← tile y 28
  let a29 ← tile y 29
  let a30 ← tile y 30
  let a31 ← tile y 31
  pure (ratio a0 a1 a2 a3 a4 a5 a6 a7 a8 a9 a10 a11 a12 a13 a14 a15 a16 a17 a18 a19 a20 a21 a22 a23 a24 a25 a26 a27 a28 a29 a30 a31)

/-- The whole stretch. -/
def qk : Prog (TpuEff nD τ sig (Elt F) Λ₀ .tc) PUnit := do
  rotPair x rt y 0
  rotPair x rt y 1
  rotPair x rt y 2
  rotPair x rt y 3
  let r ← ratios y
  let _ : Vec F S1x32x128 .f32 ← Prog.lift (.load qs (Rect.unit (s := S1x32x128) ![0, 0, 0] S1x32x128.size inb_S1x32x128_S1x32x128_0_0_0).toLoadRect (View.loadsAt_vmem h_S1x32x128))
  Prog.lift (.store qs (Rect.unit (s := S1x32x128) ![0, 0, 0] S1x32x128.size inb_S1x32x128_S1x32x128_0_0_0)
    (shapeCast S1x32x128 (scaleOf r) shapeCasts_S32x128_S1x32x128) Finset.univ (View.stores_vmem_bits_univ h_S1x32x128 rfl) (.inl rfl))
  encodes qh hqh y tok (invOf r) tiles
  writeTok tok qc hqc
end QK

/-! ## The value's stretches -/

section V
variable (vc : Memref sig .tc .vmem S1x512x8x128 .fp8e4m3) (hvc : vc.IsWhole) (vt : Memref sig .tc .vmem S1x8x128x512 .fp8e4m3) (hvt : vt.IsWhole) (vs : Memref sig .tc .vmem S1x8x128 .f32)
  (v : Memref sig .tc .vmem S1x512x1024 .bf16) (tok : Memref sig .tc .vmem S512x8x128 .f32) (stash : Memref sig .tc .vmem S16x512x1024 .bf16) (hstash : stash.IsWhole) (vmax : Memref sig .tc .vmem S8x1024 .f32) (vinv : Memref sig .tc .vmem S1x1024 .f32)

/-- One head of the value's codes, by token and by channel. -/
def vencode (i : grid0.Coords) (h2 : k0_cond2 i = 1#1) (h : Fin 8) : Prog (TpuEff nD τ sig (Elt F) Λ₀ .tc) PUnit := do
  let a ← Prog.lift (.load stash (Rect.unit (s := S16x512x1024) (vOff i h) S1x512x128.size (vOff_inb i h2 h)).toLoadRect (View.loadsAt_vmem h_S1x512x128))
  let b ← Prog.lift (.load vinv (Rect.unit (s := S1x1024) ![0, 128 * h.val] S1x128.size (inb_vinv h)).toLoadRect (View.loadsAt_vmem h_S1x128))
  let _ ← Prog.lift (.load tok (Rect.unit (s := S512x8x128) ![0, h.val, 0] S512x1x128.size (inb_vtok h)).toLoadRect (View.loadsAt_vmem h_S512x1x128))
  Prog.lift (.store tok (Rect.unit (s := S512x8x128) ![0, h.val, 0] S512x1x128.size (inb_vtok h))
    (shapeCast S512x1x128 (vcodes a b) shapeCasts_S512x128_S512x1x128) Finset.univ (View.stores_vmem_bits_univ h_S512x1x128 rfl) (.inl rfl))
  let _ ← Prog.lift (.load vt (Rect.unit (s := S1x8x128x512) ![0, h.val, 0, 0] S1x1x128x512.size (inb_vt h)).toLoadRect (View.loadsAt_vmem h_S1x1x128x512))
  Prog.lift (.store vt (Rect.unit (s := S1x8x128x512) ![0, h.val, 0, 0] S1x1x128x512.size (inb_vt h))
    (shapeCast S1x1x128x512 (truncf .fp8e4m3 (transpose S128x512 [1, 0] (vcodes a b) transposes_S512x128_p1_0_S128x512) bitsLt_fp8e4m3_f32) shapeCasts_S128x512_S1x1x128x512) Finset.univ
    (View.stores_vmem h_S1x1x128x512 (hvt.storeExact_slice rfl _ (packed_vt h)) (fun _ => rfl)) (.inl rfl))

/-- The heads one after another. -/
def vencodes (i : grid0.Coords) (h2 : k0_cond2 i = 1#1) : List (Fin 8) → Prog (TpuEff nD τ sig (Elt F) Λ₀ .tc) PUnit
  | [] => pure ⟨⟩
  | h :: l => do
    vencode vt hvt tok stash vinv i h2 h
    vencodes i h2 l

/-- The stretch at the batch after: the stashed block encoded by the finished scales. -/
def vout (i : grid0.Coords) (h2 : k0_cond2 i = 1#1) : Prog (TpuEff nD τ sig (Elt F) Λ₀ .tc) PUnit := do
  vencodes vt hvt tok stash vinv i h2 [0, 1, 2, 3, 4, 5, 6, 7]
  writeTok tok vc hvc

/-- One head's scales written. -/
def vscale (s : FVec F S1x1024 .f32) (h : Fin 8) : Prog (TpuEff nD τ sig (Elt F) Λ₀ .tc) PUnit := do
  let _ ← Prog.lift (.load vs (Rect.unit (s := S1x8x128) ![0, h.val, 0] S1x1x128.size (inb_vs h)).toLoadRect (View.loadsAt_vmem h_S1x1x128))
  Prog.lift (.store vs (Rect.unit (s := S1x8x128) ![0, h.val, 0] S1x1x128.size (inb_vs h))
    (shapeCast S1x1x128 (extractStridedSlice S1x128 ![0, 128 * h.val] s (slices_vs h)) shapeCasts_S1x128_S1x1x128) Finset.univ (View.stores_vmem_bits_univ h_S1x1x128 rfl) (.inl rfl))

/-- The heads one after another. -/
def vscales (s : FVec F S1x1024 .f32) : List (Fin 8) → Prog (TpuEff nD τ sig (Elt F) Λ₀ .tc) PUnit
  | [] => pure ⟨⟩
  | h :: l => do
    vscale vs s h
    vscales s l

/-- The last block's end: the scales from the largest magnitudes. -/
def vlast : Prog (TpuEff nD τ sig (Elt F) Λ₀ .tc) PUnit := do
  let m : Vec F S8x1024 .f32 ← Prog.lift (.load vmax (Rect.unit (s := S8x1024) ![0, 0] S8x1024.size inb_S8x1024_S8x1024_0_0).toLoadRect (View.loadsAt_vmem h_S8x1024))
  let _ : Vec F S1x1024 .f32 ← Prog.lift (.load vinv (Rect.unit (s := S1x1024) ![0, 0] S1x1024.size inb_S1x1024_S1x1024_0_0).toLoadRect (View.loadsAt_vmem h_S1x1024))
  Prog.lift (.store vinv (Rect.unit (s := S1x1024) ![0, 0] S1x1024.size inb_S1x1024_S1x1024_0_0)
    (shapeCast S1x1024 (invOf (vratio m)) shapeCasts_S1x1024_S1x1024) Finset.univ (View.stores_vmem_bits_univ h_S1x1024 rfl) (.inl rfl))
  vscales vs (scaleOf (vratio m)) [0, 1, 2, 3, 4, 5, 6, 7]

/-- The stretch at the batch's own blocks: stashed, and the running largest magnitudes. -/
def vin (i : grid0.Coords) (h3 : k0_cond3 i = 1#1) : Prog (TpuEff nD τ sig (Elt F) Λ₀ .tc) PUnit := do
  let a : Vec F S1x512x1024 .bf16 ← Prog.lift (.load v (Rect.unit (s := S1x512x1024) ![0, 0, 0] S1x512x1024.size inb_S1x512x1024_S1x512x1024_0_0_0).toLoadRect (View.loadsAt_vmem h_S1x512x1024))
  let _ : Vec F S1x512x1024 .bf16 ← Prog.lift (.load stash (Rect.unit (s := S16x512x1024) (k0_off9 i) S1x512x1024.size (k0_off9_inb i h3)).toLoadRect (View.loadsAt_vmem h_S1x512x1024))
  Prog.lift (.store stash (Rect.unit (s := S16x512x1024) (k0_off9 i) S1x512x1024.size (k0_off9_inb i h3)) (k0_pay10 a) Finset.univ
    (View.stores_vmem h_S1x512x1024 (hstash.storeExact_slice rfl _ (k0_off9_packedbf16 i h3)) (fun _ => rfl)) (.inl rfl))
  let b : Vec F S8x1024 .f32 ← Prog.lift (.load vmax (Rect.unit (s := S8x1024) ![0, 0] S8x1024.size inb_S8x1024_S8x1024_0_0).toLoadRect (View.loadsAt_vmem h_S8x1024))
  let _ : Vec F S8x1024 .f32 ← Prog.lift (.load vmax (Rect.unit (s := S8x1024) ![0, 0] S8x1024.size inb_S8x1024_S8x1024_0_0).toLoadRect (View.loadsAt_vmem h_S8x1024))
  Prog.lift (.store vmax (Rect.unit (s := S8x1024) ![0, 0] S8x1024.size inb_S8x1024_S8x1024_0_0) (k0_pay11 i a b) Finset.univ
    (View.stores_vmem_bits_univ h_S8x1024 rfl) (.inl rfl))
end V

/-- The body, structured. -/
def body (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (harg9 : arg9.IsWhole) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (harg12 : arg12.IsWhole) (arg13 : Memref sig .tc .vmem S1x512x8x128 .fp8e4m3) (harg13 : arg13.IsWhole) (arg14 : Memref sig .tc .vmem S1x8x128x512 .fp8e4m3) (harg14 : arg14.IsWhole) (arg15 : Memref sig .tc .vmem S1x8x128 .f32) (harg15 : arg15.IsWhole) (arg16 : Memref sig .tc .vmem S512x1024 .f32) (harg16 : arg16.IsWhole) (arg17 : Memref sig .tc .vmem S512x8x128 .f32) (harg17 : arg17.IsWhole) (arg18 : Memref sig .tc .vmem S16x512x1024 .bf16) (harg18 : arg18.IsWhole) (arg19 : Memref sig .tc .vmem S8x1024 .f32) (harg19 : arg19.IsWhole) (arg20 : Memref sig .tc .vmem S1x1024 .f32) (harg20 : arg20.IsWhole) :
    Prog (TpuEff nD τ sig (Elt F) Λ₀ .tc) PUnit := do
  if h1 : k0_cond1 i = 1#1 then do
    qk arg2 arg5 arg7 harg7 arg8 harg8 arg9 arg16 arg17
    qk arg3 arg6 arg10 harg10 arg11 harg11 arg12 arg16 arg17
  else pure ⟨⟩
  if h2 : k0_cond2 i = 1#1 then vout arg13 harg13 arg14 harg14 arg17 arg18 arg20 i h2 else pure ⟨⟩
  if h3 : k0_cond3 i = 1#1 then do
    vin arg4 arg18 harg18 arg19 i h3
    if h4 : k0_cond4 i = 1#1 then vlast arg15 arg19 arg20 else pure ⟨⟩
  else pure ⟨⟩
  pure ⟨⟩

theorem body_eq : cc0_quantise (F := F) = body (F := F) := by
  chain_rfl

end Cert.QuantiseIdeal.Quant

end
-- ==== Proof.Quant.Owns.lean ====
/- Loads and stores of an owned memref by the values it reads: a load at a unit-stride rectangle reads a window of them, a
   store puts its payload over that window; and stores that cover a buffer with pieces of one array leave that array. -/
module

public import Idealize.ShloMosaic.Lib.VecWindow
public import Idealize.ShloMosaic.Lib.Memref
public import Idealize.ShloMosaic.Lib.Writes
public import Idealize.ShloMosaic.Lib.Pipeline.FrameBody

@[expose] public section

noncomputable section

namespace Cert.Quant

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

theorem wp_load_owns {cs : CoreSpace} {m : Memref sig c.2.kind cs s e} {off size : Fin s.rank → ℕ} {inb : ∀ a, off a + size a ≤ s.size a}
    {hl : m.view.LoadsAt (Rect.unit off size inb).toLoadRect}
    {k : ((Rect.unit off size inb).shape.Idx → Val e) → Prog (TpuEff nD τ sig Val Λ c.2) α} {q : PosShare TreeShare} {X : s.Idx → Val e} :
    (owns c m q X)
      ⊢ iprop((owns c m q X -∗ wp frame (wpE defs 𝒱 c bd) E (k (window X off size inb)) Q)
        -∗ wp frame (wpE defs 𝒱 c bd) E (.op (.load m (Rect.unit off size inb).toLoadRect hl) k) Q) := by
  unfold owns
  iintro ⟨%f, %hf, H⟩ Hk
  iapply (wp_load 𝒱 c bd E (m := m) (hl := hl) (S := m.view.set) (f := f) (m.view.setOn_subset_set _)) $$ H
  iintro H
  rw [View.readAt_unit m.view f inb rfl inb, hf]
  iapply Hk
  iexists f
  isplitr; · ipureintro; exact hf
  iexact H

theorem wp_store_owns {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {X : s.Idx → Val e} :
    (owns c m fullShare X)
      ⊢ iprop((owns c m fullShare (put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store_writes₀ 𝒱 c bd E (m := m) (w := w) (hx := hx) (hm := hm) (S := m.view.set) (f := f) (m.view.set_slice_subset _)) $$ H
  iintro H
  iapply Hk
  iexists _
  isplitr
  swap; · iexact H
  ipureintro
  rw [View.read_writes_cons_put m.view f inb w [] rfl, View.writes_nil, hf]

/-- The load as a program. -/
theorem wp_lift_load {cs : CoreSpace} {m : Memref sig c.2.kind cs s e} {off size : Fin s.rank → ℕ} {inb : ∀ a, off a + size a ≤ s.size a}
    {hl : m.view.LoadsAt (Rect.unit off size inb).toLoadRect}
    {q : PosShare TreeShare} {X : s.Idx → Val e} {Q : ((Rect.unit off size inb).shape.Idx → Val e) → sProp (MT nD τ sig Ix Val Name U Lvl)} :
    (owns c m q X)
      ⊢ iprop((owns c m q X -∗ Q (window X off size inb))
        -∗ wp frame (wpE defs 𝒱 c bd) E (Prog.lift (.load m (Rect.unit off size inb).toLoadRect hl)) Q) := by
  iintro H Hk
  iapply (wp_load_owns 𝒱 c bd E (m := m) (hl := hl) (k := .ret) (X := X)) $$ H
  iintro H
  iapply (le_wp_ret frame (wpE defs 𝒱 c bd) E _ Q)
  iapply Hk
  iexact H

/-- The store as a program. -/
theorem wp_lift_store {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {X : s.Idx → Val e} {Q : PUnit → sProp (MT nD τ sig Ix Val Name U Lvl)} :
    (owns c m fullShare X)
      ⊢ iprop((owns c m fullShare (put X off size w) -∗ Q ⟨⟩)
        -∗ wp frame (wpE defs 𝒱 c bd) E (Prog.lift (.store m (Rect.unit off size inb) w Finset.univ hx hm)) Q) := by
  iintro H Hk
  iapply (wp_store_owns 𝒱 c bd E (m := m) (w := w) (hx := hx) (hm := hm) (k := .ret) (X := X)) $$ H
  iintro H
  iapply (le_wp_ret frame (wpE defs 𝒱 c bd) E _ Q)
  iapply Hk
  iexact H

end Rules

section Values
variable {s : Shape} {α : Type}

/-- A window of the whole is the whole. -/
theorem window_full (x : s.Idx → α) (off : Fin s.rank → ℕ) (inb : ∀ a, off a + s.size a ≤ s.size a) : window x off s.size inb = x := by
  funext y
  exact congrArg x (funext fun a => Fin.ext (by show off a + 1 * (y a).val = (y a).val; have := inb a; omega))

/-- A put of the whole is the payload. -/
theorem put_full (x : s.Idx → α) (off : Fin s.rank → ℕ) (inb : ∀ a, off a + s.size a ≤ s.size a) (w : s.Idx → α) : put x off s.size w = w := by
  funext y
  have h : ∀ a, off a ≤ (y a).val ∧ (y a).val < off a + s.size a := fun a => by have := inb a; have := (y a).isLt; omega
  unfold put
  rw [dif_pos h]
  exact congrArg w (funext fun a => Fin.ext (by rw [Rect.unitLocal_val]; have := inb a; omega))

/-- A put of a window of `T` reads `T` there and the old values elsewhere. -/
theorem put_window (x T : s.Idx → α) (off size : Fin s.rank → ℕ) (inb : ∀ a, off a + size a ≤ s.size a) (y : s.Idx) :
    put x off size (window T off size inb) y = if (∀ a, off a ≤ (y a).val ∧ (y a).val < off a + size a) then T y else x y := by
  unfold put
  by_cases h : ∀ a, off a ≤ (y a).val ∧ (y a).val < off a + size a
  · rw [dif_pos h, if_pos h]
    exact congrArg T (funext fun a => Fin.ext (by
      show off a + 1 * (Rect.unitLocal (s := s) y h a).val = (y a).val
      rw [Rect.unitLocal_val]; have := h a; omega))
  · rw [dif_neg h, if_neg h]

/-- Puts of windows of `T`, one after another, that cover the buffer leave `T`. -/
theorem foldl_put {ι : Type} (T : s.Idx → α) (off : ι → Fin s.rank → ℕ) (size : Fin s.rank → ℕ) (inb : ∀ r a, off r a + size a ≤ s.size a)
    (w : ι → ((a : Fin s.rank) → Fin (size a)) → α) (hw : ∀ r, w r = window T (off r) size (inb r)) (l : List ι) (x : s.Idx → α) (y : s.Idx)
    (hy : (∃ r ∈ l, ∀ a, off r a ≤ (y a).val ∧ (y a).val < off r a + size a) ∨ x y = T y) :
    l.foldl (fun x r => put x (off r) size (w r)) x y = T y := by
  induction l generalizing x with
  | nil => rcases hy with ⟨r, h, -⟩ | h; · exact absurd h (List.not_mem_nil)
           exact h
  | cons r l ih =>
    rw [List.foldl_cons]
    apply ih
    rw [hw r, put_window]
    by_cases h : ∀ a, off r a ≤ (y a).val ∧ (y a).val < off r a + size a
    · exact .inr (if_pos h)
    · rw [if_neg h]
      rcases hy with ⟨r', h', hr'⟩ | hx
      · rcases List.mem_cons.mp h' with rfl | h'
        · exact absurd hr' h
        · exact .inl ⟨r', h', hr'⟩
      · exact .inr hx

/-- The array made of a family of pieces, each index read in the piece that holds it. -/
def glue {ι : Type} (off : ι → Fin s.rank → ℕ) (size : Fin s.rank → ℕ) (pick : s.Idx → ι)
    (hc : ∀ y a, off (pick y) a ≤ (y a).val ∧ (y a).val < off (pick y) a + size a) (w : ι → ((a : Fin s.rank) → Fin (size a)) → α) : s.Idx → α :=
  fun y => w (pick y) (Rect.unitLocal (s := s) y (hc y))

/-- A window of the glued array at a piece's place is the piece. -/
theorem window_glue {ι : Type} (off : ι → Fin s.rank → ℕ) (size : Fin s.rank → ℕ) (pick : s.Idx → ι)
    (hc : ∀ y a, off (pick y) a ≤ (y a).val ∧ (y a).val < off (pick y) a + size a) (w : ι → ((a : Fin s.rank) → Fin (size a)) → α)
    (inb : ∀ r a, off r a + size a ≤ s.size a) (hp : ∀ r j, pick ((Rect.unit (off r) size (inb r)).emb j) = r) (r : ι) :
    window (glue off size pick hc w) (off r) size (inb r) = w r := by
  funext j
  show w (pick ((Rect.unit (off r) size (inb r)).emb j)) (Rect.unitLocal (s := s) ((Rect.unit (off r) size (inb r)).emb j) (hc _)) = w r j
  have h : ∀ r' (h' : ∀ a, off r' a ≤ ((Rect.unit (off r) size (inb r)).emb j a).val ∧ ((Rect.unit (off r) size (inb r)).emb j a).val < off r' a + size a), r' = r →
      w r' (Rect.unitLocal (s := s) ((Rect.unit (off r) size (inb r)).emb j) h') = w r j := by
    rintro r' h' rfl
    exact congrArg (w r') (funext fun a => Fin.ext (by
      rw [Rect.unitLocal_val]; show off r' a + 1 * (j a).val - off r' a = (j a).val; omega))
  exact h _ _ (hp r j)

/-- Stores of all the pieces leave the glued array. -/
theorem foldl_glue {ι : Type} (off : ι → Fin s.rank → ℕ) (size : Fin s.rank → ℕ) (pick : s.Idx → ι)
    (hc : ∀ y a, off (pick y) a ≤ (y a).val ∧ (y a).val < off (pick y) a + size a) (w : ι → ((a : Fin s.rank) → Fin (size a)) → α)
    (inb : ∀ r a, off r a + size a ≤ s.size a) (hp : ∀ r j, pick ((Rect.unit (off r) size (inb r)).emb j) = r)
    (l : List ι) (hl : ∀ r, r ∈ l) (x : s.Idx → α) :
    l.foldl (fun x r => put x (off r) size (w r)) x = glue off size pick hc w := by
  funext y
  exact foldl_put _ off size inb w (fun r => (window_glue off size pick hc w inb hp r).symm) l x y (.inl ⟨pick y, hl _, hc y⟩)

end Values

end Cert.Quant

end
-- ==== Proof.Quant.Steps.lean ====
/- What each stretch of the quantise kernel's body leaves, as functions of the blocks it reads. -/
module

public import proofs.«01_k».proof.Proof.Quant.Prog
public import proofs.«01_k».proof.Proof.Quant.Owns

@[expose] public section

set_option synthInstance.maxSize 4096
set_option maxRecDepth 65536

noncomputable section

namespace Cert.QuantiseIdeal.Quant

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Cert.QuantiseIdeal Cert.QuantiseIdeal.Gen Cert.Quant

variable {F : FTy → Type} [FloatOps F]

local notation "𝕄" => MT nD τ sig Unit (Elt F) ℕ (UR sig nD τ) ℕ

/-! ## Where each piece lies -/

abbrev offY (p : Fin 4) : Fin S512x1024.rank → ℕ := ![0, 256 * p.val]
def pickY (y : S512x1024.Idx) : Fin 4 := ⟨(y 1).val / 256, by have h : (y 1).val < 1024 := (y 1).isLt; omega⟩
theorem pickY_in (y : S512x1024.Idx) (a) : offY (pickY y) a ≤ (y a).val ∧ (y a).val < offY (pickY y) a + S512x256.size a := by
  have h0 : (y 0).val < 512 := (y 0).isLt
  have h1 : (y 1).val < 1024 := (y 1).isLt
  match a with
  | ⟨0, _⟩ => exact ⟨Nat.zero_le _, by show (y 0).val < 0 + 512; omega⟩
  | ⟨1, _⟩ => exact ⟨by show 256 * ((y 1).val / 256) ≤ (y 1).val; omega, by show (y 1).val < 256 * ((y 1).val / 256) + 256; omega⟩
theorem pickY_emb (p : Fin 4) (j) : pickY ((Rect.unit (s := S512x1024) (offY p) S512x256.size (inb_y p)).emb j) = p := Fin.ext (by
  have h1 : (j 1).val < 256 := (j 1).isLt
  show (256 * p.val + 1 * (j 1).val) / 256 = p.val; omega)

abbrev offHead (r : Fin 32) : Fin S1x8x512x128.rank → ℕ := ![0, r.val % 8, 128 * (r.val / 8), 0]
def pickHead (y : S1x8x512x128.Idx) : Fin 32 := ⟨8 * ((y 2).val / 128) + (y 1).val, by have h : (y 1).val < 8 := (y 1).isLt; have h : (y 2).val < 512 := (y 2).isLt; omega⟩
theorem pickHead_in (y : S1x8x512x128.Idx) (a) : offHead (pickHead y) a ≤ (y a).val ∧ (y a).val < offHead (pickHead y) a + S1x1x128x128.size a := by
  have h0 : (y 0).val < 1 := (y 0).isLt
  have h1 : (y 1).val < 8 := (y 1).isLt
  have h2 : (y 2).val < 512 := (y 2).isLt
  have h3 : (y 3).val < 128 := (y 3).isLt
  match a with
  | ⟨0, _⟩ => exact ⟨Nat.zero_le _, by show (y 0).val < 0 + 1; omega⟩
  | ⟨1, _⟩ => exact ⟨by show (8 * ((y 2).val / 128) + (y 1).val) % 8 ≤ (y 1).val; omega, by show (y 1).val < (8 * ((y 2).val / 128) + (y 1).val) % 8 + 1; omega⟩
  | ⟨2, _⟩ => exact ⟨by show 128 * ((8 * ((y 2).val / 128) + (y 1).val) / 8) ≤ (y 2).val; omega, by show (y 2).val < 128 * ((8 * ((y 2).val / 128) + (y 1).val) / 8) + 128; omega⟩
  | ⟨3, _⟩ => exact ⟨Nat.zero_le _, by show (y 3).val < 0 + 128; omega⟩
theorem pickHead_emb (r : Fin 32) (j) : pickHead ((Rect.unit (s := S1x8x512x128) (offHead r) S1x1x128x128.size (inb_head r)).emb j) = r := Fin.ext (by
  have h1 : (j 1).val < 1 := (j 1).isLt
  have h2 : (j 2).val < 128 := (j 2).isLt
  have hr := r.isLt
  show 8 * ((128 * (r.val / 8) + 1 * (j 2).val) / 128) + (r.val % 8 + 1 * (j 1).val) = r.val; omega)

abbrev offTok (r : Fin 32) : Fin S512x8x128.rank → ℕ := ![128 * (r.val / 8), r.val % 8, 0]
def pickTok (y : S512x8x128.Idx) : Fin 32 := ⟨8 * ((y 0).val / 128) + (y 1).val, by have h : (y 1).val < 8 := (y 1).isLt; have h : (y 0).val < 512 := (y 0).isLt; omega⟩
theorem pickTok_in (y : S512x8x128.Idx) (a) : offTok (pickTok y) a ≤ (y a).val ∧ (y a).val < offTok (pickTok y) a + S128x1x128.size a := by
  have h1 : (y 1).val < 8 := (y 1).isLt
  have h2 : (y 0).val < 512 := (y 0).isLt
  have h3 : (y 2).val < 128 := (y 2).isLt
  match a with
  | ⟨1, _⟩ => exact ⟨by show (8 * ((y 0).val / 128) + (y 1).val) % 8 ≤ (y 1).val; omega, by show (y 1).val < (8 * ((y 0).val / 128) + (y 1).val) % 8 + 1; omega⟩
  | ⟨0, _⟩ => exact ⟨by show 128 * ((8 * ((y 0).val / 128) + (y 1).val) / 8) ≤ (y 0).val; omega, by show (y 0).val < 128 * ((8 * ((y 0).val / 128) + (y 1).val) / 8) + 128; omega⟩
  | ⟨2, _⟩ => exact ⟨Nat.zero_le _, by show (y 2).val < 0 + 128; omega⟩
theorem pickTok_emb (r : Fin 32) (j) : pickTok ((Rect.unit (s := S512x8x128) (offTok r) S128x1x128.size (inb_tok r)).emb j) = r := Fin.ext (by
  have h1 : (j 1).val < 1 := (j 1).isLt
  have h2 : (j 0).val < 128 := (j 0).isLt
  have hr := r.isLt
  show 8 * ((128 * (r.val / 8) + 1 * (j 0).val) / 128) + (r.val % 8 + 1 * (j 1).val) = r.val; omega)

abbrev offVtok (h : Fin 8) : Fin S512x8x128.rank → ℕ := ![0, h.val, 0]
def pickVtok (y : S512x8x128.Idx) : Fin 8 := ⟨(y 1).val, (y 1).isLt⟩
theorem pickVtok_in (y : S512x8x128.Idx) (a) : offVtok (pickVtok y) a ≤ (y a).val ∧ (y a).val < offVtok (pickVtok y) a + S512x1x128.size a := by
  match a with
  | ⟨1, _⟩ => exact ⟨Nat.le_refl _, Nat.lt_succ_self _⟩
  | ⟨0, _⟩ => exact ⟨Nat.zero_le _, by have h : (y 0).val < 512 := (y 0).isLt; show (y 0).val < 0 + 512; omega⟩
  | ⟨2, _⟩ => exact ⟨Nat.zero_le _, by have h : (y 2).val < 128 := (y 2).isLt; show (y 2).val < 0 + 128; omega⟩
theorem pickVtok_emb (h : Fin 8) (j) : pickVtok ((Rect.unit (s := S512x8x128) (offVtok h) S512x1x128.size (inb_vtok h)).emb j) = h := Fin.ext (by
  have h1 : (j 1).val < 1 := (j 1).isLt
  show h.val + 1 * (j 1).val = h.val; omega)

abbrev offVt (h : Fin 8) : Fin S1x8x128x512.rank → ℕ := ![0, h.val, 0, 0]
def pickVt (y : S1x8x128x512.Idx) : Fin 8 := ⟨(y 1).val, (y 1).isLt⟩
theorem pickVt_in (y : S1x8x128x512.Idx) (a) : offVt (pickVt y) a ≤ (y a).val ∧ (y a).val < offVt (pickVt y) a + S1x1x128x512.size a := by
  match a with
  | ⟨1, _⟩ => exact ⟨Nat.le_refl _, Nat.lt_succ_self _⟩
  | ⟨0, _⟩ => exact ⟨Nat.zero_le _, by have h : (y 0).val < 1 := (y 0).isLt; show (y 0).val < 0 + 1; omega⟩
  | ⟨2, _⟩ => exact ⟨Nat.zero_le _, by have h : (y 2).val < 128 := (y 2).isLt; show (y 2).val < 0 + 128; omega⟩
  | ⟨3, _⟩ => exact ⟨Nat.zero_le _, by have h : (y 3).val < 512 := (y 3).isLt; show (y 3).val < 0 + 512; omega⟩
theorem pickVt_emb (h : Fin 8) (j) : pickVt ((Rect.unit (s := S1x8x128x512) (offVt h) S1x1x128x512.size (inb_vt h)).emb j) = h := Fin.ext (by
  have h1 : (j 1).val < 1 := (j 1).isLt
  show h.val + 1 * (j 1).val = h.val; omega)

abbrev offVs (h : Fin 8) : Fin S1x8x128.rank → ℕ := ![0, h.val, 0]
def pickVs (y : S1x8x128.Idx) : Fin 8 := ⟨(y 1).val, (y 1).isLt⟩
theorem pickVs_in (y : S1x8x128.Idx) (a) : offVs (pickVs y) a ≤ (y a).val ∧ (y a).val < offVs (pickVs y) a + S1x1x128.size a := by
  match a with
  | ⟨1, _⟩ => exact ⟨Nat.le_refl _, Nat.lt_succ_self _⟩
  | ⟨0, _⟩ => exact ⟨Nat.zero_le _, by have h : (y 0).val < 1 := (y 0).isLt; show (y 0).val < 0 + 1; omega⟩
  | ⟨2, _⟩ => exact ⟨Nat.zero_le _, by have h : (y 2).val < 128 := (y 2).isLt; show (y 2).val < 0 + 128; omega⟩
theorem pickVs_emb (h : Fin 8) (j) : pickVs ((Rect.unit (s := S1x8x128) (offVs h) S1x1x128.size (inb_vs h)).emb j) = h := Fin.ext (by
  have h1 : (j 1).val < 1 := (j 1).isLt
  show h.val + 1 * (j 1).val = h.val; omega)

/-! ## The arrays a stretch leaves -/

/-- The rotated block. -/
def pieceY (X : Vec F S1x512x1024 .bf16) (R : Vec F S4x256x256 .bf16) (p : Fin 4) : Vec F S512x256 .f32 :=
  rotated (window (s := S1x512x1024) X ![0, 0, 256 * p.val] S1x512x256.size (inb_x p)) (window (s := S4x256x256) R ![p.val, 0, 0] S1x256x256.size (inb_rot p))
def yOf (X : Vec F S1x512x1024 .bf16) (R : Vec F S4x256x256 .bf16) : Vec F S512x1024 .f32 := glue offY S512x256.size pickY pickY_in (pieceY X R)

/-- A tile of it. -/
def tileOf (Y : Vec F S512x1024 .f32) (r : Fin 32) : Vec F S128x128 .f32 :=
  window (s := S512x1024) Y ![128 * (r.val / 8), 128 * (r.val % 8)] S128x128.size (inb_tile r)
/-- The tiles' ratios. -/
def ratioOf (Y : Vec F S512x1024 .f32) : FVec F S32x128 .f32 :=
  ratio (tileOf Y 0) (tileOf Y 1) (tileOf Y 2) (tileOf Y 3) (tileOf Y 4) (tileOf Y 5) (tileOf Y 6) (tileOf Y 7) (tileOf Y 8) (tileOf Y 9) (tileOf Y 10) (tileOf Y 11) (tileOf Y 12) (tileOf Y 13) (tileOf Y 14) (tileOf Y 15) (tileOf Y 16) (tileOf Y 17) (tileOf Y 18) (tileOf Y 19) (tileOf Y 20) (tileOf Y 21) (tileOf Y 22) (tileOf Y 23) (tileOf Y 24) (tileOf Y 25) (tileOf Y 26) (tileOf Y 27) (tileOf Y 28) (tileOf Y 29) (tileOf Y 30) (tileOf Y 31)
/-- The scales' block. -/
def qsOf (Y : Vec F S512x1024 .f32) : Vec F S1x32x128 .f32 := shapeCast S1x32x128 (scaleOf (ratioOf Y)) shapeCasts_S32x128_S1x32x128
/-- The codes by head, -/
def pieceHead (inv : FVec F S32x128 .f32) (Y : Vec F S512x1024 .f32) (r : Fin 32) : Vec F S1x1x128x128 .fp8e4m3 :=
  shapeCast S1x1x128x128 (truncf .fp8e4m3 (codes inv r (tileOf Y r)) bitsLt_fp8e4m3_f32) shapeCasts_S128x128_S1x1x128x128
def qhOf (inv : FVec F S32x128 .f32) (Y : Vec F S512x1024 .f32) : Vec F S1x8x512x128 .fp8e4m3 := glue offHead S1x1x128x128.size pickHead pickHead_in (pieceHead inv Y)
/-- and by token, before rounding -/
def pieceTok (inv : FVec F S32x128 .f32) (Y : Vec F S512x1024 .f32) (r : Fin 32) : Vec F S128x1x128 .f32 :=
  shapeCast S128x1x128 (codes inv r (tileOf Y r)) shapeCasts_S128x128_S128x1x128
def tokOf (inv : FVec F S32x128 .f32) (Y : Vec F S512x1024 .f32) : Vec F S512x8x128 .f32 := glue offTok S128x1x128.size pickTok pickTok_in (pieceTok inv Y)
/-- and after. -/
def rounded (T : Vec F S512x8x128 .f32) : Vec F S1x512x8x128 .fp8e4m3 :=
  shapeCast S1x512x8x128 (truncf .fp8e4m3 T bitsLt_fp8e4m3_f32) shapeCasts_S512x8x128_S1x512x8x128

theorem inb_vhead : ∀ h : Fin 8, ∀ a, (![0, 0, 128 * h.val] : Fin 3 → Nat) a + S1x512x128.size a ≤ S1x512x1024.size a := by decide
/-- A head of the value's block, clipped, -/
def vhead (B : Vec F S1x512x1024 .bf16) (I : Vec F S1x1024 .f32) (h : Fin 8) : FVec F S512x128 .f32 :=
  vcodes (window (s := S1x512x1024) B ![0, 0, 128 * h.val] S1x512x128.size (inb_vhead h)) (window (s := S1x1024) I ![0, 128 * h.val] S1x128.size (inb_vinv h))
/-- by token -/
def pieceVtok (B : Vec F S1x512x1024 .bf16) (I : Vec F S1x1024 .f32) (h : Fin 8) : Vec F S512x1x128 .f32 :=
  shapeCast S512x1x128 (vhead B I h) shapeCasts_S512x128_S512x1x128
def vtokOf (B : Vec F S1x512x1024 .bf16) (I : Vec F S1x1024 .f32) : Vec F S512x8x128 .f32 := glue offVtok S512x1x128.size pickVtok pickVtok_in (pieceVtok B I)
/-- and by channel. -/
def pieceVt (B : Vec F S1x512x1024 .bf16) (I : Vec F S1x1024 .f32) (h : Fin 8) : Vec F S1x1x128x512 .fp8e4m3 :=
  shapeCast S1x1x128x512 (truncf .fp8e4m3 (transpose S128x512 [1, 0] (vhead B I h) transposes_S512x128_p1_0_S128x512) bitsLt_fp8e4m3_f32) shapeCasts_S128x512_S1x1x128x512
def vtOf (B : Vec F S1x512x1024 .bf16) (I : Vec F S1x1024 .f32) : Vec F S1x8x128x512 .fp8e4m3 := glue offVt S1x1x128x512.size pickVt pickVt_in (pieceVt B I)
/-- The value's scales. -/
def pieceVs (s : FVec F S1x1024 .f32) (h : Fin 8) : Vec F S1x1x128 .f32 :=
  shapeCast S1x1x128 (extractStridedSlice S1x128 ![0, 128 * h.val] s (slices_vs h)) shapeCasts_S1x128_S1x1x128
def vsOf (s : FVec F S1x1024 .f32) : Vec F S1x8x128 .f32 := glue offVs S1x1x128.size pickVs pickVs_in (pieceVs s)
def vinvOf (M : Vec F S8x1024 .f32) : Vec F S1x1024 .f32 := shapeCast S1x1024 (invOf (vratio M)) shapeCasts_S1x1024_S1x1024

/-! ## The query's (the key's) stretch -/

section QK
variable (c : Dev nD) (E : Set ℕ)
variable (x : Memref sig .tc .vmem S1x512x1024 .bf16) (rt : Memref sig .tc .vmem S4x256x256 .bf16) (qc : Memref sig .tc .vmem S1x512x8x128 .fp8e4m3) (hqc : qc.IsWhole)
  (qh : Memref sig .tc .vmem S1x8x512x128 .fp8e4m3) (hqh : qh.IsWhole) (qs : Memref sig .tc .vmem S1x32x128 .f32) (y : Memref sig .tc .vmem S512x1024 .f32) (tok : Memref sig .tc .vmem S512x8x128 .f32)
variable (q q' : PosShare TreeShare) (X : Vec F S1x512x1024 .bf16) (R : Vec F S4x256x256 .bf16)

theorem rotPair_spec (Y : Vec F S512x1024 .f32) (p : Fin 4) (K : PUnit → sProp 𝕄) :
    iprop(owns (c : Thread nD τ) x q X ∗ owns (c : Thread nD τ) rt q' R ∗ owns (c : Thread nD τ) y fullShare Y
        ∗ (iprop(owns (c : Thread nD τ) x q X ∗ owns (c : Thread nD τ) rt q' R ∗ owns (c : Thread nD τ) y fullShare (put (s := S512x1024) Y (offY p) S512x256.size (pieceY X R p))) -∗ K ⟨⟩))
      ⊢ wp frame (wpE (defs₀ (F := F)) Variants.none c none) E (rotPair x rt y p) K := by
  unfold rotPair
  iintro ⟨Hx, Hr, Hy, Hk⟩
  rw [wp_bind]; iapply (wp_lift_load Variants.none (c : Thread nD τ) none E) $$ Hx; iintro Hx
  rw [wp_bind]; iapply (wp_lift_load Variants.none (c : Thread nD τ) none E) $$ Hr; iintro Hr
  rw [wp_bind]; iapply (wp_lift_load Variants.none (c : Thread nD τ) none E) $$ Hy; iintro Hy
  iapply (wp_lift_store Variants.none (c : Thread nD τ) none E) $$ Hy; iintro Hy
  iapply Hk
  isplitl [Hx]; · iexact Hx
  isplitl [Hr]; · iexact Hr
  iexact Hy

theorem tile_spec (Y : Vec F S512x1024 .f32) (r : Fin 32) (K : Vec F S128x128 .f32 → sProp 𝕄) :
    iprop(owns (c : Thread nD τ) y fullShare Y
        ∗ (iprop(owns (c : Thread nD τ) y fullShare Y) -∗ K (tileOf Y r)))
      ⊢ wp frame (wpE (defs₀ (F := F)) Variants.none c none) E (tile y r) K := by
  unfold tile tileOf
  iintro ⟨Hy, Hk⟩
  iapply (wp_lift_load Variants.none (c : Thread nD τ) none E) $$ Hy; iintro Hy
  iapply Hk
  iexact Hy

theorem ratios_spec (Y : Vec F S512x1024 .f32) (K : FVec F S32x128 .f32 → sProp 𝕄) :
    iprop(owns (c : Thread nD τ) y fullShare Y
        ∗ (iprop(owns (c : Thread nD τ) y fullShare Y) -∗ K (ratioOf Y)))
      ⊢ wp frame (wpE (defs₀ (F := F)) Variants.none c none) E (ratios y) K := by
  unfold ratios ratioOf
  iintro ⟨Hy, Hk⟩
  rw [wp_bind]; iapply (tile_spec c E y Y 0 _); isplitl [Hy]; · iexact Hy
  iintro Hy
  rw [wp_bind]; iapply (tile_spec c E y Y 1 _); isplitl [Hy]; · iexact Hy
  iintro Hy
  rw [wp_bind]; iapply (tile_spec c E y Y 2 _); isplitl [Hy]; · iexact Hy
  iintro Hy
  rw [wp_bind]; iapply (tile_spec c E y Y 3 _); isplitl [Hy]; · iexact Hy
  iintro Hy
  rw [wp_bind]; iapply (tile_spec c E y Y 4 _); isplitl [Hy]; · iexact Hy
  iintro Hy
  rw [wp_bind]; iapply (tile_spec c E y Y 5 _); isplitl [Hy]; · iexact Hy
  iintro Hy
  rw [wp_bind]; iapply (tile_spec c E y Y 6 _); isplitl [Hy]; · iexact Hy
  iintro Hy
  rw [wp_bind]; iapply (tile_spec c E y Y 7 _); isplitl [Hy]; · iexact Hy
  iintro Hy
  rw [wp_bind]; iapply (tile_spec c E y Y 8 _); isplitl [Hy]; · iexact Hy
  iintro Hy
  rw [wp_bind]; iapply (tile_spec c E y Y 9 _); isplitl [Hy]; · iexact Hy
  iintro Hy
  rw [wp_bind]; iapply (tile_spec c E y Y 10 _); isplitl [Hy]; · iexact Hy
  iintro Hy
  rw [wp_bind]; iapply (tile_spec c E y Y 11 _); isplitl [Hy]; · iexact Hy
  iintro Hy
  rw [wp_bind]; iapply (tile_spec c E y Y 12 _); isplitl [Hy]; · iexact Hy
  iintro Hy
  rw [wp_bind]; iapply (tile_spec c E y Y 13 _); isplitl [Hy]; · iexact Hy
  iintro Hy
  rw [wp_bind]; iapply (tile_spec c E y Y 14 _); isplitl [Hy]; · iexact Hy
  iintro Hy
  rw [wp_bind]; iapply (tile_spec c E y Y 15 _); isplitl [Hy]; · iexact Hy
  iintro Hy
  rw [wp_bind]; iapply (tile_spec c E y Y 16 _); isplitl [Hy]; · iexact Hy
  iintro Hy
  rw [wp_bind]; iapply (tile_spec c E y Y 17 _); isplitl [Hy]; · iexact Hy
  iintro Hy
  rw [wp_bind]; iapply (tile_spec c E y Y 18 _); isplitl [Hy]; · iexact Hy
  iintro Hy
  rw [wp_bind]; iapply (tile_spec c E y Y 19 _); isplitl [Hy]; · iexact Hy
  iintro Hy
  rw [wp_bind]; iapply (tile_spec c E y Y 20 _); isplitl [Hy]; · iexact Hy
  iintro Hy
  rw [wp_bind]; iapply (tile_spec c E y Y 21 _); isplitl [Hy]; · iexact Hy
  iintro Hy
  rw [wp_bind]; iapply (tile_spec c E y Y 22 _); isplitl [Hy]; · iexact Hy
  iintro Hy
  rw [wp_bind]; iapply (tile_spec c E y Y 23 _); isplitl [Hy]; · iexact Hy
  iintro Hy
  rw [wp_bind]; iapply (tile_spec c E y Y 24 _); isplitl [Hy]; · iexact Hy
  iintro Hy
  rw [wp_bind]; iapply (tile_spec c E y Y 25 _); isplitl [Hy]; · iexact Hy
  iintro Hy
  rw [wp_bind]; iapply (tile_spec c E y Y 26 _); isplitl [Hy]; · iexact Hy
  iintro Hy
  rw [wp_bind]; iapply (tile_spec c E y Y 27 _); isplitl [Hy]; · iexact Hy
  iintro Hy
  rw [wp_bind]; iapply (tile_spec c E y Y 28 _); isplitl [Hy]; · iexact Hy
  iintro Hy
  rw [wp_bind]; iapply (tile_spec c E y Y 29 _); isplitl [Hy]; · iexact Hy
  iintro Hy
  rw [wp_bind]; iapply (tile_spec c E y Y 30 _); isplitl [Hy]; · iexact Hy
  iintro Hy
  rw [wp_bind]; iapply (tile_spec c E y Y 31 _); isplitl [Hy]; · iexact Hy
  iintro Hy
  iapply (le_wp_ret frame (wpE (defs₀ (F := F)) Variants.none c none) E _ K)
  iapply Hk
  iexact Hy

theorem encode_spec (Y : Vec F S512x1024 .f32) (H : Vec F S1x8x512x128 .fp8e4m3) (T : Vec F S512x8x128 .f32) (inv : FVec F S32x128 .f32) (r : Fin 32) (K : PUnit → sProp 𝕄) :
    iprop(owns (c : Thread nD τ) y fullShare Y ∗ owns (c : Thread nD τ) qh fullShare H ∗ owns (c : Thread nD τ) tok fullShare T
        ∗ (iprop(owns (c : Thread nD τ) y fullShare Y ∗ owns (c : Thread nD τ) qh fullShare (put (s := S1x8x512x128) H (offHead r) S1x1x128x128.size (pieceHead inv Y r)) ∗ owns (c : Thread nD τ) tok fullShare (put (s := S512x8x128) T (offTok r) S128x1x128.size (pieceTok inv Y r))) -∗ K ⟨⟩))
      ⊢ wp frame (wpE (defs₀ (F := F)) Variants.none c none) E (encode qh hqh y tok inv r) K := by
  unfold encode
  iintro ⟨Hy, Hh, Ht, Hk⟩
  rw [wp_bind]; iapply (tile_spec c E y Y r _); isplitl [Hy]; · iexact Hy
  iintro Hy
  rw [wp_bind]; iapply (wp_lift_load Variants.none (c : Thread nD τ) none E) $$ Hh; iintro Hh
  rw [wp_bind]; iapply (wp_lift_store Variants.none (c : Thread nD τ) none E) $$ Hh; iintro Hh
  rw [wp_bind]; iapply (wp_lift_load Variants.none (c : Thread nD τ) none E) $$ Ht; iintro Ht
  iapply (wp_lift_store Variants.none (c : Thread nD τ) none E) $$ Ht; iintro Ht
  iapply Hk
  isplitl [Hy]; · iexact Hy
  isplitl [Hh]; · iexact Hh
  iexact Ht

theorem encodes_spec (Y : Vec F S512x1024 .f32) (H : Vec F S1x8x512x128 .fp8e4m3) (T : Vec F S512x8x128 .f32) (inv : FVec F S32x128 .f32) (l : List (Fin 32)) (K : PUnit → sProp 𝕄) :
    iprop(owns (c : Thread nD τ) y fullShare Y ∗ owns (c : Thread nD τ) qh fullShare H ∗ owns (c : Thread nD τ) tok fullShare T
        ∗ (iprop(owns (c : Thread nD τ) y fullShare Y ∗ owns (c : Thread nD τ) qh fullShare (l.foldl (fun H r => put (s := S1x8x512x128) H (offHead r) S1x1x128x128.size (pieceHead inv Y r)) H) ∗ owns (c : Thread nD τ) tok fullShare (l.foldl (fun T r => put (s := S512x8x128) T (offTok r) S128x1x128.size (pieceTok inv Y r)) T)) -∗ K ⟨⟩))
      ⊢ wp frame (wpE (defs₀ (F := F)) Variants.none c none) E (encodes qh hqh y tok inv l) K := by
  induction l generalizing H T with
  | nil =>
    iintro ⟨Hy, Hh, Ht, Hk⟩
    iapply (le_wp_ret frame (wpE (defs₀ (F := F)) Variants.none c none) E _ K)
    iapply Hk
    isplitl [Hy]; · iexact Hy
    isplitl [Hh]; · iexact Hh
    iexact Ht
  | cons r l ih =>
    show _ ⊢ wp frame (wpE (defs₀ (F := F)) Variants.none c none) E (encode qh hqh y tok inv r >>= fun _ => encodes qh hqh y tok inv l) K
    iintro ⟨Hy, Hh, Ht, Hk⟩
    rw [wp_bind]; iapply (encode_spec c E qh hqh y tok Y H T inv r _)
    isplitl [Hy]; · iexact Hy
    isplitl [Hh]; · iexact Hh
    isplitl [Ht]; · iexact Ht
    iintro ⟨Hy, Hh, Ht⟩
    iapply (ih _ _)
    isplitl [Hy]; · iexact Hy
    isplitl [Hh]; · iexact Hh
    isplitl [Ht]; · iexact Ht
    iexact Hk

theorem writeTok_spec (C : Vec F S1x512x8x128 .fp8e4m3) (T : Vec F S512x8x128 .f32) (K : PUnit → sProp 𝕄) :
    iprop(owns (c : Thread nD τ) qc fullShare C ∗ owns (c : Thread nD τ) tok fullShare T
        ∗ (iprop(owns (c : Thread nD τ) qc fullShare (rounded T) ∗ owns (c : Thread nD τ) tok fullShare T) -∗ K ⟨⟩))
      ⊢ wp frame (wpE (defs₀ (F := F)) Variants.none c none) E (writeTok tok qc hqc) K := by
  unfold writeTok
  iintro ⟨Hc, Ht, Hk⟩
  rw [wp_bind]; iapply (wp_lift_load Variants.none (c : Thread nD τ) none E) $$ Ht; iintro Ht
  rw [wp_bind]; iapply (wp_lift_load Variants.none (c : Thread nD τ) none E) $$ Hc; iintro Hc
  iapply (wp_lift_store Variants.none (c : Thread nD τ) none E) $$ Hc; iintro Hc
  rw [put_full (s := S1x512x8x128) C _ (by decide), window_full (s := S512x8x128) T _ (by decide)]
  iapply Hk
  isplitl [Hc]; · iexact Hc
  iexact Ht

theorem yOf_eq (Y : Vec F S512x1024 .f32) :
    put (s := S512x1024) (put (s := S512x1024) (put (s := S512x1024) (put (s := S512x1024) Y (offY 0) S512x256.size (pieceY X R 0)) (offY 1) S512x256.size (pieceY X R 1)) (offY 2) S512x256.size (pieceY X R 2)) (offY 3) S512x256.size (pieceY X R 3) = yOf X R :=
  foldl_glue (s := S512x1024) offY S512x256.size pickY pickY_in (pieceY X R) inb_y pickY_emb [0, 1, 2, 3] (by decide) Y
theorem qhOf_eq (inv : FVec F S32x128 .f32) (Y : Vec F S512x1024 .f32) (H : Vec F S1x8x512x128 .fp8e4m3) :
    tiles.foldl (fun H r => put (s := S1x8x512x128) H (offHead r) S1x1x128x128.size (pieceHead inv Y r)) H = qhOf inv Y :=
  foldl_glue (s := S1x8x512x128) offHead S1x1x128x128.size pickHead pickHead_in (pieceHead inv Y) inb_head pickHead_emb tiles (by decide) H
theorem tokOf_eq (inv : FVec F S32x128 .f32) (Y : Vec F S512x1024 .f32) (T : Vec F S512x8x128 .f32) :
    tiles.foldl (fun T r => put (s := S512x8x128) T (offTok r) S128x1x128.size (pieceTok inv Y r)) T = tokOf inv Y :=
  foldl_glue (s := S512x8x128) offTok S128x1x128.size pickTok pickTok_in (pieceTok inv Y) inb_tok pickTok_emb tiles (by decide) T

theorem qk_spec (C : Vec F S1x512x8x128 .fp8e4m3) (H : Vec F S1x8x512x128 .fp8e4m3) (S : Vec F S1x32x128 .f32) (Y : Vec F S512x1024 .f32) (T : Vec F S512x8x128 .f32) (K : PUnit → sProp 𝕄) :
    iprop(owns (c : Thread nD τ) x q X ∗ owns (c : Thread nD τ) rt q' R ∗ owns (c : Thread nD τ) qc fullShare C ∗ owns (c : Thread nD τ) qh fullShare H ∗ owns (c : Thread nD τ) qs fullShare S ∗ owns (c : Thread nD τ) y fullShare Y ∗ owns (c : Thread nD τ) tok fullShare T
        ∗ (iprop(owns (c : Thread nD τ) x q X ∗ owns (c : Thread nD τ) rt q' R ∗ owns (c : Thread nD τ) qc fullShare (rounded (tokOf (invOf (ratioOf (yOf X R))) (yOf X R))) ∗ owns (c : Thread nD τ) qh fullShare (qhOf (invOf (ratioOf (yOf X R))) (yOf X R)) ∗ owns (c : Thread nD τ) qs fullShare (qsOf (yOf X R)) ∗ owns (c : Thread nD τ) y fullShare (yOf X R) ∗ owns (c : Thread nD τ) tok fullShare (tokOf (invOf (ratioOf (yOf X R))) (yOf X R))) -∗ K ⟨⟩))
      ⊢ wp frame (wpE (defs₀ (F := F)) Variants.none c none) E (qk x rt qc hqc qh hqh qs y tok) K := by
  unfold qk
  iintro ⟨Hx, Hr, Hc, Hh, Hs, Hy, Ht, Hk⟩
  rw [wp_bind]; iapply (rotPair_spec c E x rt y q q' X R _ 0 _)
  isplitl [Hx]; · iexact Hx
  isplitl [Hr]; · iexact Hr
  isplitl [Hy]; · iexact Hy
  iintro ⟨Hx, Hr, Hy⟩
  rw [wp_bind]; iapply (rotPair_spec c E x rt y q q' X R _ 1 _)
  isplitl [Hx]; · iexact Hx
  isplitl [Hr]; · iexact Hr
  isplitl [Hy]; · iexact Hy
  iintro ⟨Hx, Hr, Hy⟩
  rw [wp_bind]; iapply (rotPair_spec c E x rt y q q' X R _ 2 _)
  isplitl [Hx]; · iexact Hx
  isplitl [Hr]; · iexact Hr
  isplitl [Hy]; · iexact Hy
  iintro ⟨Hx, Hr, Hy⟩
  rw [wp_bind]; iapply (rotPair_spec c E x rt y q q' X R _ 3 _)
  isplitl [Hx]; · iexact Hx
  isplitl [Hr]; · iexact Hr
  isplitl [Hy]; · iexact Hy
  iintro ⟨Hx, Hr, Hy⟩
  rw [yOf_eq X R Y]
  rw [wp_bind]; iapply (ratios_spec c E y _ _); isplitl [Hy]; · iexact Hy
  iintro Hy
  rw [wp_bind]; iapply (wp_lift_load Variants.none (c : Thread nD τ) none E) $$ Hs; iintro Hs
  rw [wp_bind]; iapply (wp_lift_store Variants.none (c : Thread nD τ) none E) $$ Hs; iintro Hs
  rw [put_full (s := S1x32x128) S _ (by decide)]
  rw [wp_bind]; iapply (encodes_spec c E qh hqh y tok _ H T _ tiles _)
  isplitl [Hy]; · iexact Hy
  isplitl [Hh]; · iexact Hh
  isplitl [Ht]; · iexact Ht
  iintro ⟨Hy, Hh, Ht⟩
  rw [qhOf_eq, tokOf_eq]
  iapply (writeTok_spec c E qc hqc tok C _ _)
  isplitl [Hc]; · iexact Hc
  isplitl [Ht]; · iexact Ht
  iintro ⟨Hc, Ht⟩
  iapply Hk
  isplitl [Hx]; · iexact Hx
  isplitl [Hr]; · iexact Hr
  isplitl [Hc]; · iexact Hc
  isplitl [Hh]; · iexact Hh
  isplitl [Hs]; · iexact Hs
  isplitl [Hy]; · iexact Hy
  iexact Ht

end QK

/-! ## The value's stretches -/

/-- The stashed block of the point's own number. -/
theorem stashInb (n : ℕ) (hn : n < 16) : ∀ a, (![n, 0, 0] : Fin 3 → ℕ) a + S1x512x1024.size a ≤ S16x512x1024.size a
  | ⟨0, _⟩ => by show n + 1 ≤ 16; omega
  | ⟨1, _⟩ => by show 0 + 512 ≤ 512; omega
  | ⟨2, _⟩ => by show 0 + 1024 ≤ 1024; omega
def stashBlk (st : Vec F S16x512x1024 .bf16) (n : Fin 16) : Vec F S1x512x1024 .bf16 := window (s := S16x512x1024) st ![n.val, 0, 0] S1x512x1024.size (stashInb n.val n.isLt)

theorem index_word (n : Fin 16) : (Scalar.indexCast (BitVec.ofNat 32 n.val) : Index).toNat = n.val := by revert n; decide
theorem vOff_eq (i : grid0.Coords) (h : Fin 8) : vOff i h = ![(i 1).val, 0, 128 * h.val] := by
  have e := index_word (i 1)
  match h with
  | 0 => show ![(Scalar.indexCast (BitVec.ofNat 32 (i 1).val) : Index).toNat, 0, 0] = _; rw [e]; rfl
  | 1 => show ![(Scalar.indexCast (BitVec.ofNat 32 (i 1).val) : Index).toNat, 0, 128] = _; rw [e]; rfl
  | 2 => show ![(Scalar.indexCast (BitVec.ofNat 32 (i 1).val) : Index).toNat, 0, 256] = _; rw [e]; rfl
  | 3 => show ![(Scalar.indexCast (BitVec.ofNat 32 (i 1).val) : Index).toNat, 0, 384] = _; rw [e]; rfl
  | 4 => show ![(Scalar.indexCast (BitVec.ofNat 32 (i 1).val) : Index).toNat, 0, 512] = _; rw [e]; rfl
  | 5 => show ![(Scalar.indexCast (BitVec.ofNat 32 (i 1).val) : Index).toNat, 0, 640] = _; rw [e]; rfl
  | 6 => show ![(Scalar.indexCast (BitVec.ofNat 32 (i 1).val) : Index).toNat, 0, 768] = _; rw [e]; rfl
  | 7 => show ![(Scalar.indexCast (BitVec.ofNat 32 (i 1).val) : Index).toNat, 0, 896] = _; rw [e]; rfl
theorem off9_eq (i : grid0.Coords) : k0_off9 i = ![(i 1).val, 0, 0] := by
  show ![(Scalar.indexCast (BitVec.ofNat 32 (i 1).val) : Index).toNat, 0, 0] = _; rw [index_word (i 1)]

theorem stash_head (st : Vec F S16x512x1024 .bf16) (i : grid0.Coords) (h : Fin 8) (inb) :
    window (s := S16x512x1024) st (vOff i h) S1x512x128.size inb
      = window (s := S1x512x1024) (stashBlk st (i 1)) ![0, 0, 128 * h.val] S1x512x128.size (inb_vhead h) := by
  funext j
  refine congrArg st (funext fun a => Fin.ext ?_)
  show vOff i h a + 1 * (j a).val = ![(i 1).val, 0, 0] a + 1 * (![0, 0, 128 * h.val] a + 1 * (j a).val)
  refine (congrArg (· + 1 * (j a).val) (congrFun (vOff_eq i h) a)).trans ?_
  match a with
  | ⟨0, _⟩ => show (i 1).val + 1 * _ = (i 1).val + 1 * (0 + 1 * _); omega
  | ⟨1, _⟩ => show 0 + 1 * _ = 0 + 1 * (0 + 1 * _); omega
  | ⟨2, _⟩ => show 128 * h.val + 1 * _ = 0 + 1 * (128 * h.val + 1 * _); omega

section V
variable (c : Dev nD) (E : Set ℕ)
variable (vc : Memref sig .tc .vmem S1x512x8x128 .fp8e4m3) (hvc : vc.IsWhole) (vt : Memref sig .tc .vmem S1x8x128x512 .fp8e4m3) (hvt : vt.IsWhole) (vs : Memref sig .tc .vmem S1x8x128 .f32)
  (v : Memref sig .tc .vmem S1x512x1024 .bf16) (tok : Memref sig .tc .vmem S512x8x128 .f32) (stash : Memref sig .tc .vmem S16x512x1024 .bf16) (hstash : stash.IsWhole) (vmax : Memref sig .tc .vmem S8x1024 .f32) (vinv : Memref sig .tc .vmem S1x1024 .f32)
variable (st : Vec F S16x512x1024 .bf16) (M : Vec F S8x1024 .f32) (I : Vec F S1x1024 .f32)

theorem vencode_spec (i : grid0.Coords) (h2 : k0_cond2 i = 1#1) (T : Vec F S512x8x128 .f32) (D : Vec F S1x8x128x512 .fp8e4m3) (h : Fin 8) (K : PUnit → sProp 𝕄) :
    iprop(owns (c : Thread nD τ) stash fullShare st ∗ owns (c : Thread nD τ) vinv fullShare I ∗ owns (c : Thread nD τ) tok fullShare T ∗ owns (c : Thread nD τ) vt fullShare D
        ∗ (iprop(owns (c : Thread nD τ) stash fullShare st ∗ owns (c : Thread nD τ) vinv fullShare I ∗ owns (c : Thread nD τ) tok fullShare (put (s := S512x8x128) T (offVtok h) S512x1x128.size (pieceVtok (stashBlk st (i 1)) I h)) ∗ owns (c : Thread nD τ) vt fullShare (put (s := S1x8x128x512) D (offVt h) S1x1x128x512.size (pieceVt (stashBlk st (i 1)) I h))) -∗ K ⟨⟩))
      ⊢ wp frame (wpE (defs₀ (F := F)) Variants.none c none) E (vencode vt hvt tok stash vinv i h2 h) K := by
  unfold vencode
  iintro ⟨Hst, Hi, Ht, Hd, Hk⟩
  rw [wp_bind]; iapply (wp_lift_load Variants.none (c : Thread nD τ) none E) $$ Hst; iintro Hst
  rw [wp_bind]; iapply (wp_lift_load Variants.none (c : Thread nD τ) none E) $$ Hi; iintro Hi
  rw [wp_bind]; iapply (wp_lift_load Variants.none (c : Thread nD τ) none E) $$ Ht; iintro Ht
  rw [wp_bind]; iapply (wp_lift_store Variants.none (c : Thread nD τ) none E) $$ Ht; iintro Ht
  rw [wp_bind]; iapply (wp_lift_load Variants.none (c : Thread nD τ) none E) $$ Hd; iintro Hd
  iapply (wp_lift_store Variants.none (c : Thread nD τ) none E) $$ Hd; iintro Hd
  rw [stash_head st i h]
  iapply Hk
  isplitl [Hst]; · iexact Hst
  isplitl [Hi]; · iexact Hi
  isplitl [Ht]; · iexact Ht
  iexact Hd

theorem vencodes_spec (i : grid0.Coords) (h2 : k0_cond2 i = 1#1) (T : Vec F S512x8x128 .f32) (D : Vec F S1x8x128x512 .fp8e4m3) (l : List (Fin 8)) (K : PUnit → sProp 𝕄) :
    iprop(owns (c : Thread nD τ) stash fullShare st ∗ owns (c : Thread nD τ) vinv fullShare I ∗ owns (c : Thread nD τ) tok fullShare T ∗ owns (c : Thread nD τ) vt fullShare D
        ∗ (iprop(owns (c : Thread nD τ) stash fullShare st ∗ owns (c : Thread nD τ) vinv fullShare I ∗ owns (c : Thread nD τ) tok fullShare (l.foldl (fun T h => put (s := S512x8x128) T (offVtok h) S512x1x128.size (pieceVtok (stashBlk st (i 1)) I h)) T) ∗ owns (c : Thread nD τ) vt fullShare (l.foldl (fun D h => put (s := S1x8x128x512) D (offVt h) S1x1x128x512.size (pieceVt (stashBlk st (i 1)) I h)) D)) -∗ K ⟨⟩))
      ⊢ wp frame (wpE (defs₀ (F := F)) Variants.none c none) E (vencodes vt hvt tok stash vinv i h2 l) K := by
  induction l generalizing T D with
  | nil =>
    iintro ⟨Hst, Hi, Ht, Hd, Hk⟩
    iapply (le_wp_ret frame (wpE (defs₀ (F := F)) Variants.none c none) E _ K)
    iapply Hk
    isplitl [Hst]; · iexact Hst
    isplitl [Hi]; · iexact Hi
    isplitl [Ht]; · iexact Ht
    iexact Hd
  | cons r l ih =>
    show _ ⊢ wp frame (wpE (defs₀ (F := F)) Variants.none c none) E (vencode vt hvt tok stash vinv i h2 r >>= fun _ => vencodes vt hvt tok stash vinv i h2 l) K
    iintro ⟨Hst, Hi, Ht, Hd, Hk⟩
    rw [wp_bind]; iapply (vencode_spec c E vt hvt tok stash vinv st I i h2 T D r _)
    isplitl [Hst]; · iexact Hst
    isplitl [Hi]; · iexact Hi
    isplitl [Ht]; · iexact Ht
    isplitl [Hd]; · iexact Hd
    iintro ⟨Hst, Hi, Ht, Hd⟩
    iapply (ih _ _)
    isplitl [Hst]; · iexact Hst
    isplitl [Hi]; · iexact Hi
    isplitl [Ht]; · iexact Ht
    isplitl [Hd]; · iexact Hd
    iexact Hk

theorem vtokOf_eq (B : Vec F S1x512x1024 .bf16) (T : Vec F S512x8x128 .f32) :
    ([0, 1, 2, 3, 4, 5, 6, 7] : List (Fin 8)).foldl (fun T h => put (s := S512x8x128) T (offVtok h) S512x1x128.size (pieceVtok B I h)) T = vtokOf B I :=
  foldl_glue (s := S512x8x128) offVtok S512x1x128.size pickVtok pickVtok_in (pieceVtok B I) inb_vtok pickVtok_emb _ (by decide) T
theorem vtOf_eq (B : Vec F S1x512x1024 .bf16) (D : Vec F S1x8x128x512 .fp8e4m3) :
    ([0, 1, 2, 3, 4, 5, 6, 7] : List (Fin 8)).foldl (fun D h => put (s := S1x8x128x512) D (offVt h) S1x1x128x512.size (pieceVt B I h)) D = vtOf B I :=
  foldl_glue (s := S1x8x128x512) offVt S1x1x128x512.size pickVt pickVt_in (pieceVt B I) inb_vt pickVt_emb _ (by decide) D
theorem vsOf_eq (s : FVec F S1x1024 .f32) (W : Vec F S1x8x128 .f32) :
    ([0, 1, 2, 3, 4, 5, 6, 7] : List (Fin 8)).foldl (fun W h => put (s := S1x8x128) W (offVs h) S1x1x128.size (pieceVs s h)) W = vsOf s :=
  foldl_glue (s := S1x8x128) offVs S1x1x128.size pickVs pickVs_in (pieceVs s) inb_vs pickVs_emb _ (by decide) W

theorem vout_spec (i : grid0.Coords) (h2 : k0_cond2 i = 1#1) (C : Vec F S1x512x8x128 .fp8e4m3) (T : Vec F S512x8x128 .f32) (D : Vec F S1x8x128x512 .fp8e4m3) (K : PUnit → sProp 𝕄) :
    iprop(owns (c : Thread nD τ) vc fullShare C ∗ owns (c : Thread nD τ) vt fullShare D ∗ owns (c : Thread nD τ) stash fullShare st ∗ owns (c : Thread nD τ) vinv fullShare I ∗ owns (c : Thread nD τ) tok fullShare T
        ∗ (iprop(owns (c : Thread nD τ) vc fullShare (rounded (vtokOf (stashBlk st (i 1)) I)) ∗ owns (c : Thread nD τ) vt fullShare (vtOf (stashBlk st (i 1)) I) ∗ owns (c : Thread nD τ) stash fullShare st ∗ owns (c : Thread nD τ) vinv fullShare I ∗ owns (c : Thread nD τ) tok fullShare (vtokOf (stashBlk st (i 1)) I)) -∗ K ⟨⟩))
      ⊢ wp frame (wpE (defs₀ (F := F)) Variants.none c none) E (vout vc hvc vt hvt tok stash vinv i h2) K := by
  unfold vout
  iintro ⟨Hc, Hd, Hst, Hi, Ht, Hk⟩
  rw [wp_bind]; iapply (vencodes_spec c E vt hvt tok stash vinv st I i h2 T D _ _)
  isplitl [Hst]; · iexact Hst
  isplitl [Hi]; · iexact Hi
  isplitl [Ht]; · iexact Ht
  isplitl [Hd]; · iexact Hd
  iintro ⟨Hst, Hi, Ht, Hd⟩
  rw [vtokOf_eq, vtOf_eq]
  iapply (writeTok_spec c E vc hvc tok C _ _)
  isplitl [Hc]; · iexact Hc
  isplitl [Ht]; · iexact Ht
  iintro ⟨Hc, Ht⟩
  iapply Hk
  isplitl [Hc]; · iexact Hc
  isplitl [Hd]; · iexact Hd
  isplitl [Hst]; · iexact Hst
  isplitl [Hi]; · iexact Hi
  iexact Ht

theorem vscales_spec (W : Vec F S1x8x128 .f32) (s : FVec F S1x1024 .f32) (l : List (Fin 8)) (K : PUnit → sProp 𝕄) :
    iprop(owns (c : Thread nD τ) vs fullShare W
        ∗ (iprop(owns (c : Thread nD τ) vs fullShare (l.foldl (fun W h => put (s := S1x8x128) W (offVs h) S1x1x128.size (pieceVs s h)) W)) -∗ K ⟨⟩))
      ⊢ wp frame (wpE (defs₀ (F := F)) Variants.none c none) E (vscales vs s l) K := by
  induction l generalizing W with
  | nil =>
    iintro ⟨Hw, Hk⟩
    iapply (le_wp_ret frame (wpE (defs₀ (F := F)) Variants.none c none) E _ K)
    iapply Hk
    iexact Hw
  | cons r l ih =>
    show _ ⊢ wp frame (wpE (defs₀ (F := F)) Variants.none c none) E (vscale vs s r >>= fun _ => vscales vs s l) K
    iintro ⟨Hw, Hk⟩
    rw [wp_bind]; unfold vscale
    rw [wp_bind]; iapply (wp_lift_load Variants.none (c : Thread nD τ) none E) $$ Hw; iintro Hw
    iapply (wp_lift_store Variants.none (c : Thread nD τ) none E) $$ Hw; iintro Hw
    iapply (ih _)
    isplitl [Hw]; · iexact Hw
    iexact Hk

theorem vlast_spec (W : Vec F S1x8x128 .f32) (K : PUnit → sProp 𝕄) :
    iprop(owns (c : Thread nD τ) vs fullShare W ∗ owns (c : Thread nD τ) vmax fullShare M ∗ owns (c : Thread nD τ) vinv fullShare I
        ∗ (iprop(owns (c : Thread nD τ) vs fullShare (vsOf (scaleOf (vratio M))) ∗ owns (c : Thread nD τ) vmax fullShare M ∗ owns (c : Thread nD τ) vinv fullShare (vinvOf M)) -∗ K ⟨⟩))
      ⊢ wp frame (wpE (defs₀ (F := F)) Variants.none c none) E (vlast vs vmax vinv) K := by
  unfold vlast
  iintro ⟨Hw, Hm, Hi, Hk⟩
  rw [wp_bind]; iapply (wp_lift_load Variants.none (c : Thread nD τ) none E) $$ Hm; iintro Hm
  rw [wp_bind]; iapply (wp_lift_load Variants.none (c : Thread nD τ) none E) $$ Hi; iintro Hi
  rw [wp_bind]; iapply (wp_lift_store Variants.none (c : Thread nD τ) none E) $$ Hi; iintro Hi
  rw [put_full (s := S1x1024) I _ (by decide), window_full (s := S8x1024) M _ (by decide)]
  iapply (vscales_spec c E vs W _ _ _)
  isplitl [Hw]; · iexact Hw
  iintro Hw
  rw [vsOf_eq]
  iapply Hk
  isplitl [Hw]; · iexact Hw
  isplitl [Hm]; · iexact Hm
  iexact Hi

theorem vin_spec (i : grid0.Coords) (h3 : k0_cond3 i = 1#1) (q : PosShare TreeShare) (A : Vec F S1x512x1024 .bf16) (K : PUnit → sProp 𝕄) :
    iprop(owns (c : Thread nD τ) v q A ∗ owns (c : Thread nD τ) stash fullShare st ∗ owns (c : Thread nD τ) vmax fullShare M
        ∗ (iprop(owns (c : Thread nD τ) v q A ∗ owns (c : Thread nD τ) stash fullShare (put (s := S16x512x1024) st ![(i 1).val, 0, 0] S1x512x1024.size (k0_pay10 A)) ∗ owns (c : Thread nD τ) vmax fullShare (k0_pay11 i A M)) -∗ K ⟨⟩))
      ⊢ wp frame (wpE (defs₀ (F := F)) Variants.none c none) E (vin v stash hstash vmax i h3) K := by
  unfold vin
  iintro ⟨Hv, Hst, Hm, Hk⟩
  rw [wp_bind]; iapply (wp_lift_load Variants.none (c : Thread nD τ) none E) $$ Hv; iintro Hv
  rw [wp_bind]; iapply (wp_lift_load Variants.none (c : Thread nD τ) none E) $$ Hst; iintro Hst
  rw [wp_bind]; iapply (wp_lift_store Variants.none (c : Thread nD τ) none E) $$ Hst; iintro Hst
  rw [wp_bind]; iapply (wp_lift_load Variants.none (c : Thread nD τ) none E) $$ Hm; iintro Hm
  rw [wp_bind]; iapply (wp_lift_load Variants.none (c : Thread nD τ) none E) $$ Hm; iintro Hm
  iapply (wp_lift_store Variants.none (c : Thread nD τ) none E) $$ Hm; iintro Hm
  rw [put_full (s := S8x1024) M _ (by decide), window_full (s := S8x1024) M _ (by decide), window_full (s := S1x512x1024) A _ (by decide), off9_eq]
  iapply Hk
  isplitl [Hv]; · iexact Hv
  isplitl [Hst]; · iexact Hst
  iexact Hm

end V

end Cert.QuantiseIdeal.Quant

end
-- ==== Proof.Quant.BodySpec.lean ====
/- The quantise kernel's body at any grid point: what each buffer holds after it, as a function of what they held before. -/
module

public import proofs.«01_k».proof.Proof.Quant.Steps

@[expose] public section

set_option synthInstance.maxSize 4096
set_option maxRecDepth 65536

noncomputable section

namespace Cert.QuantiseIdeal.Quant

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Cert.QuantiseIdeal Cert.QuantiseIdeal.Gen Cert.Quant

variable {F : FTy → Type} [FloatOps F]

local notation "𝕄" => MT nD τ sig Unit (Elt F) ℕ (UR sig nD τ) ℕ

/-! ## The arrays as functions of the blocks -/

def codesBy (X : Vec F S1x512x1024 .bf16) (R : Vec F S4x256x256 .bf16) : Vec F S1x512x8x128 .fp8e4m3 := rounded (tokOf (invOf (ratioOf (yOf X R))) (yOf X R))
def headsBy (X : Vec F S1x512x1024 .bf16) (R : Vec F S4x256x256 .bf16) : Vec F S1x8x512x128 .fp8e4m3 := qhOf (invOf (ratioOf (yOf X R))) (yOf X R)
def scalesBy (X : Vec F S1x512x1024 .bf16) (R : Vec F S4x256x256 .bf16) : Vec F S1x32x128 .f32 := qsOf (yOf X R)
def vcodesBy (B : Vec F S1x512x1024 .bf16) (I : Vec F S1x1024 .f32) : Vec F S1x512x8x128 .fp8e4m3 := rounded (vtokOf B I)
def vscalesBy (M : Vec F S8x1024 .f32) : Vec F S1x8x128 .f32 := vsOf (scaleOf (vratio M))
/-- The stash with a block put at its place. -/
def stashed (st : Vec F S16x512x1024 .bf16) (n : Fin 16) (A : Vec F S1x512x1024 .bf16) : Vec F S16x512x1024 .bf16 :=
  put (s := S16x512x1024) st ![n.val, 0, 0] S1x512x1024.size (k0_pay10 A)

section
variable (c : Dev nD) (E : Set ℕ) (i : grid0.Coords)

theorem stage1 (arg2 : Memref sig .tc .vmem S1x512x1024 .bf16) (arg3 : Memref sig .tc .vmem S1x512x1024 .bf16) (arg5 : Memref sig .tc .vmem S4x256x256 .bf16) (arg6 : Memref sig .tc .vmem S4x256x256 .bf16) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (arg16 : Memref sig .tc .vmem S512x1024 .f32) (arg17 : Memref sig .tc .vmem S512x8x128 .f32) (X : Vec F S1x512x1024 .bf16) (X' : Vec F S1x512x1024 .bf16) (R : Vec F S4x256x256 .bf16) (R' : Vec F S4x256x256 .bf16) (C : Vec F S1x512x8x128 .fp8e4m3) (H : Vec F S1x8x512x128 .fp8e4m3) (S : Vec F S1x32x128 .f32) (C' : Vec F S1x512x8x128 .fp8e4m3) (H' : Vec F S1x8x512x128 .fp8e4m3) (S' : Vec F S1x32x128 .f32) (Y : Vec F S512x1024 .f32) (T : Vec F S512x8x128 .f32) (K : PUnit → sProp 𝕄) :
    iprop(owns (c : Thread nD τ) arg2 fullShare X ∗ owns (c : Thread nD τ) arg3 fullShare X' ∗ owns (c : Thread nD τ) arg5 fullShare R ∗ owns (c : Thread nD τ) arg6 fullShare R' ∗ owns (c : Thread nD τ) arg7 fullShare C ∗ owns (c : Thread nD τ) arg8 fullShare H ∗ owns (c : Thread nD τ) arg9 fullShare S ∗ owns (c : Thread nD τ) arg10 fullShare C' ∗ owns (c : Thread nD τ) arg11 fullShare H' ∗ owns (c : Thread nD τ) arg12 fullShare S' ∗ owns (c : Thread nD τ) arg16 fullShare Y ∗ owns (c : Thread nD τ) arg17 fullShare T
        ∗ (iprop(owns (c : Thread nD τ) arg2 fullShare X ∗ owns (c : Thread nD τ) arg3 fullShare X' ∗ owns (c : Thread nD τ) arg5 fullShare R ∗ owns (c : Thread nD τ) arg6 fullShare R' ∗ owns (c : Thread nD τ) arg7 fullShare (if k0_cond1 i = 1#1 then codesBy X R else C) ∗ owns (c : Thread nD τ) arg8 fullShare (if k0_cond1 i = 1#1 then headsBy X R else H) ∗ owns (c : Thread nD τ) arg9 fullShare (if k0_cond1 i = 1#1 then scalesBy X R else S) ∗ owns (c : Thread nD τ) arg10 fullShare (if k0_cond1 i = 1#1 then codesBy X' R' else C') ∗ owns (c : Thread nD τ) arg11 fullShare (if k0_cond1 i = 1#1 then headsBy X' R' else H') ∗ owns (c : Thread nD τ) arg12 fullShare (if k0_cond1 i = 1#1 then scalesBy X' R' else S') ∗ (∃ d, owns (c : Thread nD τ) arg16 fullShare d) ∗ (∃ d, owns (c : Thread nD τ) arg17 fullShare d)) -∗ K ⟨⟩))
      ⊢ wp frame (wpE (defs₀ (F := F)) Variants.none c none) E (if h1 : k0_cond1 i = 1#1 then (do qk arg2 arg5 arg7 harg7 arg8 harg8 arg9 arg16 arg17; qk arg3 arg6 arg10 harg10 arg11 harg11 arg12 arg16 arg17) else pure ⟨⟩ : Prog (TpuEff nD τ sig (Elt F) Λ₀ .tc) PUnit) K := by
  by_cases h1 : k0_cond1 i = 1#1
  · simp only [dif_pos h1, if_pos h1]
    iintro ⟨H2, H3, H5, H6, H7, H8, H9, H10, H11, H12, H16, H17, Hk⟩
    rw [wp_bind]; iapply (qk_spec c E arg2 arg5 arg7 harg7 arg8 harg8 arg9 arg16 arg17 _ _ X R C H S Y T _)
    isplitl [H2]; · iexact H2
    isplitl [H5]; · iexact H5
    isplitl [H7]; · iexact H7
    isplitl [H8]; · iexact H8
    isplitl [H9]; · iexact H9
    isplitl [H16]; · iexact H16
    isplitl [H17]; · iexact H17
    iintro ⟨H2, H5, H7, H8, H9, H16, H17⟩
    iapply (qk_spec c E arg3 arg6 arg10 harg10 arg11 harg11 arg12 arg16 arg17 _ _ X' R' C' H' S' _ _ _)
    isplitl [H3]; · iexact H3
    isplitl [H6]; · iexact H6
    isplitl [H10]; · iexact H10
    isplitl [H11]; · iexact H11
    isplitl [H12]; · iexact H12
    isplitl [H16]; · iexact H16
    isplitl [H17]; · iexact H17
    iintro ⟨H3, H6, H10, H11, H12, H16, H17⟩
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H16]; · iexists _; iexact H16
    iexists _; iexact H17
  · simp only [dif_neg h1, if_neg h1]
    iintro ⟨H2, H3, H5, H6, H7, H8, H9, H10, H11, H12, H16, H17, Hk⟩
    iapply (le_wp_ret frame (wpE (defs₀ (F := F)) Variants.none c none) E _ K)
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H16]; · iexists _; iexact H16
    iexists _; iexact H17

theorem stage2 (arg13 : Memref sig .tc .vmem S1x512x8x128 .fp8e4m3) (harg13 : arg13.IsWhole) (arg14 : Memref sig .tc .vmem S1x8x128x512 .fp8e4m3) (harg14 : arg14.IsWhole) (arg17 : Memref sig .tc .vmem S512x8x128 .f32) (arg18 : Memref sig .tc .vmem S16x512x1024 .bf16) (harg18 : arg18.IsWhole) (arg20 : Memref sig .tc .vmem S1x1024 .f32) (Cv : Vec F S1x512x8x128 .fp8e4m3) (D : Vec F S1x8x128x512 .fp8e4m3) (T : Vec F S512x8x128 .f32) (st : Vec F S16x512x1024 .bf16) (I : Vec F S1x1024 .f32) (K : PUnit → sProp 𝕄) :
    iprop(owns (c : Thread nD τ) arg13 fullShare Cv ∗ owns (c : Thread nD τ) arg14 fullShare D ∗ owns (c : Thread nD τ) arg17 fullShare T ∗ owns (c : Thread nD τ) arg18 fullShare st ∗ owns (c : Thread nD τ) arg20 fullShare I
        ∗ (iprop(owns (c : Thread nD τ) arg13 fullShare (if k0_cond2 i = 1#1 then vcodesBy (stashBlk st (i 1)) I else Cv) ∗ owns (c : Thread nD τ) arg14 fullShare (if k0_cond2 i = 1#1 then vtOf (stashBlk st (i 1)) I else D) ∗ (∃ d, owns (c : Thread nD τ) arg17 fullShare d) ∗ owns (c : Thread nD τ) arg18 fullShare st ∗ owns (c : Thread nD τ) arg20 fullShare I) -∗ K ⟨⟩))
      ⊢ wp frame (wpE (defs₀ (F := F)) Variants.none c none) E (if h2 : k0_cond2 i = 1#1 then vout arg13 harg13 arg14 harg14 arg17 arg18 arg20 i h2 else pure ⟨⟩ : Prog (TpuEff nD τ sig (Elt F) Λ₀ .tc) PUnit) K := by
  by_cases h2 : k0_cond2 i = 1#1
  · simp only [dif_pos h2, if_pos h2]
    iintro ⟨H13, H14, H17, H18, H20, Hk⟩
    iapply (vout_spec c E arg13 harg13 arg14 harg14 arg17 arg18 arg20 st I i h2 Cv T D _)
    isplitl [H13]; · iexact H13
    isplitl [H14]; · iexact H14
    isplitl [H18]; · iexact H18
    isplitl [H20]; · iexact H20
    isplitl [H17]; · iexact H17
    iintro ⟨H13, H14, H18, H20, H17⟩
    iapply Hk
    isplitl [H13]; · iexact H13
    isplitl [H14]; · iexact H14
    isplitl [H17]; · iexists _; iexact H17
    isplitl [H18]; · iexact H18
    iexact H20
  · simp only [dif_neg h2, if_neg h2]
    iintro ⟨H13, H14, H17, H18, H20, Hk⟩
    iapply (le_wp_ret frame (wpE (defs₀ (F := F)) Variants.none c none) E _ K)
    iapply Hk
    isplitl [H13]; · iexact H13
    isplitl [H14]; · iexact H14
    isplitl [H17]; · iexists _; iexact H17
    isplitl [H18]; · iexact H18
    iexact H20

theorem stage3 (arg4 : Memref sig .tc .vmem S1x512x1024 .bf16) (arg15 : Memref sig .tc .vmem S1x8x128 .f32) (arg18 : Memref sig .tc .vmem S16x512x1024 .bf16) (harg18 : arg18.IsWhole) (arg19 : Memref sig .tc .vmem S8x1024 .f32) (arg20 : Memref sig .tc .vmem S1x1024 .f32) (A : Vec F S1x512x1024 .bf16) (W : Vec F S1x8x128 .f32) (st : Vec F S16x512x1024 .bf16) (M : Vec F S8x1024 .f32) (I : Vec F S1x1024 .f32) (K : PUnit → sProp 𝕄) :
    iprop(owns (c : Thread nD τ) arg4 fullShare A ∗ owns (c : Thread nD τ) arg15 fullShare W ∗ owns (c : Thread nD τ) arg18 fullShare st ∗ owns (c : Thread nD τ) arg19 fullShare M ∗ owns (c : Thread nD τ) arg20 fullShare I
        ∗ (iprop(owns (c : Thread nD τ) arg4 fullShare A ∗ owns (c : Thread nD τ) arg15 fullShare (if k0_cond3 i = 1#1 then (if k0_cond4 i = 1#1 then vscalesBy (k0_pay11 i A M) else W) else W) ∗ owns (c : Thread nD τ) arg18 fullShare (if k0_cond3 i = 1#1 then stashed st (i 1) A else st) ∗ owns (c : Thread nD τ) arg19 fullShare (if k0_cond3 i = 1#1 then k0_pay11 i A M else M) ∗ owns (c : Thread nD τ) arg20 fullShare (if k0_cond3 i = 1#1 then (if k0_cond4 i = 1#1 then vinvOf (k0_pay11 i A M) else I) else I)) -∗ K ⟨⟩))
      ⊢ wp frame (wpE (defs₀ (F := F)) Variants.none c none) E (if h3 : k0_cond3 i = 1#1 then (do vin arg4 arg18 harg18 arg19 i h3; if h4 : k0_cond4 i = 1#1 then vlast arg15 arg19 arg20 else pure ⟨⟩) else pure ⟨⟩ : Prog (TpuEff nD τ sig (Elt F) Λ₀ .tc) PUnit) K := by
  by_cases h3 : k0_cond3 i = 1#1
  · simp only [dif_pos h3, if_pos h3]
    iintro ⟨H4, H15, H18, H19, H20, Hk⟩
    rw [wp_bind]; iapply (vin_spec c E arg4 arg18 harg18 arg19 st M i h3 _ A _)
    isplitl [H4]; · iexact H4
    isplitl [H18]; · iexact H18
    isplitl [H19]; · iexact H19
    iintro ⟨H4, H18, H19⟩
    by_cases h4 : k0_cond4 i = 1#1
    · simp only [dif_pos h4, if_pos h4]
      iapply (vlast_spec c E arg15 arg19 arg20 _ I W _)
      isplitl [H15]; · iexact H15
      isplitl [H19]; · iexact H19
      isplitl [H20]; · iexact H20
      iintro ⟨H15, H19, H20⟩
      iapply Hk
      isplitl [H4]; · iexact H4
      isplitl [H15]; · iexact H15
      isplitl [H18]; · iexact H18
      isplitl [H19]; · iexact H19
      iexact H20
    · simp only [dif_neg h4, if_neg h4]
      iapply (le_wp_ret frame (wpE (defs₀ (F := F)) Variants.none c none) E _ K)
      iapply Hk
      isplitl [H4]; · iexact H4
      isplitl [H15]; · iexact H15
      isplitl [H18]; · iexact H18
      isplitl [H19]; · iexact H19
      iexact H20
  · simp only [dif_neg h3, if_neg h3]
    iintro ⟨H4, H15, H18, H19, H20, Hk⟩
    iapply (le_wp_ret frame (wpE (defs₀ (F := F)) Variants.none c none) E _ K)
    iapply Hk
    isplitl [H4]; · iexact H4
    isplitl [H15]; · iexact H15
    isplitl [H18]; · iexact H18
    isplitl [H19]; · iexact H19
    iexact H20

theorem body_seq (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (harg9 : arg9.IsWhole) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (harg12 : arg12.IsWhole) (arg13 : Memref sig .tc .vmem S1x512x8x128 .fp8e4m3) (harg13 : arg13.IsWhole) (arg14 : Memref sig .tc .vmem S1x8x128x512 .fp8e4m3) (harg14 : arg14.IsWhole) (arg15 : Memref sig .tc .vmem S1x8x128 .f32) (harg15 : arg15.IsWhole) (arg16 : Memref sig .tc .vmem S512x1024 .f32) (harg16 : arg16.IsWhole) (arg17 : Memref sig .tc .vmem S512x8x128 .f32) (harg17 : arg17.IsWhole) (arg18 : Memref sig .tc .vmem S16x512x1024 .bf16) (harg18 : arg18.IsWhole) (arg19 : Memref sig .tc .vmem S8x1024 .f32) (harg19 : arg19.IsWhole) (arg20 : Memref sig .tc .vmem S1x1024 .f32) (harg20 : arg20.IsWhole) :
    body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = ((if h1 : k0_cond1 i = 1#1 then (do qk arg2 arg5 arg7 harg7 arg8 harg8 arg9 arg16 arg17; qk arg3 arg6 arg10 harg10 arg11 harg11 arg12 arg16 arg17) else pure ⟨⟩ : Prog (TpuEff nD τ sig (Elt F) Λ₀ .tc) PUnit) >>= fun _ => (if h2 : k0_cond2 i = 1#1 then vout arg13 harg13 arg14 harg14 arg17 arg18 arg20 i h2 else pure ⟨⟩ : Prog (TpuEff nD τ sig (Elt F) Λ₀ .tc) PUnit) >>= fun _ => (if h3 : k0_cond3 i = 1#1 then (do vin arg4 arg18 harg18 arg19 i h3; if h4 : k0_cond4 i = 1#1 then vlast arg15 arg19 arg20 else pure ⟨⟩) else pure ⟨⟩ : Prog (TpuEff nD τ sig (Elt F) Λ₀ .tc) PUnit) >>= fun _ => pure ⟨⟩) := by
  unfold body
  by_cases h1 : k0_cond1 i = 1#1 <;> by_cases h2 : k0_cond2 i = 1#1 <;> by_cases h3 : k0_cond3 i = 1#1 <;> by_cases h4 : k0_cond4 i = 1#1 <;>
    simp only [h1, h2, h3, h4, dif_pos, dif_neg, dite_true, dite_false, not_false_eq_true, bind_assoc, pure_bind] <;> rfl

theorem body_spec (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (harg9 : arg9.IsWhole) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (harg12 : arg12.IsWhole) (arg13 : Memref sig .tc .vmem S1x512x8x128 .fp8e4m3) (harg13 : arg13.IsWhole) (arg14 : Memref sig .tc .vmem S1x8x128x512 .fp8e4m3) (harg14 : arg14.IsWhole) (arg15 : Memref sig .tc .vmem S1x8x128 .f32) (harg15 : arg15.IsWhole) (arg16 : Memref sig .tc .vmem S512x1024 .f32) (harg16 : arg16.IsWhole) (arg17 : Memref sig .tc .vmem S512x8x128 .f32) (harg17 : arg17.IsWhole) (arg18 : Memref sig .tc .vmem S16x512x1024 .bf16) (harg18 : arg18.IsWhole) (arg19 : Memref sig .tc .vmem S8x1024 .f32) (harg19 : arg19.IsWhole) (arg20 : Memref sig .tc .vmem S1x1024 .f32) (harg20 : arg20.IsWhole) (X : Vec F S1x512x1024 .bf16) (X' : Vec F S1x512x1024 .bf16) (A : Vec F S1x512x1024 .bf16) (R : Vec F S4x256x256 .bf16) (R' : Vec F S4x256x256 .bf16) (C : Vec F S1x512x8x128 .fp8e4m3) (H : Vec F S1x8x512x128 .fp8e4m3) (S : Vec F S1x32x128 .f32) (C' : Vec F S1x512x8x128 .fp8e4m3) (H' : Vec F S1x8x512x128 .fp8e4m3) (S' : Vec F S1x32x128 .f32) (Cv : Vec F S1x512x8x128 .fp8e4m3) (D : Vec F S1x8x128x512 .fp8e4m3) (W : Vec F S1x8x128 .f32) (Y : Vec F S512x1024 .f32) (T : Vec F S512x8x128 .f32) (st : Vec F S16x512x1024 .bf16) (M : Vec F S8x1024 .f32) (I : Vec F S1x1024 .f32) (K : PUnit → sProp 𝕄) :
    iprop(owns (c : Thread nD τ) arg2 fullShare X ∗ owns (c : Thread nD τ) arg3 fullShare X' ∗ owns (c : Thread nD τ) arg4 fullShare A ∗ owns (c : Thread nD τ) arg5 fullShare R ∗ owns (c : Thread nD τ) arg6 fullShare R' ∗ owns (c : Thread nD τ) arg7 fullShare C ∗ owns (c : Thread nD τ) arg8 fullShare H ∗ owns (c : Thread nD τ) arg9 fullShare S ∗ owns (c : Thread nD τ) arg10 fullShare C' ∗ owns (c : Thread nD τ) arg11 fullShare H' ∗ owns (c : Thread nD τ) arg12 fullShare S' ∗ owns (c : Thread nD τ) arg13 fullShare Cv ∗ owns (c : Thread nD τ) arg14 fullShare D ∗ owns (c : Thread nD τ) arg15 fullShare W ∗ owns (c : Thread nD τ) arg16 fullShare Y ∗ owns (c : Thread nD τ) arg17 fullShare T ∗ owns (c : Thread nD τ) arg18 fullShare st ∗ owns (c : Thread nD τ) arg19 fullShare M ∗ owns (c : Thread nD τ) arg20 fullShare I
        ∗ (iprop(owns (c : Thread nD τ) arg2 fullShare X ∗ owns (c : Thread nD τ) arg3 fullShare X' ∗ owns (c : Thread nD τ) arg4 fullShare A ∗ owns (c : Thread nD τ) arg5 fullShare R ∗ owns (c : Thread nD τ) arg6 fullShare R' ∗ owns (c : Thread nD τ) arg7 fullShare (if k0_cond1 i = 1#1 then codesBy X R else C) ∗ owns (c : Thread nD τ) arg8 fullShare (if k0_cond1 i = 1#1 then headsBy X R else H) ∗ owns (c : Thread nD τ) arg9 fullShare (if k0_cond1 i = 1#1 then scalesBy X R else S) ∗ owns (c : Thread nD τ) arg10 fullShare (if k0_cond1 i = 1#1 then codesBy X' R' else C') ∗ owns (c : Thread nD τ) arg11 fullShare (if k0_cond1 i = 1#1 then headsBy X' R' else H') ∗ owns (c : Thread nD τ) arg12 fullShare (if k0_cond1 i = 1#1 then scalesBy X' R' else S') ∗ owns (c : Thread nD τ) arg13 fullShare (if k0_cond2 i = 1#1 then vcodesBy (stashBlk st (i 1)) I else Cv) ∗ owns (c : Thread nD τ) arg14 fullShare (if k0_cond2 i = 1#1 then vtOf (stashBlk st (i 1)) I else D) ∗ owns (c : Thread nD τ) arg15 fullShare (if k0_cond3 i = 1#1 then (if k0_cond4 i = 1#1 then vscalesBy (k0_pay11 i A M) else W) else W) ∗ (∃ d, owns (c : Thread nD τ) arg16 fullShare d) ∗ (∃ d, owns (c : Thread nD τ) arg17 fullShare d) ∗ owns (c : Thread nD τ) arg18 fullShare (if k0_cond3 i = 1#1 then stashed st (i 1) A else st) ∗ owns (c : Thread nD τ) arg19 fullShare (if k0_cond3 i = 1#1 then k0_pay11 i A M else M) ∗ owns (c : Thread nD τ) arg20 fullShare (if k0_cond3 i = 1#1 then (if k0_cond4 i = 1#1 then vinvOf (k0_pay11 i A M) else I) else I)) -∗ K ⟨⟩))
      ⊢ wp frame (wpE (defs₀ (F := F)) Variants.none c none) E (cc0_quantise i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_eq]
  rw [body_seq]
  iintro ⟨H2, H3, H4, H5, H6, H7, H8, H9, H10, H11, H12, H13, H14, H15, H16, H17, H18, H19, H20, Hk⟩
  rw [wp_bind]; iapply (stage1 c E i arg2 arg3 arg5 arg6 arg7 harg7 arg8 harg8 arg9 arg10 harg10 arg11 harg11 arg12 arg16 arg17 X X' R R' C H S C' H' S' Y T _)
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H16]; · iexact H16
  isplitl [H17]; · iexact H17
  iintro ⟨H2, H3, H5, H6, H7, H8, H9, H10, H11, H12, ⟨%Y₁, H16⟩, ⟨%T₁, H17⟩⟩
  rw [wp_bind]; iapply (stage2 c E i arg13 harg13 arg14 harg14 arg17 arg18 harg18 arg20 Cv D T₁ st I _)
  isplitl [H13]; · iexact H13
  isplitl [H14]; · iexact H14
  isplitl [H17]; · iexact H17
  isplitl [H18]; · iexact H18
  isplitl [H20]; · iexact H20
  iintro ⟨H13, H14, ⟨%T₂, H17⟩, H18, H20⟩
  rw [wp_bind]; iapply (stage3 c E i arg4 arg15 arg18 harg18 arg19 arg20 A W st M I _)
  isplitl [H4]; · iexact H4
  isplitl [H15]; · iexact H15
  isplitl [H18]; · iexact H18
  isplitl [H19]; · iexact H19
  isplitl [H20]; · iexact H20
  iintro ⟨H4, H15, H18, H19, H20⟩
  iapply (le_wp_ret frame (wpE (defs₀ (F := F)) Variants.none c none) E _ K)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [H19]; · iexact H19
  iexact H20

end

end Cert.QuantiseIdeal.Quant

end
-- ==== Proof.Quant.Ladder.lean ====
/- The scale and its inverse over the extended reals. The kernel climbs a ladder of eight rungs, each multiplying the scale by a
   power of two when the ratio is large enough; the reference takes the least of the powers of two above the ratio. Both are
   `2 ^ (N - 126)`, `N` the number of powers of two from `2 ^ -126` to `2 ^ 126` that are at most the ratio. -/
module

public import proofs.«01_k».proof.Proof.Consts
public import Idealize.ShloMosaic.Lib.Pointwise

@[expose] public section

set_option maxRecDepth 65536

noncomputable section

namespace Cert.Quant

open Idealize.ShloMosaic

/-- `2 ^ (n - 126)`. -/
def p2 (n : ℕ) : EReal := (((2 : ℝ) ^ ((n : ℤ) - 126) : ℝ) : EReal)
/-- Its inverse. -/
def q2 (n : ℕ) : EReal := (((2 : ℝ) ^ (126 - (n : ℤ)) : ℝ) : EReal)

theorem p2_mono {a b : ℕ} (h : a ≤ b) : p2 a ≤ p2 b :=
  EReal.coe_le_coe_iff.2 (zpow_le_zpow_right₀ (by norm_num) (by omega))

theorem exists_count (r : EReal) : ∃ N ≤ 253, ∀ n < 253, (p2 n ≤ r ↔ n < N) := by
  classical
  have hex : ∃ n, n = 253 ∨ ¬ p2 n ≤ r := ⟨253, .inl rfl⟩
  refine ⟨Nat.find hex, Nat.find_le (.inl rfl), fun n hn => ⟨fun h => ?_, fun h => ?_⟩⟩
  · by_contra hle
    have hle : Nat.find hex ≤ n := not_lt.1 hle
    rcases Nat.find_spec hex with h' | h'
    · omega
    · exact h' ((p2_mono hle).trans h)
  · by_contra h'
    exact Nat.find_min hex h (.inr h')

theorem p2_mul (n w : ℕ) : p2 n * (((2 : ℝ) ^ w : ℝ) : EReal) = p2 (n + w) := by
  unfold p2
  rw [← EReal.coe_mul, ← zpow_natCast, ← zpow_add₀ (by norm_num)]
  congr 2; push_cast; ring
theorem q2_mul (n w : ℕ) : q2 n * ((((2 : ℝ) ^ w)⁻¹ : ℝ) : EReal) = q2 (n + w) := by
  unfold q2
  rw [← EReal.coe_mul, ← zpow_natCast, ← zpow_neg, ← zpow_add₀ (by norm_num)]
  congr 2; push_cast; ring

theorem select_oge (x y a b : EReal) : Scalar.select (Ideal.cmp .oge x y) a b = if y ≤ x then a else b := by
  unfold Ideal.cmp
  by_cases h : y ≤ x <;> simp [Scalar.select, h]
theorem select_oeq (x y a b : EReal) : Scalar.select (Ideal.cmp .oeq x y) a b = if x = y then a else b := by
  unfold Ideal.cmp
  by_cases h : x = y <;> simp [Scalar.select, h]
theorem select_ogt (x y a b : EReal) : Scalar.select (Ideal.cmp .ogt x y) a b = if y < x then a else b := by
  unfold Ideal.cmp
  by_cases h : y < x <;> simp [Scalar.select, h]

/-- One rung of width `w`, `T` the widths still to come: the count stays within reach. -/
theorem rung {r : EReal} {N : ℕ} (hN : ∀ n < 253, (p2 n ≤ r ↔ n < N)) {s i lo hi inv : EReal} {n : ℕ} (w T : ℕ)
    (hw : 1 ≤ w) (hT : w ≤ T + 1) (hlo : lo = (((2 : ℝ) ^ (w - 1) : ℝ) : EReal)) (hhi : hi = (((2 : ℝ) ^ w : ℝ) : EReal))
    (hinv : inv = ((((2 : ℝ) ^ w)⁻¹ : ℝ) : EReal)) (h : s = p2 n ∧ i = q2 n ∧ n ≤ N ∧ N ≤ n + (w + T) ∧ n + (w + T) ≤ 253) :
    ∃ n', Scalar.select (Ideal.cmp .oge r (s * lo)) (s * hi) s = p2 n' ∧ Scalar.select (Ideal.cmp .oge r (s * lo)) (i * inv) i = q2 n'
      ∧ n' ≤ N ∧ N ≤ n' + T ∧ n' + T ≤ 253 := by
  obtain ⟨hs, hi', h1, h2, h3⟩ := h
  rw [select_oge, select_oge, hs, hi', hlo, hhi, hinv, p2_mul, p2_mul, q2_mul]
  have hc := hN (n + (w - 1)) (by omega)
  by_cases hle : p2 (n + (w - 1)) ≤ r
  · rw [if_pos hle, if_pos hle]
    have := hc.1 hle
    exact ⟨n + w, rfl, rfl, by omega, by omega, by omega⟩
  · rw [if_neg hle, if_neg hle]
    have : ¬ n + (w - 1) < N := fun h => hle (hc.2 h)
    exact ⟨n, rfl, rfl, by omega, by omega, by omega⟩

/-! ## The kernel's ladder -/

abbrev w (b : BitVec 32) : EReal := Ideal.ofBits .f32 b
abbrev up (r s : EReal) (lo hi : BitVec 32) : EReal := Scalar.select (Ideal.cmp .oge r (s * w lo)) (s * w hi) s
abbrev down (r s i : EReal) (lo hi : BitVec 32) : EReal := Scalar.select (Ideal.cmp .oge r (s * w lo)) (i * w hi) i
def k1 (r : EReal) : EReal := up r (w 0x00800000#32) 0x7E000000#32 0x7E800000#32
def k2 (r : EReal) : EReal := up r (k1 r) 0x5F000000#32 0x5F800000#32
def k3 (r : EReal) : EReal := up r (k2 r) 0x4F000000#32 0x4F800000#32
def k4 (r : EReal) : EReal := up r (k3 r) 0x47000000#32 0x47800000#32
def k5 (r : EReal) : EReal := up r (k4 r) 0x43000000#32 0x43800000#32
def k6 (r : EReal) : EReal := up r (k5 r) 0x41000000#32 0x41800000#32
def k7 (r : EReal) : EReal := up r (k6 r) 0x40000000#32 0x40800000#32
def k8 (r : EReal) : EReal := up r (k7 r) 0x3F800000#32 0x40000000#32
def j1 (r : EReal) : EReal := down r (w 0x00800000#32) (w 0x7E800000#32) 0x7E000000#32 0x00800000#32
def j2 (r : EReal) : EReal := down r (k1 r) (j1 r) 0x5F000000#32 0x1F800000#32
def j3 (r : EReal) : EReal := down r (k2 r) (j2 r) 0x4F000000#32 0x2F800000#32
def j4 (r : EReal) : EReal := down r (k3 r) (j3 r) 0x47000000#32 0x37800000#32
def j5 (r : EReal) : EReal := down r (k4 r) (j4 r) 0x43000000#32 0x3B800000#32
def j6 (r : EReal) : EReal := down r (k5 r) (j5 r) 0x41000000#32 0x3D800000#32
def j7 (r : EReal) : EReal := down r (k6 r) (j6 r) 0x40000000#32 0x3E800000#32
def j8 (r : EReal) : EReal := down r (k7 r) (j7 r) 0x3F800000#32 0x3F000000#32
/-- The kernel's scale of a ratio, -/
def kScale (r : EReal) : EReal := Scalar.select (Ideal.cmp .oeq r (w 0x00000000#32)) (w 0x3F800000#32) (k8 r)
/-- and its inverse. -/
def kInv (r : EReal) : EReal := Scalar.select (Ideal.cmp .oeq r (w 0x00000000#32)) (w 0x3F800000#32) (j8 r)

theorem w_7E000000 : w 0x7E000000#32 = (((2 : ℝ) ^ 125 : ℝ) : EReal) := by
  simp [Ideal.ofBits, Ideal.ieee, -EReal.coe_mul, -EReal.coe_pow, -EReal.coe_neg]; norm_num
theorem w_7E800000 : w 0x7E800000#32 = (((2 : ℝ) ^ 126 : ℝ) : EReal) := by
  simp [Ideal.ofBits, Ideal.ieee, -EReal.coe_mul, -EReal.coe_pow, -EReal.coe_neg]; norm_num
theorem w_5F000000 : w 0x5F000000#32 = (((2 : ℝ) ^ 63 : ℝ) : EReal) := by
  simp [Ideal.ofBits, Ideal.ieee, -EReal.coe_mul, -EReal.coe_pow, -EReal.coe_neg]; norm_num
theorem w_5F800000 : w 0x5F800000#32 = (((2 : ℝ) ^ 64 : ℝ) : EReal) := by
  simp [Ideal.ofBits, Ideal.ieee, -EReal.coe_mul, -EReal.coe_pow, -EReal.coe_neg]; norm_num
theorem w_4F000000 : w 0x4F000000#32 = (((2 : ℝ) ^ 31 : ℝ) : EReal) := by
  simp [Ideal.ofBits, Ideal.ieee, -EReal.coe_mul, -EReal.coe_pow, -EReal.coe_neg]; norm_num
theorem w_4F800000 : w 0x4F800000#32 = (((2 : ℝ) ^ 32 : ℝ) : EReal) := by
  simp [Ideal.ofBits, Ideal.ieee, -EReal.coe_mul, -EReal.coe_pow, -EReal.coe_neg]; norm_num
theorem w_47000000 : w 0x47000000#32 = (((2 : ℝ) ^ 15 : ℝ) : EReal) := by
  simp [Ideal.ofBits, Ideal.ieee, -EReal.coe_mul, -EReal.coe_pow, -EReal.coe_neg]; norm_num
theorem w_47800000 : w 0x47800000#32 = (((2 : ℝ) ^ 16 : ℝ) : EReal) := by
  simp [Ideal.ofBits, Ideal.ieee, -EReal.coe_mul, -EReal.coe_pow, -EReal.coe_neg]; norm_num
theorem w_43000000 : w 0x43000000#32 = (((2 : ℝ) ^ 7 : ℝ) : EReal) := by
  simp [Ideal.ofBits, Ideal.ieee, -EReal.coe_mul, -EReal.coe_pow, -EReal.coe_neg]; norm_num
theorem w_43800000 : w 0x43800000#32 = (((2 : ℝ) ^ 8 : ℝ) : EReal) := by
  simp [Ideal.ofBits, Ideal.ieee, -EReal.coe_mul, -EReal.coe_pow, -EReal.coe_neg]; norm_num
theorem w_41000000 : w 0x41000000#32 = (((2 : ℝ) ^ 3 : ℝ) : EReal) := by
  simp [Ideal.ofBits, Ideal.ieee, -EReal.coe_mul, -EReal.coe_pow, -EReal.coe_neg]; norm_num
theorem w_41800000 : w 0x41800000#32 = (((2 : ℝ) ^ 4 : ℝ) : EReal) := by
  simp [Ideal.ofBits, Ideal.ieee, -EReal.coe_mul, -EReal.coe_pow, -EReal.coe_neg]; norm_num
theorem w_40000000 : w 0x40000000#32 = (((2 : ℝ) ^ 1 : ℝ) : EReal) := by
  simp [Ideal.ofBits, Ideal.ieee, -EReal.coe_mul, -EReal.coe_pow, -EReal.coe_neg]; norm_num
theorem w_40800000 : w 0x40800000#32 = (((2 : ℝ) ^ 2 : ℝ) : EReal) := by
  simp [Ideal.ofBits, Ideal.ieee, -EReal.coe_mul, -EReal.coe_pow, -EReal.coe_neg]; norm_num
theorem w_3F800000 : w 0x3F800000#32 = (((2 : ℝ) ^ 0 : ℝ) : EReal) := by
  simp [Ideal.ofBits, Ideal.ieee, -EReal.coe_mul, -EReal.coe_pow, -EReal.coe_neg]
theorem w_00800000 : w 0x00800000#32 = ((((2 : ℝ) ^ 126)⁻¹ : ℝ) : EReal) := by
  simp [Ideal.ofBits, Ideal.ieee, -EReal.coe_mul, -EReal.coe_pow, -EReal.coe_neg]; norm_num
theorem w_1F800000 : w 0x1F800000#32 = ((((2 : ℝ) ^ 64)⁻¹ : ℝ) : EReal) := by
  simp [Ideal.ofBits, Ideal.ieee, -EReal.coe_mul, -EReal.coe_pow, -EReal.coe_neg]; norm_num
theorem w_2F800000 : w 0x2F800000#32 = ((((2 : ℝ) ^ 32)⁻¹ : ℝ) : EReal) := by
  simp [Ideal.ofBits, Ideal.ieee, -EReal.coe_mul, -EReal.coe_pow, -EReal.coe_neg]; norm_num
theorem w_37800000 : w 0x37800000#32 = ((((2 : ℝ) ^ 16)⁻¹ : ℝ) : EReal) := by
  simp [Ideal.ofBits, Ideal.ieee, -EReal.coe_mul, -EReal.coe_pow, -EReal.coe_neg]; norm_num
theorem w_3B800000 : w 0x3B800000#32 = ((((2 : ℝ) ^ 8)⁻¹ : ℝ) : EReal) := by
  simp [Ideal.ofBits, Ideal.ieee, -EReal.coe_mul, -EReal.coe_pow, -EReal.coe_neg]; norm_num
theorem w_3D800000 : w 0x3D800000#32 = ((((2 : ℝ) ^ 4)⁻¹ : ℝ) : EReal) := by
  simp [Ideal.ofBits, Ideal.ieee, -EReal.coe_mul, -EReal.coe_pow, -EReal.coe_neg]; norm_num
theorem w_3E800000 : w 0x3E800000#32 = ((((2 : ℝ) ^ 2)⁻¹ : ℝ) : EReal) := by
  simp [Ideal.ofBits, Ideal.ieee, -EReal.coe_mul, -EReal.coe_pow, -EReal.coe_neg]; norm_num
theorem w_3F000000 : w 0x3F000000#32 = ((((2 : ℝ) ^ 1)⁻¹ : ℝ) : EReal) := by
  simp [Ideal.ofBits, Ideal.ieee, -EReal.coe_mul, -EReal.coe_pow, -EReal.coe_neg]; norm_num

theorem w_0 : w 0x00000000#32 = 0 := Ideal.ofBits_zero_f32
theorem w_1 : w 0x3F800000#32 = 1 := by rw [w_3F800000]; norm_num
/-- Where the ladder ends. -/
theorem ladder (r : EReal) {N : ℕ} (hN : N ≤ 253) (hr : ∀ n < 253, (p2 n ≤ r ↔ n < N)) : k8 r = p2 N ∧ j8 r = q2 N := by
  have h0 : w 0x00800000#32 = p2 0 ∧ w 0x7E800000#32 = q2 0 ∧ 0 ≤ N ∧ N ≤ 0 + (126 + 127) ∧ 0 + (126 + 127) ≤ 253 := by
    refine ⟨w_00800000.trans ?_, w_7E800000.trans ?_, by omega, by omega, by omega⟩
    · unfold p2; norm_num
    · unfold q2; norm_num
  obtain ⟨n1, h1⟩ := rung hr 126 127 (by omega) (by omega) w_7E000000 w_7E800000 w_00800000 h0
  obtain ⟨n2, h2⟩ := rung hr 64 63 (by omega) (by omega) w_5F000000 w_5F800000 w_1F800000 h1
  obtain ⟨n3, h3⟩ := rung hr 32 31 (by omega) (by omega) w_4F000000 w_4F800000 w_2F800000 h2
  obtain ⟨n4, h4⟩ := rung hr 16 15 (by omega) (by omega) w_47000000 w_47800000 w_37800000 h3
  obtain ⟨n5, h5⟩ := rung hr 8 7 (by omega) (by omega) w_43000000 w_43800000 w_3B800000 h4
  obtain ⟨n6, h6⟩ := rung hr 4 3 (by omega) (by omega) w_41000000 w_41800000 w_3D800000 h5
  obtain ⟨n7, h7⟩ := rung hr 2 1 (by omega) (by omega) w_40000000 w_40800000 w_3E800000 h6
  obtain ⟨n8, h8⟩ := rung hr 1 0 (by omega) (by omega) w_3F800000 w_40000000 w_3F000000 h7
  obtain ⟨e, e', ha, hb, -⟩ := h8
  have : n8 = N := by omega
  subst this
  exact ⟨e, e'⟩

theorem q2_eq (n : ℕ) : q2 n = Ideal.div 1 (p2 n) := by
  have h : (2 : ℝ) ^ ((n : ℤ) - 126) ≠ 0 := zpow_ne_zero _ (by norm_num)
  unfold Ideal.div
  rw [if_neg (by unfold p2; exact_mod_cast h), one_mul]
  unfold p2 q2
  rw [← EReal.coe_inv, ← zpow_neg]
  congr 2; ring

/-! ## The reference's -/

/-- The `k`-th power of two the reference compares with, -/
def pow (k : Fin 254) : EReal := Ideal.exp2 (((BitVec.ofNat 32 k.val - 126#32).toInt : ℝ) : EReal)
/-- its scale of a ratio. -/
def rScale (r : EReal) : EReal := Scalar.select (Ideal.cmp .oeq r (w 0x00000000#32)) (w 0x3F800000#32)
  (Finset.fold min (w 0x7F800000#32) (fun k : Fin 254 => Scalar.select (Ideal.cmp .ogt (pow k) r) (pow k) (w 0x7F000000#32)) Finset.univ)

theorem pow_eq (k : Fin 254) : pow k = p2 k.val := by
  have e : (BitVec.ofNat 32 k.val - 126#32).toInt = (k.val : ℤ) - 126 := by revert k; decide +kernel
  unfold pow p2
  rw [e, Ideal.exp2_coe]
  congr 1
  exact (Real.rpow_intCast 2 ((k.val : ℤ) - 126))
theorem w_7F000000 : w 0x7F000000#32 = p2 253 := by
  unfold p2
  simp [Ideal.ofBits, Ideal.ieee, -EReal.coe_mul, -EReal.coe_pow, -EReal.coe_neg]; norm_num
theorem w_7F800000 : w 0x7F800000#32 = ⊤ := by
  simp [Ideal.ofBits, Ideal.ieee]

theorem least (r : EReal) {N : ℕ} (hN : N ≤ 253) (hr : ∀ n < 253, (p2 n ≤ r ↔ n < N)) :
    Finset.fold min (w 0x7F800000#32) (fun k : Fin 254 => Scalar.select (Ideal.cmp .ogt (pow k) r) (pow k) (w 0x7F000000#32)) Finset.univ = p2 N := by
  rw [w_7F800000]
  have e : Finset.fold min ⊤ (fun k : Fin 254 => Scalar.select (Ideal.cmp .ogt (pow k) r) (pow k) (w 0x7F000000#32)) Finset.univ
      = Finset.univ.inf fun k : Fin 254 => Scalar.select (Ideal.cmp .ogt (pow k) r) (pow k) (w 0x7F000000#32) := rfl
  rw [e]
  have hf (k : Fin 254) : Scalar.select (Ideal.cmp .ogt (pow k) r) (pow k) (w 0x7F000000#32) = if N ≤ k.val then p2 k.val else p2 253 := by
    rw [select_ogt, pow_eq, w_7F000000]
    by_cases hk : k.val < 253
    · have := hr k.val hk
      by_cases hle : p2 k.val ≤ r
      · rw [if_neg (not_lt.2 hle), if_neg (not_le.2 (this.1 hle))]
      · rw [if_pos (not_le.1 hle), if_pos (not_lt.1 fun h => hle (this.2 h))]
    · have : k.val = 253 := by have := k.isLt; omega
      rw [this]; simp
  simp only [hf]
  refine eq_of_forall_le_iff fun z => ?_
  rw [Finset.le_inf_iff]
  constructor
  · intro h
    have := h (⟨N, by omega⟩ : Fin 254) (Finset.mem_univ _)
    rwa [if_pos (le_refl N)] at this
  · intro h k _
    split
    · next hk => exact h.trans (p2_mono hk)
    · exact h.trans (p2_mono hN)

/-- The two scales agree, -/
theorem kScale_eq (r : EReal) : kScale r = rScale r := by
  obtain ⟨N, hN, hr⟩ := exists_count r
  unfold kScale rScale
  rw [(ladder r hN hr).1, least r hN hr]
/-- and the kernel's inverse scale is one over the scale. -/
theorem kInv_eq (r : EReal) : kInv r = Ideal.div 1 (rScale r) := by
  obtain ⟨N, hN, hr⟩ := exists_count r
  unfold kInv rScale
  rw [(ladder r hN hr).2, least r hN hr, select_oeq, select_oeq, w_1]
  by_cases h : r = w 0x00000000#32
  · rw [if_pos h, if_pos h]
    simp [Ideal.div]
  · rw [if_neg h, if_neg h, q2_eq]

end Cert.Quant

end
-- ==== Proof.Quant.KerValue.lean ====
/- The quantise kernel's blocks read at an index over the extended reals. -/
module

public import proofs.«01_k».proof.Proof.Quant.BodySpec
public import proofs.«01_k».proof.Proof.Quant.Ladder

@[expose] public section

set_option maxRecDepth 65536

noncomputable section

namespace Cert.QuantiseIdeal.Quant

open Idealize.ShloMosaic Idealize.ShloMosaic.TcCoe Idealize.ShloMosaic.VecWindow
open Cert.QuantiseIdeal Cert.QuantiseIdeal.Gen Cert.Quant

section
variable (X : Vec Ideal S1x512x1024 .bf16) (R : Vec Ideal S4x256x256 .bf16)

theorem rotated_apply (x : Vec Ideal S1x512x256 .bf16) (m : Vec Ideal S1x256x256 .bf16) (t : Fin 512) (d : Fin 256) :
    rotated (F := Ideal) x m (ix2 t d) = (∑ k : Fin 256, (x (ix3 0 t k) : EReal) * m (ix3 0 k d)) * w 0x3DB504F3#32 := by
  pointwise [rotated]

theorem colMax_apply (y : Vec Ideal S128x128 .f32) (d : Fin 128) :
    colMax (F := Ideal) y (ix2 0 d) = Finset.fold max (w 0xFF800000#32) (fun i : Fin 128 => FloatOps.absf (F := Ideal) (φ := .f32) (y (ix2 i d))) Finset.univ := by
  pointwise [colMax]

theorem vratio_apply (M : Vec Ideal S8x1024 .f32) (d : Fin 1024) :
    vratio (F := Ideal) M (ix2 0 d) = Finset.fold max (w 0xFF800000#32) (fun i : Fin 8 => (M (ix2 i d) : EReal)) Finset.univ * w 0x3B124925#32 := by
  pointwise [vratio]

theorem up_apply {s : Shape} (r v : FVec Ideal s .f32) (lo hi : BitVec 32) (j : s.Idx) : up (F := Ideal) r v lo hi j = Cert.Quant.up (r j) (v j) lo hi := rfl
theorem down_apply {s : Shape} (r v u : FVec Ideal s .f32) (lo hi : BitVec 32) (j : s.Idx) :
    down (F := Ideal) r v u lo hi j = Cert.Quant.down (r j) (v j) (u j) lo hi := rfl
theorem unit_apply {s : Shape} (r v : FVec Ideal s .f32) (j : s.Idx) :
    unit (F := Ideal) r v j = Scalar.select (Ideal.cmp .oeq (r j) (w 0x00000000#32)) (w 0x3F800000#32) (v j) := rfl
theorem s1_apply {s : Shape} (r : FVec Ideal s .f32) (j : s.Idx) : s1 (F := Ideal) r j = k1 (r j) := by
  rw [s1, up_apply, k1]; rfl
theorem s2_apply {s : Shape} (r : FVec Ideal s .f32) (j : s.Idx) : s2 (F := Ideal) r j = k2 (r j) := by
  rw [s2, up_apply, s1_apply, k2]
theorem s3_apply {s : Shape} (r : FVec Ideal s .f32) (j : s.Idx) : s3 (F := Ideal) r j = k3 (r j) := by
  rw [s3, up_apply, s2_apply, k3]
theorem s4_apply {s : Shape} (r : FVec Ideal s .f32) (j : s.Idx) : s4 (F := Ideal) r j = k4 (r j) := by
  rw [s4, up_apply, s3_apply, k4]
theorem s5_apply {s : Shape} (r : FVec Ideal s .f32) (j : s.Idx) : s5 (F := Ideal) r j = k5 (r j) := by
  rw [s5, up_apply, s4_apply, k5]
theorem s6_apply {s : Shape} (r : FVec Ideal s .f32) (j : s.Idx) : s6 (F := Ideal) r j = k6 (r j) := by
  rw [s6, up_apply, s5_apply, k6]
theorem s7_apply {s : Shape} (r : FVec Ideal s .f32) (j : s.Idx) : s7 (F := Ideal) r j = k7 (r j) := by
  rw [s7, up_apply, s6_apply, k7]
theorem s8_apply {s : Shape} (r : FVec Ideal s .f32) (j : s.Idx) : s8 (F := Ideal) r j = k8 (r j) := by
  rw [s8, up_apply, s7_apply, k8]
theorem i1_apply {s : Shape} (r : FVec Ideal s .f32) (j : s.Idx) : i1 (F := Ideal) r j = j1 (r j) := by
  rw [i1, down_apply, j1]; rfl
theorem i2_apply {s : Shape} (r : FVec Ideal s .f32) (j : s.Idx) : i2 (F := Ideal) r j = j2 (r j) := by
  rw [i2, down_apply, s1_apply, i1_apply, j2]
theorem i3_apply {s : Shape} (r : FVec Ideal s .f32) (j : s.Idx) : i3 (F := Ideal) r j = j3 (r j) := by
  rw [i3, down_apply, s2_apply, i2_apply, j3]
theorem i4_apply {s : Shape} (r : FVec Ideal s .f32) (j : s.Idx) : i4 (F := Ideal) r j = j4 (r j) := by
  rw [i4, down_apply, s3_apply, i3_apply, j4]
theorem i5_apply {s : Shape} (r : FVec Ideal s .f32) (j : s.Idx) : i5 (F := Ideal) r j = j5 (r j) := by
  rw [i5, down_apply, s4_apply, i4_apply, j5]
theorem i6_apply {s : Shape} (r : FVec Ideal s .f32) (j : s.Idx) : i6 (F := Ideal) r j = j6 (r j) := by
  rw [i6, down_apply, s5_apply, i5_apply, j6]
theorem i7_apply {s : Shape} (r : FVec Ideal s .f32) (j : s.Idx) : i7 (F := Ideal) r j = j7 (r j) := by
  rw [i7, down_apply, s6_apply, i6_apply, j7]
theorem i8_apply {s : Shape} (r : FVec Ideal s .f32) (j : s.Idx) : i8 (F := Ideal) r j = j8 (r j) := by
  rw [i8, down_apply, s7_apply, i7_apply, j8]
/-- The scale and the inverse at an index. -/
theorem scaleOf_apply {s : Shape} (r : FVec Ideal s .f32) (j : s.Idx) : scaleOf (F := Ideal) r j = kScale (r j) := by
  rw [scaleOf, unit_apply, s8_apply, kScale]
theorem invOf_apply {s : Shape} (r : FVec Ideal s .f32) (j : s.Idx) : invOf (F := Ideal) r j = kInv (r j) := by
  rw [invOf, unit_apply, i8_apply, kInv]

theorem codes_apply (inv : FVec Ideal S32x128 .f32) (r : Fin 32) (y : Vec Ideal S128x128 .f32) (i d : Fin 128) :
    codes (F := Ideal) inv r y (ix2 i d) = min (w 0x43E00000#32) (max (w 0xC3E00000#32) ((y (ix2 i d) : EReal) * inv (ix2 r d))) := by
  pointwise [codes, clip]

theorem vcodes_apply (v : Vec Ideal S1x512x128 .bf16) (inv : Vec Ideal S1x128 .f32) (t : Fin 512) (d : Fin 128) :
    vcodes (F := Ideal) v inv (ix2 t d) = min (w 0x43E00000#32) (max (w 0xC3E00000#32) ((v (ix3 0 t d) : EReal) * inv (ix2 0 d))) := by
  pointwise [vcodes, clip]

/-- The rows of column maxima, one a tile. -/
abbrev rows (a : Fin 32 → Vec Ideal S128x128 .f32) : List ((s : Shape) × (s.Idx → Ideal .f32)) :=
  List.ofFn fun n : Fin 32 => (⟨S1x128, colMax (F := Ideal) (a n)⟩ : (s : Shape) × (s.Idx → Ideal .f32))
theorem rows_apply (a : Fin 32 → Vec Ideal S128x128 .f32) (h) (r : Fin 32) (d : Fin 128) :
    concatenate S32x128 0 (rows a) h (ix2 r d) = colMax (F := Ideal) (a r) (ix2 0 d) := by
  refine concatenate_ofFn_unit_apply (s₁ := S1x128) 0 (fun n => colMax (F := Ideal) (a n)) h rfl rfl (ix2 r d) r rfl (ix2 0 d) fun b hb => ?_
  match b, hb with
  | ⟨0, _⟩, hb => exact absurd rfl hb
  | ⟨1, _⟩, _ => rfl
/-- The ratios of an array of maxima. -/
def ratioRows (C : FVec Ideal S32x128 .f32) : FVec Ideal S32x128 .f32 :=
  mulf (broadcastTo S32x128 (shapeCast S32x1 (shapeCast S32x1 (multiReduction .maximumf [1] S32 C
    0xFF800000#32 reduces_S32x128_S32 (.inl rfl) rfl : FVec Ideal S32 .f32) shapeCasts_S32_S32x1) shapeCasts_S32x1_S32x1) broadcasts_S32x1_S32x128)
    (broadcast S32x128 (Scalar.ofBits .f32 0x3B124925#32))
theorem ratioRows_apply (C : FVec Ideal S32x128 .f32) (r : Fin 32) (l : Fin 128) :
    ratioRows C (ix2 r l) = Finset.fold max (w 0xFF800000#32) (fun d : Fin 128 => (C (ix2 r d) : EReal)) Finset.univ * w 0x3B124925#32 := by
  pointwise [ratioRows]
theorem ratio_apply (a : Fin 32 → Vec Ideal S128x128 .f32) (r : Fin 32) (l : Fin 128) :
    ratio (F := Ideal) (a 0) (a 1) (a 2) (a 3) (a 4) (a 5) (a 6) (a 7) (a 8) (a 9) (a 10) (a 11) (a 12) (a 13) (a 14) (a 15) (a 16) (a 17) (a 18) (a 19) (a 20) (a 21) (a 22) (a 23) (a 24) (a 25) (a 26) (a 27) (a 28) (a 29) (a 30) (a 31) (ix2 r l)
      = Finset.fold max (w 0xFF800000#32) (fun d : Fin 128 => (colMax (F := Ideal) (a r) (ix2 0 d) : EReal)) Finset.univ * w 0x3B124925#32 := by
  refine (ratioRows_apply (concatenate S32x128 0 (rows a) concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0) r l).trans ?_
  exact congrArg (fun f => Finset.fold max (w 0xFF800000#32) f Finset.univ * w 0x3B124925#32) (funext fun d => rows_apply a _ r d)

/-! ## The rotated block -/

/-- Feature `j` of row `t` of the rotated block: a sum over the pair of heads `j` is in. -/
def yK (t : Fin 512) (j : Fin 1024) : EReal :=
  (∑ k : Fin 256, (X (ix3 0 t (⟨256 * (j.val / 256) + k.val, by omega⟩ : Fin 1024)) : EReal)
    * R (ix3 (⟨j.val / 256, by omega⟩ : Fin 4) k (⟨j.val % 256, by omega⟩ : Fin 256))) * w 0x3DB504F3#32

theorem pieceY_apply (p : Fin 4) (t : Fin 512) (d : Fin 256) : pieceY (F := Ideal) X R p (ix2 t d)
    = (∑ k : Fin 256, (X (ix3 0 t (⟨256 * p.val + k.val, by omega⟩ : Fin 1024)) : EReal) * R (ix3 p k d)) * w 0x3DB504F3#32 := by
  unfold pieceY
  rw [rotated_apply]
  have eX (k : Fin 256) : window (s := S1x512x1024) X ![0, 0, 256 * p.val] S1x512x256.size (inb_x p) (ix3 0 t k) = X (ix3 0 t (⟨256 * p.val + k.val, by omega⟩ : Fin 1024)) :=
    congrArg X (funext fun a => Fin.ext (by
      match a with
      | ⟨0, _⟩ => rfl
      | ⟨1, _⟩ => show 0 + 1 * t.val = t.val; omega
      | ⟨2, _⟩ => show 256 * p.val + 1 * k.val = 256 * p.val + k.val; omega))
  have eR (k : Fin 256) : window (s := S4x256x256) R ![p.val, 0, 0] S1x256x256.size (inb_rot p) (ix3 0 k d) = R (ix3 p k d) :=
    congrArg R (funext fun a => Fin.ext (by
      match a with
      | ⟨0, _⟩ => rfl
      | ⟨1, _⟩ => show 0 + 1 * k.val = k.val; omega
      | ⟨2, _⟩ => show 0 + 1 * d.val = d.val; omega))
  simp only [eX, eR]

theorem yOf_apply (t : Fin 512) (j : Fin 1024) : yOf (F := Ideal) X R (ix2 t j) = yK X R t j := by
  have e : yOf (F := Ideal) X R (ix2 t j) = pieceY (F := Ideal) X R (⟨j.val / 256, by omega⟩ : Fin 4) (ix2 t (⟨j.val % 256, by omega⟩ : Fin 256)) := by
    show pieceY (F := Ideal) X R (pickY (ix2 t j)) (Rect.unitLocal (s := S512x1024) (ix2 t j) (pickY_in (ix2 t j))) = _
    refine congrArg (pieceY (F := Ideal) X R (pickY (ix2 t j))) (funext fun a => Fin.ext ?_)
    refine (Rect.unitLocal_val _ _ _).trans ?_
    match a with
    | ⟨0, _⟩ => exact Nat.sub_zero _
    | ⟨1, _⟩ => show j.val - 256 * (j.val / 256) = j.val % 256; omega
  rw [e, pieceY_apply]
  rfl

/-- The ratio of tile `r` of a rotated block. -/
def rK (Y : Vec Ideal S512x1024 .f32) (r : Fin 32) : EReal :=
  Finset.fold max (w 0xFF800000#32) (fun d : Fin 128 => Finset.fold max (w 0xFF800000#32)
    (fun i : Fin 128 => FloatOps.absf (F := Ideal) (φ := .f32) (Y (ix2 (⟨128 * (r.val / 8) + i.val, by omega⟩ : Fin 512) (⟨128 * (r.val % 8) + d.val, by omega⟩ : Fin 1024)))) Finset.univ) Finset.univ * w 0x3B124925#32

theorem tileOf_apply (Y : Vec Ideal S512x1024 .f32) (r : Fin 32) (i d : Fin 128) :
    tileOf (F := Ideal) Y r (ix2 i d) = Y (ix2 (⟨128 * (r.val / 8) + i.val, by omega⟩ : Fin 512) (⟨128 * (r.val % 8) + d.val, by omega⟩ : Fin 1024)) :=
  congrArg Y (funext fun a => Fin.ext (by
    match a with
    | ⟨0, _⟩ => show 128 * (r.val / 8) + 1 * i.val = 128 * (r.val / 8) + i.val; omega
    | ⟨1, _⟩ => show 128 * (r.val % 8) + 1 * d.val = 128 * (r.val % 8) + d.val; omega))

theorem ratioOf_apply (Y : Vec Ideal S512x1024 .f32) (r : Fin 32) (l : Fin 128) : ratioOf (F := Ideal) Y (ix2 r l) = rK Y r := by
  refine (ratio_apply (tileOf (F := Ideal) Y) r l).trans ?_
  unfold rK
  simp only [colMax_apply, tileOf_apply]

/-- A code of tile `r` before rounding. -/
def cK (Y : Vec Ideal S512x1024 .f32) (r : Fin 32) (i d : Fin 128) : EReal :=
  min (w 0x43E00000#32) (max (w 0xC3E00000#32) ((Y (ix2 (⟨128 * (r.val / 8) + i.val, by omega⟩ : Fin 512) (⟨128 * (r.val % 8) + d.val, by omega⟩ : Fin 1024)) : EReal) * kInv (rK Y r)))
theorem codesOf_apply (Y : Vec Ideal S512x1024 .f32) (r : Fin 32) (i d : Fin 128) :
    codes (F := Ideal) (invOf (ratioOf Y)) r (tileOf Y r) (ix2 i d) = cK Y r i d := by
  rw [codes_apply, tileOf_apply, invOf_apply, ratioOf_apply, cK]

theorem pieceHead_apply (inv : FVec Ideal S32x128 .f32) (Y : Vec Ideal S512x1024 .f32) (r : Fin 32) (i d : Fin 128) :
    pieceHead (F := Ideal) inv Y r (ix4 0 0 i d) = codes (F := Ideal) inv r (tileOf Y r) (ix2 i d) := by
  pointwise [pieceHead]
theorem pieceTok_apply (inv : FVec Ideal S32x128 .f32) (Y : Vec Ideal S512x1024 .f32) (r : Fin 32) (i d : Fin 128) :
    pieceTok (F := Ideal) inv Y r (ix3 i 0 d) = codes (F := Ideal) inv r (tileOf Y r) (ix2 i d) := by
  pointwise [pieceTok]
theorem rounded_apply (T : Vec Ideal S512x8x128 .f32) (t : Fin 512) (h : Fin 8) (d : Fin 128) :
    rounded (F := Ideal) T (ix4 0 t h d) = T (ix3 t h d) := by
  pointwise [rounded]

/-- The tile of a row and a head. -/
abbrev tileAt (t : Fin 512) (h : Fin 8) : Fin 32 := ⟨8 * (t.val / 128) + h.val, by omega⟩
abbrev rowIn (t : Fin 512) : Fin 128 := ⟨t.val % 128, by omega⟩

theorem headsBy_apply (t : Fin 512) (h : Fin 8) (d : Fin 128) :
    headsBy (F := Ideal) X R (ix4 0 h t d) = cK (yOf X R) (tileAt t h) (rowIn t) d := by
  have e : headsBy (F := Ideal) X R (ix4 0 h t d) = pieceHead (F := Ideal) (invOf (ratioOf (yOf X R))) (yOf X R) (tileAt t h) (ix4 0 0 (rowIn t) d) := by
    refine congrArg (pieceHead (F := Ideal) (invOf (ratioOf (yOf X R))) (yOf X R) (pickHead (ix4 0 h t d))) (funext fun a => Fin.ext ?_)
    refine (Rect.unitLocal_val _ _ _).trans ?_
    match a with
    | ⟨0, _⟩ => rfl
    | ⟨1, _⟩ => show h.val - (8 * (t.val / 128) + h.val) % 8 = 0; omega
    | ⟨2, _⟩ => show t.val - 128 * ((8 * (t.val / 128) + h.val) / 8) = t.val % 128; omega
    | ⟨3, _⟩ => exact Nat.sub_zero _
  rw [e, pieceHead_apply, codesOf_apply]
theorem codesBy_apply (t : Fin 512) (h : Fin 8) (d : Fin 128) :
    codesBy (F := Ideal) X R (ix4 0 t h d) = cK (yOf X R) (tileAt t h) (rowIn t) d := by
  refine (rounded_apply _ t h d).trans ?_
  have e : tokOf (F := Ideal) (invOf (ratioOf (yOf X R))) (yOf X R) (ix3 t h d) = pieceTok (F := Ideal) (invOf (ratioOf (yOf X R))) (yOf X R) (tileAt t h) (ix3 (rowIn t) 0 d) := by
    refine congrArg (pieceTok (F := Ideal) (invOf (ratioOf (yOf X R))) (yOf X R) (pickTok (ix3 t h d))) (funext fun a => Fin.ext ?_)
    refine (Rect.unitLocal_val _ _ _).trans ?_
    match a with
    | ⟨0, _⟩ => show t.val - 128 * ((8 * (t.val / 128) + h.val) / 8) = t.val % 128; omega
    | ⟨1, _⟩ => show h.val - (8 * (t.val / 128) + h.val) % 8 = 0; omega
    | ⟨2, _⟩ => exact Nat.sub_zero _
  rw [e, pieceTok_apply, codesOf_apply]
theorem scalesBy_apply (r : Fin 32) (l : Fin 128) : scalesBy (F := Ideal) X R (ix3 0 r l) = kScale (rK (yOf X R) r) := by
  have e : scalesBy (F := Ideal) X R (ix3 0 r l) = scaleOf (F := Ideal) (ratioOf (yOf X R)) (ix2 r l) := by
    show qsOf (F := Ideal) (yOf X R) (ix3 0 r l) = _
    pointwise [qsOf]
  rw [e, scaleOf_apply, ratioOf_apply]

/-! ## The values' blocks -/

variable (B : Vec Ideal S1x512x1024 .bf16) (M : Vec Ideal S8x1024 .f32)

/-- The ratio of a channel: its largest magnitude over the largest code. -/
def rM (j : Fin 1024) : EReal := Finset.fold max (w 0xFF800000#32) (fun i : Fin 8 => (M (ix2 i j) : EReal)) Finset.univ * w 0x3B124925#32

/-- Channel `d` of head `h`. -/
abbrev chan (h : Fin 8) (d : Fin 128) : Fin 1024 := ⟨128 * h.val + d.val, by omega⟩

theorem vinvOf_apply (j : Fin 1024) : vinvOf (F := Ideal) M (ix2 0 j) = kInv (rM M j) := by
  have e : vinvOf (F := Ideal) M (ix2 0 j) = invOf (F := Ideal) (vratio M) (ix2 0 j) := by
    pointwise [vinvOf]
  rw [e, invOf_apply, vratio_apply, rM]

theorem vhead_apply (I : Vec Ideal S1x1024 .f32) (h : Fin 8) (t : Fin 512) (d : Fin 128) : vhead (F := Ideal) B I h (ix2 t d)
    = min (w 0x43E00000#32) (max (w 0xC3E00000#32) ((B (ix3 0 t (chan h d)) : EReal) * I (ix2 0 (chan h d)))) := by
  unfold vhead
  rw [vcodes_apply]
  have eB : window (s := S1x512x1024) B ![0, 0, 128 * h.val] S1x512x128.size (inb_vhead h) (ix3 0 t d) = B (ix3 0 t (chan h d)) :=
    congrArg B (funext fun a => Fin.ext (by
      match a with
      | ⟨0, _⟩ => rfl
      | ⟨1, _⟩ => show 0 + 1 * t.val = t.val; omega
      | ⟨2, _⟩ => show 128 * h.val + 1 * d.val = 128 * h.val + d.val; omega))
  have eI : window (s := S1x1024) I ![0, 128 * h.val] S1x128.size (inb_vinv h) (ix2 0 d) = I (ix2 0 (chan h d)) :=
    congrArg I (funext fun a => Fin.ext (by
      match a with
      | ⟨0, _⟩ => rfl
      | ⟨1, _⟩ => show 128 * h.val + 1 * d.val = 128 * h.val + d.val; omega))
  rw [eB, eI]
theorem pieceVtok_apply (I : Vec Ideal S1x1024 .f32) (h : Fin 8) (t : Fin 512) (d : Fin 128) :
    pieceVtok (F := Ideal) B I h (ix3 t 0 d) = vhead (F := Ideal) B I h (ix2 t d) := by
  pointwise [pieceVtok]
theorem pieceVt_apply (I : Vec Ideal S1x1024 .f32) (h : Fin 8) (t : Fin 512) (d : Fin 128) :
    pieceVt (F := Ideal) B I h (ix4 0 0 d t) = vhead (F := Ideal) B I h (ix2 t d) := by
  pointwise [pieceVt]
theorem pieceVs_apply (s : FVec Ideal S1x1024 .f32) (h : Fin 8) (d : Fin 128) :
    pieceVs (F := Ideal) s h (ix3 0 0 d) = s (ix2 0 (chan h d)) := by
  pointwise [pieceVs]

/-- A code of the values before rounding. -/
def cV (t : Fin 512) (h : Fin 8) (d : Fin 128) : EReal :=
  min (w 0x43E00000#32) (max (w 0xC3E00000#32) ((B (ix3 0 t (chan h d)) : EReal) * kInv (rM M (chan h d))))

theorem vcodesBy_apply (t : Fin 512) (h : Fin 8) (d : Fin 128) : vcodesBy (F := Ideal) B (vinvOf M) (ix4 0 t h d) = cV B M t h d := by
  refine (rounded_apply _ t h d).trans ?_
  have e : vtokOf (F := Ideal) B (vinvOf M) (ix3 t h d) = pieceVtok (F := Ideal) B (vinvOf M) h (ix3 t 0 d) := by
    refine congrArg (pieceVtok (F := Ideal) B (vinvOf M) (pickVtok (ix3 t h d))) (funext fun a => Fin.ext ?_)
    refine (Rect.unitLocal_val _ _ _).trans ?_
    match a with
    | ⟨0, _⟩ => exact Nat.sub_zero _
    | ⟨1, _⟩ => exact Nat.sub_self _
    | ⟨2, _⟩ => exact Nat.sub_zero _
  rw [e, pieceVtok_apply, vhead_apply, vinvOf_apply, cV]
theorem vtOf_apply (t : Fin 512) (h : Fin 8) (d : Fin 128) : vtOf (F := Ideal) B (vinvOf M) (ix4 0 h d t) = cV B M t h d := by
  have e : vtOf (F := Ideal) B (vinvOf M) (ix4 0 h d t) = pieceVt (F := Ideal) B (vinvOf M) h (ix4 0 0 d t) := by
    refine congrArg (pieceVt (F := Ideal) B (vinvOf M) (pickVt (ix4 0 h d t))) (funext fun a => Fin.ext ?_)
    refine (Rect.unitLocal_val _ _ _).trans ?_
    match a with
    | ⟨0, _⟩ => rfl
    | ⟨1, _⟩ => exact Nat.sub_self _
    | ⟨2, _⟩ => exact Nat.sub_zero _
    | ⟨3, _⟩ => exact Nat.sub_zero _
  rw [e, pieceVt_apply, vhead_apply, vinvOf_apply, cV]
theorem vscalesBy_apply (h : Fin 8) (d : Fin 128) : vscalesBy (F := Ideal) M (ix3 0 h d) = kScale (rM M (chan h d)) := by
  have e : vscalesBy (F := Ideal) M (ix3 0 h d) = pieceVs (F := Ideal) (scaleOf (vratio M)) h (ix3 0 0 d) := by
    refine congrArg (pieceVs (F := Ideal) (scaleOf (vratio M)) (pickVs (ix3 0 h d))) (funext fun a => Fin.ext ?_)
    refine (Rect.unitLocal_val _ _ _).trans ?_
    match a with
    | ⟨0, _⟩ => rfl
    | ⟨1, _⟩ => exact Nat.sub_self _
    | ⟨2, _⟩ => exact Nat.sub_zero _
  rw [e, pieceVs_apply, scaleOf_apply, vratio_apply, rM]

/-- The block kept for later is the block itself. -/
theorem kept_apply (t : Fin 512) (j : Fin 1024) : k0_pay10 (F := Ideal) B (ix3 0 t j) = B (ix3 0 t j) := by
  pointwise [k0_pay10, k0_pay9]
/-- A block's largest magnitudes, by row within a group of eight, -/
def bmax (i : Fin 8) (j : Fin 1024) : EReal :=
  Finset.fold max (w 0xFF800000#32) (fun x : Fin 64 => FloatOps.absf (F := Ideal) (φ := .bf16) (B (ix3 0 (⟨x.val * 8 + i.val, by omega⟩ : Fin 512) j))) Finset.univ
theorem select_eq0 (n : Fin 16) (a b : EReal) : Scalar.select (Scalar.cmpi CmpIPredicate.eq (BitVec.ofNat 32 n.val) 0#32) a b = if n.val = 0 then a else b := by
  have e : Scalar.cmpi CmpIPredicate.eq (BitVec.ofNat 32 n.val) 0#32 = if n.val = 0 then 1#1 else 0#1 := by
    revert n; decide
  rw [e]
  by_cases h : n.val = 0
  · rw [if_pos h, if_pos h]; rfl
  · rw [if_neg h, if_neg h]; rfl
/-- The running ones. -/
theorem pay11_apply (c : grid0.Coords) (i : Fin 8) (j : Fin 1024) :
    k0_pay11 (F := Ideal) c B M (ix2 i j) = if (c 1).val = 0 then bmax B i j else max (M (ix2 i j)) (bmax B i j) := by
  unfold bmax
  pointwise [k0_pay11, k0_pay9]
  exact select_eq0 (c 1) _ _

end
end Cert.QuantiseIdeal.Quant
end
-- ==== Proof.Quant.RefValue.lean ====
/- The reference's payloads read at an index over the extended reals. -/
module

public import proofs.«01_k».proof.Proof.Gen.QuantiseReferenceIdeal.Value
public import proofs.«01_k».proof.Proof.Quant.Ladder

@[expose] public section

set_option maxRecDepth 65536

noncomputable section

namespace Cert.QuantiseReferenceIdeal.Quant

open Cert.QuantiseReferenceIdeal Cert.QuantiseReferenceIdeal.Gen Cert.Quant Cert.Att Idealize.ShloMosaic Idealize.ShloMosaic.TcCoe

section
variable (sg : Vec Ideal S8x128 .i8) (x : Vec Ideal S9x8192x1024 .bf16) (R : FVec Ideal S8x128x128 .f32)

/-- The Hadamard matrix's entry, before its scale. -/
def had (i j : Fin 128) : EReal := FloatOps.sitofp (F := Ideal) FTy.f32
  (IntOp.subi 1#32 (IntOp.muli 2#32 (IntOp.andi (IntOp.ctpop (IntOp.andi (BitVec.ofNat 32 i.val) (BitVec.ofNat 32 j.val))) 1#32)))

theorem pay1_apply (h : Fin 8) (i j : Fin 128) : k0_pay1 (F := Ideal) sg (ix3 h i j)
    = FloatOps.sitofp (F := Ideal) FTy.f32 (BitVec.signExtend 32 (sg (ix2 h i))) * (had i j * w 0x3DB504F3#32) := by
  pointwise [k0_pay1]
  rfl

/-- Feature `d` of head `h` of token `t`, rotated. -/
def yR (b : Fin 9) (t : Fin 8192) (h : Fin 8) (d : Fin 128) : EReal :=
  ∑ k : Fin 128, (x (ix3 b t (⟨128 * h.val + k.val, by omega⟩ : Fin 1024)) : EReal) * R (ix3 h k d)

/-- The ratio of a scale block: its largest magnitude over the largest code. -/
def rR (b : Fin 9) (g : Fin 64) (h : Fin 8) : EReal :=
  Finset.fold max (w 0xFF800000#32) (fun i : Fin 128 => Finset.fold max (w 0xFF800000#32)
    (fun d : Fin 128 => FloatOps.absf (F := Ideal) (φ := .f32) (yR x R b (⟨128 * g.val + i.val, by omega⟩ : Fin 8192) h d)) Finset.univ) Finset.univ * w 0x3B124925#32

theorem pay10_apply (h : Fin 8) (b : Fin 9) (g : Fin 64) (i d : Fin 128) :
    k0_pay10 (F := Ideal) R x (ix5 h b g i d) = yR x R b (⟨128 * g.val + i.val, by omega⟩ : Fin 8192) h d := by
  pointwise [k0_pay10]
  refine Finset.sum_congr rfl fun k _ => ?_
  refine congrArg₂ (fun (u : Fin 8192) (v : Fin 1024) => (x (ix3 b u v) : EReal) * R (ix3 h k d)) (Fin.ext ?_) (Fin.ext ?_)
  · show (b.val * 8192 + g.val * 128 + i.val) % 8192 = 128 * g.val + i.val; omega
  · show h.val * 128 + k.val = 128 * h.val + k.val; omega
theorem pay11_apply (h : Fin 8) (b : Fin 9) (g : Fin 64) : k0_pay11 (F := Ideal) R x (ix3 h b g) = rR x R b g h := by
  pointwise [k0_pay11]
  simp only [pay10_apply]
  rfl
theorem pay12_apply (r : FVec Ideal S8x9x64 .f32) (h : Fin 8) (b : Fin 9) (g : Fin 64) :
    k0_pay12 (F := Ideal) r (ix3 h b g) = rScale (r (ix3 h b g)) := by
  pointwise [k0_pay12]
  unfold rScale
  rw [select_oeq, w_0, w_1]
  simp only [select_ogt]
  rfl

/-- A code before rounding. -/
def cl (y i : EReal) : EReal := min (w 0x43E00000#32) (max (w 0xC3E00000#32) (y * i))

theorem pay13_apply (h : Fin 8) (b : Fin 9) (t : Fin 8192) (d : Fin 128) :
    k0_pay13 (F := Ideal) (k0_pay10 R x) (k0_pay11 R x) (ix4 h b t d)
      = cl (yR x R b t h d) (Ideal.div 1 (rScale (rR x R b (⟨t.val / 128, by omega⟩ : Fin 64) h))) := by
  pointwise [k0_pay13]
  rw [pay10_apply, pay12_apply, pay11_apply]
  unfold cl
  have e (p : 128 * (t.val / 128) + t.val % 128 < 8192) : (⟨128 * (t.val / 128) + t.val % 128, p⟩ : Fin 8192) = t := Fin.ext (by show 128 * (t.val / 128) + t.val % 128 = t.val; omega)
  rw [e]
theorem pay14_apply (h : Fin 8) (b : Fin 9) (t : Fin 8192) (d : Fin 128) :
    k0_pay14 (F := Ideal) (k0_pay10 R x) (k0_pay11 R x) (ix4 b t h d)
      = cl (yR x R b t h d) (Ideal.div 1 (rScale (rR x R b (⟨t.val / 128, by omega⟩ : Fin 64) h))) := by
  pointwise [k0_pay14]
  exact pay13_apply x R h b t d
theorem pay15_apply (h : Fin 8) (b : Fin 9) (t : Fin 8192) (d : Fin 128) :
    k0_pay15 (F := Ideal) (k0_pay10 R x) (k0_pay11 R x) (ix4 b h t d)
      = cl (yR x R b t h d) (Ideal.div 1 (rScale (rR x R b (⟨t.val / 128, by omega⟩ : Fin 64) h))) := by
  pointwise [k0_pay15]
  exact pay13_apply x R h b t d
theorem pay16_apply (b : Fin 9) (r : Fin 512) (l : Fin 128) :
    k0_pay16 (F := Ideal) (k0_pay11 R x) (ix3 b r l)
      = rScale (rR x R b (⟨r.val / 8, by omega⟩ : Fin 64) (⟨r.val % 8, by omega⟩ : Fin 8)) := by
  pointwise [k0_pay16]
  rw [pay12_apply, pay11_apply]
theorem pay7_eq : k0_pay7 (F := Ideal) (k0_pay2 sg x) (k0_pay3 sg x) (k0_pay4 sg x) (Scalar.ofBits .f32 0x00000000#32) = k0_pay14 (k0_pay10 (k0_pay1 sg) x) (k0_pay11 (k0_pay1 sg) x) := rfl
theorem pay8_eq : k0_pay8 (F := Ideal) (k0_pay2 sg x) (k0_pay3 sg x) (k0_pay4 sg x) (Scalar.ofBits .f32 0x00000000#32) = k0_pay15 (k0_pay10 (k0_pay1 sg) x) (k0_pay11 (k0_pay1 sg) x) := rfl
theorem pay9_eq : k0_pay9 (F := Ideal) (k0_pay3 sg x) (k0_pay4 sg x) (Scalar.ofBits .f32 0x00000000#32) = k0_pay16 (k0_pay11 (k0_pay1 sg) x) := rfl

end
end Cert.QuantiseReferenceIdeal.Quant
end
-- ==== Proof.Quant.RefV.lean ====
/- The reference's values' part read at an index over the extended reals. -/
module

public import proofs.«01_k».proof.Proof.Quant.RefValue

@[expose] public section

set_option maxRecDepth 65536

noncomputable section

namespace Cert.QuantiseReferenceIdeal.Quant

open Cert.QuantiseReferenceIdeal Cert.QuantiseReferenceIdeal.Gen Cert.Quant Cert.Att Idealize.ShloMosaic Idealize.ShloMosaic.TcCoe

section
variable (v : Vec Ideal S9x8192x8x128 .bf16)

/-- The largest magnitude of a channel over the tokens. -/
def mV (b : Fin 9) (h : Fin 8) (d : Fin 128) : EReal :=
  Finset.fold max (w 0xFF800000#32) (fun t : Fin 8192 => FloatOps.absf (F := Ideal) (φ := .f32) (v (ix4 b t h d))) Finset.univ
/-- The ratio of a channel of the values: its largest magnitude over the largest code. -/
def rV (b : Fin 9) (h : Fin 8) (d : Fin 128) : EReal := mV v b h d * w 0x3B124925#32

/-- The array of the largest magnitudes. -/
abbrev vmax : FVec Ideal S9x8x128 .f32 :=
  multiReduction .maximumf [1] S9x8x128 (absf (k0_pay17 (F := Ideal) v)) 0xFF800000#32 reduces_S9x8192x8x128_S9x8x128 (.inl rfl) rfl
theorem vmax_apply (b : Fin 9) (h : Fin 8) (d : Fin 128) : vmax v (ix3 b h d) = mV v b h d := by
  unfold mV
  pointwise [k0_pay17]

/-- The scales of an array of largest magnitudes. -/
def vScale (M : FVec Ideal S9x8x128 .f32) : FVec Ideal S9x8x128 .f32 :=
  select (cmpf .oeq (mulf M (broadcast S9x8x128 (Scalar.ofBits .f32 0x3B124925#32))) (broadcast S9x8x128 (Scalar.ofBits .f32 0x00000000#32))) (broadcast S9x8x128 (Scalar.ofBits .f32 0x3F800000#32))
    (multiReduction .minimumf [3] S9x8x128
      (select (cmpf .ogt (exp2 (sitofp .f32 (subi (iota .tc S9x8x128x254 32 [3] iota_S9x8x128x254_d3_w32) (broadcast S9x8x128x254 126#32))))
        (broadcastTo S9x8x128x254 (shapeCast S9x8x128x1 (mulf M (broadcast S9x8x128 (Scalar.ofBits .f32 0x3B124925#32))) shapeCasts_S9x8x128_S9x8x128x1) broadcasts_S9x8x128x1_S9x8x128x254))
        (exp2 (sitofp .f32 (subi (iota .tc S9x8x128x254 32 [3] iota_S9x8x128x254_d3_w32) (broadcast S9x8x128x254 126#32))))
        (broadcast S9x8x128x254 (Scalar.ofBits .f32 0x7F000000#32)))
      0x7F800000#32 reduces_S9x8x128x254_S9x8x128 (.inl rfl) rfl)
theorem vScale_apply (M : FVec Ideal S9x8x128 .f32) (b : Fin 9) (h : Fin 8) (d : Fin 128) :
    vScale M (ix3 b h d) = rScale (M (ix3 b h d) * w 0x3B124925#32) := by
  unfold rScale
  rw [select_oeq, w_0, w_1]
  simp only [select_ogt]
  unfold pow
  pointwise [vScale]
  rfl
theorem pay18_eq : k0_pay18 (F := Ideal) v = vScale (vmax v) := rfl
theorem pay18_apply (b : Fin 9) (h : Fin 8) (d : Fin 128) : k0_pay18 (F := Ideal) v (ix3 b h d) = rScale (rV v b h d) := by
  rw [pay18_eq, vScale_apply, vmax_apply, rV]

/-- The codes of the values for an array of scales. -/
def vCodes (S : FVec Ideal S9x8x128 .f32) : FVec Ideal S9x8192x8x128 .fp8e4m3 :=
  truncf .fp8e4m3 (minimumf (broadcast S9x8192x8x128 (Scalar.ofBits .f32 0x43E00000#32)) (maximumf (broadcast S9x8192x8x128 (Scalar.ofBits .f32 0xC3E00000#32)) (mulf (k0_pay17 v) (broadcastTo S9x8192x8x128 (shapeCast S9x1x8x128 (divf (broadcast S9x8x128 (Scalar.ofBits .f32 0x3F800000#32)) S) shapeCasts_S9x8x128_S9x1x8x128) broadcasts_S9x1x8x128_S9x8192x8x128)))) bitsLt_fp8e4m3_f32
theorem vCodes_apply (S : FVec Ideal S9x8x128 .f32) (b : Fin 9) (t : Fin 8192) (h : Fin 8) (d : Fin 128) :
    vCodes v S (ix4 b t h d) = cl (v (ix4 b t h d)) (Ideal.div 1 (S (ix3 b h d))) := by
  unfold cl
  pointwise [vCodes, k0_pay17]
theorem pay19_eq : k0_pay19 (F := Ideal) v = vCodes v (k0_pay18 v) := rfl
theorem pay19_apply (b : Fin 9) (t : Fin 8192) (h : Fin 8) (d : Fin 128) : k0_pay19 (F := Ideal) v (ix4 b t h d)
    = cl (v (ix4 b t h d)) (Ideal.div 1 (rScale (rV v b h d))) := by
  rw [pay19_eq, vCodes_apply, pay18_apply]
theorem pay20_apply (b : Fin 9) (t : Fin 8192) (h : Fin 8) (d : Fin 128) : k0_pay20 (F := Ideal) v (ix4 b h d t)
    = cl (v (ix4 b t h d)) (Ideal.div 1 (rScale (rV v b h d))) := by
  rw [← pay19_apply]
  pointwise [k0_pay20]
end
end Cert.QuantiseReferenceIdeal.Quant
end
-- ==== Proof.Quant.Data.lean ====
/- The quantise call's proof data: what the scratch buffers hold between points, what every output's buffer holds after each
   point, the body's obligation, the run, and that every execution ends with the argument arrays unchanged and every semaphore at
   zero. The value token blocks wait in a ring of sixteen; a group's largest values are kept until its last point, where the
   inverse scales are fixed, and the group's codes are written sixteen points later. -/
module

public import proofs.«01_k».proof.Proof.Quant.BodySpec
public import proofs.«01_k».proof.Proof.Gen.QuantiseIdeal.Frame
public import proofs.«01_k».proof.Proof.Gen.QuantiseIdeal.Points
public import proofs.«01_k».proof.Proof.Gen.QuantiseIdeal.Launch
public import Idealize.ShloMosaic.Lib.Pipeline.FrameBody
public import Idealize.ShloMosaic.Lib.Pipeline.TableIdle
public import Idealize.ShloMosaic.Lib.Claim

@[expose] public section

set_option synthInstance.maxSize 4096
set_option maxRecDepth 65536

noncomputable section

namespace Cert.QuantiseIdeal.Quant

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QuantiseIdeal Cert.QuantiseIdeal.Gen Cert.Quant

variable {F : FTy → Type} [FloatOps F]

local notation "𝕄" => MT nD τ sig Unit (Elt F) ℕ (UR sig nD τ) ℕ

/-! ## The grid's points -/

/-- The `n`-th point. -/
def pt (n : ℕ) : Fin cfg0.N := ⟨n % 160, lt_of_lt_of_eq (Nat.mod_lt _ (by decide)) N_0.symm⟩
theorem pt_val (t : Fin cfg0.N) : pt t.val = t := Fin.ext (Nat.mod_eq_of_lt (lt_of_lt_of_eq t.isLt N_0))
theorem lt_160 (t : Fin cfg0.N) : t.val < 160 := lt_of_lt_of_eq t.isLt N_0
/-- The point, or the last that encodes a query block. -/
def clp (t : Fin cfg0.N) : Fin cfg0.N := pt (min t.val 143)
theorem clp_of_lt (t : Fin cfg0.N) (h : t.val < 144) : clp t = t := by
  unfold clp; rw [Nat.min_eq_left (by omega)]; exact pt_val t

theorem coord1 : ∀ t : Fin cfg0.N, (cfg0.grid.coords t 1).val = t.val % 16 := by decide +kernel
theorem cond1_iff : ∀ t : Fin cfg0.N, k0_cond1 (cfg0.grid.coords t) = 1#1 ↔ t.val < 144 := by decide +kernel
theorem cond2_iff : ∀ t : Fin cfg0.N, k0_cond2 (cfg0.grid.coords t) = 1#1 ↔ 16 ≤ t.val := by decide +kernel
theorem cond3_iff : ∀ t : Fin cfg0.N, k0_cond3 (cfg0.grid.coords t) = 1#1 ↔ t.val < 144 := by decide +kernel
theorem cond4_iff : ∀ t : Fin cfg0.N, k0_cond4 (cfg0.grid.coords t) = 1#1 ↔ t.val % 16 = 15 := by decide +kernel

/-! ## When an output's buffer holds a block still to be written back -/

theorem fresh_step_5 : ∀ t : Fin cfg0.N, (decide (t.val + 1 ≤ 143) || decide (t.val + 1 = 160)) = ((cfg0.win 5).flushF t || (cfg0.idle 5 (cfg0.grid.coords t) && (decide (t.val ≤ 143) || decide (t.val = 160)))) := by decide +kernel
theorem fresh_5 (n : ℕ) (h : n ≤ 160) : cfg0.fresh 5 n = (decide (n ≤ 143) || decide (n = 160)) :=
  cfg0.fresh_tab 5 (fun n => decide (n ≤ 143) || decide (n = 160)) rfl (fun t => by rw [Pipeline.Window.flush_eq_flushF]; exact fresh_step_5 t) n (le_of_le_of_eq h N_0.symm)
theorem late_5 : ∀ t : Fin cfg0.N, cfg0.idle 5 (cfg0.grid.coords t) = true → (cfg0.win 5).flushF t = true → t.val = 159 := by decide +kernel
theorem fresh_step_6 : ∀ t : Fin cfg0.N, (decide (t.val + 1 ≤ 143) || decide (t.val + 1 = 160)) = ((cfg0.win 6).flushF t || (cfg0.idle 6 (cfg0.grid.coords t) && (decide (t.val ≤ 143) || decide (t.val = 160)))) := by decide +kernel
theorem fresh_6 (n : ℕ) (h : n ≤ 160) : cfg0.fresh 6 n = (decide (n ≤ 143) || decide (n = 160)) :=
  cfg0.fresh_tab 6 (fun n => decide (n ≤ 143) || decide (n = 160)) rfl (fun t => by rw [Pipeline.Window.flush_eq_flushF]; exact fresh_step_6 t) n (le_of_le_of_eq h N_0.symm)
theorem late_6 : ∀ t : Fin cfg0.N, cfg0.idle 6 (cfg0.grid.coords t) = true → (cfg0.win 6).flushF t = true → t.val = 159 := by decide +kernel
theorem fresh_step_7 : ∀ t : Fin cfg0.N, (decide (t.val + 1 ≤ 143) || decide (t.val + 1 = 160)) = ((cfg0.win 7).flushF t || (cfg0.idle 7 (cfg0.grid.coords t) && (decide (t.val ≤ 143) || decide (t.val = 160)))) := by decide +kernel
theorem fresh_7 (n : ℕ) (h : n ≤ 160) : cfg0.fresh 7 n = (decide (n ≤ 143) || decide (n = 160)) :=
  cfg0.fresh_tab 7 (fun n => decide (n ≤ 143) || decide (n = 160)) rfl (fun t => by rw [Pipeline.Window.flush_eq_flushF]; exact fresh_step_7 t) n (le_of_le_of_eq h N_0.symm)
theorem late_7 : ∀ t : Fin cfg0.N, cfg0.idle 7 (cfg0.grid.coords t) = true → (cfg0.win 7).flushF t = true → t.val = 159 := by decide +kernel
theorem fresh_step_8 : ∀ t : Fin cfg0.N, (decide (t.val + 1 ≤ 143) || decide (t.val + 1 = 160)) = ((cfg0.win 8).flushF t || (cfg0.idle 8 (cfg0.grid.coords t) && (decide (t.val ≤ 143) || decide (t.val = 160)))) := by decide +kernel
theorem fresh_8 (n : ℕ) (h : n ≤ 160) : cfg0.fresh 8 n = (decide (n ≤ 143) || decide (n = 160)) :=
  cfg0.fresh_tab 8 (fun n => decide (n ≤ 143) || decide (n = 160)) rfl (fun t => by rw [Pipeline.Window.flush_eq_flushF]; exact fresh_step_8 t) n (le_of_le_of_eq h N_0.symm)
theorem late_8 : ∀ t : Fin cfg0.N, cfg0.idle 8 (cfg0.grid.coords t) = true → (cfg0.win 8).flushF t = true → t.val = 159 := by decide +kernel
theorem fresh_step_9 : ∀ t : Fin cfg0.N, (decide (t.val + 1 ≤ 143) || decide (t.val + 1 = 160)) = ((cfg0.win 9).flushF t || (cfg0.idle 9 (cfg0.grid.coords t) && (decide (t.val ≤ 143) || decide (t.val = 160)))) := by decide +kernel
theorem fresh_9 (n : ℕ) (h : n ≤ 160) : cfg0.fresh 9 n = (decide (n ≤ 143) || decide (n = 160)) :=
  cfg0.fresh_tab 9 (fun n => decide (n ≤ 143) || decide (n = 160)) rfl (fun t => by rw [Pipeline.Window.flush_eq_flushF]; exact fresh_step_9 t) n (le_of_le_of_eq h N_0.symm)
theorem late_9 : ∀ t : Fin cfg0.N, cfg0.idle 9 (cfg0.grid.coords t) = true → (cfg0.win 9).flushF t = true → t.val = 159 := by decide +kernel
theorem fresh_step_10 : ∀ t : Fin cfg0.N, (decide (t.val + 1 ≤ 143) || decide (t.val + 1 = 160)) = ((cfg0.win 10).flushF t || (cfg0.idle 10 (cfg0.grid.coords t) && (decide (t.val ≤ 143) || decide (t.val = 160)))) := by decide +kernel
theorem fresh_10 (n : ℕ) (h : n ≤ 160) : cfg0.fresh 10 n = (decide (n ≤ 143) || decide (n = 160)) :=
  cfg0.fresh_tab 10 (fun n => decide (n ≤ 143) || decide (n = 160)) rfl (fun t => by rw [Pipeline.Window.flush_eq_flushF]; exact fresh_step_10 t) n (le_of_le_of_eq h N_0.symm)
theorem late_10 : ∀ t : Fin cfg0.N, cfg0.idle 10 (cfg0.grid.coords t) = true → (cfg0.win 10).flushF t = true → t.val = 159 := by decide +kernel
theorem fresh_step_13 : ∀ t : Fin cfg0.N, (decide (t.val + 1 ≤ 143) || decide (t.val + 1 = 160)) = ((cfg0.win 13).flushF t || (cfg0.idle 13 (cfg0.grid.coords t) && (decide (t.val ≤ 143) || decide (t.val = 160)))) := by decide +kernel
theorem fresh_13 (n : ℕ) (h : n ≤ 160) : cfg0.fresh 13 n = (decide (n ≤ 143) || decide (n = 160)) :=
  cfg0.fresh_tab 13 (fun n => decide (n ≤ 143) || decide (n = 160)) rfl (fun t => by rw [Pipeline.Window.flush_eq_flushF]; exact fresh_step_13 t) n (le_of_le_of_eq h N_0.symm)
theorem late_13 : ∀ t : Fin cfg0.N, cfg0.idle 13 (cfg0.grid.coords t) = true → (cfg0.win 13).flushF t = true → t.val = 159 := by decide +kernel
theorem late_11 : ∀ t : Fin cfg0.N, cfg0.idle 11 (cfg0.grid.coords t) = true → (cfg0.win 11).flushF t = false := by decide +kernel
theorem late_12 : ∀ t : Fin cfg0.N, cfg0.idle 12 (cfg0.grid.coords t) = true → (cfg0.win 12).flushF t = false := by decide +kernel

variable (m : (ℓ : Loc nD τ sig) → Buf (Elt F) ℓ) (ρ : Dev nD → PrngReg)

/-! ## What the scratch buffers hold -/

/-- The value block of point `n`, as the ring keeps it. -/
def sb (c : Dev nD) (n : ℕ) : Vec F S1x512x1024 .bf16 := k0_pay10 (iblk m c 2 (pt n))
/-- The largest values so far of the group point `n` is in. -/
def mxAt (c : Dev nD) : ℕ → Vec F S8x1024 .f32
  | 0 => k0_pay11 (cfg0.grid.coords (pt 0)) (iblk m c 2 (pt 0)) (constant S8x1024 .f32 0x00000000#32)
  | n + 1 => k0_pay11 (cfg0.grid.coords (pt (n + 1))) (iblk m c 2 (pt (n + 1))) (mxAt c n)

/-- At a group's first point the largest values are started anew. -/
theorem pay11_first (i : grid0.Coords) (h : (i 1).val = 0) (A : Vec F S1x512x1024 .bf16) (M M' : Vec F S8x1024 .f32) : k0_pay11 i A M = k0_pay11 i A M' := by
  unfold k0_pay11
  dsimp only
  rw [h]
  rfl

/-- What the ring, the largest values and the inverse scales are when point `n` begins. -/
structure Inv (c : Dev nD) (n : ℕ) (st : Vec F S16x512x1024 .bf16) (M : Vec F S8x1024 .f32) (I : Vec F S1x1024 .f32) : Prop where
  ring : ∀ p, p < n → p < 144 → n ≤ p + 16 → stashBlk st ⟨p % 16, Nat.mod_lt _ (by decide)⟩ = sb m c p
  mx : 0 < n → n ≤ 144 → M = mxAt m c (n - 1)
  inv : 16 ≤ n → n < 160 → I = vinvOf (mxAt m c (16 * (n / 16) - 1))

theorem ring_same (st : Vec F S16x512x1024 .bf16) (n : Fin 16) (A : Vec F S1x512x1024 .bf16) : stashBlk (stashed st n A) n = k0_pay10 A := by
  unfold stashBlk stashed
  exact window_put_same _ _ _ _ _
theorem ring_other (st : Vec F S16x512x1024 .bf16) (n n' : Fin 16) (A : Vec F S1x512x1024 .bf16) (h : n.val ≠ n'.val) : stashBlk (stashed st n A) n' = stashBlk st n' := by
  unfold stashBlk stashed
  refine window_put_of_disjoint _ _ _ _ _ _ _ 0 ?_
  show n'.val + 1 ≤ n.val ∨ n.val + 1 ≤ n'.val
  omega

theorem inv_zero (c : Dev nD) (st : Vec F S16x512x1024 .bf16) (M : Vec F S8x1024 .f32) (I : Vec F S1x1024 .f32) : Inv m c 0 st M I :=
  ⟨fun p h => absurd h (Nat.not_lt_zero p), fun h => absurd h (Nat.not_lt_zero 0), fun h => absurd h (by decide)⟩

/-- A point keeps it. -/
theorem inv_step (c : Dev nD) (t : Fin cfg0.N) (st : Vec F S16x512x1024 .bf16) (M : Vec F S8x1024 .f32) (I : Vec F S1x1024 .f32) (h : Inv m c t.val st M I) :
    Inv m c (t.val + 1)
      (if k0_cond3 (cfg0.grid.coords t) = 1#1 then stashed st (cfg0.grid.coords t 1) (iblk m c 2 t) else st)
      (if k0_cond3 (cfg0.grid.coords t) = 1#1 then k0_pay11 (cfg0.grid.coords t) (iblk m c 2 t) M else M)
      (if k0_cond3 (cfg0.grid.coords t) = 1#1 then (if k0_cond4 (cfg0.grid.coords t) = 1#1 then vinvOf (k0_pay11 (cfg0.grid.coords t) (iblk m c 2 t) M) else I) else I) := by
  have hN := lt_160 t
  have hmx : t.val < 144 → k0_pay11 (cfg0.grid.coords t) (iblk m c 2 t) M = mxAt m c t.val := by
    intro ht
    rcases Nat.eq_zero_or_pos t.val with h0 | hp
    · have e : pt 0 = t := by rw [← h0]; exact pt_val t
      rw [h0]; unfold mxAt; rw [e]
      exact pay11_first _ (by rw [coord1, h0]) _ _ _
    · obtain ⟨n, hn⟩ : ∃ n, t.val = n + 1 := ⟨t.val - 1, by omega⟩
      have e : pt (n + 1) = t := by rw [← hn]; exact pt_val t
      rw [h.mx hp (by omega), hn, Nat.add_sub_cancel]
      conv => rhs; unfold mxAt
      rw [e]
  by_cases h3 : t.val < 144
  · rw [if_pos ((cond3_iff t).2 h3), if_pos ((cond3_iff t).2 h3), if_pos ((cond3_iff t).2 h3)]
    refine ⟨fun p hp hp' hn => ?_, fun _ _ => hmx h3, fun h16 h160 => ?_⟩
    · by_cases hpt : p = t.val
      · have e : (⟨p % 16, Nat.mod_lt _ (by decide)⟩ : Fin 16) = cfg0.grid.coords t 1 := Fin.ext (by rw [coord1, hpt])
        rw [e]; refine (ring_same _ _ _).trans ?_; unfold sb; rw [hpt, pt_val]
      · refine (ring_other _ (cfg0.grid.coords t 1) _ _ (fun e => ?_)).trans (h.ring p (by omega) hp' (by omega))
        have e' : t.val % 16 = p % 16 := (coord1 t).symm.trans e
        omega
    · by_cases h4 : t.val % 16 = 15
      · rw [if_pos ((cond4_iff t).2 h4), hmx h3]
        congr 2; omega
      · rw [if_neg (fun e => h4 ((cond4_iff t).1 e)), h.inv (by omega) (by omega)]
        congr 3; omega
  · have h3' : ¬ k0_cond3 (cfg0.grid.coords t) = 1#1 := fun e => h3 ((cond3_iff t).1 e)
    rw [if_neg h3', if_neg h3', if_neg h3']
    refine ⟨fun p hp hp' hn => h.ring p (by omega) hp' (by omega), fun _ h' => absurd h' (by omega), fun h16 h160 => ?_⟩
    rw [h.inv (by omega) (by omega)]
    congr 3; omega

/-- What the body reads off the ring sixteen points after it was put there, -/
theorem ring_read (c : Dev nD) (t : Fin cfg0.N) (st : Vec F S16x512x1024 .bf16) (M : Vec F S8x1024 .f32) (I : Vec F S1x1024 .f32) (h : Inv m c t.val st M I) (h2 : 16 ≤ t.val) :
    stashBlk st (cfg0.grid.coords t 1) = sb m c (t.val - 16) := by
  have hN := lt_160 t
  have e : cfg0.grid.coords t 1 = (⟨(t.val - 16) % 16, Nat.mod_lt _ (by decide)⟩ : Fin 16) := Fin.ext (by rw [coord1]; show t.val % 16 = (t.val - 16) % 16; omega)
  rw [e]; exact h.ring _ (by omega) (by omega) (by omega)
/-- and the largest values a point leaves. -/
theorem mx_read (c : Dev nD) (t : Fin cfg0.N) (st : Vec F S16x512x1024 .bf16) (M : Vec F S8x1024 .f32) (I : Vec F S1x1024 .f32) (h : Inv m c t.val st M I) (h3 : t.val < 144) :
    k0_pay11 (cfg0.grid.coords t) (iblk m c 2 t) M = mxAt m c t.val := by
  have := (inv_step m c t st M I h).mx (by omega) (by omega)
  rw [if_pos ((cond3_iff t).2 h3)] at this
  exact this

/-! ## The pipeline's proof data -/

/-- What the pipeline keeps between points, at anything, -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ ∃ r, prngReg c r) := by
  unfold Pipeline.ΦA; rw [scopedRest0_eq]
  simp only [owns_whole]; try rfl
/-- and as point `n` finds it. -/
def PhiN (c : Dev nD) (n : ℕ) : sProp 𝕄 :=
  iprop((∃ d, owns (c : Thread nD τ) (Memref.whole cc0_scratch0) fullShare d) ∗ (∃ d, owns (c : Thread nD τ) (Memref.whole cc0_scratch1) fullShare d)
      ∗ (∃ st M I, ⌜Inv m c n st M I⌝ ∗ owns (c : Thread nD τ) (Memref.whole cc0_scratch2) fullShare st ∗ owns (c : Thread nD τ) (Memref.whole cc0_scratch3) fullShare M ∗ owns (c : Thread nD τ) (Memref.whole cc0_scratch4) fullShare I)
      ∗ ∃ r, prngReg c r)

theorem Phi_in (c : Dev nD) : (Pipeline.ΦA spec0 c : sProp 𝕄) ⊢ PhiN m c 0 := by
  rw [PhiA_eq]; unfold PhiN
  iintro ⟨⟨H0, H1, ⟨%st, H2⟩, ⟨%M, H3⟩, ⟨%I, H4⟩⟩, HP⟩
  isplitl [H0]; · iexact H0
  isplitl [H1]; · iexact H1
  isplitl [H2 H3 H4]
  · iexists st; iexists M; iexists I
    isplitr; · ipureintro; exact inv_zero m c st M I
    isplitl [H2]; · iexact H2
    isplitl [H3]; · iexact H3
    iexact H4
  iexact HP
theorem Phi_out (c : Dev nD) (n : ℕ) : PhiN m c n ⊢ (Pipeline.ΦA spec0 c : sProp 𝕄) := by
  rw [PhiA_eq]; unfold PhiN
  iintro ⟨H0, H1, ⟨%st, %M, %I, -, H2, H3, H4⟩, HP⟩
  isplitl [H0 H1 H2 H3 H4]
  · isplitl [H0]; · iexact H0
    isplitl [H1]; · iexact H1
    isplitl [H2]; · iexists st; iexact H2
    isplitl [H3]; · iexists M; iexact H3
    iexists I; iexact H4
  iexact HP

/-- The proof data of the one pipeline on core `c`. Past the last point that encodes a query (a key) block the outputs' buffers keep
    what that point left, so `after` is stated there as at that point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesBy (iblk m c 0 (clp t)) (iblk m c 3 (clp t))
    | ⟨6, _⟩ => headsBy (iblk m c 0 (clp t)) (iblk m c 3 (clp t))
    | ⟨7, _⟩ => scalesBy (iblk m c 0 (clp t)) (iblk m c 3 (clp t))
    | ⟨8, _⟩ => codesBy (iblk m c 1 (clp t)) (iblk m c 4 (clp t))
    | ⟨9, _⟩ => headsBy (iblk m c 1 (clp t)) (iblk m c 4 (clp t))
    | ⟨10, _⟩ => scalesBy (iblk m c 1 (clp t)) (iblk m c 4 (clp t))
    | ⟨11, _⟩ => vcodesBy (sb m c (t.val - 16)) (vinvOf (mxAt m c (16 * (t.val / 16) - 1)))
    | ⟨12, _⟩ => vtOf (sb m c (t.val - 16)) (vinvOf (mxAt m c (16 * (t.val / 16) - 1)))
    | ⟨13, _⟩ => vscalesBy (mxAt m c (min (16 * (t.val / 16) + 15) 143))
  Φ k := PhiN m c k.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesBy (iblk m c 0 (clp t)) (iblk m c 3 (clp t)) := by dsimp only [dats]
theorem after0_6 (c : Dev nD) (t : Fin cfg0.N) : (dats m 0 c).after 6 t = headsBy (iblk m c 0 (clp t)) (iblk m c 3 (clp t)) := by dsimp only [dats]
theorem after0_7 (c : Dev nD) (t : Fin cfg0.N) : (dats m 0 c).after 7 t = scalesBy (iblk m c 0 (clp t)) (iblk m c 3 (clp t)) := by dsimp only [dats]
theorem after0_8 (c : Dev nD) (t : Fin cfg0.N) : (dats m 0 c).after 8 t = codesBy (iblk m c 1 (clp t)) (iblk m c 4 (clp t)) := by dsimp only [dats]
theorem after0_9 (c : Dev nD) (t : Fin cfg0.N) : (dats m 0 c).after 9 t = headsBy (iblk m c 1 (clp t)) (iblk m c 4 (clp t)) := by dsimp only [dats]
theorem after0_10 (c : Dev nD) (t : Fin cfg0.N) : (dats m 0 c).after 10 t = scalesBy (iblk m c 1 (clp t)) (iblk m c 4 (clp t)) := by dsimp only [dats]
theorem after0_11 (c : Dev nD) (t : Fin cfg0.N) : (dats m 0 c).after 11 t = vcodesBy (sb m c (t.val - 16)) (vinvOf (mxAt m c (16 * (t.val / 16) - 1))) := by dsimp only [dats]
theorem after0_12 (c : Dev nD) (t : Fin cfg0.N) : (dats m 0 c).after 12 t = vtOf (sb m c (t.val - 16)) (vinvOf (mxAt m c (16 * (t.val / 16) - 1))) := by dsimp only [dats]
theorem after0_13 (c : Dev nD) (t : Fin cfg0.N) : (dats m 0 c).after 13 t = vscalesBy (mxAt m c (min (16 * (t.val / 16) + 15) 143)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## What a point that does not store leaves -/

/-- An output's buffer that holds what the window wants of it: what the body stored, or, where it stored nothing, what was found. -/
theorem leaves_of (c : Dev nD) (w : Fin cfg0.W) (t : Fin cfg0.N) (d) (X : (cfg0.win w).block.Idx → Elt F (cfg0.win w).elt)
    (hlive : cfg0.idle w (cfg0.grid.coords t) = false → X = (dats m 0 c).after w t)
    (hidle : cfg0.idle w (cfg0.grid.coords t) = true → X = (dats m 0 c).before w t d)
    (hlast : cfg0.idle w (cfg0.grid.coords t) = true → (cfg0.win w).flush t = true → (dats m 0 c).before w t d = (dats m 0 c).after w t) :
    (owns (c : Thread nD τ) ((cfg0.win w).stage (cfg0.slots t w)) fullShare X : sProp 𝕄) ⊢ (dats m 0 c).leavesExact w t := by
  unfold Dat.leavesExact
  cases hi : cfg0.idle w (cfg0.grid.coords t)
  · rw [hlive hi]
  · cases hf : (cfg0.win w).flush t
    · rw [hidle hi]
      iintro H
      iexists d
      iexact H
    · rw [hidle hi, hlast hi hf]

theorem last_5 (c : Dev nD) (t : Fin cfg0.N) (d) (hi : cfg0.idle 5 (cfg0.grid.coords t) = true) (hf : (cfg0.win 5).flush t = true) :
    (dats m 0 c).before 5 t d = (dats m 0 c).after 5 t := by
  have hcarry : ∀ (t : Fin cfg0.N) (_ : t.val ≠ 0), cfg0.idle 5 (cfg0.grid.coords t) = true → cfg0.fresh 5 t.val = false →
      (dats m 0 c).after 5 t = (dats m 0 c).after 5 ⟨t.val - 1, by omega⟩ := by
    intro t h0 _ hfr
    have hN := lt_160 t
    have ht : 144 ≤ t.val := by
      rw [fresh_5 _ hN.le] at hfr
      simp only [Bool.or_eq_false_iff, decide_eq_false_iff_not] at hfr
      omega
    · rw [after0_5, after0_5]
      have e : clp t = clp ⟨t.val - 1, by omega⟩ := by unfold clp; congr 1; show min t.val 143 = min (t.val - 1) 143; omega
      rw [e]
  have ht : t.val = 159 := late_5 t hi (by rw [← Pipeline.Window.flush_eq_flushF]; exact hf)
  have hfr : cfg0.fresh 5 t.val = false := by rw [ht, fresh_5 _ (by decide)]; rfl
  rw [(dats m 0 c).before_out_traj 5 rfl (fun _ _ => rfl) hcarry t.val t rfl d, hfr, if_neg Bool.false_ne_true]
  exact (hcarry t (by omega) hi hfr).symm
theorem last_6 (c : Dev nD) (t : Fin cfg0.N) (d) (hi : cfg0.idle 6 (cfg0.grid.coords t) = true) (hf : (cfg0.win 6).flush t = true) :
    (dats m 0 c).before 6 t d = (dats m 0 c).after 6 t := by
  have hcarry : ∀ (t : Fin cfg0.N) (_ : t.val ≠ 0), cfg0.idle 6 (cfg0.grid.coords t) = true → cfg0.fresh 6 t.val = false →
      (dats m 0 c).after 6 t = (dats m 0 c).after 6 ⟨t.val - 1, by omega⟩ := by
    intro t h0 _ hfr
    have hN := lt_160 t
    have ht : 144 ≤ t.val := by
      rw [fresh_6 _ hN.le] at hfr
      simp only [Bool.or_eq_false_iff, decide_eq_false_iff_not] at hfr
      omega
    · rw [after0_6, after0_6]
      have e : clp t = clp ⟨t.val - 1, by omega⟩ := by unfold clp; congr 1; show min t.val 143 = min (t.val - 1) 143; omega
      rw [e]
  have ht : t.val = 159 := late_6 t hi (by rw [← Pipeline.Window.flush_eq_flushF]; exact hf)
  have hfr : cfg0.fresh 6 t.val = false := by rw [ht, fresh_6 _ (by decide)]; rfl
  rw [(dats m 0 c).before_out_traj 6 rfl (fun _ _ => rfl) hcarry t.val t rfl d, hfr, if_neg Bool.false_ne_true]
  exact (hcarry t (by omega) hi hfr).symm
theorem last_7 (c : Dev nD) (t : Fin cfg0.N) (d) (hi : cfg0.idle 7 (cfg0.grid.coords t) = true) (hf : (cfg0.win 7).flush t = true) :
    (dats m 0 c).before 7 t d = (dats m 0 c).after 7 t := by
  have hcarry : ∀ (t : Fin cfg0.N) (_ : t.val ≠ 0), cfg0.idle 7 (cfg0.grid.coords t) = true → cfg0.fresh 7 t.val = false →
      (dats m 0 c).after 7 t = (dats m 0 c).after 7 ⟨t.val - 1, by omega⟩ := by
    intro t h0 _ hfr
    have hN := lt_160 t
    have ht : 144 ≤ t.val := by
      rw [fresh_7 _ hN.le] at hfr
      simp only [Bool.or_eq_false_iff, decide_eq_false_iff_not] at hfr
      omega
    · rw [after0_7, after0_7]
      have e : clp t = clp ⟨t.val - 1, by omega⟩ := by unfold clp; congr 1; show min t.val 143 = min (t.val - 1) 143; omega
      rw [e]
  have ht : t.val = 159 := late_7 t hi (by rw [← Pipeline.Window.flush_eq_flushF]; exact hf)
  have hfr : cfg0.fresh 7 t.val = false := by rw [ht, fresh_7 _ (by decide)]; rfl
  rw [(dats m 0 c).before_out_traj 7 rfl (fun _ _ => rfl) hcarry t.val t rfl d, hfr, if_neg Bool.false_ne_true]
  exact (hcarry t (by omega) hi hfr).symm
theorem last_8 (c : Dev nD) (t : Fin cfg0.N) (d) (hi : cfg0.idle 8 (cfg0.grid.coords t) = true) (hf : (cfg0.win 8).flush t = true) :
    (dats m 0 c).before 8 t d = (dats m 0 c).after 8 t := by
  have hcarry : ∀ (t : Fin cfg0.N) (_ : t.val ≠ 0), cfg0.idle 8 (cfg0.grid.coords t) = true → cfg0.fresh 8 t.val = false →
      (dats m 0 c).after 8 t = (dats m 0 c).after 8 ⟨t.val - 1, by omega⟩ := by
    intro t h0 _ hfr
    have hN := lt_160 t
    have ht : 144 ≤ t.val := by
      rw [fresh_8 _ hN.le] at hfr
      simp only [Bool.or_eq_false_iff, decide_eq_false_iff_not] at hfr
      omega
    · rw [after0_8, after0_8]
      have e : clp t = clp ⟨t.val - 1, by omega⟩ := by unfold clp; congr 1; show min t.val 143 = min (t.val - 1) 143; omega
      rw [e]
  have ht : t.val = 159 := late_8 t hi (by rw [← Pipeline.Window.flush_eq_flushF]; exact hf)
  have hfr : cfg0.fresh 8 t.val = false := by rw [ht, fresh_8 _ (by decide)]; rfl
  rw [(dats m 0 c).before_out_traj 8 rfl (fun _ _ => rfl) hcarry t.val t rfl d, hfr, if_neg Bool.false_ne_true]
  exact (hcarry t (by omega) hi hfr).symm
theorem last_9 (c : Dev nD) (t : Fin cfg0.N) (d) (hi : cfg0.idle 9 (cfg0.grid.coords t) = true) (hf : (cfg0.win 9).flush t = true) :
    (dats m 0 c).before 9 t d = (dats m 0 c).after 9 t := by
  have hcarry : ∀ (t : Fin cfg0.N) (_ : t.val ≠ 0), cfg0.idle 9 (cfg0.grid.coords t) = true → cfg0.fresh 9 t.val = false →
      (dats m 0 c).after 9 t = (dats m 0 c).after 9 ⟨t.val - 1, by omega⟩ := by
    intro t h0 _ hfr
    have hN := lt_160 t
    have ht : 144 ≤ t.val := by
      rw [fresh_9 _ hN.le] at hfr
      simp only [Bool.or_eq_false_iff, decide_eq_false_iff_not] at hfr
      omega
    · rw [after0_9, after0_9]
      have e : clp t = clp ⟨t.val - 1, by omega⟩ := by unfold clp; congr 1; show min t.val 143 = min (t.val - 1) 143; omega
      rw [e]
  have ht : t.val = 159 := late_9 t hi (by rw [← Pipeline.Window.flush_eq_flushF]; exact hf)
  have hfr : cfg0.fresh 9 t.val = false := by rw [ht, fresh_9 _ (by decide)]; rfl
  rw [(dats m 0 c).before_out_traj 9 rfl (fun _ _ => rfl) hcarry t.val t rfl d, hfr, if_neg Bool.false_ne_true]
  exact (hcarry t (by omega) hi hfr).symm
theorem last_10 (c : Dev nD) (t : Fin cfg0.N) (d) (hi : cfg0.idle 10 (cfg0.grid.coords t) = true) (hf : (cfg0.win 10).flush t = true) :
    (dats m 0 c).before 10 t d = (dats m 0 c).after 10 t := by
  have hcarry : ∀ (t : Fin cfg0.N) (_ : t.val ≠ 0), cfg0.idle 10 (cfg0.grid.coords t) = true → cfg0.fresh 10 t.val = false →
      (dats m 0 c).after 10 t = (dats m 0 c).after 10 ⟨t.val - 1, by omega⟩ := by
    intro t h0 _ hfr
    have hN := lt_160 t
    have ht : 144 ≤ t.val := by
      rw [fresh_10 _ hN.le] at hfr
      simp only [Bool.or_eq_false_iff, decide_eq_false_iff_not] at hfr
      omega
    · rw [after0_10, after0_10]
      have e : clp t = clp ⟨t.val - 1, by omega⟩ := by unfold clp; congr 1; show min t.val 143 = min (t.val - 1) 143; omega
      rw [e]
  have ht : t.val = 159 := late_10 t hi (by rw [← Pipeline.Window.flush_eq_flushF]; exact hf)
  have hfr : cfg0.fresh 10 t.val = false := by rw [ht, fresh_10 _ (by decide)]; rfl
  rw [(dats m 0 c).before_out_traj 10 rfl (fun _ _ => rfl) hcarry t.val t rfl d, hfr, if_neg Bool.false_ne_true]
  exact (hcarry t (by omega) hi hfr).symm
theorem last_13 (c : Dev nD) (t : Fin cfg0.N) (d) (hi : cfg0.idle 13 (cfg0.grid.coords t) = true) (hf : (cfg0.win 13).flush t = true) :
    (dats m 0 c).before 13 t d = (dats m 0 c).after 13 t := by
  have hcarry : ∀ (t : Fin cfg0.N) (_ : t.val ≠ 0), cfg0.idle 13 (cfg0.grid.coords t) = true → cfg0.fresh 13 t.val = false →
      (dats m 0 c).after 13 t = (dats m 0 c).after 13 ⟨t.val - 1, by omega⟩ := by
    intro t h0 _ hfr
    have hN := lt_160 t
    have ht : 144 ≤ t.val := by
      rw [fresh_13 _ hN.le] at hfr
      simp only [Bool.or_eq_false_iff, decide_eq_false_iff_not] at hfr
      omega
    · rw [after0_13, after0_13]
      have e : min (16 * (t.val / 16) + 15) 143 = min (16 * ((t.val - 1) / 16) + 15) 143 := by omega
      show vscalesBy (mxAt m c (min (16 * (t.val / 16) + 15) 143)) = vscalesBy (mxAt m c (min (16 * ((t.val - 1) / 16) + 15) 143))
      rw [e]
  have ht : t.val = 159 := late_13 t hi (by rw [← Pipeline.Window.flush_eq_flushF]; exact hf)
  have hfr : cfg0.fresh 13 t.val = false := by rw [ht, fresh_13 _ (by decide)]; rfl
  rw [(dats m 0 c).before_out_traj 13 rfl (fun _ _ => rfl) hcarry t.val t rfl d, hfr, if_neg Bool.false_ne_true]
  exact (hcarry t (by omega) hi hfr).symm
theorem last_11 (c : Dev nD) (t : Fin cfg0.N) (d) (hi : cfg0.idle 11 (cfg0.grid.coords t) = true) (hf : (cfg0.win 11).flush t = true) :
    (dats m 0 c).before 11 t d = (dats m 0 c).after 11 t := by
  rw [Pipeline.Window.flush_eq_flushF, late_11 t hi] at hf
  exact absurd hf Bool.false_ne_true
theorem last_12 (c : Dev nD) (t : Fin cfg0.N) (d) (hi : cfg0.idle 12 (cfg0.grid.coords t) = true) (hf : (cfg0.win 12).flush t = true) :
    (dats m 0 c).before 12 t d = (dats m 0 c).after 12 t := by
  rw [Pipeline.Window.flush_eq_flushF, late_12 t hi] at hf
  exact absurd hf Bool.false_ne_true
/-- A window is idle where its condition fails. -/
theorem idle_false {b : BitVec 1} (h : (!(b == 1#1)) = false) : b = 1#1 := by
  revert h; revert b; decide
theorem idle_true {b : BitVec 1} (h : (!(b == 1#1)) = true) : ¬ b = 1#1 := by
  revert h; revert b; decide
theorem idle_false2 {a b : BitVec 1} (h : (!(a == 1#1 && b == 1#1)) = false) : a = 1#1 ∧ b = 1#1 := by
  revert h; revert a b; decide
theorem idle_true2 {a b : BitVec 1} (h : (!(a == 1#1 && b == 1#1)) = true) : ¬ (a = 1#1 ∧ b = 1#1) := by
  revert h; revert a b; decide

theorem leaves_5 (c : Dev nD) (t : Fin cfg0.N) (d) :
    (owns (c : Thread nD τ) (st0_5 t) fullShare (if k0_cond1 (cfg0.grid.coords t) = 1#1 then codesBy (iblk m c 0 t) (iblk m c 3 t) else (dats m 0 c).before 5 t d) : sProp 𝕄) ⊢ (dats m 0 c).leavesExact 5 t := by
  refine leaves_of m c 5 t d _ (fun hi => ?_) (fun hi => ?_) (last_5 m c t d)
  · have h : k0_cond1 (cfg0.grid.coords t) = 1#1 := idle_false hi
    rw [if_pos h, after0_5, clp_of_lt t ((cond1_iff t).1 h)]
  · exact if_neg (idle_true hi)
theorem leaves_6 (c : Dev nD) (t : Fin cfg0.N) (d) :
    (owns (c : Thread nD τ) (st0_6 t) fullShare (if k0_cond1 (cfg0.grid.coords t) = 1#1 then headsBy (iblk m c 0 t) (iblk m c 3 t) else (dats m 0 c).before 6 t d) : sProp 𝕄) ⊢ (dats m 0 c).leavesExact 6 t := by
  refine leaves_of m c 6 t d _ (fun hi => ?_) (fun hi => ?_) (last_6 m c t d)
  · have h : k0_cond1 (cfg0.grid.coords t) = 1#1 := idle_false hi
    rw [if_pos h, after0_6, clp_of_lt t ((cond1_iff t).1 h)]
  · exact if_neg (idle_true hi)
theorem leaves_7 (c : Dev nD) (t : Fin cfg0.N) (d) :
    (owns (c : Thread nD τ) (st0_7 t) fullShare (if k0_cond1 (cfg0.grid.coords t) = 1#1 then scalesBy (iblk m c 0 t) (iblk m c 3 t) else (dats m 0 c).before 7 t d) : sProp 𝕄) ⊢ (dats m 0 c).leavesExact 7 t := by
  refine leaves_of m c 7 t d _ (fun hi => ?_) (fun hi => ?_) (last_7 m c t d)
  · have h : k0_cond1 (cfg0.grid.coords t) = 1#1 := idle_false hi
    rw [if_pos h, after0_7, clp_of_lt t ((cond1_iff t).1 h)]
  · exact if_neg (idle_true hi)
theorem leaves_8 (c : Dev nD) (t : Fin cfg0.N) (d) :
    (owns (c : Thread nD τ) (st0_8 t) fullShare (if k0_cond1 (cfg0.grid.coords t) = 1#1 then codesBy (iblk m c 1 t) (iblk m c 4 t) else (dats m 0 c).before 8 t d) : sProp 𝕄) ⊢ (dats m 0 c).leavesExact 8 t := by
  refine leaves_of m c 8 t d _ (fun hi => ?_) (fun hi => ?_) (last_8 m c t d)
  · have h : k0_cond1 (cfg0.grid.coords t) = 1#1 := idle_false hi
    rw [if_pos h, after0_8, clp_of_lt t ((cond1_iff t).1 h)]
  · exact if_neg (idle_true hi)
theorem leaves_9 (c : Dev nD) (t : Fin cfg0.N) (d) :
    (owns (c : Thread nD τ) (st0_9 t) fullShare (if k0_cond1 (cfg0.grid.coords t) = 1#1 then headsBy (iblk m c 1 t) (iblk m c 4 t) else (dats m 0 c).before 9 t d) : sProp 𝕄) ⊢ (dats m 0 c).leavesExact 9 t := by
  refine leaves_of m c 9 t d _ (fun hi => ?_) (fun hi => ?_) (last_9 m c t d)
  · have h : k0_cond1 (cfg0.grid.coords t) = 1#1 := idle_false hi
    rw [if_pos h, after0_9, clp_of_lt t ((cond1_iff t).1 h)]
  · exact if_neg (idle_true hi)
theorem leaves_10 (c : Dev nD) (t : Fin cfg0.N) (d) :
    (owns (c : Thread nD τ) (st0_10 t) fullShare (if k0_cond1 (cfg0.grid.coords t) = 1#1 then scalesBy (iblk m c 1 t) (iblk m c 4 t) else (dats m 0 c).before 10 t d) : sProp 𝕄) ⊢ (dats m 0 c).leavesExact 10 t := by
  refine leaves_of m c 10 t d _ (fun hi => ?_) (fun hi => ?_) (last_10 m c t d)
  · have h : k0_cond1 (cfg0.grid.coords t) = 1#1 := idle_false hi
    rw [if_pos h, after0_10, clp_of_lt t ((cond1_iff t).1 h)]
  · exact if_neg (idle_true hi)
theorem leaves_11 (c : Dev nD) (t : Fin cfg0.N) (d) (st : Vec F S16x512x1024 .bf16) (M : Vec F S8x1024 .f32) (I : Vec F S1x1024 .f32) (h : Inv m c t.val st M I) :
    (owns (c : Thread nD τ) (st0_11 t) fullShare (if k0_cond2 (cfg0.grid.coords t) = 1#1 then vcodesBy (stashBlk st (cfg0.grid.coords t 1)) I else (dats m 0 c).before 11 t d) : sProp 𝕄) ⊢ (dats m 0 c).leavesExact 11 t := by
  refine leaves_of m c 11 t d _ (fun hi => ?_) (fun hi => ?_) (last_11 m c t d)
  · have h2 : k0_cond2 (cfg0.grid.coords t) = 1#1 := idle_false hi
    have h16 := (cond2_iff t).1 h2
    rw [if_pos h2, after0_11, ring_read m c t st M I h h16, h.inv h16 (lt_160 t)]
  · exact if_neg (idle_true hi)
theorem leaves_12 (c : Dev nD) (t : Fin cfg0.N) (d) (st : Vec F S16x512x1024 .bf16) (M : Vec F S8x1024 .f32) (I : Vec F S1x1024 .f32) (h : Inv m c t.val st M I) :
    (owns (c : Thread nD τ) (st0_12 t) fullShare (if k0_cond2 (cfg0.grid.coords t) = 1#1 then vtOf (stashBlk st (cfg0.grid.coords t 1)) I else (dats m 0 c).before 12 t d) : sProp 𝕄) ⊢ (dats m 0 c).leavesExact 12 t := by
  refine leaves_of m c 12 t d _ (fun hi => ?_) (fun hi => ?_) (last_12 m c t d)
  · have h2 : k0_cond2 (cfg0.grid.coords t) = 1#1 := idle_false hi
    have h16 := (cond2_iff t).1 h2
    rw [if_pos h2, after0_12, ring_read m c t st M I h h16, h.inv h16 (lt_160 t)]
  · exact if_neg (idle_true hi)
theorem leaves_13 (c : Dev nD) (t : Fin cfg0.N) (d) (st : Vec F S16x512x1024 .bf16) (M : Vec F S8x1024 .f32) (I : Vec F S1x1024 .f32) (h : Inv m c t.val st M I) :
    (owns (c : Thread nD τ) (st0_13 t) fullShare (if k0_cond3 (cfg0.grid.coords t) = 1#1 then (if k0_cond4 (cfg0.grid.coords t) = 1#1 then vscalesBy (k0_pay11 (cfg0.grid.coords t) (iblk m c 2 t) M) else (dats m 0 c).before 13 t d) else (dats m 0 c).before 13 t d) : sProp 𝕄) ⊢ (dats m 0 c).leavesExact 13 t := by
  refine leaves_of m c 13 t d _ (fun hi => ?_) (fun hi => ?_) (last_13 m c t d)
  · obtain ⟨h3, h4⟩ : k0_cond3 (cfg0.grid.coords t) = 1#1 ∧ k0_cond4 (cfg0.grid.coords t) = 1#1 := idle_false2 hi
    have h3' := (cond3_iff t).1 h3
    have h4' := (cond4_iff t).1 h4
    have e : min (16 * (t.val / 16) + 15) 143 = t.val := by omega
    rw [if_pos h3, if_pos h4, after0_13, e, mx_read m c t st M I h h3']
  · have hn : ¬ (k0_cond3 (cfg0.grid.coords t) = 1#1 ∧ k0_cond4 (cfg0.grid.coords t) = 1#1) := idle_true2 hi
    by_cases h3 : k0_cond3 (cfg0.grid.coords t) = 1#1
    · rw [if_pos h3, if_neg (fun h4 => hn ⟨h3, h4⟩)]
    · rw [if_neg h3]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiN m c (t.val + 1) from rfl,
    show (dats m 0 c).owesAt () t.succ = (dats m 0 c).owesAt () t.castSucc from rfl,
    after0_0, after0_1, after0_2, after0_3, after0_4]
  rw [show (dats m 0 c).Φ t.castSucc = PhiN m c t.val from rfl]
  unfold PhiN
  iintro ⟨⟨⟨%dY, HY⟩, ⟨%dT, HT⟩, ⟨%st, %M, %I, %hinv, HS2, HS3, HS4⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_spec c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) dY dT st M I _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HY]; · iexact HY
  isplitl [HT]; · iexact HT
  isplitl [HS2]; · iexact HS2
  isplitl [HS3]; · iexact HS3
  isplitl [HS4]; · iexact HS4
  iintro ⟨H0, H1, H2, H3, H4, H5, H6, H7, H8, H9, H10, H11, H12, H13  , HY, HT, HS2, HS3, HS4⟩
  isplitl [HY HT HS2 HS3 HS4 HP]
  · isplitl [HY]; · iexact HY
    isplitl [HT]; · iexact HT
    isplitl [HS2 HS3 HS4]
    · iexists _; iexists _; iexists _
      isplitr; · ipureintro; exact inv_step m c t st M I hinv
      isplitl [HS2]; · iexact HS2
      isplitl [HS3]; · iexact HS3
      iexact HS4
    iexact HP
  isplitl [Ho]; · iexact Ho
  isplitl [H0]; · iexact H0
  isplitl [H1]; · iexact H1
  isplitl [H2]; · iexact H2
  isplitl [H3]; · iexact H3
  isplitl [H4]; · iexact H4
  isplitl [H5]; · iapply (leaves_5 m c t d5); iexact H5
  isplitl [H6]; · iapply (leaves_6 m c t d6); iexact H6
  isplitl [H7]; · iapply (leaves_7 m c t d7); iexact H7
  isplitl [H8]; · iapply (leaves_8 m c t d8); iexact H8
  isplitl [H9]; · iapply (leaves_9 m c t d9); iexact H9
  isplitl [H10]; · iapply (leaves_10 m c t d10); iexact H10
  isplitl [H11]; · iapply (leaves_11 m c t d11 st M I hinv); iexact H11
  isplitl [H12]; · iapply (leaves_12 m c t d12 st M I hinv); iexact H12
  iapply (leaves_13 m c t d13 st M I hinv); iexact H13

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array of the pipeline ends at what the library computes from the proof data, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := fun c => Phi_in m c) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.QuantiseIdeal.Quant

end
-- ==== Proof.Quant.Rot.lean ====
/- The rotation the host builds for the quantise kernel: for a pair of heads, each head's signed Hadamard matrix on its
   own half and zero elsewhere. -/
module

public import proofs.«01_k».proof.Proof.Quant.Data
public import proofs.«01_k».proof.Proof.Quant.RefValue
public import Idealize.ShloMosaic.Lib.Pipeline.ValueKit

@[expose] public section

set_option maxRecDepth 65536

noncomputable section

namespace Cert.QuantiseIdeal.Quant

open Cert.QuantiseIdeal Cert.QuantiseIdeal.Gen Cert.Quant Idealize.ShloMosaic Idealize.ShloMosaic.TcCoe Idealize.SL.Sem
open Cert.QuantiseReferenceIdeal.Quant (had)

variable (m : (ℓ : Loc nD τ sig) → Buf (Elt Ideal) ℓ)

/-- Head `h`'s signed Hadamard matrix. -/
def sh (sg : Vec Ideal S8x128 .i8) (h : Fin 8) (i j : Fin 128) : EReal :=
  FloatOps.sitofp (F := Ideal) FTy.f32 (BitVec.signExtend 32 (sg (ix2 h i))) * had i j

/-- What the rotation array is, for the heads' signs. -/
structure IsRot (R : Vec Ideal S4x256x256 .bf16) (sg : Vec Ideal S8x128 .i8) : Prop where
  even : ∀ (p : Fin 4) (i j : Fin 128), (R (ix3 p (⟨i.val, by omega⟩ : Fin 256) (⟨j.val, by omega⟩ : Fin 256)) : EReal) = sh sg ⟨2 * p.val, by omega⟩ i j
  odd : ∀ (p : Fin 4) (i j : Fin 128), (R (ix3 p (⟨128 + i.val, by omega⟩ : Fin 256) (⟨128 + j.val, by omega⟩ : Fin 256)) : EReal) = sh sg ⟨1 + 2 * p.val, by omega⟩ i j
  below : ∀ (p : Fin 4) (i j : Fin 128), (R (ix3 p (⟨128 + i.val, by omega⟩ : Fin 256) (⟨j.val, by omega⟩ : Fin 256)) : EReal) = (0 : EReal)
  right : ∀ (p : Fin 4) (i j : Fin 128), (R (ix3 p (⟨i.val, by omega⟩ : Fin 256) (⟨128 + j.val, by omega⟩ : Fin 256)) : EReal) = (0 : EReal)

theorem rot_even (c : Dev nD) (p : Fin 4) (i j : Fin 128) :
    (V m c main_v27 (ix3 p (⟨i.val, by omega⟩ : Fin 256) (⟨j.val, by omega⟩ : Fin 256)) : EReal) = sh (m ((c : Thread nD τ).loc main_arg3)) ⟨2 * p.val, by omega⟩ i j := by
  unfold sh had
  entry_read
  pointwise
theorem rot_odd (c : Dev nD) (p : Fin 4) (i j : Fin 128) :
    (V m c main_v27 (ix3 p (⟨128 + i.val, by omega⟩ : Fin 256) (⟨128 + j.val, by omega⟩ : Fin 256)) : EReal) = sh (m ((c : Thread nD τ).loc main_arg3)) ⟨1 + 2 * p.val, by omega⟩ i j := by
  unfold sh had
  entry_read
  pointwise
theorem rot_below (c : Dev nD) (p : Fin 4) (i j : Fin 128) :
    (V m c main_v27 (ix3 p (⟨128 + i.val, by omega⟩ : Fin 256) (⟨j.val, by omega⟩ : Fin 256)) : EReal) = (0 : EReal) := by
  entry_read
  pointwise
theorem rot_right (c : Dev nD) (p : Fin 4) (i j : Fin 128) :
    (V m c main_v27 (ix3 p (⟨i.val, by omega⟩ : Fin 256) (⟨128 + j.val, by omega⟩ : Fin 256)) : EReal) = (0 : EReal) := by
  entry_read
  pointwise
theorem isRot (c : Dev nD) : IsRot (V m c main_v27) (m ((c : Thread nD τ).loc main_arg3)) :=
  ⟨rot_even m c, rot_odd m c, rot_below m c, rot_right m c⟩

end Cert.QuantiseIdeal.Quant
end
-- ==== Proof.Quant.Algebra.lean ====
/- Sums and largest magnitudes over the extended reals. -/
module

public import proofs.«01_k».proof.Proof.Quant.Ladder

@[expose] public section

noncomputable section

namespace Cert.Quant

open Idealize.ShloMosaic

theorem bits_rot : w 0x3DB504F3#32 = ((11863283 / 134217728 : ℝ) : EReal) := by
  unfold w
  simp [Ideal.ofBits, Ideal.ieee, -EReal.coe_mul]; norm_num
theorem bits_bot : w 0xFF800000#32 = (⊥ : EReal) := by
  unfold w
  simp [Ideal.ofBits, Ideal.ieee]

/-- The rotation's scale multiplies a sum term by term. -/
theorem sum_rot {ι : Type} (s : Finset ι) (f : ι → EReal) : (∑ k ∈ s, f k) * w 0x3DB504F3#32 = ∑ k ∈ s, f k * w 0x3DB504F3#32 := by
  classical
  induction s using Finset.induction_on with
  | empty => simp
  | insert a s ha ih =>
    rw [Finset.sum_insert ha, Finset.sum_insert ha, ← ih]
    refine EReal.right_distrib_of_nonneg_of_ne_top ?_ ?_ _ _
    · rw [bits_rot]; exact EReal.coe_nonneg.2 (by norm_num)
    · rw [bits_rot]; exact EReal.coe_ne_top _

theorem fold_le {ι : Type} [Fintype ι] (f : ι → EReal) (X : EReal) : Finset.fold max (w 0xFF800000#32) f Finset.univ ≤ X ↔ ∀ i, f i ≤ X := by
  rw [bits_bot, Finset.fold_max_le]
  exact ⟨fun h i => h.2 i (Finset.mem_univ i), fun h => ⟨bot_le, fun i _ => h i⟩⟩

/-- The largest of a table, rows first or columns first. -/
theorem fold_swap {ι κ : Type} [Fintype ι] [Fintype κ] (f : ι → κ → EReal) :
    Finset.fold max (w 0xFF800000#32) (fun d => Finset.fold max (w 0xFF800000#32) (fun i => f i d) Finset.univ) Finset.univ
      = Finset.fold max (w 0xFF800000#32) (fun i => Finset.fold max (w 0xFF800000#32) (fun d => f i d) Finset.univ) Finset.univ := by
  refine eq_of_forall_ge_iff fun X => ?_
  simp only [fold_le]
  exact forall_comm

theorem abs_same (x : EReal) : FloatOps.absf (F := Ideal) (φ := .bf16) x = FloatOps.absf (F := Ideal) (φ := .f32) x := rfl

end Cert.Quant
end
-- ==== Proof.Quant.KerEq.lean ====
/- The quantise kernel's blocks are the reference's arrays at the blocks' places. -/
module

public import proofs.«01_k».proof.Proof.Quant.KerValue
public import proofs.«01_k».proof.Proof.Quant.RefV
public import proofs.«01_k».proof.Proof.Quant.Rot
public import proofs.«01_k».proof.Proof.Quant.Algebra

@[expose] public section

set_option maxRecDepth 65536

noncomputable section

namespace Cert.QuantiseIdeal.Quant

open Cert.QuantiseIdeal Cert.QuantiseIdeal.Gen Cert.Quant Idealize.ShloMosaic Idealize.ShloMosaic.TcCoe Idealize.SL.Sem
open Cert.QuantiseReferenceIdeal.Quant (had yR rR cl mV rV)

section
variable (X : Vec Ideal S1x512x1024 .bf16) (R : Vec Ideal S4x256x256 .bf16) (sg : Vec Ideal S8x128 .i8) (x : Vec Ideal S9x8192x1024 .bf16)

/-- The reference's rotation for the signs. -/
abbrev rot (sg : Vec Ideal S8x128 .i8) : FVec Ideal S8x128x128 .f32 := Cert.QuantiseReferenceIdeal.Gen.k0_pay1 (F := Ideal) sg

theorem split256 (f : Fin 256 → EReal) : ∑ k, f k = ∑ k : Fin 128, f ⟨k.val, by omega⟩ + ∑ k : Fin 128, f ⟨128 + k.val, by omega⟩ :=
  Fin.sum_univ_add (a := 128) (b := 128) f

theorem yK_even (hR : IsRot R sg) (r : Fin 512) (p : Fin 4) (j : Fin 1024) (d : Fin 128) (hj : j.val = 256 * p.val + d.val) :
    yK X R r j = (∑ k : Fin 128, (X (ix3 0 r (⟨256 * p.val + k.val, by omega⟩ : Fin 1024)) : EReal) * sh sg ⟨2 * p.val, by omega⟩ k d) * w 0x3DB504F3#32 := by
  unfold yK
  simp only [show j.val / 256 = p.val by omega, show j.val % 256 = d.val by omega]
  rw [split256]
  have e1 (k : Fin 128) : (R (ix3 (⟨p.val, by omega⟩ : Fin 4) (⟨k.val, by omega⟩ : Fin 256) (⟨d.val, by omega⟩ : Fin 256)) : EReal) = sh sg ⟨2 * p.val, by omega⟩ k d := hR.even p k d
  have e2 (k : Fin 128) : (R (ix3 (⟨p.val, by omega⟩ : Fin 4) (⟨128 + k.val, by omega⟩ : Fin 256) (⟨d.val, by omega⟩ : Fin 256)) : EReal) = 0 := hR.below p k d
  simp only [e1, e2, mul_zero, Finset.sum_const_zero, add_zero]

theorem yK_odd (hR : IsRot R sg) (r : Fin 512) (p : Fin 4) (j : Fin 1024) (d : Fin 128) (hj : j.val = 256 * p.val + (128 + d.val)) :
    yK X R r j = (∑ k : Fin 128, (X (ix3 0 r (⟨256 * p.val + (128 + k.val), by omega⟩ : Fin 1024)) : EReal) * sh sg ⟨1 + 2 * p.val, by omega⟩ k d) * w 0x3DB504F3#32 := by
  unfold yK
  simp only [show j.val / 256 = p.val by omega, show j.val % 256 = 128 + d.val by omega]
  rw [split256]
  have e1 (k : Fin 128) : (R (ix3 (⟨p.val, by omega⟩ : Fin 4) (⟨k.val, by omega⟩ : Fin 256) (⟨128 + d.val, by omega⟩ : Fin 256)) : EReal) = 0 := hR.right p k d
  have e2 (k : Fin 128) : (R (ix3 (⟨p.val, by omega⟩ : Fin 4) (⟨128 + k.val, by omega⟩ : Fin 256) (⟨128 + d.val, by omega⟩ : Fin 256)) : EReal) = sh sg ⟨1 + 2 * p.val, by omega⟩ k d := hR.odd p k d
  simp only [e1, e2, mul_zero, Finset.sum_const_zero, zero_add]

/-- The rotated block is the reference's rotated token. -/
theorem yOf_ref (hR : IsRot R sg) (b : Fin 9) (s : Fin 16) (hX : ∀ (r : Fin 512) (j : Fin 1024), X (ix3 0 r j) = x (ix3 b (⟨512 * s.val + r.val, by omega⟩ : Fin 8192) j))
    (r : Fin 512) (h : Fin 8) (d : Fin 128) : yOf (F := Ideal) X R (ix2 r (chan h d)) = yR x (rot sg) b (⟨512 * s.val + r.val, by omega⟩ : Fin 8192) h d := by
  rw [yOf_apply]
  have key : yK X R r (chan h d) = (∑ k : Fin 128, (X (ix3 0 r (⟨128 * h.val + k.val, by omega⟩ : Fin 1024)) : EReal) * sh sg h k d) * w 0x3DB504F3#32 := by
    obtain e | e : h.val % 2 = 0 ∨ h.val % 2 = 1 := by omega
    · rw [yK_even X R sg hR r (⟨h.val / 2, by omega⟩ : Fin 4) (chan h d) d (by show 128 * h.val + d.val = 256 * (h.val / 2) + d.val; omega)]
      have eh : (⟨2 * (h.val / 2), by omega⟩ : Fin 8) = h := Fin.ext (by show 2 * (h.val / 2) = h.val; omega)
      refine congrArg (· * w 0x3DB504F3#32) (Finset.sum_congr rfl fun k _ => ?_)
      refine congrArg₂ (fun (a : Fin 1024) (g : Fin 8) => (X (ix3 0 r a) : EReal) * sh sg g k d) (Fin.ext ?_) eh
      show 256 * (h.val / 2) + k.val = 128 * h.val + k.val; omega
    · rw [yK_odd X R sg hR r (⟨h.val / 2, by omega⟩ : Fin 4) (chan h d) d (by show 128 * h.val + d.val = 256 * (h.val / 2) + (128 + d.val); omega)]
      have eh : (⟨1 + 2 * (h.val / 2), by omega⟩ : Fin 8) = h := Fin.ext (by show 1 + 2 * (h.val / 2) = h.val; omega)
      refine congrArg (· * w 0x3DB504F3#32) (Finset.sum_congr rfl fun k _ => ?_)
      refine congrArg₂ (fun (a : Fin 1024) (g : Fin 8) => (X (ix3 0 r a) : EReal) * sh sg g k d) (Fin.ext ?_) eh
      show 256 * (h.val / 2) + (128 + k.val) = 128 * h.val + k.val; omega
  rw [key, sum_rot]
  unfold yR sh
  refine Finset.sum_congr rfl fun k _ => ?_
  rw [hX, show rot sg (ix3 h k d) = _ from Cert.QuantiseReferenceIdeal.Quant.pay1_apply sg h k d, mul_assoc, mul_assoc]

variable (hR : IsRot R sg) (b : Fin 9) (s : Fin 16) (hX : ∀ (r : Fin 512) (j : Fin 1024), X (ix3 0 r j) = x (ix3 b (⟨512 * s.val + r.val, by omega⟩ : Fin 8192) j))
include hR hX

theorem rK_eq (r : Fin 32) : rK (yOf (F := Ideal) X R) r = rR x (rot sg) b (⟨4 * s.val + r.val / 8, by omega⟩ : Fin 64) (⟨r.val % 8, by omega⟩ : Fin 8) := by
  unfold rK rR
  rw [fold_swap (fun (i d : Fin 128) => FloatOps.absf (F := Ideal) (φ := .f32) (yOf (F := Ideal) X R (ix2 (⟨128 * (r.val / 8) + i.val, by omega⟩ : Fin 512) (⟨128 * (r.val % 8) + d.val, by omega⟩ : Fin 1024))))]
  have e (i d : Fin 128) : yOf (F := Ideal) X R (ix2 (⟨128 * (r.val / 8) + i.val, by omega⟩ : Fin 512) (⟨128 * (r.val % 8) + d.val, by omega⟩ : Fin 1024))
      = yR x (rot sg) b (⟨128 * (4 * s.val + r.val / 8) + i.val, by omega⟩ : Fin 8192) (⟨r.val % 8, by omega⟩ : Fin 8) d := by
    refine (yOf_ref X R sg x hR b s hX (⟨128 * (r.val / 8) + i.val, by omega⟩ : Fin 512) (⟨r.val % 8, by omega⟩ : Fin 8) d).trans ?_
    exact congrArg (fun a : Fin 8192 => yR x (rot sg) b a (⟨r.val % 8, by omega⟩ : Fin 8) d) (Fin.ext (by show 512 * s.val + (128 * (r.val / 8) + i.val) = 128 * (4 * s.val + r.val / 8) + i.val; omega))
  simp only [e]

theorem cK_eq (r : Fin 512) (h : Fin 8) (d : Fin 128) : cK (yOf (F := Ideal) X R) (tileAt r h) (rowIn r) d
    = cl (yR x (rot sg) b (⟨512 * s.val + r.val, by omega⟩ : Fin 8192) h d) (Ideal.div 1 (rScale (rR x (rot sg) b (⟨(512 * s.val + r.val) / 128, by omega⟩ : Fin 64) h))) := by
  unfold cK cl
  have ey : yOf (F := Ideal) X R (ix2 (⟨128 * ((tileAt r h).val / 8) + (rowIn r).val, by show 128 * ((8 * (r.val / 128) + h.val) / 8) + r.val % 128 < 512; omega⟩ : Fin 512) (⟨128 * ((tileAt r h).val % 8) + d.val, by omega⟩ : Fin 1024))
      = yR x (rot sg) b (⟨512 * s.val + r.val, by omega⟩ : Fin 8192) h d := by
    refine Eq.trans ?_ (yOf_ref X R sg x hR b s hX r h d)
    refine congrArg₂ (fun (a : Fin 512) (c : Fin 1024) => yOf (F := Ideal) X R (ix2 a c)) (Fin.ext ?_) (Fin.ext ?_)
    · show 128 * ((8 * (r.val / 128) + h.val) / 8) + r.val % 128 = r.val; omega
    · show 128 * ((8 * (r.val / 128) + h.val) % 8) + d.val = 128 * h.val + d.val; omega
  have er : rK (yOf (F := Ideal) X R) (tileAt r h) = rR x (rot sg) b (⟨(512 * s.val + r.val) / 128, by omega⟩ : Fin 64) h := by
    rw [rK_eq X R sg x hR b s hX]
    refine congrArg₂ (fun (a : Fin 64) (c : Fin 8) => rR x (rot sg) b a c) (Fin.ext ?_) (Fin.ext ?_)
    · show 4 * s.val + (8 * (r.val / 128) + h.val) / 8 = (512 * s.val + r.val) / 128; omega
    · show (8 * (r.val / 128) + h.val) % 8 = h.val; omega
  rw [ey, er, kInv_eq]

theorem codesBy_ref (r : Fin 512) (h : Fin 8) (d : Fin 128) : codesBy (F := Ideal) X R (ix4 0 r h d)
    = Cert.QuantiseReferenceIdeal.Gen.k0_pay14 (F := Ideal) (Cert.QuantiseReferenceIdeal.Gen.k0_pay10 (rot sg) x) (Cert.QuantiseReferenceIdeal.Gen.k0_pay11 (rot sg) x) (ix4 b (⟨512 * s.val + r.val, by omega⟩ : Fin 8192) h d) := by
  rw [codesBy_apply, cK_eq X R sg x hR b s hX]
  exact (Cert.QuantiseReferenceIdeal.Quant.pay14_apply x (rot sg) h b _ d).symm
theorem headsBy_ref (r : Fin 512) (h : Fin 8) (d : Fin 128) : headsBy (F := Ideal) X R (ix4 0 h r d)
    = Cert.QuantiseReferenceIdeal.Gen.k0_pay15 (F := Ideal) (Cert.QuantiseReferenceIdeal.Gen.k0_pay10 (rot sg) x) (Cert.QuantiseReferenceIdeal.Gen.k0_pay11 (rot sg) x) (ix4 b h (⟨512 * s.val + r.val, by omega⟩ : Fin 8192) d) := by
  rw [headsBy_apply, cK_eq X R sg x hR b s hX]
  exact (Cert.QuantiseReferenceIdeal.Quant.pay15_apply x (rot sg) h b _ d).symm
theorem scalesBy_ref (r : Fin 32) (l : Fin 128) : scalesBy (F := Ideal) X R (ix3 0 r l)
    = Cert.QuantiseReferenceIdeal.Gen.k0_pay16 (F := Ideal) (Cert.QuantiseReferenceIdeal.Gen.k0_pay11 (rot sg) x) (ix3 b (⟨32 * s.val + r.val, by omega⟩ : Fin 512) l) := by
  rw [scalesBy_apply, rK_eq X R sg x hR b s hX, kScale_eq]
  refine Eq.trans ?_ (Cert.QuantiseReferenceIdeal.Quant.pay16_apply x (rot sg) b _ l).symm
  refine congrArg₂ (fun (a : Fin 64) (c : Fin 8) => rScale (rR x (rot sg) b a c)) (Fin.ext ?_) (Fin.ext ?_)
  · show 4 * s.val + r.val / 8 = (32 * s.val + r.val) / 8; omega
  · show r.val % 8 = (32 * s.val + r.val) % 8; omega
end

section
variable (B : Vec Ideal S1x512x1024 .bf16) (M : Vec Ideal S8x1024 .f32) (v : Vec Ideal S9x8192x8x128 .bf16) (b : Fin 9) (s : Fin 16)
  (hB : ∀ (r : Fin 512) (h : Fin 8) (d : Fin 128), B (ix3 0 r (chan h d)) = v (ix4 b (⟨512 * s.val + r.val, by omega⟩ : Fin 8192) h d))
  (hM : ∀ (h : Fin 8) (d : Fin 128), rM M (chan h d) = rV v b h d)

include hM in
theorem vscalesBy_ref (h : Fin 8) (d : Fin 128) : vscalesBy (F := Ideal) M (ix3 0 h d) = Cert.QuantiseReferenceIdeal.Gen.k0_pay18 (F := Ideal) v (ix3 b h d) := by
  rw [vscalesBy_apply, hM, kScale_eq]
  exact (Cert.QuantiseReferenceIdeal.Quant.pay18_apply v b h d).symm
include hB hM
theorem cV_eq (r : Fin 512) (h : Fin 8) (d : Fin 128) : cV B M r h d = cl (v (ix4 b (⟨512 * s.val + r.val, by omega⟩ : Fin 8192) h d)) (Ideal.div 1 (rScale (rV v b h d))) := by
  unfold cV cl
  rw [hB, hM, kInv_eq]
theorem vcodesBy_ref (r : Fin 512) (h : Fin 8) (d : Fin 128) : vcodesBy (F := Ideal) B (vinvOf M) (ix4 0 r h d)
    = Cert.QuantiseReferenceIdeal.Gen.k0_pay19 (F := Ideal) v (ix4 b (⟨512 * s.val + r.val, by omega⟩ : Fin 8192) h d) := by
  rw [vcodesBy_apply, cV_eq B M v b s hB hM]
  exact (Cert.QuantiseReferenceIdeal.Quant.pay19_apply v b _ h d).symm
theorem vtOf_ref (r : Fin 512) (h : Fin 8) (d : Fin 128) : vtOf (F := Ideal) B (vinvOf M) (ix4 0 h d r)
    = Cert.QuantiseReferenceIdeal.Gen.k0_pay20 (F := Ideal) v (ix4 b h d (⟨512 * s.val + r.val, by omega⟩ : Fin 8192)) := by
  rw [vtOf_apply, cV_eq B M v b s hB hM]
  exact (Cert.QuantiseReferenceIdeal.Quant.pay20_apply v b _ h d).symm
end

end Cert.QuantiseIdeal.Quant
end
-- ==== Proof.Quant.Max.lean ====
/- The quantise kernel's running magnitudes: after a batch's sixteen blocks of tokens they are the largest of the batch. -/
module

public import proofs.«01_k».proof.Proof.Quant.KerEq

@[expose] public section

set_option maxRecDepth 65536

noncomputable section

namespace Cert.QuantiseIdeal.Quant

open Cert.QuantiseIdeal Cert.QuantiseIdeal.Gen Cert.Quant Idealize.ShloMosaic Idealize.ShloMosaic.TcCoe Idealize.SL.Sem
open Cert.QuantiseReferenceIdeal.Quant (mV rV)

variable (m : (ℓ : Loc nD τ sig) → Buf (Elt Ideal) ℓ)

/-- Which block of its array each window stages at a point. -/
theorem idx_2 : ∀ t : Fin cfg0.N, win0_2.index t = ![min t.val 143 / 16, min t.val 143 % 16, 0] :=
  (by decide +kernel : ∀ t : Fin grid0.N, _)

theorem pt_of (n : ℕ) (h : n < 160) : (pt n).val = n := congrArg Fin.val (pt_val ⟨n, lt_of_lt_of_eq h N_0.symm⟩)

theorem blk2 (c : Dev nD) (t : Fin cfg0.N) (r : Fin 512) (j : Fin 1024) :
    iblk (F := Ideal) m c 2 t (ix3 0 r j) = m ((c : Thread nD τ).loc main_arg2) (ix3 (⟨min t.val 143 / 16, by omega⟩ : Fin 9) (⟨512 * (min t.val 143 % 16) + r.val, by omega⟩ : Fin 8192) j) := by
  blk_ext [iblk, V_main_arg2, idx_2 t]

/-- Magnitude of a value: batch, token, channel, as numbers. -/
def av (c : Dev nD) (b t : ℕ) (j : Fin 1024) : EReal :=
  FloatOps.absf (F := Ideal) (φ := .f32) (m ((c : Thread nD τ).loc main_arg2) (ix3 (⟨b % 9, Nat.mod_lt _ (by norm_num)⟩ : Fin 9) (⟨t % 8192, Nat.mod_lt _ (by norm_num)⟩ : Fin 8192) j))

theorem bmax_le (B : Vec Ideal S1x512x1024 .bf16) (j : Fin 1024) (X : EReal) :
    (∀ i : Fin 8, bmax B i j ≤ X) ↔ ∀ r : Fin 512, FloatOps.absf (F := Ideal) (φ := .f32) (B (ix3 0 r j)) ≤ X := by
  unfold bmax
  simp only [fold_le, abs_same]
  constructor
  · intro h r
    have := h (⟨r.val % 8, by omega⟩ : Fin 8) (⟨r.val / 8, by omega⟩ : Fin 64)
    rwa [show (⟨r.val / 8 * 8 + r.val % 8, by omega⟩ : Fin 512) = r from Fin.ext (by show r.val / 8 * 8 + r.val % 8 = r.val; omega)] at this
  · intro h i k
    exact h _

/-- A bound of the running magnitudes is a bound of every magnitude so far. -/
theorem blk_le (c : Dev nD) (n : ℕ) (hn : n < 144) (j : Fin 1024) (X : EReal) :
    (∀ i : Fin 8, bmax (iblk (F := Ideal) m c 2 (pt n)) i j ≤ X) ↔ ∀ r : Fin 512, av m c (n / 16) (512 * (n % 16) + r.val) j ≤ X := by
  rw [bmax_le]
  refine forall_congr' fun r => ?_
  rw [blk2]
  unfold av
  have e : (pt n).val = n := pt_of n (by omega)
  have e1 : (⟨min (pt n).val 143 / 16, by omega⟩ : Fin 9) = ⟨n / 16 % 9, Nat.mod_lt _ (by norm_num)⟩ := Fin.ext (by show min (pt n).val 143 / 16 = n / 16 % 9; rw [e]; omega)
  have e2 : (⟨512 * (min (pt n).val 143 % 16) + r.val, by omega⟩ : Fin 8192) = ⟨(512 * (n % 16) + r.val) % 8192, Nat.mod_lt _ (by norm_num)⟩ :=
    Fin.ext (by show 512 * (min (pt n).val 143 % 16) + r.val = (512 * (n % 16) + r.val) % 8192; rw [e]; omega)
  rw [e1, e2]

theorem mx_le (c : Dev nD) (j : Fin 1024) (X : EReal) : ∀ n : ℕ, n < 144 →
    ((∀ i : Fin 8, (mxAt (F := Ideal) m c n (ix2 i j) : EReal) ≤ X) ↔ ∀ t, t < 512 * (n % 16 + 1) → av m c (n / 16) t j ≤ X)
  | 0, _ => by
    have e (i : Fin 8) : (mxAt (F := Ideal) m c 0 (ix2 i j) : EReal) = bmax (iblk (F := Ideal) m c 2 (pt 0)) i j := by
      refine (pay11_apply _ _ _ i j).trans (if_pos ?_)
      exact (coord1 (pt 0)).trans (by rw [pt_of 0 (by omega)])
    simp only [e]
    rw [blk_le m c 0 (by omega)]
    exact ⟨fun h t ht => by have := h ⟨t, by omega⟩; simpa using this, fun h r => by simpa using h r.val (by have := r.isLt; omega)⟩
  | n + 1, hn => by
    have ec : (cfg0.grid.coords (pt (n + 1)) 1).val = (n + 1) % 16 := (coord1 (pt (n + 1))).trans (by rw [pt_of (n + 1) (by omega)])
    by_cases h0 : (n + 1) % 16 = 0
    · have e (i : Fin 8) : (mxAt (F := Ideal) m c (n + 1) (ix2 i j) : EReal) = bmax (iblk (F := Ideal) m c 2 (pt (n + 1))) i j :=
        (pay11_apply _ _ _ i j).trans (if_pos (ec.trans h0))
      simp only [e]
      rw [blk_le m c (n + 1) hn, h0]
      exact ⟨fun h t ht => by have := h ⟨t, by omega⟩; simpa using this, fun h r => by simpa using h r.val (by have := r.isLt; omega)⟩
    · have e (i : Fin 8) : (mxAt (F := Ideal) m c (n + 1) (ix2 i j) : EReal) = max (mxAt (F := Ideal) m c n (ix2 i j)) (bmax (iblk (F := Ideal) m c 2 (pt (n + 1))) i j) :=
        (pay11_apply _ _ _ i j).trans (if_neg (fun h => h0 (ec.symm.trans h)))
      simp only [e, max_le_iff, forall_and]
      rw [blk_le m c (n + 1) hn, mx_le c j X n (by omega)]
      have d1 : n / 16 = (n + 1) / 16 := by omega
      have d2 : 512 * ((n + 1) % 16) = 512 * (n % 16 + 1) := by omega
      rw [d1, d2]
      constructor
      · rintro ⟨h1, h2⟩ t ht
        by_cases hlt : t < 512 * (n % 16 + 1)
        · exact h1 t hlt
        · have := h2 ⟨t - 512 * (n % 16 + 1), by omega⟩
          rwa [show 512 * (n % 16 + 1) + (t - 512 * (n % 16 + 1)) = t by omega] at this
      · intro h
        exact ⟨fun t ht => h t (by omega), fun r => h _ (by have := r.isLt; omega)⟩

/-- The reference's values: the argument with its channels split into heads. -/
def vs (c : Dev nD) : Vec Ideal S9x8192x8x128 .bf16 := fun y => m ((c : Thread nD τ).loc main_arg2) (ix3 (y 0) (y 1) (chan (y 2) (y 3)))
theorem vs_apply (c : Dev nD) (b : Fin 9) (t : Fin 8192) (h : Fin 8) (d : Fin 128) :
    vs m c (ix4 b t h d) = m ((c : Thread nD τ).loc main_arg2) (ix3 b t (chan h d)) := rfl

/-- After a batch's last block, a channel's ratio is the reference's. -/
theorem rM_eq (c : Dev nD) (b : Fin 9) (n : ℕ) (hn : n = 16 * b.val + 15) (h : Fin 8) (d : Fin 128) :
    rM (mxAt (F := Ideal) m c n) (chan h d) = rV (vs m c) b h d := by
  unfold rM rV
  refine congrArg (· * w 0x3B124925#32) (eq_of_forall_ge_iff fun X => ?_)
  unfold mV
  rw [fold_le, fold_le, mx_le m c (chan h d) X n (by omega)]
  have e (t : Fin 8192) : av m c (n / 16) t.val (chan h d) = FloatOps.absf (F := Ideal) (φ := .f32) (vs m c (ix4 b t h d)) := by
    unfold av
    rw [vs_apply]
    have e1 : (⟨n / 16 % 9, Nat.mod_lt _ (by norm_num)⟩ : Fin 9) = b := Fin.ext (by show n / 16 % 9 = b.val; omega)
    have e2 : (⟨t.val % 8192, Nat.mod_lt _ (by norm_num)⟩ : Fin 8192) = t := Fin.ext (Nat.mod_eq_of_lt t.isLt)
    rw [e1, e2]
  constructor
  · intro hh t
    rw [← e]; exact hh t.val (by have := t.isLt; omega)
  · intro hh t ht
    have := hh ⟨t, by omega⟩
    rwa [← e] at this

end Cert.QuantiseIdeal.Quant
end
-- ==== Proof.Quant.RefArray.lean ====
/- What the quantise reference's result arrays hold after its run. -/
module

public import proofs.«01_k».proof.Proof.Quant.RefV
public import Idealize.ShloMosaic.Lib.Pipeline.ValueKit

@[expose] public section

set_option maxRecDepth 65536

noncomputable section

namespace Cert.QuantiseReferenceIdeal.Quant

open Cert.QuantiseReferenceIdeal Cert.QuantiseReferenceIdeal.Gen Cert.QuantiseReferenceIdeal.Value Cert.Quant Idealize.ShloMosaic Idealize.ShloMosaic.TcCoe Idealize.SL.Sem

/-! ## The results as functions of the arguments -/

/-- The codes of `q` or `k`, by token, -/
def codesR (sg : Vec Ideal S8x128 .i8) (x : Vec Ideal S9x8192x1024 .bf16) : Vec Ideal S9x8192x8x128 .fp8e4m3 :=
  k0_pay14 (F := Ideal) (k0_pay10 (k0_pay1 sg) x) (k0_pay11 (k0_pay1 sg) x)
/-- the same by head, -/
def headsR (sg : Vec Ideal S8x128 .i8) (x : Vec Ideal S9x8192x1024 .bf16) : Vec Ideal S9x8x8192x128 .fp8e4m3 :=
  k0_pay15 (F := Ideal) (k0_pay10 (k0_pay1 sg) x) (k0_pay11 (k0_pay1 sg) x)
/-- and their scales. -/
def scalesR (sg : Vec Ideal S8x128 .i8) (x : Vec Ideal S9x8192x1024 .bf16) : Vec Ideal S9x512x128 .f32 :=
  k0_pay16 (F := Ideal) (k0_pay11 (k0_pay1 sg) x)
/-- The values, their channels split into heads; -/
def heads (v : Vec Ideal S9x8192x1024 .bf16) : Vec Ideal S9x8192x8x128 .bf16 :=
  fun y => v (ix3 (y 0) (y 1) (⟨128 * (y 2).val + (y 3).val, by have h2 : (y 2).val < 8 := (y 2).isLt; have h3 : (y 3).val < 128 := (y 3).isLt; omega⟩ : Fin 1024))
/-- their codes, -/
def vcodesR (v : Vec Ideal S9x8192x8x128 .bf16) : Vec Ideal S9x8192x8x128 .fp8e4m3 := k0_pay19 (F := Ideal) v
/-- the same with the tokens last, -/
def vtR (v : Vec Ideal S9x8192x8x128 .bf16) : Vec Ideal S9x8x128x8192 .fp8e4m3 := k0_pay20 (F := Ideal) v
/-- and their scales. -/
def vscalesR (v : Vec Ideal S9x8192x8x128 .bf16) : Vec Ideal S9x8x128 .f32 := k0_pay18 (F := Ideal) v

section
variable (x0 x1 : Vec Ideal S9x8192x1024 .bf16) (x2 : Vec Ideal S9x8192x8x128 .bf16) (x3 : Vec Ideal S8x128 .i8)

theorem ld0 : View.ld (Val := Elt Ideal) x3 r0_0 = x3 := View.ld_unit_lit _ x3 (by decide)
theorem ld1 (x : Vec Ideal S9x8192x1024 .bf16) : View.ld (Val := Elt Ideal) x r0_1 = x := View.ld_unit_lit _ x (by decide)
theorem ld2 : View.ld (Val := Elt Ideal) x2 r0_2 = x2 := View.ld_unit_lit _ x2 (by decide)

theorem out4 : out0_4 (F := Ideal) x0 x1 x2 x3 = codesR x3 x0 := by
  unfold out0_4
  refine (View.canon_cons_unit_lit _ _ _ (by decide)).trans ?_
  unfold k0_pay22 k0_pay23 k0_pay24
  rw [ld0, ld1]
  exact pay7_eq x3 x0

theorem out5 : out0_5 (F := Ideal) x0 x1 x2 x3 = headsR x3 x0 := by
  unfold out0_5
  refine (View.canon_cons_unit_lit _ _ _ (by decide)).trans ?_
  unfold k0_pay22 k0_pay23 k0_pay24
  rw [ld0, ld1]
  exact pay8_eq x3 x0

theorem out6 : out0_6 (F := Ideal) x0 x1 x2 x3 = scalesR x3 x0 := by
  unfold out0_6
  refine (View.canon_cons_unit_lit _ _ _ (by decide)).trans ?_
  unfold k0_pay23 k0_pay24
  rw [ld0, ld1]
  exact pay9_eq x3 x0

theorem out7 : out0_7 (F := Ideal) x0 x1 x2 x3 = codesR x3 x1 := by
  unfold out0_7
  refine (View.canon_cons_unit_lit _ _ _ (by decide)).trans ?_
  unfold k0_pay25 k0_pay26 k0_pay21
  rw [ld0, ld1]
  rfl

theorem out8 : out0_8 (F := Ideal) x0 x1 x2 x3 = headsR x3 x1 := by
  unfold out0_8
  refine (View.canon_cons_unit_lit _ _ _ (by decide)).trans ?_
  unfold k0_pay25 k0_pay26 k0_pay21
  rw [ld0, ld1]
  rfl

theorem out9 : out0_9 (F := Ideal) x0 x1 x2 x3 = scalesR x3 x1 := by
  unfold out0_9
  refine (View.canon_cons_unit_lit _ _ _ (by decide)).trans ?_
  unfold k0_pay26 k0_pay21
  rw [ld0, ld1]
  rfl

theorem out10 : out0_10 (F := Ideal) x0 x1 x2 x3 = vcodesR x2 := by
  unfold out0_10
  refine (View.canon_cons_unit_lit _ _ _ (by decide)).trans ?_
  rw [ld2]
  rfl

theorem out11 : out0_11 (F := Ideal) x0 x1 x2 x3 = vtR x2 := by
  unfold out0_11
  refine (View.canon_cons_unit_lit _ _ _ (by decide)).trans ?_
  rw [ld2]
  rfl

theorem out12 : out0_12 (F := Ideal) x0 x1 x2 x3 = vscalesR x2 := by
  unfold out0_12
  refine (View.canon_cons_unit_lit _ _ _ (by decide)).trans ?_
  rw [ld2]
  rfl

end

variable (m : (ℓ : Loc nD τ sig) → Buf (Elt Ideal) ℓ)

/-! ## The blocks are the whole arrays -/

theorem idx_facts : ∀ t : Fin cfg0.N, win0_0.index t = ![0, 0, 0] ∧ win0_1.index t = ![0, 0, 0] ∧ win0_2.index t = ![0, 0, 0, 0] ∧ win0_3.index t = ![0, 0]
    ∧ win0_4.index t = ![0, 0, 0, 0] ∧ win0_5.index t = ![0, 0, 0, 0] ∧ win0_6.index t = ![0, 0, 0] ∧ win0_7.index t = ![0, 0, 0, 0] ∧ win0_8.index t = ![0, 0, 0, 0]
    ∧ win0_9.index t = ![0, 0, 0] ∧ win0_10.index t = ![0, 0, 0, 0] ∧ win0_11.index t = ![0, 0, 0, 0] ∧ win0_12.index t = ![0, 0, 0] :=
  (by decide +kernel : ∀ t : Fin grid0.N, _)

theorem blk0 (c : Dev nD) (t : Fin cfg0.N) : iblk (F := Ideal) m c 0 t = m ((c : Thread nD τ).loc main_arg0) := by
  funext y
  obtain ⟨a, b, d, rfl⟩ : ∃ (a : Fin 9) (b : Fin 8192) (d : Fin 1024), y = ix3 a b d := ⟨y 0, y 1, y 2, eq_ix3 y⟩
  blk_ext [iblk, V_main_arg0, (idx_facts t).1]
theorem blk1 (c : Dev nD) (t : Fin cfg0.N) : iblk (F := Ideal) m c 1 t = m ((c : Thread nD τ).loc main_arg1) := by
  funext y
  obtain ⟨a, b, d, rfl⟩ : ∃ (a : Fin 9) (b : Fin 8192) (d : Fin 1024), y = ix3 a b d := ⟨y 0, y 1, y 2, eq_ix3 y⟩
  blk_ext [iblk, V_main_arg1, (idx_facts t).2.1]
theorem blk3 (c : Dev nD) (t : Fin cfg0.N) : iblk (F := Ideal) m c 3 t = m ((c : Thread nD τ).loc main_arg3) := by
  funext y
  obtain ⟨a, b, rfl⟩ : ∃ (a : Fin 8) (b : Fin 128), y = ix2 a b := ⟨y 0, y 1, eq_ix2 y⟩
  blk_ext [iblk, V_main_arg3, (idx_facts t).2.2.2.1]
theorem V_v0 (c : Dev nD) (a : Fin 9) (b : Fin 8192) (h : Fin 8) (d : Fin 128) :
    V m c main_v0 (ix4 a b h d) = heads (m ((c : Thread nD τ).loc main_arg2)) (ix4 a b h d) := by
  show _ = m ((c : Thread nD τ).loc main_arg2) (ix3 a b (⟨128 * h.val + d.val, by omega⟩ : Fin 1024))
  entry_read
  pointwise
  exact congrArg (fun j : Fin 1024 => m ((c : Thread nD τ).loc main_arg2) (ix3 a b j)) (Fin.ext (by show h.val * 128 + d.val = 128 * h.val + d.val; omega))
theorem blk2 (c : Dev nD) (t : Fin cfg0.N) : iblk (F := Ideal) m c 2 t = heads (m ((c : Thread nD τ).loc main_arg2)) := by
  funext y
  obtain ⟨a, b, h, d, rfl⟩ : ∃ (a : Fin 9) (b : Fin 8192) (h : Fin 8) (d : Fin 128), y = ix4 a b h d := ⟨y 0, y 1, y 2, y 3, eq_ix4 y⟩
  rw [← V_v0]
  blk_ext [iblk, (idx_facts t).2.2.1]

/-! ## The arrays -/

theorem emb4 (t : Fin cfg0.N) (p : Fin 9) (q : Fin 8192) (r : Fin 8) (s : Fin 128) : (win0_4.blk t).view.emb (ix4 p q r s) = ix4 p q r s := by
  blk_ext [(idx_facts t).2.2.2.2.1]
theorem final4 (c : Dev nD) : (dats (F := Ideal) m 0 c).arrAt 4 cfg0.N = codesR (m ((c : Thread nD τ).loc main_arg3)) (m ((c : Thread nD τ).loc main_arg0)) := by
  refine (dats m 0 c).arrAt_eq_of_covers 4 _ (by decide +kernel) fun t hf y => ?_
  blk_simp
  rw [after0_4, out4, blk3, blk0]
  obtain ⟨p, q, r, s, rfl⟩ : ∃ (p : Fin 9) (q : Fin 8192) (r : Fin 8) (s : Fin 128), y = ix4 p q r s := ⟨y 0, y 1, y 2, y 3, eq_ix4 y⟩
  exact congrArg (codesR (m ((c : Thread nD τ).loc main_arg3)) (m ((c : Thread nD τ).loc main_arg0))) (emb4 t p q r s).symm

theorem emb5 (t : Fin cfg0.N) (p : Fin 9) (q : Fin 8) (r : Fin 8192) (s : Fin 128) : (win0_5.blk t).view.emb (ix4 p q r s) = ix4 p q r s := by
  blk_ext [(idx_facts t).2.2.2.2.2.1]
theorem final5 (c : Dev nD) : (dats (F := Ideal) m 0 c).arrAt 5 cfg0.N = headsR (m ((c : Thread nD τ).loc main_arg3)) (m ((c : Thread nD τ).loc main_arg0)) := by
  refine (dats m 0 c).arrAt_eq_of_covers 5 _ (by decide +kernel) fun t hf y => ?_
  blk_simp
  rw [after0_5, out5, blk3, blk0]
  obtain ⟨p, q, r, s, rfl⟩ : ∃ (p : Fin 9) (q : Fin 8) (r : Fin 8192) (s : Fin 128), y = ix4 p q r s := ⟨y 0, y 1, y 2, y 3, eq_ix4 y⟩
  exact congrArg (headsR (m ((c : Thread nD τ).loc main_arg3)) (m ((c : Thread nD τ).loc main_arg0))) (emb5 t p q r s).symm

theorem emb6 (t : Fin cfg0.N) (p : Fin 9) (q : Fin 512) (r : Fin 128) : (win0_6.blk t).view.emb (ix3 p q r) = ix3 p q r := by
  blk_ext [(idx_facts t).2.2.2.2.2.2.1]
theorem final6 (c : Dev nD) : (dats (F := Ideal) m 0 c).arrAt 6 cfg0.N = scalesR (m ((c : Thread nD τ).loc main_arg3)) (m ((c : Thread nD τ).loc main_arg0)) := by
  refine (dats m 0 c).arrAt_eq_of_covers 6 _ (by decide +kernel) fun t hf y => ?_
  blk_simp
  rw [after0_6, out6, blk3, blk0]
  obtain ⟨p, q, r, rfl⟩ : ∃ (p : Fin 9) (q : Fin 512) (r : Fin 128), y = ix3 p q r := ⟨y 0, y 1, y 2, eq_ix3 y⟩
  exact congrArg (scalesR (m ((c : Thread nD τ).loc main_arg3)) (m ((c : Thread nD τ).loc main_arg0))) (emb6 t p q r).symm

theorem emb7 (t : Fin cfg0.N) (p : Fin 9) (q : Fin 8192) (r : Fin 8) (s : Fin 128) : (win0_7.blk t).view.emb (ix4 p q r s) = ix4 p q r s := by
  blk_ext [(idx_facts t).2.2.2.2.2.2.2.1]
theorem final7 (c : Dev nD) : (dats (F := Ideal) m 0 c).arrAt 7 cfg0.N = codesR (m ((c : Thread nD τ).loc main_arg3)) (m ((c : Thread nD τ).loc main_arg1)) := by
  refine (dats m 0 c).arrAt_eq_of_covers 7 _ (by decide +kernel) fun t hf y => ?_
  blk_simp
  rw [after0_7, out7, blk3, blk1]
  obtain ⟨p, q, r, s, rfl⟩ : ∃ (p : Fin 9) (q : Fin 8192) (r : Fin 8) (s : Fin 128), y = ix4 p q r s := ⟨y 0, y 1, y 2, y 3, eq_ix4 y⟩
  exact congrArg (codesR (m ((c : Thread nD τ).loc main_arg3)) (m ((c : Thread nD τ).loc main_arg1))) (emb7 t p q r s).symm

theorem emb8 (t : Fin cfg0.N) (p : Fin 9) (q : Fin 8) (r : Fin 8192) (s : Fin 128) : (win0_8.blk t).view.emb (ix4 p q r s) = ix4 p q r s := by
  blk_ext [(idx_facts t).2.2.2.2.2.2.2.2.1]
theorem final8 (c : Dev nD) : (dats (F := Ideal) m 0 c).arrAt 8 cfg0.N = headsR (m ((c : Thread nD τ).loc main_arg3)) (m ((c : Thread nD τ).loc main_arg1)) := by
  refine (dats m 0 c).arrAt_eq_of_covers 8 _ (by decide +kernel) fun t hf y => ?_
  blk_simp
  rw [after0_8, out8, blk3, blk1]
  obtain ⟨p, q, r, s, rfl⟩ : ∃ (p : Fin 9) (q : Fin 8) (r : Fin 8192) (s : Fin 128), y = ix4 p q r s := ⟨y 0, y 1, y 2, y 3, eq_ix4 y⟩
  exact congrArg (headsR (m ((c : Thread nD τ).loc main_arg3)) (m ((c : Thread nD τ).loc main_arg1))) (emb8 t p q r s).symm

theorem emb9 (t : Fin cfg0.N) (p : Fin 9) (q : Fin 512) (r : Fin 128) : (win0_9.blk t).view.emb (ix3 p q r) = ix3 p q r := by
  blk_ext [(idx_facts t).2.2.2.2.2.2.2.2.2.1]
theorem final9 (c : Dev nD) : (dats (F := Ideal) m 0 c).arrAt 9 cfg0.N = scalesR (m ((c : Thread nD τ).loc main_arg3)) (m ((c : Thread nD τ).loc main_arg1)) := by
  refine (dats m 0 c).arrAt_eq_of_covers 9 _ (by decide +kernel) fun t hf y => ?_
  blk_simp
  rw [after0_9, out9, blk3, blk1]
  obtain ⟨p, q, r, rfl⟩ : ∃ (p : Fin 9) (q : Fin 512) (r : Fin 128), y = ix3 p q r := ⟨y 0, y 1, y 2, eq_ix3 y⟩
  exact congrArg (scalesR (m ((c : Thread nD τ).loc main_arg3)) (m ((c : Thread nD τ).loc main_arg1))) (emb9 t p q r).symm

theorem emb10 (t : Fin cfg0.N) (p : Fin 9) (q : Fin 8192) (r : Fin 8) (s : Fin 128) : (win0_10.blk t).view.emb (ix4 p q r s) = ix4 p q r s := by
  blk_ext [(idx_facts t).2.2.2.2.2.2.2.2.2.2.1]
theorem final10 (c : Dev nD) : (dats (F := Ideal) m 0 c).arrAt 10 cfg0.N = vcodesR (heads (m ((c : Thread nD τ).loc main_arg2))) := by
  refine (dats m 0 c).arrAt_eq_of_covers 10 _ (by decide +kernel) fun t hf y => ?_
  blk_simp
  rw [after0_10, out10, blk2]
  obtain ⟨p, q, r, s, rfl⟩ : ∃ (p : Fin 9) (q : Fin 8192) (r : Fin 8) (s : Fin 128), y = ix4 p q r s := ⟨y 0, y 1, y 2, y 3, eq_ix4 y⟩
  exact congrArg (vcodesR (heads (m ((c : Thread nD τ).loc main_arg2)))) (emb10 t p q r s).symm

theorem emb11 (t : Fin cfg0.N) (p : Fin 9) (q : Fin 8) (r : Fin 128) (s : Fin 8192) : (win0_11.blk t).view.emb (ix4 p q r s) = ix4 p q r s := by
  blk_ext [(idx_facts t).2.2.2.2.2.2.2.2.2.2.2.1]
theorem final11 (c : Dev nD) : (dats (F := Ideal) m 0 c).arrAt 11 cfg0.N = vtR (heads (m ((c : Thread nD τ).loc main_arg2))) := by
  refine (dats m 0 c).arrAt_eq_of_covers 11 _ (by decide +kernel) fun t hf y => ?_
  blk_simp
  rw [after0_11, out11, blk2]
  obtain ⟨p, q, r, s, rfl⟩ : ∃ (p : Fin 9) (q : Fin 8) (r : Fin 128) (s : Fin 8192), y = ix4 p q r s := ⟨y 0, y 1, y 2, y 3, eq_ix4 y⟩
  exact congrArg (vtR (heads (m ((c : Thread nD τ).loc main_arg2)))) (emb11 t p q r s).symm

theorem emb12 (t : Fin cfg0.N) (p : Fin 9) (q : Fin 8) (r : Fin 128) : (win0_12.blk t).view.emb (ix3 p q r) = ix3 p q r := by
  blk_ext [(idx_facts t).2.2.2.2.2.2.2.2.2.2.2.2]
theorem final12 (c : Dev nD) : (dats (F := Ideal) m 0 c).arrAt 12 cfg0.N = vscalesR (heads (m ((c : Thread nD τ).loc main_arg2))) := by
  refine (dats m 0 c).arrAt_eq_of_covers 12 _ (by decide +kernel) fun t hf y => ?_
  blk_simp
  rw [after0_12, out12, blk2]
  obtain ⟨p, q, r, rfl⟩ : ∃ (p : Fin 9) (q : Fin 8) (r : Fin 128), y = ix3 p q r := ⟨y 0, y 1, y 2, eq_ix3 y⟩
  exact congrArg (vscalesR (heads (m ((c : Thread nD τ).loc main_arg2)))) (emb12 t p q r).symm

end Cert.QuantiseReferenceIdeal.Quant
end
-- ==== Proof.Quant.KerArray.lean ====
/- What the quantise kernel's result arrays hold after its run: the reference's functions of the arguments. -/
module

public import proofs.«01_k».proof.Proof.Quant.Max
public import proofs.«01_k».proof.Proof.Quant.RefArray

@[expose] public section

set_option maxRecDepth 65536

noncomputable section

namespace Cert.QuantiseIdeal.Quant

open Cert.QuantiseIdeal Cert.QuantiseIdeal.Gen Cert.Quant Idealize.ShloMosaic Idealize.ShloMosaic.TcCoe Idealize.SL.Sem
open Cert.QuantiseReferenceIdeal.Quant (codesR headsR scalesR heads vcodesR vtR vscalesR)

variable (m : (ℓ : Loc nD τ sig) → Buf (Elt Ideal) ℓ)

/-- Which block of its array each window stages at a point. -/
theorem idx_in : ∀ t : Fin cfg0.N,
    win0_0.index (clp t) = ![min t.val 143 / 16, min t.val 143 % 16, 0] ∧ win0_1.index (clp t) = ![min t.val 143 / 16, min t.val 143 % 16, 0]
    ∧ win0_3.index t = ![0, 0, 0] ∧ win0_4.index t = ![0, 0, 0] :=
  (by decide +kernel : ∀ t : Fin grid0.N, _)
theorem idx_out : ∀ t : Fin cfg0.N,
    win0_5.index t = ![min t.val 143 / 16, min t.val 143 % 16, 0, 0] ∧ win0_6.index t = ![min t.val 143 / 16, 0, min t.val 143 % 16, 0] ∧ win0_7.index t = ![min t.val 143 / 16, min t.val 143 % 16, 0]
    ∧ win0_8.index t = ![min t.val 143 / 16, min t.val 143 % 16, 0, 0] ∧ win0_9.index t = ![min t.val 143 / 16, 0, min t.val 143 % 16, 0] ∧ win0_10.index t = ![min t.val 143 / 16, min t.val 143 % 16, 0]
    ∧ win0_13.index t = ![min (t.val / 16) 8, 0, 0] :=
  (by decide +kernel : ∀ t : Fin grid0.N, _)
theorem idx_v : ∀ t : Fin cfg0.N, 16 ≤ t.val → win0_11.index t = ![(t.val - 16) / 16, t.val % 16, 0, 0] ∧ win0_12.index t = ![(t.val - 16) / 16, 0, 0, t.val % 16] :=
  (by decide +kernel : ∀ t : Fin grid0.N, _)
/-- The values' codes are written back one batch late. -/
theorem flush_v : ∀ t : Fin cfg0.N, ((cfg0.win 11).flushF t = true → 16 ≤ t.val) ∧ ((cfg0.win 12).flushF t = true → 16 ≤ t.val) := by decide +kernel

/-- The batch of a point and its block of tokens. -/
abbrev bOf (t : Fin cfg0.N) : Fin 9 := ⟨min t.val 143 / 16, by omega⟩
abbrev sOf (t : Fin cfg0.N) : Fin 16 := ⟨min t.val 143 % 16, by omega⟩

theorem blk0 (c : Dev nD) (t : Fin cfg0.N) (r : Fin 512) (j : Fin 1024) :
    iblk (F := Ideal) m c 0 (clp t) (ix3 0 r j) = m ((c : Thread nD τ).loc main_arg0) (ix3 (bOf t) (⟨512 * (sOf t).val + r.val, by omega⟩ : Fin 8192) j) := by
  blk_ext [iblk, V_main_arg0, (idx_in t).1]
theorem blk1 (c : Dev nD) (t : Fin cfg0.N) (r : Fin 512) (j : Fin 1024) :
    iblk (F := Ideal) m c 1 (clp t) (ix3 0 r j) = m ((c : Thread nD τ).loc main_arg1) (ix3 (bOf t) (⟨512 * (sOf t).val + r.val, by omega⟩ : Fin 8192) j) := by
  blk_ext [iblk, V_main_arg1, (idx_in t).2.1]
theorem blk3 (c : Dev nD) (t : Fin cfg0.N) : iblk (F := Ideal) m c 3 t = V m c main_v27 := by
  funext y
  obtain ⟨a, b, d, rfl⟩ : ∃ (a : Fin 4) (b : Fin 256) (d : Fin 256), y = ix3 a b d := ⟨y 0, y 1, y 2, eq_ix3 y⟩
  blk_ext [iblk, (idx_in t).2.2.1]
theorem blk4 (c : Dev nD) (t : Fin cfg0.N) : iblk (F := Ideal) m c 4 t = V m c main_v27 := by
  funext y
  obtain ⟨a, b, d, rfl⟩ : ∃ (a : Fin 4) (b : Fin 256) (d : Fin 256), y = ix3 a b d := ⟨y 0, y 1, y 2, eq_ix3 y⟩
  blk_ext [iblk, (idx_in t).2.2.2]

/-! ## The results of argument 0 -/

theorem emb5 (t : Fin cfg0.N) (r : Fin 512) (h : Fin 8) (d : Fin 128) : (win0_5.blk t).view.emb (ix4 (0 : Fin 1) r h d) = ix4 (bOf t) (⟨512 * (sOf t).val + r.val, by omega⟩ : Fin 8192) h d := by
  blk_ext [(idx_out t).1]
theorem emb6 (t : Fin cfg0.N) (r : Fin 512) (h : Fin 8) (d : Fin 128) : (win0_6.blk t).view.emb (ix4 (0 : Fin 1) h r d) = ix4 (bOf t) h (⟨512 * (sOf t).val + r.val, by omega⟩ : Fin 8192) d := by
  blk_ext [(idx_out t).2.1]
theorem emb7 (t : Fin cfg0.N) (r : Fin 32) (l : Fin 128) : (win0_7.blk t).view.emb (ix3 (0 : Fin 1) r l) = ix3 (bOf t) (⟨32 * (sOf t).val + r.val, by omega⟩ : Fin 512) l := by
  blk_ext [(idx_out t).2.2.1]
theorem final5 (c : Dev nD) : (dats (F := Ideal) m 0 c).arrAt 5 cfg0.N = codesR (m ((c : Thread nD τ).loc main_arg3)) (m ((c : Thread nD τ).loc main_arg0)) := by
  refine (dats m 0 c).arrAt_eq_of_covers 5 _ (by decide +kernel) fun t hf y => ?_
  blk_simp
  rw [after0_5, blk3]
  obtain ⟨r, h, d, rfl⟩ : ∃ (r : Fin 512) (h : Fin 8) (d : Fin 128), y = ix4 (0 : Fin 1) r h d := by
    refine ⟨y 1, y 2, y 3, (eq_ix4 y).trans ?_⟩
    rw [show y 0 = (0 : Fin 1) from Subsingleton.elim (α := Fin 1) _ _]
  exact (codesBy_ref _ _ (m ((c : Thread nD τ).loc main_arg3)) (m ((c : Thread nD τ).loc main_arg0)) (isRot m c) (bOf t) (sOf t) (blk0 m c t) r h d).trans (congrArg (codesR (m ((c : Thread nD τ).loc main_arg3)) (m ((c : Thread nD τ).loc main_arg0))) (emb5 t r h d).symm)
theorem final6 (c : Dev nD) : (dats (F := Ideal) m 0 c).arrAt 6 cfg0.N = headsR (m ((c : Thread nD τ).loc main_arg3)) (m ((c : Thread nD τ).loc main_arg0)) := by
  refine (dats m 0 c).arrAt_eq_of_covers 6 _ (by decide +kernel) fun t hf y => ?_
  blk_simp
  rw [after0_6, blk3]
  obtain ⟨h, r, d, rfl⟩ : ∃ (h : Fin 8) (r : Fin 512) (d : Fin 128), y = ix4 (0 : Fin 1) h r d := by
    refine ⟨y 1, y 2, y 3, (eq_ix4 y).trans ?_⟩
    rw [show y 0 = (0 : Fin 1) from Subsingleton.elim (α := Fin 1) _ _]
  exact (headsBy_ref _ _ (m ((c : Thread nD τ).loc main_arg3)) (m ((c : Thread nD τ).loc main_arg0)) (isRot m c) (bOf t) (sOf t) (blk0 m c t) r h d).trans (congrArg (headsR (m ((c : Thread nD τ).loc main_arg3)) (m ((c : Thread nD τ).loc main_arg0))) (emb6 t r h d).symm)
theorem final7 (c : Dev nD) : (dats (F := Ideal) m 0 c).arrAt 7 cfg0.N = scalesR (m ((c : Thread nD τ).loc main_arg3)) (m ((c : Thread nD τ).loc main_arg0)) := by
  refine (dats m 0 c).arrAt_eq_of_covers 7 _ (by decide +kernel) fun t hf y => ?_
  blk_simp
  rw [after0_7, blk3]
  obtain ⟨r, l, rfl⟩ : ∃ (r : Fin 32) (l : Fin 128), y = ix3 (0 : Fin 1) r l := by
    refine ⟨y 1, y 2, (eq_ix3 y).trans ?_⟩
    rw [show y 0 = (0 : Fin 1) from Subsingleton.elim (α := Fin 1) _ _]
  exact (scalesBy_ref _ _ (m ((c : Thread nD τ).loc main_arg3)) (m ((c : Thread nD τ).loc main_arg0)) (isRot m c) (bOf t) (sOf t) (blk0 m c t) r l).trans (congrArg (scalesR (m ((c : Thread nD τ).loc main_arg3)) (m ((c : Thread nD τ).loc main_arg0))) (emb7 t r l).symm)

/-! ## The results of argument 1 -/

theorem emb8 (t : Fin cfg0.N) (r : Fin 512) (h : Fin 8) (d : Fin 128) : (win0_8.blk t).view.emb (ix4 (0 : Fin 1) r h d) = ix4 (bOf t) (⟨512 * (sOf t).val + r.val, by omega⟩ : Fin 8192) h d := by
  blk_ext [(idx_out t).2.2.2.1]
theorem emb9 (t : Fin cfg0.N) (r : Fin 512) (h : Fin 8) (d : Fin 128) : (win0_9.blk t).view.emb (ix4 (0 : Fin 1) h r d) = ix4 (bOf t) h (⟨512 * (sOf t).val + r.val, by omega⟩ : Fin 8192) d := by
  blk_ext [(idx_out t).2.2.2.2.1]
theorem emb10 (t : Fin cfg0.N) (r : Fin 32) (l : Fin 128) : (win0_10.blk t).view.emb (ix3 (0 : Fin 1) r l) = ix3 (bOf t) (⟨32 * (sOf t).val + r.val, by omega⟩ : Fin 512) l := by
  blk_ext [(idx_out t).2.2.2.2.2.1]
theorem final8 (c : Dev nD) : (dats (F := Ideal) m 0 c).arrAt 8 cfg0.N = codesR (m ((c : Thread nD τ).loc main_arg3)) (m ((c : Thread nD τ).loc main_arg1)) := by
  refine (dats m 0 c).arrAt_eq_of_covers 8 _ (by decide +kernel) fun t hf y => ?_
  blk_simp
  rw [after0_8, blk4]
  obtain ⟨r, h, d, rfl⟩ : ∃ (r : Fin 512) (h : Fin 8) (d : Fin 128), y = ix4 (0 : Fin 1) r h d := by
    refine ⟨y 1, y 2, y 3, (eq_ix4 y).trans ?_⟩
    rw [show y 0 = (0 : Fin 1) from Subsingleton.elim (α := Fin 1) _ _]
  exact (codesBy_ref _ _ (m ((c : Thread nD τ).loc main_arg3)) (m ((c : Thread nD τ).loc main_arg1)) (isRot m c) (bOf t) (sOf t) (blk1 m c t) r h d).trans (congrArg (codesR (m ((c : Thread nD τ).loc main_arg3)) (m ((c : Thread nD τ).loc main_arg1))) (emb8 t r h d).symm)
theorem final9 (c : Dev nD) : (dats (F := Ideal) m 0 c).arrAt 9 cfg0.N = headsR (m ((c : Thread nD τ).loc main_arg3)) (m ((c : Thread nD τ).loc main_arg1)) := by
  refine (dats m 0 c).arrAt_eq_of_covers 9 _ (by decide +kernel) fun t hf y => ?_
  blk_simp
  rw [after0_9, blk4]
  obtain ⟨h, r, d, rfl⟩ : ∃ (h : Fin 8) (r : Fin 512) (d : Fin 128), y = ix4 (0 : Fin 1) h r d := by
    refine ⟨y 1, y 2, y 3, (eq_ix4 y).trans ?_⟩
    rw [show y 0 = (0 : Fin 1) from Subsingleton.elim (α := Fin 1) _ _]
  exact (headsBy_ref _ _ (m ((c : Thread nD τ).loc main_arg3)) (m ((c : Thread nD τ).loc main_arg1)) (isRot m c) (bOf t) (sOf t) (blk1 m c t) r h d).trans (congrArg (headsR (m ((c : Thread nD τ).loc main_arg3)) (m ((c : Thread nD τ).loc main_arg1))) (emb9 t r h d).symm)
theorem final10 (c : Dev nD) : (dats (F := Ideal) m 0 c).arrAt 10 cfg0.N = scalesR (m ((c : Thread nD τ).loc main_arg3)) (m ((c : Thread nD τ).loc main_arg1)) := by
  refine (dats m 0 c).arrAt_eq_of_covers 10 _ (by decide +kernel) fun t hf y => ?_
  blk_simp
  rw [after0_10, blk4]
  obtain ⟨r, l, rfl⟩ : ∃ (r : Fin 32) (l : Fin 128), y = ix3 (0 : Fin 1) r l := by
    refine ⟨y 1, y 2, (eq_ix3 y).trans ?_⟩
    rw [show y 0 = (0 : Fin 1) from Subsingleton.elim (α := Fin 1) _ _]
  exact (scalesBy_ref _ _ (m ((c : Thread nD τ).loc main_arg3)) (m ((c : Thread nD τ).loc main_arg1)) (isRot m c) (bOf t) (sOf t) (blk1 m c t) r l).trans (congrArg (scalesR (m ((c : Thread nD τ).loc main_arg3)) (m ((c : Thread nD τ).loc main_arg1))) (emb10 t r l).symm)

/-! ## The results of the values -/

/-- The value block that point `t` encodes, one batch late. -/
theorem late_blk (c : Dev nD) (t : Fin cfg0.N) (ht : 16 ≤ t.val) (r : Fin 512) (h : Fin 8) (d : Fin 128) :
    sb (F := Ideal) m c (t.val - 16) (ix3 0 r (chan h d)) = heads (m ((c : Thread nD τ).loc main_arg2)) (ix4 (⟨(t.val - 16) / 16, by have := lt_160 t; omega⟩ : Fin 9) (⟨512 * (t.val % 16) + r.val, by omega⟩ : Fin 8192) h d) := by
  have hlt := lt_160 t
  have e : (pt (t.val - 16)).val = t.val - 16 := pt_of _ (by omega)
  unfold sb
  rw [kept_apply, blk2]
  show _ = m ((c : Thread nD τ).loc main_arg2) (ix3 _ _ (chan h d))
  refine congrArg₂ (fun (b : Fin 9) (s : Fin 8192) => m ((c : Thread nD τ).loc main_arg2) (ix3 b s (chan h d))) (Fin.ext ?_) (Fin.ext ?_)
  · show min (pt (t.val - 16)).val 143 / 16 = (t.val - 16) / 16
    rw [e]; omega
  · show 512 * (min (pt (t.val - 16)).val 143 % 16) + r.val = 512 * (t.val % 16) + r.val
    rw [e]; omega

theorem emb11 (t : Fin cfg0.N) (ht : 16 ≤ t.val) (r : Fin 512) (h : Fin 8) (d : Fin 128) : (win0_11.blk t).view.emb (ix4 (0 : Fin 1) r h d)
    = ix4 (⟨(t.val - 16) / 16, by have := lt_160 t; omega⟩ : Fin 9) (⟨512 * (t.val % 16) + r.val, by omega⟩ : Fin 8192) h d := by
  blk_ext [(idx_v t ht).1]
theorem emb12 (t : Fin cfg0.N) (ht : 16 ≤ t.val) (r : Fin 512) (h : Fin 8) (d : Fin 128) : (win0_12.blk t).view.emb (ix4 (0 : Fin 1) h d r)
    = ix4 (⟨(t.val - 16) / 16, by have := lt_160 t; omega⟩ : Fin 9) h d (⟨512 * (t.val % 16) + r.val, by omega⟩ : Fin 8192) := by
  blk_ext [(idx_v t ht).2]
theorem emb13 (t : Fin cfg0.N) (h : Fin 8) (d : Fin 128) : (win0_13.blk t).view.emb (ix3 (0 : Fin 1) h d) = ix3 (⟨min (t.val / 16) 8, by omega⟩ : Fin 9) h d := by
  blk_ext [(idx_out t).2.2.2.2.2.2]

theorem final11 (c : Dev nD) : (dats (F := Ideal) m 0 c).arrAt 11 cfg0.N = vcodesR (heads (m ((c : Thread nD τ).loc main_arg2))) := by
  refine (dats m 0 c).arrAt_eq_of_covers 11 _ (by decide +kernel) fun t hf y => ?_
  have ht : 16 ≤ t.val := (flush_v t).1 (by rw [← Pipeline.Window.flush_eq_flushF]; exact hf)
  have hlt := lt_160 t
  blk_simp
  rw [after0_11]
  obtain ⟨r, h, d, rfl⟩ : ∃ (r : Fin 512) (h : Fin 8) (d : Fin 128), y = ix4 (0 : Fin 1) r h d := by
    refine ⟨y 1, y 2, y 3, (eq_ix4 y).trans ?_⟩
    rw [show y 0 = (0 : Fin 1) from Subsingleton.elim (α := Fin 1) _ _]
  exact (vcodesBy_ref _ _ (heads (m ((c : Thread nD τ).loc main_arg2))) (⟨(t.val - 16) / 16, by omega⟩ : Fin 9) (⟨t.val % 16, by omega⟩ : Fin 16) (late_blk m c t ht)
    (rM_eq m c (⟨(t.val - 16) / 16, by omega⟩ : Fin 9) _ (by show 16 * (t.val / 16) - 1 = 16 * ((t.val - 16) / 16) + 15; omega)) r h d).trans
    (congrArg (vcodesR (heads (m ((c : Thread nD τ).loc main_arg2)))) (emb11 t ht r h d).symm)
theorem final12 (c : Dev nD) : (dats (F := Ideal) m 0 c).arrAt 12 cfg0.N = vtR (heads (m ((c : Thread nD τ).loc main_arg2))) := by
  refine (dats m 0 c).arrAt_eq_of_covers 12 _ (by decide +kernel) fun t hf y => ?_
  have ht : 16 ≤ t.val := (flush_v t).2 (by rw [← Pipeline.Window.flush_eq_flushF]; exact hf)
  have hlt := lt_160 t
  blk_simp
  rw [after0_12]
  obtain ⟨h, d, r, rfl⟩ : ∃ (h : Fin 8) (d : Fin 128) (r : Fin 512), y = ix4 (0 : Fin 1) h d r := by
    refine ⟨y 1, y 2, y 3, (eq_ix4 y).trans ?_⟩
    rw [show y 0 = (0 : Fin 1) from Subsingleton.elim (α := Fin 1) _ _]
  exact (vtOf_ref _ _ (heads (m ((c : Thread nD τ).loc main_arg2))) (⟨(t.val - 16) / 16, by omega⟩ : Fin 9) (⟨t.val % 16, by omega⟩ : Fin 16) (late_blk m c t ht)
    (rM_eq m c (⟨(t.val - 16) / 16, by omega⟩ : Fin 9) _ (by show 16 * (t.val / 16) - 1 = 16 * ((t.val - 16) / 16) + 15; omega)) r h d).trans
    (congrArg (vtR (heads (m ((c : Thread nD τ).loc main_arg2)))) (emb12 t ht r h d).symm)
theorem final13 (c : Dev nD) : (dats (F := Ideal) m 0 c).arrAt 13 cfg0.N = vscalesR (heads (m ((c : Thread nD τ).loc main_arg2))) := by
  refine (dats m 0 c).arrAt_eq_of_covers 13 _ (by decide +kernel) fun t hf y => ?_
  have hlt := lt_160 t
  blk_simp
  rw [after0_13]
  obtain ⟨h, d, rfl⟩ : ∃ (h : Fin 8) (d : Fin 128), y = ix3 (0 : Fin 1) h d := by
    refine ⟨y 1, y 2, (eq_ix3 y).trans ?_⟩
    rw [show y 0 = (0 : Fin 1) from Subsingleton.elim (α := Fin 1) _ _]
  exact (vscalesBy_ref _ (heads (m ((c : Thread nD τ).loc main_arg2))) (⟨min (t.val / 16) 8, by omega⟩ : Fin 9)
    (rM_eq m c (⟨min (t.val / 16) 8, by omega⟩ : Fin 9) _ (by show min (16 * (t.val / 16) + 15) 143 = 16 * min (t.val / 16) 8 + 15; omega)) h d).trans
    (congrArg (vscalesR (heads (m ((c : Thread nD τ).loc main_arg2)))) (emb13 t h d).symm)

end Cert.QuantiseIdeal.Quant
end
-- ==== Proof.QuantPrinted.Prog.lean ====
/- The quantise kernel's body written as a structured program: the rotation, the tiles' largest magnitudes, the power of
   two and the codes as one function for the query and the key, then the value's stretches. The printed body is this
   program, by definitional unfolding. -/
module

public import proofs.«01_k».proof.Proof.Gen.Quantise.Skeleton
public import proofs.«01_k».proof.Proof.Gen.Quantise.Frame

@[expose] public section

set_option synthInstance.maxSize 4096
set_option maxRecDepth 65536

noncomputable section

namespace Cert.Quantise.Quant

open Idealize.ShloMosaic Idealize.SL.Sem
open Cert.Quantise Cert.Quantise.Gen

variable {F : FTy → Type} [FloatOps F]

/-! ## Side conditions at any tile, head or pair -/

theorem inb_tile : ∀ r : Fin 32, ∀ a, (![128 * (r.val / 8), 128 * (r.val % 8)] : Fin 2 → Nat) a + S128x128.size a ≤ S512x1024.size a := by decide
theorem inb_head : ∀ r : Fin 32, ∀ a, (![0, r.val % 8, 128 * (r.val / 8), 0] : Fin 4 → Nat) a + S1x1x128x128.size a ≤ S1x8x512x128.size a := by decide
theorem inb_tok : ∀ r : Fin 32, ∀ a, (![128 * (r.val / 8), r.val % 8, 0] : Fin 3 → Nat) a + S128x1x128.size a ≤ S512x8x128.size a := by decide
theorem packed_head : ∀ r : Fin 32, (Rect.unit (s := S1x8x512x128) ![0, r.val % 8, 128 * (r.val / 8), 0] S1x1x128x128.size (inb_head r)).PackedRows (EltTy.packing .fp8e4m3) := by decide
theorem slices_row : ∀ r : Fin 32, S32x128.Slices ![r.val, 0] S1x128 := by decide
theorem inb_x : ∀ p : Fin 4, ∀ a, (![0, 0, 256 * p.val] : Fin 3 → Nat) a + S1x512x256.size a ≤ S1x512x1024.size a := by decide
theorem inb_rot : ∀ p : Fin 4, ∀ a, (![p.val, 0, 0] : Fin 3 → Nat) a + S1x256x256.size a ≤ S4x256x256.size a := by decide
theorem inb_y : ∀ p : Fin 4, ∀ a, (![0, 256 * p.val] : Fin 2 → Nat) a + S512x256.size a ≤ S512x1024.size a := by decide
theorem inb_vinv : ∀ h : Fin 8, ∀ a, (![0, 128 * h.val] : Fin 2 → Nat) a + S1x128.size a ≤ S1x1024.size a := by decide
theorem inb_vtok : ∀ h : Fin 8, ∀ a, (![0, h.val, 0] : Fin 3 → Nat) a + S512x1x128.size a ≤ S512x8x128.size a := by decide
theorem inb_vt : ∀ h : Fin 8, ∀ a, (![0, h.val, 0, 0] : Fin 4 → Nat) a + S1x1x128x512.size a ≤ S1x8x128x512.size a := by decide
theorem packed_vt : ∀ h : Fin 8, (Rect.unit (s := S1x8x128x512) ![0, h.val, 0, 0] S1x1x128x512.size (inb_vt h)).PackedRows (EltTy.packing .fp8e4m3) := by decide
theorem inb_vs : ∀ h : Fin 8, ∀ a, (![0, h.val, 0] : Fin 3 → Nat) a + S1x1x128.size a ≤ S1x8x128.size a := by decide
theorem slices_vs : ∀ h : Fin 8, S1x1024.Slices ![0, 128 * h.val] S1x128 := by decide

/-- The offsets at which the value's block of head `h` is read in the stash. -/
def vOff (i : grid0.Coords) : Fin 8 → Fin 3 → Nat :=
  ![k0_off1 i, k0_off2 i, k0_off3 i, k0_off4 i, k0_off5 i, k0_off6 i, k0_off7 i, k0_off8 i]
theorem vOff_inb (i : grid0.Coords) (h2 : k0_cond2 i = 1#1) : ∀ h : Fin 8, ∀ a, (vOff i h) a + S1x512x128.size a ≤ S16x512x1024.size a
  | 0 => k0_off1_inb i h2 | 1 => k0_off2_inb i h2 | 2 => k0_off3_inb i h2 | 3 => k0_off4_inb i h2
  | 4 => k0_off5_inb i h2 | 5 => k0_off6_inb i h2 | 6 => k0_off7_inb i h2 | 7 => k0_off8_inb i h2

/-! ## The pure values -/

/-- A pair of heads rotated and scaled by the root of the head's length. -/
def rotated (x : Vec F S1x512x256 .bf16) (m : Vec F S1x256x256 .bf16) : FVec F S512x256 .f32 :=
  shapeCast S512x256 (mulf (matmul dot_S512x256_S256x256_S512x256_1_0_0_1_n_n none (shapeCast S512x256 x shapeCasts_S1x512x256_S512x256)
    (shapeCast S256x256 m shapeCasts_S1x256x256_S256x256) (constant S512x256 .f32 0x00000000#32)) (broadcast S512x256 (Scalar.ofBits .f32 0x3DB504F3#32)))
    shapeCasts_S512x256_S512x256

/-- A tile's largest magnitude by channel. -/
def colMax (y : Vec F S128x128 .f32) : FVec F S1x128 .f32 :=
  shapeCast S1x128 (multiReduction .maximumf [0] S128 (absf y) 0xFF800000#32 reduces_S128x128_S128 (.inl rfl) rfl : FVec F S128 .f32) shapeCasts_S128_S1x128

/-- The 32 tiles' largest magnitudes over 448, along the lanes. -/
def ratio (a0 a1 a2 a3 a4 a5 a6 a7 a8 a9 a10 a11 a12 a13 a14 a15 a16 a17 a18 a19 a20 a21 a22 a23 a24 a25 a26 a27 a28 a29 a30 a31 : Vec F S128x128 .f32) : FVec F S32x128 .f32 :=
  mulf (broadcastTo S32x128 (shapeCast S32x1 (shapeCast S32x1 (multiReduction .maximumf [1] S32 (concatenate S32x128 0 [⟨S1x128, colMax a0⟩, ⟨S1x128, colMax a1⟩, ⟨S1x128, colMax a2⟩, ⟨S1x128, colMax a3⟩, ⟨S1x128, colMax a4⟩, ⟨S1x128, colMax a5⟩, ⟨S1x128, colMax a6⟩, ⟨S1x128, colMax a7⟩, ⟨S1x128, colMax a8⟩, ⟨S1x128, colMax a9⟩, ⟨S1x128, colMax a10⟩, ⟨S1x128, colMax a11⟩, ⟨S1x128, colMax a12⟩, ⟨S1x128, colMax a13⟩, ⟨S1x128, colMax a14⟩, ⟨S1x128, colMax a15⟩, ⟨S1x128, colMax a16⟩, ⟨S1x128, colMax a17⟩, ⟨S1x128, colMax a18⟩, ⟨S1x128, colMax a19⟩, ⟨S1x128, colMax a20⟩, ⟨S1x128, colMax a21⟩, ⟨S1x128, colMax a22⟩, ⟨S1x128, colMax a23⟩, ⟨S1x128, colMax a24⟩, ⟨S1x128, colMax a25⟩, ⟨S1x128, colMax a26⟩, ⟨S1x128, colMax a27⟩, ⟨S1x128, colMax a28⟩, ⟨S1x128, colMax a29⟩, ⟨S1x128, colMax a30⟩, ⟨S1x128, colMax a31⟩] concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0 : FVec F S32x128 .f32)
    0xFF800000#32 reduces_S32x128_S32 (.inl rfl) rfl : FVec F S32 .f32) shapeCasts_S32_S32x1) shapeCasts_S32x1_S32x1) broadcasts_S32x1_S32x128)
    (broadcast S32x128 (Scalar.ofBits .f32 0x3B124925#32))

section Ladder
variable {s : Shape}

/-- Whether a rung is taken: the ratio is not below the scale times `lo`. -/
def above (r scale : FVec F s .f32) (lo : BitVec 32) : IVec s 1 := cmpf .oge r (mulf scale (broadcast s (Scalar.ofBits .f32 lo)))
/-- One rung for the scale, -/
def up (r scale : FVec F s .f32) (lo hi : BitVec 32) : FVec F s .f32 :=
  select (above r scale lo) (mulf scale (broadcast s (Scalar.ofBits .f32 hi))) scale
/-- and for its inverse. -/
def down (r scale inv : FVec F s .f32) (lo hi : BitVec 32) : FVec F s .f32 :=
  select (above r scale lo) (mulf inv (broadcast s (Scalar.ofBits .f32 hi))) inv

def s0 : FVec F s .f32 := broadcast s (Scalar.ofBits .f32 0x00800000#32)
def s1 (r : FVec F s .f32) : FVec F s .f32 := up r s0 0x7E000000#32 0x7E800000#32
def s2 (r : FVec F s .f32) : FVec F s .f32 := up r (s1 r) 0x5F000000#32 0x5F800000#32
def s3 (r : FVec F s .f32) : FVec F s .f32 := up r (s2 r) 0x4F000000#32 0x4F800000#32
def s4 (r : FVec F s .f32) : FVec F s .f32 := up r (s3 r) 0x47000000#32 0x47800000#32
def s5 (r : FVec F s .f32) : FVec F s .f32 := up r (s4 r) 0x43000000#32 0x43800000#32
def s6 (r : FVec F s .f32) : FVec F s .f32 := up r (s5 r) 0x41000000#32 0x41800000#32
def s7 (r : FVec F s .f32) : FVec F s .f32 := up r (s6 r) 0x40000000#32 0x40800000#32
def s8 (r : FVec F s .f32) : FVec F s .f32 := up r (s7 r) 0x3F800000#32 0x40000000#32
def i0 : FVec F s .f32 := broadcast s (Scalar.ofBits .f32 0x7E800000#32)
def i1 (r : FVec F s .f32) : FVec F s .f32 := down r s0 i0 0x7E000000#32 0x00800000#32
def i2 (r : FVec F s .f32) : FVec F s .f32 := down r (s1 r) (i1 r) 0x5F000000#32 0x1F800000#32
def i3 (r : FVec F s .f32) : FVec F s .f32 := down r (s2 r) (i2 r) 0x4F000000#32 0x2F800000#32
def i4 (r : FVec F s .f32) : FVec F s .f32 := down r (s3 r) (i3 r) 0x47000000#32 0x37800000#32
def i5 (r : FVec F s .f32) : FVec F s .f32 := down r (s4 r) (i4 r) 0x43000000#32 0x3B800000#32
def i6 (r : FVec F s .f32) : FVec F s .f32 := down r (s5 r) (i5 r) 0x41000000#32 0x3D800000#32
def i7 (r : FVec F s .f32) : FVec F s .f32 := down r (s6 r) (i6 r) 0x40000000#32 0x3E800000#32
def i8 (r : FVec F s .f32) : FVec F s .f32 := down r (s7 r) (i7 r) 0x3F800000#32 0x3F000000#32
/-- One where the ratio is zero, -/
def unit (r v : FVec F s .f32) : FVec F s .f32 :=
  select (cmpf .oeq r (broadcast s (Scalar.ofBits .f32 0x00000000#32))) (broadcast s (Scalar.ofBits .f32 0x3F800000#32)) v
/-- the scale of a ratio, -/
def scaleOf (r : FVec F s .f32) : FVec F s .f32 := unit r (s8 r)
/-- and its inverse. -/
def invOf (r : FVec F s .f32) : FVec F s .f32 := unit r (i8 r)
/-- Clipped to ±448. -/
def clip (v : FVec F s .f32) : FVec F s .f32 :=
  minimumf (broadcast s (Scalar.ofBits .f32 0x43E00000#32)) (maximumf (broadcast s (Scalar.ofBits .f32 0xC3E00000#32)) v)
end Ladder

/-- A tile's codes before rounding: times its inverse scale, clipped. -/
def codes (inv : FVec F S32x128 .f32) (r : Fin 32) (y : Vec F S128x128 .f32) : FVec F S128x128 .f32 :=
  clip (mulf y (broadcastTo S128x128 (extractStridedSlice S1x128 ![r.val, 0] inv (slices_row r)) broadcasts_S1x128_S128x128))

/-- A head of the value's block by its inverse scales, clipped. -/
def vcodes (v : Vec F S1x512x128 .bf16) (inv : Vec F S1x128 .f32) : FVec F S512x128 .f32 :=
  clip (mulf (extf .f32 (shapeCast S512x128 v shapeCasts_S1x512x128_S512x128) bitsLt_bf16_f32) (broadcastTo S512x128 inv broadcasts_S1x128_S512x128))

/-- The value's ratio by channel. -/
def vratio (m : Vec F S8x1024 .f32) : FVec F S1x1024 .f32 :=
  mulf (shapeCast S1x1024 (multiReduction .maximumf [0] S1024 m 0xFF800000#32 reduces_S8x1024_S1024 (.inl rfl) rfl : FVec F S1024 .f32) shapeCasts_S1024_S1x1024)
    (broadcast S1x1024 (Scalar.ofBits .f32 0x3B124925#32))

/-! ## The query's (the key's) stretch -/

section QK
variable (x : Memref sig .tc .vmem S1x512x1024 .bf16) (rt : Memref sig .tc .vmem S4x256x256 .bf16) (qc : Memref sig .tc .vmem S1x512x8x128 .fp8e4m3) (hqc : qc.IsWhole)
  (qh : Memref sig .tc .vmem S1x8x512x128 .fp8e4m3) (hqh : qh.IsWhole) (qs : Memref sig .tc .vmem S1x32x128 .f32) (y : Memref sig .tc .vmem S512x1024 .f32) (tok : Memref sig .tc .vmem S512x8x128 .f32)

/-- One pair of heads rotated. -/
def rotPair (p : Fin 4) : Prog (TpuEff nD τ sig (Elt F) Λ₀ .tc) PUnit := do
  let v ← Prog.lift (.load x (Rect.unit (s := S1x512x1024) ![0, 0, 256 * p.val] S1x512x256.size (inb_x p)).toLoadRect (View.loadsAt_vmem h_S1x512x256))
  let w ← Prog.lift (.load rt (Rect.unit (s := S4x256x256) ![p.val, 0, 0] S1x256x256.size (inb_rot p)).toLoadRect (View.loadsAt_vmem h_S1x256x256))
  let _ ← Prog.lift (.load y (Rect.unit (s := S512x1024) ![0, 256 * p.val] S512x256.size (inb_y p)).toLoadRect (View.loadsAt_vmem h_S512x256))
  Prog.lift (.store y (Rect.unit (s := S512x1024) ![0, 256 * p.val] S512x256.size (inb_y p)) (rotated v w) Finset.univ (View.stores_vmem_bits_univ h_S512x256 rfl) (.inl rfl))

/-- One tile read. -/
def tile (r : Fin 32) : Prog (TpuEff nD τ sig (Elt F) Λ₀ .tc) (Vec F S128x128 .f32) :=
  Prog.lift (.load y (Rect.unit (s := S512x1024) ![128 * (r.val / 8), 128 * (r.val % 8)] S128x128.size (inb_tile r)).toLoadRect (View.loadsAt_vmem h_S128x128))

/-- One tile's codes written, by head and by token. -/
def encode (inv : FVec F S32x128 .f32) (r : Fin 32) : Prog (TpuEff nD τ sig (Elt F) Λ₀ .tc) PUnit := do
  let v ← tile y r
  let _ ← Prog.lift (.load qh (Rect.unit (s := S1x8x512x128) ![0, r.val % 8, 128 * (r.val / 8), 0] S1x1x128x128.size (inb_head r)).toLoadRect (View.loadsAt_vmem h_S1x1x128x128))
  Prog.lift (.store qh (Rect.unit (s := S1x8x512x128) ![0, r.val % 8, 128 * (r.val / 8), 0] S1x1x128x128.size (inb_head r))
    (shapeCast S1x1x128x128 (truncf .fp8e4m3 (codes inv r v) bitsLt_fp8e4m3_f32) shapeCasts_S128x128_S1x1x128x128) Finset.univ
    (View.stores_vmem h_S1x1x128x128 (hqh.storeExact_slice rfl _ (packed_head r)) (fun _ => rfl)) (.inl rfl))
  let _ ← Prog.lift (.load tok (Rect.unit (s := S512x8x128) ![128 * (r.val / 8), r.val % 8, 0] S128x1x128.size (inb_tok r)).toLoadRect (View.loadsAt_vmem h_S128x1x128))
  Prog.lift (.store tok (Rect.unit (s := S512x8x128) ![128 * (r.val / 8), r.val % 8, 0] S128x1x128.size (inb_tok r))
    (shapeCast S128x1x128 (codes inv r v) shapeCasts_S128x128_S128x1x128) Finset.univ (View.stores_vmem_bits_univ h_S128x1x128 rfl) (.inl rfl))

/-- The tiles' codes, one tile after another. -/
def encodes (inv : FVec F S32x128 .f32) : List (Fin 32) → Prog (TpuEff nD τ sig (Elt F) Λ₀ .tc) PUnit
  | [] => pure ⟨⟩
  | r :: l => do
    encode qh hqh y tok inv r
    encodes inv l

/-- The 32 tiles in order. -/
abbrev tiles : List (Fin 32) := [0, 1, 2, 3, 4, 5, 6, 7, 8, 9, 10, 11, 12, 13, 14, 15, 16, 17, 18, 19, 20, 21, 22, 23, 24, 25, 26, 27, 28, 29, 30, 31]

/-- The token-ordered codes written out. -/
def writeTok (c : Memref sig .tc .vmem S1x512x8x128 .fp8e4m3) (hc : c.IsWhole) : Prog (TpuEff nD τ sig (Elt F) Λ₀ .tc) PUnit := do
  let v : Vec F S512x8x128 .f32 ← Prog.lift (.load tok (Rect.unit (s := S512x8x128) ![0, 0, 0] S512x8x128.size inb_S512x8x128_S512x8x128_0_0_0).toLoadRect (View.loadsAt_vmem h_S512x8x128))
  let _ : Vec F S1x512x8x128 .fp8e4m3 ← Prog.lift (.load c (Rect.unit (s := S1x512x8x128) ![0, 0, 0, 0] S1x512x8x128.size inb_S1x512x8x128_S1x512x8x128_0_0_0_0).toLoadRect (View.loadsAt_vmem h_S1x512x8x128))
  Prog.lift (.store c (Rect.unit (s := S1x512x8x128) ![0, 0, 0, 0] S1x512x8x128.size inb_S1x512x8x128_S1x512x8x128_0_0_0_0)
    (shapeCast S1x512x8x128 (truncf .fp8e4m3 v bitsLt_fp8e4m3_f32) shapeCasts_S512x8x128_S1x512x8x128) Finset.univ
    (View.stores_vmem h_S1x512x8x128 (hc.storeExact_slice rfl _ packedfp8e4m3_S1x512x8x128_S1x512x8x128_0_0_0_0) (fun _ => rfl)) (.inl rfl))

/-- The 32 tiles read for their largest magnitudes. -/
def ratios : Prog (TpuEff nD τ sig (Elt F) Λ₀ .tc) (FVec F S32x128 .f32) := do
  let a0 ← tile y 0
  let a1 ← tile y 1
  let a2 ← tile y 2
  let a3 ← tile y 3
  let a4 ← tile y 4
  let a5 ← tile y 5
  let a6 ← tile y 6
  let a7 ← tile y 7
  let a8 ← tile y 8
  let a9 ← tile y 9
  let a10 ← tile y 10
  let a11 ← tile y 11
  let a12 ← tile y 12
  let a13 ← tile y 13
  let a14 ← tile y 14
  let a15 ← tile y 15
  let a16 ← tile y 16
  let a17 ← tile y 17
  let a18 ← tile y 18
  let a19 ← tile y 19
  let a20 ← tile y 20
  let a21 ← tile y 21
  let a22 ← tile y 22
  let a23 ← tile y 23
  let a24 ← tile y 24
  let a25 ← tile y 25
  let a26 ← tile y 26
  let a27 ← tile y 27
  let a28 ← tile y 28
  let a29 ← tile y 29
  let a30 ← tile y 30
  let a31 ← tile y 31
  pure (ratio a0 a1 a2 a3 a4 a5 a6 a7 a8 a9 a10 a11 a12 a13 a14 a15 a16 a17 a18 a19 a20 a21 a22 a23 a24 a25 a26 a27 a28 a29 a30 a31)

/-- The whole stretch. -/
def qk : Prog (TpuEff nD τ sig (Elt F) Λ₀ .tc) PUnit := do
  rotPair x rt y 0
  rotPair x rt y 1
  rotPair x rt y 2
  rotPair x rt y 3
  let r ← ratios y
  let _ : Vec F S1x32x128 .f32 ← Prog.lift (.load qs (Rect.unit (s := S1x32x128) ![0, 0, 0] S1x32x128.size inb_S1x32x128_S1x32x128_0_0_0).toLoadRect (View.loadsAt_vmem h_S1x32x128))
  Prog.lift (.store qs (Rect.unit (s := S1x32x128) ![0, 0, 0] S1x32x128.size inb_S1x32x128_S1x32x128_0_0_0)
    (shapeCast S1x32x128 (scaleOf r) shapeCasts_S32x128_S1x32x128) Finset.univ (View.stores_vmem_bits_univ h_S1x32x128 rfl) (.inl rfl))
  encodes qh hqh y tok (invOf r) tiles
  writeTok tok qc hqc
end QK

/-! ## The value's stretches -/

section V
variable (vc : Memref sig .tc .vmem S1x512x8x128 .fp8e4m3) (hvc : vc.IsWhole) (vt : Memref sig .tc .vmem S1x8x128x512 .fp8e4m3) (hvt : vt.IsWhole) (vs : Memref sig .tc .vmem S1x8x128 .f32)
  (v : Memref sig .tc .vmem S1x512x1024 .bf16) (tok : Memref sig .tc .vmem S512x8x128 .f32) (stash : Memref sig .tc .vmem S16x512x1024 .bf16) (hstash : stash.IsWhole) (vmax : Memref sig .tc .vmem S8x1024 .f32) (vinv : Memref sig .tc .vmem S1x1024 .f32)

/-- One head of the value's codes, by token and by channel. -/
def vencode (i : grid0.Coords) (h2 : k0_cond2 i = 1#1) (h : Fin 8) : Prog (TpuEff nD τ sig (Elt F) Λ₀ .tc) PUnit := do
  let a ← Prog.lift (.load stash (Rect.unit (s := S16x512x1024) (vOff i h) S1x512x128.size (vOff_inb i h2 h)).toLoadRect (View.loadsAt_vmem h_S1x512x128))
  let b ← Prog.lift (.load vinv (Rect.unit (s := S1x1024) ![0, 128 * h.val] S1x128.size (inb_vinv h)).toLoadRect (View.loadsAt_vmem h_S1x128))
  let _ ← Prog.lift (.load tok (Rect.unit (s := S512x8x128) ![0, h.val, 0] S512x1x128.size (inb_vtok h)).toLoadRect (View.loadsAt_vmem h_S512x1x128))
  Prog.lift (.store tok (Rect.unit (s := S512x8x128) ![0, h.val, 0] S512x1x128.size (inb_vtok h))
    (shapeCast S512x1x128 (vcodes a b) shapeCasts_S512x128_S512x1x128) Finset.univ (View.stores_vmem_bits_univ h_S512x1x128 rfl) (.inl rfl))
  let _ ← Prog.lift (.load vt (Rect.unit (s := S1x8x128x512) ![0, h.val, 0, 0] S1x1x128x512.size (inb_vt h)).toLoadRect (View.loadsAt_vmem h_S1x1x128x512))
  Prog.lift (.store vt (Rect.unit (s := S1x8x128x512) ![0, h.val, 0, 0] S1x1x128x512.size (inb_vt h))
    (shapeCast S1x1x128x512 (truncf .fp8e4m3 (transpose S128x512 [1, 0] (vcodes a b) transposes_S512x128_p1_0_S128x512) bitsLt_fp8e4m3_f32) shapeCasts_S128x512_S1x1x128x512) Finset.univ
    (View.stores_vmem h_S1x1x128x512 (hvt.storeExact_slice rfl _ (packed_vt h)) (fun _ => rfl)) (.inl rfl))

/-- The heads one after another. -/
def vencodes (i : grid0.Coords) (h2 : k0_cond2 i = 1#1) : List (Fin 8) → Prog (TpuEff nD τ sig (Elt F) Λ₀ .tc) PUnit
  | [] => pure ⟨⟩
  | h :: l => do
    vencode vt hvt tok stash vinv i h2 h
    vencodes i h2 l

/-- The stretch at the batch after: the stashed block encoded by the finished scales. -/
def vout (i : grid0.Coords) (h2 : k0_cond2 i = 1#1) : Prog (TpuEff nD τ sig (Elt F) Λ₀ .tc) PUnit := do
  vencodes vt hvt tok stash vinv i h2 [0, 1, 2, 3, 4, 5, 6, 7]
  writeTok tok vc hvc

/-- One head's scales written. -/
def vscale (s : FVec F S1x1024 .f32) (h : Fin 8) : Prog (TpuEff nD τ sig (Elt F) Λ₀ .tc) PUnit := do
  let _ ← Prog.lift (.load vs (Rect.unit (s := S1x8x128) ![0, h.val, 0] S1x1x128.size (inb_vs h)).toLoadRect (View.loadsAt_vmem h_S1x1x128))
  Prog.lift (.store vs (Rect.unit (s := S1x8x128) ![0, h.val, 0] S1x1x128.size (inb_vs h))
    (shapeCast S1x1x128 (extractStridedSlice S1x128 ![0, 128 * h.val] s (slices_vs h)) shapeCasts_S1x128_S1x1x128) Finset.univ (View.stores_vmem_bits_univ h_S1x1x128 rfl) (.inl rfl))

/-- The heads one after another. -/
def vscales (s : FVec F S1x1024 .f32) : List (Fin 8) → Prog (TpuEff nD τ sig (Elt F) Λ₀ .tc) PUnit
  | [] => pure ⟨⟩
  | h :: l => do
    vscale vs s h
    vscales s l

/-- The last block's end: the scales from the largest magnitudes. -/
def vlast : Prog (TpuEff nD τ sig (Elt F) Λ₀ .tc) PUnit := do
  let m : Vec F S8x1024 .f32 ← Prog.lift (.load vmax (Rect.unit (s := S8x1024) ![0, 0] S8x1024.size inb_S8x1024_S8x1024_0_0).toLoadRect (View.loadsAt_vmem h_S8x1024))
  let _ : Vec F S1x1024 .f32 ← Prog.lift (.load vinv (Rect.unit (s := S1x1024) ![0, 0] S1x1024.size inb_S1x1024_S1x1024_0_0).toLoadRect (View.loadsAt_vmem h_S1x1024))
  Prog.lift (.store vinv (Rect.unit (s := S1x1024) ![0, 0] S1x1024.size inb_S1x1024_S1x1024_0_0)
    (shapeCast S1x1024 (invOf (vratio m)) shapeCasts_S1x1024_S1x1024) Finset.univ (View.stores_vmem_bits_univ h_S1x1024 rfl) (.inl rfl))
  vscales vs (scaleOf (vratio m)) [0, 1, 2, 3, 4, 5, 6, 7]

/-- The stretch at the batch's own blocks: stashed, and the running largest magnitudes. -/
def vin (i : grid0.Coords) (h3 : k0_cond3 i = 1#1) : Prog (TpuEff nD τ sig (Elt F) Λ₀ .tc) PUnit := do
  let a : Vec F S1x512x1024 .bf16 ← Prog.lift (.load v (Rect.unit (s := S1x512x1024) ![0, 0, 0] S1x512x1024.size inb_S1x512x1024_S1x512x1024_0_0_0).toLoadRect (View.loadsAt_vmem h_S1x512x1024))
  let _ : Vec F S1x512x1024 .bf16 ← Prog.lift (.load stash (Rect.unit (s := S16x512x1024) (k0_off9 i) S1x512x1024.size (k0_off9_inb i h3)).toLoadRect (View.loadsAt_vmem h_S1x512x1024))
  Prog.lift (.store stash (Rect.unit (s := S16x512x1024) (k0_off9 i) S1x512x1024.size (k0_off9_inb i h3)) (k0_pay10 a) Finset.univ
    (View.stores_vmem h_S1x512x1024 (hstash.storeExact_slice rfl _ (k0_off9_packedbf16 i h3)) (fun _ => rfl)) (.inl rfl))
  let b : Vec F S8x1024 .f32 ← Prog.lift (.load vmax (Rect.unit (s := S8x1024) ![0, 0] S8x1024.size inb_S8x1024_S8x1024_0_0).toLoadRect (View.loadsAt_vmem h_S8x1024))
  let _ : Vec F S8x1024 .f32 ← Prog.lift (.load vmax (Rect.unit (s := S8x1024) ![0, 0] S8x1024.size inb_S8x1024_S8x1024_0_0).toLoadRect (View.loadsAt_vmem h_S8x1024))
  Prog.lift (.store vmax (Rect.unit (s := S8x1024) ![0, 0] S8x1024.size inb_S8x1024_S8x1024_0_0) (k0_pay11 i a b) Finset.univ
    (View.stores_vmem_bits_univ h_S8x1024 rfl) (.inl rfl))
end V

/-- The body, structured. -/
def body (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (harg9 : arg9.IsWhole) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (harg12 : arg12.IsWhole) (arg13 : Memref sig .tc .vmem S1x512x8x128 .fp8e4m3) (harg13 : arg13.IsWhole) (arg14 : Memref sig .tc .vmem S1x8x128x512 .fp8e4m3) (harg14 : arg14.IsWhole) (arg15 : Memref sig .tc .vmem S1x8x128 .f32) (harg15 : arg15.IsWhole) (arg16 : Memref sig .tc .vmem S512x1024 .f32) (harg16 : arg16.IsWhole) (arg17 : Memref sig .tc .vmem S512x8x128 .f32) (harg17 : arg17.IsWhole) (arg18 : Memref sig .tc .vmem S16x512x1024 .bf16) (harg18 : arg18.IsWhole) (arg19 : Memref sig .tc .vmem S8x1024 .f32) (harg19 : arg19.IsWhole) (arg20 : Memref sig .tc .vmem S1x1024 .f32) (harg20 : arg20.IsWhole) :
    Prog (TpuEff nD τ sig (Elt F) Λ₀ .tc) PUnit := do
  if h1 : k0_cond1 i = 1#1 then do
    qk arg2 arg5 arg7 harg7 arg8 harg8 arg9 arg16 arg17
    qk arg3 arg6 arg10 harg10 arg11 harg11 arg12 arg16 arg17
  else pure ⟨⟩
  if h2 : k0_cond2 i = 1#1 then vout arg13 harg13 arg14 harg14 arg17 arg18 arg20 i h2 else pure ⟨⟩
  if h3 : k0_cond3 i = 1#1 then do
    vin arg4 arg18 harg18 arg19 i h3
    if h4 : k0_cond4 i = 1#1 then vlast arg15 arg19 arg20 else pure ⟨⟩
  else pure ⟨⟩
  pure ⟨⟩

theorem body_eq : cc0_quantise (F := F) = body (F := F) := by
  chain_rfl

end Cert.Quantise.Quant

end
-- ==== Proof.QuantPrinted.Steps.lean ====
/- What each stretch of the quantise kernel's body leaves, as functions of the blocks it reads. -/
module

public import proofs.«01_k».proof.Proof.QuantPrinted.Prog
public import proofs.«01_k».proof.Proof.Quant.Owns

@[expose] public section

set_option synthInstance.maxSize 4096
set_option maxRecDepth 65536

noncomputable section

namespace Cert.Quantise.Quant

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Cert.Quantise Cert.Quantise.Gen Cert.Quant

variable {F : FTy → Type} [FloatOps F]

local notation "𝕄" => MT nD τ sig Unit (Elt F) ℕ (UR sig nD τ) ℕ

/-! ## Where each piece lies -/

abbrev offY (p : Fin 4) : Fin S512x1024.rank → ℕ := ![0, 256 * p.val]
def pickY (y : S512x1024.Idx) : Fin 4 := ⟨(y 1).val / 256, by have h : (y 1).val < 1024 := (y 1).isLt; omega⟩
theorem pickY_in (y : S512x1024.Idx) (a) : offY (pickY y) a ≤ (y a).val ∧ (y a).val < offY (pickY y) a + S512x256.size a := by
  have h0 : (y 0).val < 512 := (y 0).isLt
  have h1 : (y 1).val < 1024 := (y 1).isLt
  match a with
  | ⟨0, _⟩ => exact ⟨Nat.zero_le _, by show (y 0).val < 0 + 512; omega⟩
  | ⟨1, _⟩ => exact ⟨by show 256 * ((y 1).val / 256) ≤ (y 1).val; omega, by show (y 1).val < 256 * ((y 1).val / 256) + 256; omega⟩
theorem pickY_emb (p : Fin 4) (j) : pickY ((Rect.unit (s := S512x1024) (offY p) S512x256.size (inb_y p)).emb j) = p := Fin.ext (by
  have h1 : (j 1).val < 256 := (j 1).isLt
  show (256 * p.val + 1 * (j 1).val) / 256 = p.val; omega)

abbrev offHead (r : Fin 32) : Fin S1x8x512x128.rank → ℕ := ![0, r.val % 8, 128 * (r.val / 8), 0]
def pickHead (y : S1x8x512x128.Idx) : Fin 32 := ⟨8 * ((y 2).val / 128) + (y 1).val, by have h : (y 1).val < 8 := (y 1).isLt; have h : (y 2).val < 512 := (y 2).isLt; omega⟩
theorem pickHead_in (y : S1x8x512x128.Idx) (a) : offHead (pickHead y) a ≤ (y a).val ∧ (y a).val < offHead (pickHead y) a + S1x1x128x128.size a := by
  have h0 : (y 0).val < 1 := (y 0).isLt
  have h1 : (y 1).val < 8 := (y 1).isLt
  have h2 : (y 2).val < 512 := (y 2).isLt
  have h3 : (y 3).val < 128 := (y 3).isLt
  match a with
  | ⟨0, _⟩ => exact ⟨Nat.zero_le _, by show (y 0).val < 0 + 1; omega⟩
  | ⟨1, _⟩ => exact ⟨by show (8 * ((y 2).val / 128) + (y 1).val) % 8 ≤ (y 1).val; omega, by show (y 1).val < (8 * ((y 2).val / 128) + (y 1).val) % 8 + 1; omega⟩
  | ⟨2, _⟩ => exact ⟨by show 128 * ((8 * ((y 2).val / 128) + (y 1).val) / 8) ≤ (y 2).val; omega, by show (y 2).val < 128 * ((8 * ((y 2).val / 128) + (y 1).val) / 8) + 128; omega⟩
  | ⟨3, _⟩ => exact ⟨Nat.zero_le _, by show (y 3).val < 0 + 128; omega⟩
theorem pickHead_emb (r : Fin 32) (j) : pickHead ((Rect.unit (s := S1x8x512x128) (offHead r) S1x1x128x128.size (inb_head r)).emb j) = r := Fin.ext (by
  have h1 : (j 1).val < 1 := (j 1).isLt
  have h2 : (j 2).val < 128 := (j 2).isLt
  have hr := r.isLt
  show 8 * ((128 * (r.val / 8) + 1 * (j 2).val) / 128) + (r.val % 8 + 1 * (j 1).val) = r.val; omega)

abbrev offTok (r : Fin 32) : Fin S512x8x128.rank → ℕ := ![128 * (r.val / 8), r.val % 8, 0]
def pickTok (y : S512x8x128.Idx) : Fin 32 := ⟨8 * ((y 0).val / 128) + (y 1).val, by have h : (y 1).val < 8 := (y 1).isLt; have h : (y 0).val < 512 := (y 0).isLt; omega⟩
theorem pickTok_in (y : S512x8x128.Idx) (a) : offTok (pickTok y) a ≤ (y a).val ∧ (y a).val < offTok (pickTok y) a + S128x1x128.size a := by
  have h1 : (y 1).val < 8 := (y 1).isLt
  have h2 : (y 0).val < 512 := (y 0).isLt
  have h3 : (y 2).val < 128 := (y 2).isLt
  match a with
  | ⟨1, _⟩ => exact ⟨by show (8 * ((y 0).val / 128) + (y 1).val) % 8 ≤ (y 1).val; omega, by show (y 1).val < (8 * ((y 0).val / 128) + (y 1).val) % 8 + 1; omega⟩
  | ⟨0, _⟩ => exact ⟨by show 128 * ((8 * ((y 0).val / 128) + (y 1).val) / 8) ≤ (y 0).val; omega, by show (y 0).val < 128 * ((8 * ((y 0).val / 128) + (y 1).val) / 8) + 128; omega⟩
  | ⟨2, _⟩ => exact ⟨Nat.zero_le _, by show (y 2).val < 0 + 128; omega⟩
theorem pickTok_emb (r : Fin 32) (j) : pickTok ((Rect.unit (s := S512x8x128) (offTok r) S128x1x128.size (inb_tok r)).emb j) = r := Fin.ext (by
  have h1 : (j 1).val < 1 := (j 1).isLt
  have h2 : (j 0).val < 128 := (j 0).isLt
  have hr := r.isLt
  show 8 * ((128 * (r.val / 8) + 1 * (j 0).val) / 128) + (r.val % 8 + 1 * (j 1).val) = r.val; omega)

abbrev offVtok (h : Fin 8) : Fin S512x8x128.rank → ℕ := ![0, h.val, 0]
def pickVtok (y : S512x8x128.Idx) : Fin 8 := ⟨(y 1).val, (y 1).isLt⟩
theorem pickVtok_in (y : S512x8x128.Idx) (a) : offVtok (pickVtok y) a ≤ (y a).val ∧ (y a).val < offVtok (pickVtok y) a + S512x1x128.size a := by
  match a with
  | ⟨1, _⟩ => exact ⟨Nat.le_refl _, Nat.lt_succ_self _⟩
  | ⟨0, _⟩ => exact ⟨Nat.zero_le _, by have h : (y 0).val < 512 := (y 0).isLt; show (y 0).val < 0 + 512; omega⟩
  | ⟨2, _⟩ => exact ⟨Nat.zero_le _, by have h : (y 2).val < 128 := (y 2).isLt; show (y 2).val < 0 + 128; omega⟩
theorem pickVtok_emb (h : Fin 8) (j) : pickVtok ((Rect.unit (s := S512x8x128) (offVtok h) S512x1x128.size (inb_vtok h)).emb j) = h := Fin.ext (by
  have h1 : (j 1).val < 1 := (j 1).isLt
  show h.val + 1 * (j 1).val = h.val; omega)

abbrev offVt (h : Fin 8) : Fin S1x8x128x512.rank → ℕ := ![0, h.val, 0, 0]
def pickVt (y : S1x8x128x512.Idx) : Fin 8 := ⟨(y 1).val, (y 1).isLt⟩
theorem pickVt_in (y : S1x8x128x512.Idx) (a) : offVt (pickVt y) a ≤ (y a).val ∧ (y a).val < offVt (pickVt y) a + S1x1x128x512.size a := by
  match a with
  | ⟨1, _⟩ => exact ⟨Nat.le_refl _, Nat.lt_succ_self _⟩
  | ⟨0, _⟩ => exact ⟨Nat.zero_le _, by have h : (y 0).val < 1 := (y 0).isLt; show (y 0).val < 0 + 1; omega⟩
  | ⟨2, _⟩ => exact ⟨Nat.zero_le _, by have h : (y 2).val < 128 := (y 2).isLt; show (y 2).val < 0 + 128; omega⟩
  | ⟨3, _⟩ => exact ⟨Nat.zero_le _, by have h : (y 3).val < 512 := (y 3).isLt; show (y 3).val < 0 + 512; omega⟩
theorem pickVt_emb (h : Fin 8) (j) : pickVt ((Rect.unit (s := S1x8x128x512) (offVt h) S1x1x128x512.size (inb_vt h)).emb j) = h := Fin.ext (by
  have h1 : (j 1).val < 1 := (j 1).isLt
  show h.val + 1 * (j 1).val = h.val; omega)

abbrev offVs (h : Fin 8) : Fin S1x8x128.rank → ℕ := ![0, h.val, 0]
def pickVs (y : S1x8x128.Idx) : Fin 8 := ⟨(y 1).val, (y 1).isLt⟩
theorem pickVs_in (y : S1x8x128.Idx) (a) : offVs (pickVs y) a ≤ (y a).val ∧ (y a).val < offVs (pickVs y) a + S1x1x128.size a := by
  match a with
  | ⟨1, _⟩ => exact ⟨Nat.le_refl _, Nat.lt_succ_self _⟩
  | ⟨0, _⟩ => exact ⟨Nat.zero_le _, by have h : (y 0).val < 1 := (y 0).isLt; show (y 0).val < 0 + 1; omega⟩
  | ⟨2, _⟩ => exact ⟨Nat.zero_le _, by have h : (y 2).val < 128 := (y 2).isLt; show (y 2).val < 0 + 128; omega⟩
theorem pickVs_emb (h : Fin 8) (j) : pickVs ((Rect.unit (s := S1x8x128) (offVs h) S1x1x128.size (inb_vs h)).emb j) = h := Fin.ext (by
  have h1 : (j 1).val < 1 := (j 1).isLt
  show h.val + 1 * (j 1).val = h.val; omega)

/-! ## The arrays a stretch leaves -/

/-- The rotated block. -/
def pieceY (X : Vec F S1x512x1024 .bf16) (R : Vec F S4x256x256 .bf16) (p : Fin 4) : Vec F S512x256 .f32 :=
  rotated (window (s := S1x512x1024) X ![0, 0, 256 * p.val] S1x512x256.size (inb_x p)) (window (s := S4x256x256) R ![p.val, 0, 0] S1x256x256.size (inb_rot p))
def yOf (X : Vec F S1x512x1024 .bf16) (R : Vec F S4x256x256 .bf16) : Vec F S512x1024 .f32 := glue offY S512x256.size pickY pickY_in (pieceY X R)

/-- A tile of it. -/
def tileOf (Y : Vec F S512x1024 .f32) (r : Fin 32) : Vec F S128x128 .f32 :=
  window (s := S512x1024) Y ![128 * (r.val / 8), 128 * (r.val % 8)] S128x128.size (inb_tile r)
/-- The tiles' ratios. -/
def ratioOf (Y : Vec F S512x1024 .f32) : FVec F S32x128 .f32 :=
  ratio (tileOf Y 0) (tileOf Y 1) (tileOf Y 2) (tileOf Y 3) (tileOf Y 4) (tileOf Y 5) (tileOf Y 6) (tileOf Y 7) (tileOf Y 8) (tileOf Y 9) (tileOf Y 10) (tileOf Y 11) (tileOf Y 12) (tileOf Y 13) (tileOf Y 14) (tileOf Y 15) (tileOf Y 16) (tileOf Y 17) (tileOf Y 18) (tileOf Y 19) (tileOf Y 20) (tileOf Y 21) (tileOf Y 22) (tileOf Y 23) (tileOf Y 24) (tileOf Y 25) (tileOf Y 26) (tileOf Y 27) (tileOf Y 28) (tileOf Y 29) (tileOf Y 30) (tileOf Y 31)
/-- The scales' block. -/
def qsOf (Y : Vec F S512x1024 .f32) : Vec F S1x32x128 .f32 := shapeCast S1x32x128 (scaleOf (ratioOf Y)) shapeCasts_S32x128_S1x32x128
/-- The codes by head, -/
def pieceHead (inv : FVec F S32x128 .f32) (Y : Vec F S512x1024 .f32) (r : Fin 32) : Vec F S1x1x128x128 .fp8e4m3 :=
  shapeCast S1x1x128x128 (truncf .fp8e4m3 (codes inv r (tileOf Y r)) bitsLt_fp8e4m3_f32) shapeCasts_S128x128_S1x1x128x128
def qhOf (inv : FVec F S32x128 .f32) (Y : Vec F S512x1024 .f32) : Vec F S1x8x512x128 .fp8e4m3 := glue offHead S1x1x128x128.size pickHead pickHead_in (pieceHead inv Y)
/-- and by token, before rounding -/
def pieceTok (inv : FVec F S32x128 .f32) (Y : Vec F S512x1024 .f32) (r : Fin 32) : Vec F S128x1x128 .f32 :=
  shapeCast S128x1x128 (codes inv r (tileOf Y r)) shapeCasts_S128x128_S128x1x128
def tokOf (inv : FVec F S32x128 .f32) (Y : Vec F S512x1024 .f32) : Vec F S512x8x128 .f32 := glue offTok S128x1x128.size pickTok pickTok_in (pieceTok inv Y)
/-- and after. -/
def rounded (T : Vec F S512x8x128 .f32) : Vec F S1x512x8x128 .fp8e4m3 :=
  shapeCast S1x512x8x128 (truncf .fp8e4m3 T bitsLt_fp8e4m3_f32) shapeCasts_S512x8x128_S1x512x8x128

theorem inb_vhead : ∀ h : Fin 8, ∀ a, (![0, 0, 128 * h.val] : Fin 3 → Nat) a + S1x512x128.size a ≤ S1x512x1024.size a := by decide
/-- A head of the value's block, clipped, -/
def vhead (B : Vec F S1x512x1024 .bf16) (I : Vec F S1x1024 .f32) (h : Fin 8) : FVec F S512x128 .f32 :=
  vcodes (window (s := S1x512x1024) B ![0, 0, 128 * h.val] S1x512x128.size (inb_vhead h)) (window (s := S1x1024) I ![0, 128 * h.val] S1x128.size (inb_vinv h))
/-- by token -/
def pieceVtok (B : Vec F S1x512x1024 .bf16) (I : Vec F S1x1024 .f32) (h : Fin 8) : Vec F S512x1x128 .f32 :=
  shapeCast S512x1x128 (vhead B I h) shapeCasts_S512x128_S512x1x128
def vtokOf (B : Vec F S1x512x1024 .bf16) (I : Vec F S1x1024 .f32) : Vec F S512x8x128 .f32 := glue offVtok S512x1x128.size pickVtok pickVtok_in (pieceVtok B I)
/-- and by channel. -/
def pieceVt (B : Vec F S1x512x1024 .bf16) (I : Vec F S1x1024 .f32) (h : Fin 8) : Vec F S1x1x128x512 .fp8e4m3 :=
  shapeCast S1x1x128x512 (truncf .fp8e4m3 (transpose S128x512 [1, 0] (vhead B I h) transposes_S512x128_p1_0_S128x512) bitsLt_fp8e4m3_f32) shapeCasts_S128x512_S1x1x128x512
def vtOf (B : Vec F S1x512x1024 .bf16) (I : Vec F S1x1024 .f32) : Vec F S1x8x128x512 .fp8e4m3 := glue offVt S1x1x128x512.size pickVt pickVt_in (pieceVt B I)
/-- The value's scales. -/
def pieceVs (s : FVec F S1x1024 .f32) (h : Fin 8) : Vec F S1x1x128 .f32 :=
  shapeCast S1x1x128 (extractStridedSlice S1x128 ![0, 128 * h.val] s (slices_vs h)) shapeCasts_S1x128_S1x1x128
def vsOf (s : FVec F S1x1024 .f32) : Vec F S1x8x128 .f32 := glue offVs S1x1x128.size pickVs pickVs_in (pieceVs s)
def vinvOf (M : Vec F S8x1024 .f32) : Vec F S1x1024 .f32 := shapeCast S1x1024 (invOf (vratio M)) shapeCasts_S1x1024_S1x1024

/-! ## The query's (the key's) stretch -/

section QK
variable (c : Dev nD) (E : Set ℕ)
variable (x : Memref sig .tc .vmem S1x512x1024 .bf16) (rt : Memref sig .tc .vmem S4x256x256 .bf16) (qc : Memref sig .tc .vmem S1x512x8x128 .fp8e4m3) (hqc : qc.IsWhole)
  (qh : Memref sig .tc .vmem S1x8x512x128 .fp8e4m3) (hqh : qh.IsWhole) (qs : Memref sig .tc .vmem S1x32x128 .f32) (y : Memref sig .tc .vmem S512x1024 .f32) (tok : Memref sig .tc .vmem S512x8x128 .f32)
variable (q q' : PosShare TreeShare) (X : Vec F S1x512x1024 .bf16) (R : Vec F S4x256x256 .bf16)

theorem rotPair_spec (Y : Vec F S512x1024 .f32) (p : Fin 4) (K : PUnit → sProp 𝕄) :
    iprop(owns (c : Thread nD τ) x q X ∗ owns (c : Thread nD τ) rt q' R ∗ owns (c : Thread nD τ) y fullShare Y
        ∗ (iprop(owns (c : Thread nD τ) x q X ∗ owns (c : Thread nD τ) rt q' R ∗ owns (c : Thread nD τ) y fullShare (put (s := S512x1024) Y (offY p) S512x256.size (pieceY X R p))) -∗ K ⟨⟩))
      ⊢ wp frame (wpE (defs₀ (F := F)) Variants.none c none) E (rotPair x rt y p) K := by
  unfold rotPair
  iintro ⟨Hx, Hr, Hy, Hk⟩
  rw [wp_bind]; iapply (wp_lift_load Variants.none (c : Thread nD τ) none E) $$ Hx; iintro Hx
  rw [wp_bind]; iapply (wp_lift_load Variants.none (c : Thread nD τ) none E) $$ Hr; iintro Hr
  rw [wp_bind]; iapply (wp_lift_load Variants.none (c : Thread nD τ) none E) $$ Hy; iintro Hy
  iapply (wp_lift_store Variants.none (c : Thread nD τ) none E) $$ Hy; iintro Hy
  iapply Hk
  isplitl [Hx]; · iexact Hx
  isplitl [Hr]; · iexact Hr
  iexact Hy

theorem tile_spec (Y : Vec F S512x1024 .f32) (r : Fin 32) (K : Vec F S128x128 .f32 → sProp 𝕄) :
    iprop(owns (c : Thread nD τ) y fullShare Y
        ∗ (iprop(owns (c : Thread nD τ) y fullShare Y) -∗ K (tileOf Y r)))
      ⊢ wp frame (wpE (defs₀ (F := F)) Variants.none c none) E (tile y r) K := by
  unfold tile tileOf
  iintro ⟨Hy, Hk⟩
  iapply (wp_lift_load Variants.none (c : Thread nD τ) none E) $$ Hy; iintro Hy
  iapply Hk
  iexact Hy

theorem ratios_spec (Y : Vec F S512x1024 .f32) (K : FVec F S32x128 .f32 → sProp 𝕄) :
    iprop(owns (c : Thread nD τ) y fullShare Y
        ∗ (iprop(owns (c : Thread nD τ) y fullShare Y) -∗ K (ratioOf Y)))
      ⊢ wp frame (wpE (defs₀ (F := F)) Variants.none c none) E (ratios y) K := by
  unfold ratios ratioOf
  iintro ⟨Hy, Hk⟩
  rw [wp_bind]; iapply (tile_spec c E y Y 0 _); isplitl [Hy]; · iexact Hy
  iintro Hy
  rw [wp_bind]; iapply (tile_spec c E y Y 1 _); isplitl [Hy]; · iexact Hy
  iintro Hy
  rw [wp_bind]; iapply (tile_spec c E y Y 2 _); isplitl [Hy]; · iexact Hy
  iintro Hy
  rw [wp_bind]; iapply (tile_spec c E y Y 3 _); isplitl [Hy]; · iexact Hy
  iintro Hy
  rw [wp_bind]; iapply (tile_spec c E y Y 4 _); isplitl [Hy]; · iexact Hy
  iintro Hy
  rw [wp_bind]; iapply (tile_spec c E y Y 5 _); isplitl [Hy]; · iexact Hy
  iintro Hy
  rw [wp_bind]; iapply (tile_spec c E y Y 6 _); isplitl [Hy]; · iexact Hy
  iintro Hy
  rw [wp_bind]; iapply (tile_spec c E y Y 7 _); isplitl [Hy]; · iexact Hy
  iintro Hy
  rw [wp_bind]; iapply (tile_spec c E y Y 8 _); isplitl [Hy]; · iexact Hy
  iintro Hy
  rw [wp_bind]; iapply (tile_spec c E y Y 9 _); isplitl [Hy]; · iexact Hy
  iintro Hy
  rw [wp_bind]; iapply (tile_spec c E y Y 10 _); isplitl [Hy]; · iexact Hy
  iintro Hy
  rw [wp_bind]; iapply (tile_spec c E y Y 11 _); isplitl [Hy]; · iexact Hy
  iintro Hy
  rw [wp_bind]; iapply (tile_spec c E y Y 12 _); isplitl [Hy]; · iexact Hy
  iintro Hy
  rw [wp_bind]; iapply (tile_spec c E y Y 13 _); isplitl [Hy]; · iexact Hy
  iintro Hy
  rw [wp_bind]; iapply (tile_spec c E y Y 14 _); isplitl [Hy]; · iexact Hy
  iintro Hy
  rw [wp_bind]; iapply (tile_spec c E y Y 15 _); isplitl [Hy]; · iexact Hy
  iintro Hy
  rw [wp_bind]; iapply (tile_spec c E y Y 16 _); isplitl [Hy]; · iexact Hy
  iintro Hy
  rw [wp_bind]; iapply (tile_spec c E y Y 17 _); isplitl [Hy]; · iexact Hy
  iintro Hy
  rw [wp_bind]; iapply (tile_spec c E y Y 18 _); isplitl [Hy]; · iexact Hy
  iintro Hy
  rw [wp_bind]; iapply (tile_spec c E y Y 19 _); isplitl [Hy]; · iexact Hy
  iintro Hy
  rw [wp_bind]; iapply (tile_spec c E y Y 20 _); isplitl [Hy]; · iexact Hy
  iintro Hy
  rw [wp_bind]; iapply (tile_spec c E y Y 21 _); isplitl [Hy]; · iexact Hy
  iintro Hy
  rw [wp_bind]; iapply (tile_spec c E y Y 22 _); isplitl [Hy]; · iexact Hy
  iintro Hy
  rw [wp_bind]; iapply (tile_spec c E y Y 23 _); isplitl [Hy]; · iexact Hy
  iintro Hy
  rw [wp_bind]; iapply (tile_spec c E y Y 24 _); isplitl [Hy]; · iexact Hy
  iintro Hy
  rw [wp_bind]; iapply (tile_spec c E y Y 25 _); isplitl [Hy]; · iexact Hy
  iintro Hy
  rw [wp_bind]; iapply (tile_spec c E y Y 26 _); isplitl [Hy]; · iexact Hy
  iintro Hy
  rw [wp_bind]; iapply (tile_spec c E y Y 27 _); isplitl [Hy]; · iexact Hy
  iintro Hy
  rw [wp_bind]; iapply (tile_spec c E y Y 28 _); isplitl [Hy]; · iexact Hy
  iintro Hy
  rw [wp_bind]; iapply (tile_spec c E y Y 29 _); isplitl [Hy]; · iexact Hy
  iintro Hy
  rw [wp_bind]; iapply (tile_spec c E y Y 30 _); isplitl [Hy]; · iexact Hy
  iintro Hy
  rw [wp_bind]; iapply (tile_spec c E y Y 31 _); isplitl [Hy]; · iexact Hy
  iintro Hy
  iapply (le_wp_ret frame (wpE (defs₀ (F := F)) Variants.none c none) E _ K)
  iapply Hk
  iexact Hy

theorem encode_spec (Y : Vec F S512x1024 .f32) (H : Vec F S1x8x512x128 .fp8e4m3) (T : Vec F S512x8x128 .f32) (inv : FVec F S32x128 .f32) (r : Fin 32) (K : PUnit → sProp 𝕄) :
    iprop(owns (c : Thread nD τ) y fullShare Y ∗ owns (c : Thread nD τ) qh fullShare H ∗ owns (c : Thread nD τ) tok fullShare T
        ∗ (iprop(owns (c : Thread nD τ) y fullShare Y ∗ owns (c : Thread nD τ) qh fullShare (put (s := S1x8x512x128) H (offHead r) S1x1x128x128.size (pieceHead inv Y r)) ∗ owns (c : Thread nD τ) tok fullShare (put (s := S512x8x128) T (offTok r) S128x1x128.size (pieceTok inv Y r))) -∗ K ⟨⟩))
      ⊢ wp frame (wpE (defs₀ (F := F)) Variants.none c none) E (encode qh hqh y tok inv r) K := by
  unfold encode
  iintro ⟨Hy, Hh, Ht, Hk⟩
  rw [wp_bind]; iapply (tile_spec c E y Y r _); isplitl [Hy]; · iexact Hy
  iintro Hy
  rw [wp_bind]; iapply (wp_lift_load Variants.none (c : Thread nD τ) none E) $$ Hh; iintro Hh
  rw [wp_bind]; iapply (wp_lift_store Variants.none (c : Thread nD τ) none E) $$ Hh; iintro Hh
  rw [wp_bind]; iapply (wp_lift_load Variants.none (c : Thread nD τ) none E) $$ Ht; iintro Ht
  iapply (wp_lift_store Variants.none (c : Thread nD τ) none E) $$ Ht; iintro Ht
  iapply Hk
  isplitl [Hy]; · iexact Hy
  isplitl [Hh]; · iexact Hh
  iexact Ht

theorem encodes_spec (Y : Vec F S512x1024 .f32) (H : Vec F S1x8x512x128 .fp8e4m3) (T : Vec F S512x8x128 .f32) (inv : FVec F S32x128 .f32) (l : List (Fin 32)) (K : PUnit → sProp 𝕄) :
    iprop(owns (c : Thread nD τ) y fullShare Y ∗ owns (c : Thread nD τ) qh fullShare H ∗ owns (c : Thread nD τ) tok fullShare T
        ∗ (iprop(owns (c : Thread nD τ) y fullShare Y ∗ owns (c : Thread nD τ) qh fullShare (l.foldl (fun H r => put (s := S1x8x512x128) H (offHead r) S1x1x128x128.size (pieceHead inv Y r)) H) ∗ owns (c : Thread nD τ) tok fullShare (l.foldl (fun T r => put (s := S512x8x128) T (offTok r) S128x1x128.size (pieceTok inv Y r)) T)) -∗ K ⟨⟩))
      ⊢ wp frame (wpE (defs₀ (F := F)) Variants.none c none) E (encodes qh hqh y tok inv l) K := by
  induction l generalizing H T with
  | nil =>
    iintro ⟨Hy, Hh, Ht, Hk⟩
    iapply (le_wp_ret frame (wpE (defs₀ (F := F)) Variants.none c none) E _ K)
    iapply Hk
    isplitl [Hy]; · iexact Hy
    isplitl [Hh]; · iexact Hh
    iexact Ht
  | cons r l ih =>
    show _ ⊢ wp frame (wpE (defs₀ (F := F)) Variants.none c none) E (encode qh hqh y tok inv r >>= fun _ => encodes qh hqh y tok inv l) K
    iintro ⟨Hy, Hh, Ht, Hk⟩
    rw [wp_bind]; iapply (encode_spec c E qh hqh y tok Y H T inv r _)
    isplitl [Hy]; · iexact Hy
    isplitl [Hh]; · iexact Hh
    isplitl [Ht]; · iexact Ht
    iintro ⟨Hy, Hh, Ht⟩
    iapply (ih _ _)
    isplitl [Hy]; · iexact Hy
    isplitl [Hh]; · iexact Hh
    isplitl [Ht]; · iexact Ht
    iexact Hk

theorem writeTok_spec (C : Vec F S1x512x8x128 .fp8e4m3) (T : Vec F S512x8x128 .f32) (K : PUnit → sProp 𝕄) :
    iprop(owns (c : Thread nD τ) qc fullShare C ∗ owns (c : Thread nD τ) tok fullShare T
        ∗ (iprop(owns (c : Thread nD τ) qc fullShare (rounded T) ∗ owns (c : Thread nD τ) tok fullShare T) -∗ K ⟨⟩))
      ⊢ wp frame (wpE (defs₀ (F := F)) Variants.none c none) E (writeTok tok qc hqc) K := by
  unfold writeTok
  iintro ⟨Hc, Ht, Hk⟩
  rw [wp_bind]; iapply (wp_lift_load Variants.none (c : Thread nD τ) none E) $$ Ht; iintro Ht
  rw [wp_bind]; iapply (wp_lift_load Variants.none (c : Thread nD τ) none E) $$ Hc; iintro Hc
  iapply (wp_lift_store Variants.none (c : Thread nD τ) none E) $$ Hc; iintro Hc
  rw [put_full (s := S1x512x8x128) C _ (by decide), window_full (s := S512x8x128) T _ (by decide)]
  iapply Hk
  isplitl [Hc]; · iexact Hc
  iexact Ht

theorem yOf_eq (Y : Vec F S512x1024 .f32) :
    put (s := S512x1024) (put (s := S512x1024) (put (s := S512x1024) (put (s := S512x1024) Y (offY 0) S512x256.size (pieceY X R 0)) (offY 1) S512x256.size (pieceY X R 1)) (offY 2) S512x256.size (pieceY X R 2)) (offY 3) S512x256.size (pieceY X R 3) = yOf X R :=
  foldl_glue (s := S512x1024) offY S512x256.size pickY pickY_in (pieceY X R) inb_y pickY_emb [0, 1, 2, 3] (by decide) Y
theorem qhOf_eq (inv : FVec F S32x128 .f32) (Y : Vec F S512x1024 .f32) (H : Vec F S1x8x512x128 .fp8e4m3) :
    tiles.foldl (fun H r => put (s := S1x8x512x128) H (offHead r) S1x1x128x128.size (pieceHead inv Y r)) H = qhOf inv Y :=
  foldl_glue (s := S1x8x512x128) offHead S1x1x128x128.size pickHead pickHead_in (pieceHead inv Y) inb_head pickHead_emb tiles (by decide) H
theorem tokOf_eq (inv : FVec F S32x128 .f32) (Y : Vec F S512x1024 .f32) (T : Vec F S512x8x128 .f32) :
    tiles.foldl (fun T r => put (s := S512x8x128) T (offTok r) S128x1x128.size (pieceTok inv Y r)) T = tokOf inv Y :=
  foldl_glue (s := S512x8x128) offTok S128x1x128.size pickTok pickTok_in (pieceTok inv Y) inb_tok pickTok_emb tiles (by decide) T

theorem qk_spec (C : Vec F S1x512x8x128 .fp8e4m3) (H : Vec F S1x8x512x128 .fp8e4m3) (S : Vec F S1x32x128 .f32) (Y : Vec F S512x1024 .f32) (T : Vec F S512x8x128 .f32) (K : PUnit → sProp 𝕄) :
    iprop(owns (c : Thread nD τ) x q X ∗ owns (c : Thread nD τ) rt q' R ∗ owns (c : Thread nD τ) qc fullShare C ∗ owns (c : Thread nD τ) qh fullShare H ∗ owns (c : Thread nD τ) qs fullShare S ∗ owns (c : Thread nD τ) y fullShare Y ∗ owns (c : Thread nD τ) tok fullShare T
        ∗ (iprop(owns (c : Thread nD τ) x q X ∗ owns (c : Thread nD τ) rt q' R ∗ owns (c : Thread nD τ) qc fullShare (rounded (tokOf (invOf (ratioOf (yOf X R))) (yOf X R))) ∗ owns (c : Thread nD τ) qh fullShare (qhOf (invOf (ratioOf (yOf X R))) (yOf X R)) ∗ owns (c : Thread nD τ) qs fullShare (qsOf (yOf X R)) ∗ owns (c : Thread nD τ) y fullShare (yOf X R) ∗ owns (c : Thread nD τ) tok fullShare (tokOf (invOf (ratioOf (yOf X R))) (yOf X R))) -∗ K ⟨⟩))
      ⊢ wp frame (wpE (defs₀ (F := F)) Variants.none c none) E (qk x rt qc hqc qh hqh qs y tok) K := by
  unfold qk
  iintro ⟨Hx, Hr, Hc, Hh, Hs, Hy, Ht, Hk⟩
  rw [wp_bind]; iapply (rotPair_spec c E x rt y q q' X R _ 0 _)
  isplitl [Hx]; · iexact Hx
  isplitl [Hr]; · iexact Hr
  isplitl [Hy]; · iexact Hy
  iintro ⟨Hx, Hr, Hy⟩
  rw [wp_bind]; iapply (rotPair_spec c E x rt y q q' X R _ 1 _)
  isplitl [Hx]; · iexact Hx
  isplitl [Hr]; · iexact Hr
  isplitl [Hy]; · iexact Hy
  iintro ⟨Hx, Hr, Hy⟩
  rw [wp_bind]; iapply (rotPair_spec c E x rt y q q' X R _ 2 _)
  isplitl [Hx]; · iexact Hx
  isplitl [Hr]; · iexact Hr
  isplitl [Hy]; · iexact Hy
  iintro ⟨Hx, Hr, Hy⟩
  rw [wp_bind]; iapply (rotPair_spec c E x rt y q q' X R _ 3 _)
  isplitl [Hx]; · iexact Hx
  isplitl [Hr]; · iexact Hr
  isplitl [Hy]; · iexact Hy
  iintro ⟨Hx, Hr, Hy⟩
  rw [yOf_eq X R Y]
  rw [wp_bind]; iapply (ratios_spec c E y _ _); isplitl [Hy]; · iexact Hy
  iintro Hy
  rw [wp_bind]; iapply (wp_lift_load Variants.none (c : Thread nD τ) none E) $$ Hs; iintro Hs
  rw [wp_bind]; iapply (wp_lift_store Variants.none (c : Thread nD τ) none E) $$ Hs; iintro Hs
  rw [put_full (s := S1x32x128) S _ (by decide)]
  rw [wp_bind]; iapply (encodes_spec c E qh hqh y tok _ H T _ tiles _)
  isplitl [Hy]; · iexact Hy
  isplitl [Hh]; · iexact Hh
  isplitl [Ht]; · iexact Ht
  iintro ⟨Hy, Hh, Ht⟩
  rw [qhOf_eq, tokOf_eq]
  iapply (writeTok_spec c E qc hqc tok C _ _)
  isplitl [Hc]; · iexact Hc
  isplitl [Ht]; · iexact Ht
  iintro ⟨Hc, Ht⟩
  iapply Hk
  isplitl [Hx]; · iexact Hx
  isplitl [Hr]; · iexact Hr
  isplitl [Hc]; · iexact Hc
  isplitl [Hh]; · iexact Hh
  isplitl [Hs]; · iexact Hs
  isplitl [Hy]; · iexact Hy
  iexact Ht

end QK

/-! ## The value's stretches -/

/-- The stashed block of the point's own number. -/
theorem stashInb (n : ℕ) (hn : n < 16) : ∀ a, (![n, 0, 0] : Fin 3 → ℕ) a + S1x512x1024.size a ≤ S16x512x1024.size a
  | ⟨0, _⟩ => by show n + 1 ≤ 16; omega
  | ⟨1, _⟩ => by show 0 + 512 ≤ 512; omega
  | ⟨2, _⟩ => by show 0 + 1024 ≤ 1024; omega
def stashBlk (st : Vec F S16x512x1024 .bf16) (n : Fin 16) : Vec F S1x512x1024 .bf16 := window (s := S16x512x1024) st ![n.val, 0, 0] S1x512x1024.size (stashInb n.val n.isLt)

theorem index_word (n : Fin 16) : (Scalar.indexCast (BitVec.ofNat 32 n.val) : Index).toNat = n.val := by revert n; decide
theorem vOff_eq (i : grid0.Coords) (h : Fin 8) : vOff i h = ![(i 1).val, 0, 128 * h.val] := by
  have e := index_word (i 1)
  match h with
  | 0 => show ![(Scalar.indexCast (BitVec.ofNat 32 (i 1).val) : Index).toNat, 0, 0] = _; rw [e]; rfl
  | 1 => show ![(Scalar.indexCast (BitVec.ofNat 32 (i 1).val) : Index).toNat, 0, 128] = _; rw [e]; rfl
  | 2 => show ![(Scalar.indexCast (BitVec.ofNat 32 (i 1).val) : Index).toNat, 0, 256] = _; rw [e]; rfl
  | 3 => show ![(Scalar.indexCast (BitVec.ofNat 32 (i 1).val) : Index).toNat, 0, 384] = _; rw [e]; rfl
  | 4 => show ![(Scalar.indexCast (BitVec.ofNat 32 (i 1).val) : Index).toNat, 0, 512] = _; rw [e]; rfl
  | 5 => show ![(Scalar.indexCast (BitVec.ofNat 32 (i 1).val) : Index).toNat, 0, 640] = _; rw [e]; rfl
  | 6 => show ![(Scalar.indexCast (BitVec.ofNat 32 (i 1).val) : Index).toNat, 0, 768] = _; rw [e]; rfl
  | 7 => show ![(Scalar.indexCast (BitVec.ofNat 32 (i 1).val) : Index).toNat, 0, 896] = _; rw [e]; rfl
theorem off9_eq (i : grid0.Coords) : k0_off9 i = ![(i 1).val, 0, 0] := by
  show ![(Scalar.indexCast (BitVec.ofNat 32 (i 1).val) : Index).toNat, 0, 0] = _; rw [index_word (i 1)]

theorem stash_head (st : Vec F S16x512x1024 .bf16) (i : grid0.Coords) (h : Fin 8) (inb) :
    window (s := S16x512x1024) st (vOff i h) S1x512x128.size inb
      = window (s := S1x512x1024) (stashBlk st (i 1)) ![0, 0, 128 * h.val] S1x512x128.size (inb_vhead h) := by
  funext j
  refine congrArg st (funext fun a => Fin.ext ?_)
  show vOff i h a + 1 * (j a).val = ![(i 1).val, 0, 0] a + 1 * (![0, 0, 128 * h.val] a + 1 * (j a).val)
  refine (congrArg (· + 1 * (j a).val) (congrFun (vOff_eq i h) a)).trans ?_
  match a with
  | ⟨0, _⟩ => show (i 1).val + 1 * _ = (i 1).val + 1 * (0 + 1 * _); omega
  | ⟨1, _⟩ => show 0 + 1 * _ = 0 + 1 * (0 + 1 * _); omega
  | ⟨2, _⟩ => show 128 * h.val + 1 * _ = 0 + 1 * (128 * h.val + 1 * _); omega

section V
variable (c : Dev nD) (E : Set ℕ)
variable (vc : Memref sig .tc .vmem S1x512x8x128 .fp8e4m3) (hvc : vc.IsWhole) (vt : Memref sig .tc .vmem S1x8x128x512 .fp8e4m3) (hvt : vt.IsWhole) (vs : Memref sig .tc .vmem S1x8x128 .f32)
  (v : Memref sig .tc .vmem S1x512x1024 .bf16) (tok : Memref sig .tc .vmem S512x8x128 .f32) (stash : Memref sig .tc .vmem S16x512x1024 .bf16) (hstash : stash.IsWhole) (vmax : Memref sig .tc .vmem S8x1024 .f32) (vinv : Memref sig .tc .vmem S1x1024 .f32)
variable (st : Vec F S16x512x1024 .bf16) (M : Vec F S8x1024 .f32) (I : Vec F S1x1024 .f32)

theorem vencode_spec (i : grid0.Coords) (h2 : k0_cond2 i = 1#1) (T : Vec F S512x8x128 .f32) (D : Vec F S1x8x128x512 .fp8e4m3) (h : Fin 8) (K : PUnit → sProp 𝕄) :
    iprop(owns (c : Thread nD τ) stash fullShare st ∗ owns (c : Thread nD τ) vinv fullShare I ∗ owns (c : Thread nD τ) tok fullShare T ∗ owns (c : Thread nD τ) vt fullShare D
        ∗ (iprop(owns (c : Thread nD τ) stash fullShare st ∗ owns (c : Thread nD τ) vinv fullShare I ∗ owns (c : Thread nD τ) tok fullShare (put (s := S512x8x128) T (offVtok h) S512x1x128.size (pieceVtok (stashBlk st (i 1)) I h)) ∗ owns (c : Thread nD τ) vt fullShare (put (s := S1x8x128x512) D (offVt h) S1x1x128x512.size (pieceVt (stashBlk st (i 1)) I h))) -∗ K ⟨⟩))
      ⊢ wp frame (wpE (defs₀ (F := F)) Variants.none c none) E (vencode vt hvt tok stash vinv i h2 h) K := by
  unfold vencode
  iintro ⟨Hst, Hi, Ht, Hd, Hk⟩
  rw [wp_bind]; iapply (wp_lift_load Variants.none (c : Thread nD τ) none E) $$ Hst; iintro Hst
  rw [wp_bind]; iapply (wp_lift_load Variants.none (c : Thread nD τ) none E) $$ Hi; iintro Hi
  rw [wp_bind]; iapply (wp_lift_load Variants.none (c : Thread nD τ) none E) $$ Ht; iintro Ht
  rw [wp_bind]; iapply (wp_lift_store Variants.none (c : Thread nD τ) none E) $$ Ht; iintro Ht
  rw [wp_bind]; iapply (wp_lift_load Variants.none (c : Thread nD τ) none E) $$ Hd; iintro Hd
  iapply (wp_lift_store Variants.none (c : Thread nD τ) none E) $$ Hd; iintro Hd
  rw [stash_head st i h]
  iapply Hk
  isplitl [Hst]; · iexact Hst
  isplitl [Hi]; · iexact Hi
  isplitl [Ht]; · iexact Ht
  iexact Hd

theorem vencodes_spec (i : grid0.Coords) (h2 : k0_cond2 i = 1#1) (T : Vec F S512x8x128 .f32) (D : Vec F S1x8x128x512 .fp8e4m3) (l : List (Fin 8)) (K : PUnit → sProp 𝕄) :
    iprop(owns (c : Thread nD τ) stash fullShare st ∗ owns (c : Thread nD τ) vinv fullShare I ∗ owns (c : Thread nD τ) tok fullShare T ∗ owns (c : Thread nD τ) vt fullShare D
        ∗ (iprop(owns (c : Thread nD τ) stash fullShare st ∗ owns (c : Thread nD τ) vinv fullShare I ∗ owns (c : Thread nD τ) tok fullShare (l.foldl (fun T h => put (s := S512x8x128) T (offVtok h) S512x1x128.size (pieceVtok (stashBlk st (i 1)) I h)) T) ∗ owns (c : Thread nD τ) vt fullShare (l.foldl (fun D h => put (s := S1x8x128x512) D (offVt h) S1x1x128x512.size (pieceVt (stashBlk st (i 1)) I h)) D)) -∗ K ⟨⟩))
      ⊢ wp frame (wpE (defs₀ (F := F)) Variants.none c none) E (vencodes vt hvt tok stash vinv i h2 l) K := by
  induction l generalizing T D with
  | nil =>
    iintro ⟨Hst, Hi, Ht, Hd, Hk⟩
    iapply (le_wp_ret frame (wpE (defs₀ (F := F)) Variants.none c none) E _ K)
    iapply Hk
    isplitl [Hst]; · iexact Hst
    isplitl [Hi]; · iexact Hi
    isplitl [Ht]; · iexact Ht
    iexact Hd
  | cons r l ih =>
    show _ ⊢ wp frame (wpE (defs₀ (F := F)) Variants.none c none) E (vencode vt hvt tok stash vinv i h2 r >>= fun _ => vencodes vt hvt tok stash vinv i h2 l) K
    iintro ⟨Hst, Hi, Ht, Hd, Hk⟩
    rw [wp_bind]; iapply (vencode_spec c E vt hvt tok stash vinv st I i h2 T D r _)
    isplitl [Hst]; · iexact Hst
    isplitl [Hi]; · iexact Hi
    isplitl [Ht]; · iexact Ht
    isplitl [Hd]; · iexact Hd
    iintro ⟨Hst, Hi, Ht, Hd⟩
    iapply (ih _ _)
    isplitl [Hst]; · iexact Hst
    isplitl [Hi]; · iexact Hi
    isplitl [Ht]; · iexact Ht
    isplitl [Hd]; · iexact Hd
    iexact Hk

theorem vtokOf_eq (B : Vec F S1x512x1024 .bf16) (T : Vec F S512x8x128 .f32) :
    ([0, 1, 2, 3, 4, 5, 6, 7] : List (Fin 8)).foldl (fun T h => put (s := S512x8x128) T (offVtok h) S512x1x128.size (pieceVtok B I h)) T = vtokOf B I :=
  foldl_glue (s := S512x8x128) offVtok S512x1x128.size pickVtok pickVtok_in (pieceVtok B I) inb_vtok pickVtok_emb _ (by decide) T
theorem vtOf_eq (B : Vec F S1x512x1024 .bf16) (D : Vec F S1x8x128x512 .fp8e4m3) :
    ([0, 1, 2, 3, 4, 5, 6, 7] : List (Fin 8)).foldl (fun D h => put (s := S1x8x128x512) D (offVt h) S1x1x128x512.size (pieceVt B I h)) D = vtOf B I :=
  foldl_glue (s := S1x8x128x512) offVt S1x1x128x512.size pickVt pickVt_in (pieceVt B I) inb_vt pickVt_emb _ (by decide) D
theorem vsOf_eq (s : FVec F S1x1024 .f32) (W : Vec F S1x8x128 .f32) :
    ([0, 1, 2, 3, 4, 5, 6, 7] : List (Fin 8)).foldl (fun W h => put (s := S1x8x128) W (offVs h) S1x1x128.size (pieceVs s h)) W = vsOf s :=
  foldl_glue (s := S1x8x128) offVs S1x1x128.size pickVs pickVs_in (pieceVs s) inb_vs pickVs_emb _ (by decide) W

theorem vout_spec (i : grid0.Coords) (h2 : k0_cond2 i = 1#1) (C : Vec F S1x512x8x128 .fp8e4m3) (T : Vec F S512x8x128 .f32) (D : Vec F S1x8x128x512 .fp8e4m3) (K : PUnit → sProp 𝕄) :
    iprop(owns (c : Thread nD τ) vc fullShare C ∗ owns (c : Thread nD τ) vt fullShare D ∗ owns (c : Thread nD τ) stash fullShare st ∗ owns (c : Thread nD τ) vinv fullShare I ∗ owns (c : Thread nD τ) tok fullShare T
        ∗ (iprop(owns (c : Thread nD τ) vc fullShare (rounded (vtokOf (stashBlk st (i 1)) I)) ∗ owns (c : Thread nD τ) vt fullShare (vtOf (stashBlk st (i 1)) I) ∗ owns (c : Thread nD τ) stash fullShare st ∗ owns (c : Thread nD τ) vinv fullShare I ∗ owns (c : Thread nD τ) tok fullShare (vtokOf (stashBlk st (i 1)) I)) -∗ K ⟨⟩))
      ⊢ wp frame (wpE (defs₀ (F := F)) Variants.none c none) E (vout vc hvc vt hvt tok stash vinv i h2) K := by
  unfold vout
  iintro ⟨Hc, Hd, Hst, Hi, Ht, Hk⟩
  rw [wp_bind]; iapply (vencodes_spec c E vt hvt tok stash vinv st I i h2 T D _ _)
  isplitl [Hst]; · iexact Hst
  isplitl [Hi]; · iexact Hi
  isplitl [Ht]; · iexact Ht
  isplitl [Hd]; · iexact Hd
  iintro ⟨Hst, Hi, Ht, Hd⟩
  rw [vtokOf_eq, vtOf_eq]
  iapply (writeTok_spec c E vc hvc tok C _ _)
  isplitl [Hc]; · iexact Hc
  isplitl [Ht]; · iexact Ht
  iintro ⟨Hc, Ht⟩
  iapply Hk
  isplitl [Hc]; · iexact Hc
  isplitl [Hd]; · iexact Hd
  isplitl [Hst]; · iexact Hst
  isplitl [Hi]; · iexact Hi
  iexact Ht

theorem vscales_spec (W : Vec F S1x8x128 .f32) (s : FVec F S1x1024 .f32) (l : List (Fin 8)) (K : PUnit → sProp 𝕄) :
    iprop(owns (c : Thread nD τ) vs fullShare W
        ∗ (iprop(owns (c : Thread nD τ) vs fullShare (l.foldl (fun W h => put (s := S1x8x128) W (offVs h) S1x1x128.size (pieceVs s h)) W)) -∗ K ⟨⟩))
      ⊢ wp frame (wpE (defs₀ (F := F)) Variants.none c none) E (vscales vs s l) K := by
  induction l generalizing W with
  | nil =>
    iintro ⟨Hw, Hk⟩
    iapply (le_wp_ret frame (wpE (defs₀ (F := F)) Variants.none c none) E _ K)
    iapply Hk
    iexact Hw
  | cons r l ih =>
    show _ ⊢ wp frame (wpE (defs₀ (F := F)) Variants.none c none) E (vscale vs s r >>= fun _ => vscales vs s l) K
    iintro ⟨Hw, Hk⟩
    rw [wp_bind]; unfold vscale
    rw [wp_bind]; iapply (wp_lift_load Variants.none (c : Thread nD τ) none E) $$ Hw; iintro Hw
    iapply (wp_lift_store Variants.none (c : Thread nD τ) none E) $$ Hw; iintro Hw
    iapply (ih _)
    isplitl [Hw]; · iexact Hw
    iexact Hk

theorem vlast_spec (W : Vec F S1x8x128 .f32) (K : PUnit → sProp 𝕄) :
    iprop(owns (c : Thread nD τ) vs fullShare W ∗ owns (c : Thread nD τ) vmax fullShare M ∗ owns (c : Thread nD τ) vinv fullShare I
        ∗ (iprop(owns (c : Thread nD τ) vs fullShare (vsOf (scaleOf (vratio M))) ∗ owns (c : Thread nD τ) vmax fullShare M ∗ owns (c : Thread nD τ) vinv fullShare (vinvOf M)) -∗ K ⟨⟩))
      ⊢ wp frame (wpE (defs₀ (F := F)) Variants.none c none) E (vlast vs vmax vinv) K := by
  unfold vlast
  iintro ⟨Hw, Hm, Hi, Hk⟩
  rw [wp_bind]; iapply (wp_lift_load Variants.none (c : Thread nD τ) none E) $$ Hm; iintro Hm
  rw [wp_bind]; iapply (wp_lift_load Variants.none (c : Thread nD τ) none E) $$ Hi; iintro Hi
  rw [wp_bind]; iapply (wp_lift_store Variants.none (c : Thread nD τ) none E) $$ Hi; iintro Hi
  rw [put_full (s := S1x1024) I _ (by decide), window_full (s := S8x1024) M _ (by decide)]
  iapply (vscales_spec c E vs W _ _ _)
  isplitl [Hw]; · iexact Hw
  iintro Hw
  rw [vsOf_eq]
  iapply Hk
  isplitl [Hw]; · iexact Hw
  isplitl [Hm]; · iexact Hm
  iexact Hi

theorem vin_spec (i : grid0.Coords) (h3 : k0_cond3 i = 1#1) (q : PosShare TreeShare) (A : Vec F S1x512x1024 .bf16) (K : PUnit → sProp 𝕄) :
    iprop(owns (c : Thread nD τ) v q A ∗ owns (c : Thread nD τ) stash fullShare st ∗ owns (c : Thread nD τ) vmax fullShare M
        ∗ (iprop(owns (c : Thread nD τ) v q A ∗ owns (c : Thread nD τ) stash fullShare (put (s := S16x512x1024) st ![(i 1).val, 0, 0] S1x512x1024.size (k0_pay10 A)) ∗ owns (c : Thread nD τ) vmax fullShare (k0_pay11 i A M)) -∗ K ⟨⟩))
      ⊢ wp frame (wpE (defs₀ (F := F)) Variants.none c none) E (vin v stash hstash vmax i h3) K := by
  unfold vin
  iintro ⟨Hv, Hst, Hm, Hk⟩
  rw [wp_bind]; iapply (wp_lift_load Variants.none (c : Thread nD τ) none E) $$ Hv; iintro Hv
  rw [wp_bind]; iapply (wp_lift_load Variants.none (c : Thread nD τ) none E) $$ Hst; iintro Hst
  rw [wp_bind]; iapply (wp_lift_store Variants.none (c : Thread nD τ) none E) $$ Hst; iintro Hst
  rw [wp_bind]; iapply (wp_lift_load Variants.none (c : Thread nD τ) none E) $$ Hm; iintro Hm
  rw [wp_bind]; iapply (wp_lift_load Variants.none (c : Thread nD τ) none E) $$ Hm; iintro Hm
  iapply (wp_lift_store Variants.none (c : Thread nD τ) none E) $$ Hm; iintro Hm
  rw [put_full (s := S8x1024) M _ (by decide), window_full (s := S8x1024) M _ (by decide), window_full (s := S1x512x1024) A _ (by decide), off9_eq]
  iapply Hk
  isplitl [Hv]; · iexact Hv
  isplitl [Hst]; · iexact Hst
  iexact Hm

end V

end Cert.Quantise.Quant

end
-- ==== Proof.QuantPrinted.BodySpec.lean ====
/- The quantise kernel's body at any grid point: what each buffer holds after it, as a function of what they held before. -/
module

public import proofs.«01_k».proof.Proof.QuantPrinted.Steps

@[expose] public section

set_option synthInstance.maxSize 4096
set_option maxRecDepth 65536

noncomputable section

namespace Cert.Quantise.Quant

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Cert.Quantise Cert.Quantise.Gen Cert.Quant

variable {F : FTy → Type} [FloatOps F]

local notation "𝕄" => MT nD τ sig Unit (Elt F) ℕ (UR sig nD τ) ℕ

/-! ## The arrays as functions of the blocks -/

def codesBy (X : Vec F S1x512x1024 .bf16) (R : Vec F S4x256x256 .bf16) : Vec F S1x512x8x128 .fp8e4m3 := rounded (tokOf (invOf (ratioOf (yOf X R))) (yOf X R))
def headsBy (X : Vec F S1x512x1024 .bf16) (R : Vec F S4x256x256 .bf16) : Vec F S1x8x512x128 .fp8e4m3 := qhOf (invOf (ratioOf (yOf X R))) (yOf X R)
def scalesBy (X : Vec F S1x512x1024 .bf16) (R : Vec F S4x256x256 .bf16) : Vec F S1x32x128 .f32 := qsOf (yOf X R)
def vcodesBy (B : Vec F S1x512x1024 .bf16) (I : Vec F S1x1024 .f32) : Vec F S1x512x8x128 .fp8e4m3 := rounded (vtokOf B I)
def vscalesBy (M : Vec F S8x1024 .f32) : Vec F S1x8x128 .f32 := vsOf (scaleOf (vratio M))
/-- The stash with a block put at its place. -/
def stashed (st : Vec F S16x512x1024 .bf16) (n : Fin 16) (A : Vec F S1x512x1024 .bf16) : Vec F S16x512x1024 .bf16 :=
  put (s := S16x512x1024) st ![n.val, 0, 0] S1x512x1024.size (k0_pay10 A)

section
variable (c : Dev nD) (E : Set ℕ) (i : grid0.Coords)

theorem stage1 (arg2 : Memref sig .tc .vmem S1x512x1024 .bf16) (arg3 : Memref sig .tc .vmem S1x512x1024 .bf16) (arg5 : Memref sig .tc .vmem S4x256x256 .bf16) (arg6 : Memref sig .tc .vmem S4x256x256 .bf16) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (arg16 : Memref sig .tc .vmem S512x1024 .f32) (arg17 : Memref sig .tc .vmem S512x8x128 .f32) (X : Vec F S1x512x1024 .bf16) (X' : Vec F S1x512x1024 .bf16) (R : Vec F S4x256x256 .bf16) (R' : Vec F S4x256x256 .bf16) (C : Vec F S1x512x8x128 .fp8e4m3) (H : Vec F S1x8x512x128 .fp8e4m3) (S : Vec F S1x32x128 .f32) (C' : Vec F S1x512x8x128 .fp8e4m3) (H' : Vec F S1x8x512x128 .fp8e4m3) (S' : Vec F S1x32x128 .f32) (Y : Vec F S512x1024 .f32) (T : Vec F S512x8x128 .f32) (K : PUnit → sProp 𝕄) :
    iprop(owns (c : Thread nD τ) arg2 fullShare X ∗ owns (c : Thread nD τ) arg3 fullShare X' ∗ owns (c : Thread nD τ) arg5 fullShare R ∗ owns (c : Thread nD τ) arg6 fullShare R' ∗ owns (c : Thread nD τ) arg7 fullShare C ∗ owns (c : Thread nD τ) arg8 fullShare H ∗ owns (c : Thread nD τ) arg9 fullShare S ∗ owns (c : Thread nD τ) arg10 fullShare C' ∗ owns (c : Thread nD τ) arg11 fullShare H' ∗ owns (c : Thread nD τ) arg12 fullShare S' ∗ owns (c : Thread nD τ) arg16 fullShare Y ∗ owns (c : Thread nD τ) arg17 fullShare T
        ∗ (iprop(owns (c : Thread nD τ) arg2 fullShare X ∗ owns (c : Thread nD τ) arg3 fullShare X' ∗ owns (c : Thread nD τ) arg5 fullShare R ∗ owns (c : Thread nD τ) arg6 fullShare R' ∗ owns (c : Thread nD τ) arg7 fullShare (if k0_cond1 i = 1#1 then codesBy X R else C) ∗ owns (c : Thread nD τ) arg8 fullShare (if k0_cond1 i = 1#1 then headsBy X R else H) ∗ owns (c : Thread nD τ) arg9 fullShare (if k0_cond1 i = 1#1 then scalesBy X R else S) ∗ owns (c : Thread nD τ) arg10 fullShare (if k0_cond1 i = 1#1 then codesBy X' R' else C') ∗ owns (c : Thread nD τ) arg11 fullShare (if k0_cond1 i = 1#1 then headsBy X' R' else H') ∗ owns (c : Thread nD τ) arg12 fullShare (if k0_cond1 i = 1#1 then scalesBy X' R' else S') ∗ (∃ d, owns (c : Thread nD τ) arg16 fullShare d) ∗ (∃ d, owns (c : Thread nD τ) arg17 fullShare d)) -∗ K ⟨⟩))
      ⊢ wp frame (wpE (defs₀ (F := F)) Variants.none c none) E (if h1 : k0_cond1 i = 1#1 then (do qk arg2 arg5 arg7 harg7 arg8 harg8 arg9 arg16 arg17; qk arg3 arg6 arg10 harg10 arg11 harg11 arg12 arg16 arg17) else pure ⟨⟩ : Prog (TpuEff nD τ sig (Elt F) Λ₀ .tc) PUnit) K := by
  by_cases h1 : k0_cond1 i = 1#1
  · simp only [dif_pos h1, if_pos h1]
    iintro ⟨H2, H3, H5, H6, H7, H8, H9, H10, H11, H12, H16, H17, Hk⟩
    rw [wp_bind]; iapply (qk_spec c E arg2 arg5 arg7 harg7 arg8 harg8 arg9 arg16 arg17 _ _ X R C H S Y T _)
    isplitl [H2]; · iexact H2
    isplitl [H5]; · iexact H5
    isplitl [H7]; · iexact H7
    isplitl [H8]; · iexact H8
    isplitl [H9]; · iexact H9
    isplitl [H16]; · iexact H16
    isplitl [H17]; · iexact H17
    iintro ⟨H2, H5, H7, H8, H9, H16, H17⟩
    iapply (qk_spec c E arg3 arg6 arg10 harg10 arg11 harg11 arg12 arg16 arg17 _ _ X' R' C' H' S' _ _ _)
    isplitl [H3]; · iexact H3
    isplitl [H6]; · iexact H6
    isplitl [H10]; · iexact H10
    isplitl [H11]; · iexact H11
    isplitl [H12]; · iexact H12
    isplitl [H16]; · iexact H16
    isplitl [H17]; · iexact H17
    iintro ⟨H3, H6, H10, H11, H12, H16, H17⟩
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H16]; · iexists _; iexact H16
    iexists _; iexact H17
  · simp only [dif_neg h1, if_neg h1]
    iintro ⟨H2, H3, H5, H6, H7, H8, H9, H10, H11, H12, H16, H17, Hk⟩
    iapply (le_wp_ret frame (wpE (defs₀ (F := F)) Variants.none c none) E _ K)
    iapply Hk
    isplitl [H2]; · iexact H2
    isplitl [H3]; · iexact H3
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H16]; · iexists _; iexact H16
    iexists _; iexact H17

theorem stage2 (arg13 : Memref sig .tc .vmem S1x512x8x128 .fp8e4m3) (harg13 : arg13.IsWhole) (arg14 : Memref sig .tc .vmem S1x8x128x512 .fp8e4m3) (harg14 : arg14.IsWhole) (arg17 : Memref sig .tc .vmem S512x8x128 .f32) (arg18 : Memref sig .tc .vmem S16x512x1024 .bf16) (harg18 : arg18.IsWhole) (arg20 : Memref sig .tc .vmem S1x1024 .f32) (Cv : Vec F S1x512x8x128 .fp8e4m3) (D : Vec F S1x8x128x512 .fp8e4m3) (T : Vec F S512x8x128 .f32) (st : Vec F S16x512x1024 .bf16) (I : Vec F S1x1024 .f32) (K : PUnit → sProp 𝕄) :
    iprop(owns (c : Thread nD τ) arg13 fullShare Cv ∗ owns (c : Thread nD τ) arg14 fullShare D ∗ owns (c : Thread nD τ) arg17 fullShare T ∗ owns (c : Thread nD τ) arg18 fullShare st ∗ owns (c : Thread nD τ) arg20 fullShare I
        ∗ (iprop(owns (c : Thread nD τ) arg13 fullShare (if k0_cond2 i = 1#1 then vcodesBy (stashBlk st (i 1)) I else Cv) ∗ owns (c : Thread nD τ) arg14 fullShare (if k0_cond2 i = 1#1 then vtOf (stashBlk st (i 1)) I else D) ∗ (∃ d, owns (c : Thread nD τ) arg17 fullShare d) ∗ owns (c : Thread nD τ) arg18 fullShare st ∗ owns (c : Thread nD τ) arg20 fullShare I) -∗ K ⟨⟩))
      ⊢ wp frame (wpE (defs₀ (F := F)) Variants.none c none) E (if h2 : k0_cond2 i = 1#1 then vout arg13 harg13 arg14 harg14 arg17 arg18 arg20 i h2 else pure ⟨⟩ : Prog (TpuEff nD τ sig (Elt F) Λ₀ .tc) PUnit) K := by
  by_cases h2 : k0_cond2 i = 1#1
  · simp only [dif_pos h2, if_pos h2]
    iintro ⟨H13, H14, H17, H18, H20, Hk⟩
    iapply (vout_spec c E arg13 harg13 arg14 harg14 arg17 arg18 arg20 st I i h2 Cv T D _)
    isplitl [H13]; · iexact H13
    isplitl [H14]; · iexact H14
    isplitl [H18]; · iexact H18
    isplitl [H20]; · iexact H20
    isplitl [H17]; · iexact H17
    iintro ⟨H13, H14, H18, H20, H17⟩
    iapply Hk
    isplitl [H13]; · iexact H13
    isplitl [H14]; · iexact H14
    isplitl [H17]; · iexists _; iexact H17
    isplitl [H18]; · iexact H18
    iexact H20
  · simp only [dif_neg h2, if_neg h2]
    iintro ⟨H13, H14, H17, H18, H20, Hk⟩
    iapply (le_wp_ret frame (wpE (defs₀ (F := F)) Variants.none c none) E _ K)
    iapply Hk
    isplitl [H13]; · iexact H13
    isplitl [H14]; · iexact H14
    isplitl [H17]; · iexists _; iexact H17
    isplitl [H18]; · iexact H18
    iexact H20

theorem stage3 (arg4 : Memref sig .tc .vmem S1x512x1024 .bf16) (arg15 : Memref sig .tc .vmem S1x8x128 .f32) (arg18 : Memref sig .tc .vmem S16x512x1024 .bf16) (harg18 : arg18.IsWhole) (arg19 : Memref sig .tc .vmem S8x1024 .f32) (arg20 : Memref sig .tc .vmem S1x1024 .f32) (A : Vec F S1x512x1024 .bf16) (W : Vec F S1x8x128 .f32) (st : Vec F S16x512x1024 .bf16) (M : Vec F S8x1024 .f32) (I : Vec F S1x1024 .f32) (K : PUnit → sProp 𝕄) :
    iprop(owns (c : Thread nD τ) arg4 fullShare A ∗ owns (c : Thread nD τ) arg15 fullShare W ∗ owns (c : Thread nD τ) arg18 fullShare st ∗ owns (c : Thread nD τ) arg19 fullShare M ∗ owns (c : Thread nD τ) arg20 fullShare I
        ∗ (iprop(owns (c : Thread nD τ) arg4 fullShare A ∗ owns (c : Thread nD τ) arg15 fullShare (if k0_cond3 i = 1#1 then (if k0_cond4 i = 1#1 then vscalesBy (k0_pay11 i A M) else W) else W) ∗ owns (c : Thread nD τ) arg18 fullShare (if k0_cond3 i = 1#1 then stashed st (i 1) A else st) ∗ owns (c : Thread nD τ) arg19 fullShare (if k0_cond3 i = 1#1 then k0_pay11 i A M else M) ∗ owns (c : Thread nD τ) arg20 fullShare (if k0_cond3 i = 1#1 then (if k0_cond4 i = 1#1 then vinvOf (k0_pay11 i A M) else I) else I)) -∗ K ⟨⟩))
      ⊢ wp frame (wpE (defs₀ (F := F)) Variants.none c none) E (if h3 : k0_cond3 i = 1#1 then (do vin arg4 arg18 harg18 arg19 i h3; if h4 : k0_cond4 i = 1#1 then vlast arg15 arg19 arg20 else pure ⟨⟩) else pure ⟨⟩ : Prog (TpuEff nD τ sig (Elt F) Λ₀ .tc) PUnit) K := by
  by_cases h3 : k0_cond3 i = 1#1
  · simp only [dif_pos h3, if_pos h3]
    iintro ⟨H4, H15, H18, H19, H20, Hk⟩
    rw [wp_bind]; iapply (vin_spec c E arg4 arg18 harg18 arg19 st M i h3 _ A _)
    isplitl [H4]; · iexact H4
    isplitl [H18]; · iexact H18
    isplitl [H19]; · iexact H19
    iintro ⟨H4, H18, H19⟩
    by_cases h4 : k0_cond4 i = 1#1
    · simp only [dif_pos h4, if_pos h4]
      iapply (vlast_spec c E arg15 arg19 arg20 _ I W _)
      isplitl [H15]; · iexact H15
      isplitl [H19]; · iexact H19
      isplitl [H20]; · iexact H20
      iintro ⟨H15, H19, H20⟩
      iapply Hk
      isplitl [H4]; · iexact H4
      isplitl [H15]; · iexact H15
      isplitl [H18]; · iexact H18
      isplitl [H19]; · iexact H19
      iexact H20
    · simp only [dif_neg h4, if_neg h4]
      iapply (le_wp_ret frame (wpE (defs₀ (F := F)) Variants.none c none) E _ K)
      iapply Hk
      isplitl [H4]; · iexact H4
      isplitl [H15]; · iexact H15
      isplitl [H18]; · iexact H18
      isplitl [H19]; · iexact H19
      iexact H20
  · simp only [dif_neg h3, if_neg h3]
    iintro ⟨H4, H15, H18, H19, H20, Hk⟩
    iapply (le_wp_ret frame (wpE (defs₀ (F := F)) Variants.none c none) E _ K)
    iapply Hk
    isplitl [H4]; · iexact H4
    isplitl [H15]; · iexact H15
    isplitl [H18]; · iexact H18
    isplitl [H19]; · iexact H19
    iexact H20

theorem body_seq (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (harg9 : arg9.IsWhole) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (harg12 : arg12.IsWhole) (arg13 : Memref sig .tc .vmem S1x512x8x128 .fp8e4m3) (harg13 : arg13.IsWhole) (arg14 : Memref sig .tc .vmem S1x8x128x512 .fp8e4m3) (harg14 : arg14.IsWhole) (arg15 : Memref sig .tc .vmem S1x8x128 .f32) (harg15 : arg15.IsWhole) (arg16 : Memref sig .tc .vmem S512x1024 .f32) (harg16 : arg16.IsWhole) (arg17 : Memref sig .tc .vmem S512x8x128 .f32) (harg17 : arg17.IsWhole) (arg18 : Memref sig .tc .vmem S16x512x1024 .bf16) (harg18 : arg18.IsWhole) (arg19 : Memref sig .tc .vmem S8x1024 .f32) (harg19 : arg19.IsWhole) (arg20 : Memref sig .tc .vmem S1x1024 .f32) (harg20 : arg20.IsWhole) :
    body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
      = ((if h1 : k0_cond1 i = 1#1 then (do qk arg2 arg5 arg7 harg7 arg8 harg8 arg9 arg16 arg17; qk arg3 arg6 arg10 harg10 arg11 harg11 arg12 arg16 arg17) else pure ⟨⟩ : Prog (TpuEff nD τ sig (Elt F) Λ₀ .tc) PUnit) >>= fun _ => (if h2 : k0_cond2 i = 1#1 then vout arg13 harg13 arg14 harg14 arg17 arg18 arg20 i h2 else pure ⟨⟩ : Prog (TpuEff nD τ sig (Elt F) Λ₀ .tc) PUnit) >>= fun _ => (if h3 : k0_cond3 i = 1#1 then (do vin arg4 arg18 harg18 arg19 i h3; if h4 : k0_cond4 i = 1#1 then vlast arg15 arg19 arg20 else pure ⟨⟩) else pure ⟨⟩ : Prog (TpuEff nD τ sig (Elt F) Λ₀ .tc) PUnit) >>= fun _ => pure ⟨⟩) := by
  unfold body
  by_cases h1 : k0_cond1 i = 1#1 <;> by_cases h2 : k0_cond2 i = 1#1 <;> by_cases h3 : k0_cond3 i = 1#1 <;> by_cases h4 : k0_cond4 i = 1#1 <;>
    simp only [h1, h2, h3, h4, dif_pos, dif_neg, dite_true, dite_false, not_false_eq_true, bind_assoc, pure_bind] <;> rfl

theorem body_spec (arg2 : Memref sig .tc .vmem S1x512x1024 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S4x256x256 .bf16) (harg5 : arg5.IsWhole) (arg6 : Memref sig .tc .vmem S4x256x256 .bf16) (harg6 : arg6.IsWhole) (arg7 : Memref sig .tc .vmem S1x512x8x128 .fp8e4m3) (harg7 : arg7.IsWhole) (arg8 : Memref sig .tc .vmem S1x8x512x128 .fp8e4m3) (harg8 : arg8.IsWhole) (arg9 : Memref sig .tc .vmem S1x32x128 .f32) (harg9 : arg9.IsWhole) (arg10 : Memref sig .tc .vmem S1x512x8x128 .fp8e4m3) (harg10 : arg10.IsWhole) (arg11 : Memref sig .tc .vmem S1x8x512x128 .fp8e4m3) (harg11 : arg11.IsWhole) (arg12 : Memref sig .tc .vmem S1x32x128 .f32) (harg12 : arg12.IsWhole) (arg13 : Memref sig .tc .vmem S1x512x8x128 .fp8e4m3) (harg13 : arg13.IsWhole) (arg14 : Memref sig .tc .vmem S1x8x128x512 .fp8e4m3) (harg14 : arg14.IsWhole) (arg15 : Memref sig .tc .vmem S1x8x128 .f32) (harg15 : arg15.IsWhole) (arg16 : Memref sig .tc .vmem S512x1024 .f32) (harg16 : arg16.IsWhole) (arg17 : Memref sig .tc .vmem S512x8x128 .f32) (harg17 : arg17.IsWhole) (arg18 : Memref sig .tc .vmem S16x512x1024 .bf16) (harg18 : arg18.IsWhole) (arg19 : Memref sig .tc .vmem S8x1024 .f32) (harg19 : arg19.IsWhole) (arg20 : Memref sig .tc .vmem S1x1024 .f32) (harg20 : arg20.IsWhole) (X : Vec F S1x512x1024 .bf16) (X' : Vec F S1x512x1024 .bf16) (A : Vec F S1x512x1024 .bf16) (R : Vec F S4x256x256 .bf16) (R' : Vec F S4x256x256 .bf16) (C : Vec F S1x512x8x128 .fp8e4m3) (H : Vec F S1x8x512x128 .fp8e4m3) (S : Vec F S1x32x128 .f32) (C' : Vec F S1x512x8x128 .fp8e4m3) (H' : Vec F S1x8x512x128 .fp8e4m3) (S' : Vec F S1x32x128 .f32) (Cv : Vec F S1x512x8x128 .fp8e4m3) (D : Vec F S1x8x128x512 .fp8e4m3) (W : Vec F S1x8x128 .f32) (Y : Vec F S512x1024 .f32) (T : Vec F S512x8x128 .f32) (st : Vec F S16x512x1024 .bf16) (M : Vec F S8x1024 .f32) (I : Vec F S1x1024 .f32) (K : PUnit → sProp 𝕄) :
    iprop(owns (c : Thread nD τ) arg2 fullShare X ∗ owns (c : Thread nD τ) arg3 fullShare X' ∗ owns (c : Thread nD τ) arg4 fullShare A ∗ owns (c : Thread nD τ) arg5 fullShare R ∗ owns (c : Thread nD τ) arg6 fullShare R' ∗ owns (c : Thread nD τ) arg7 fullShare C ∗ owns (c : Thread nD τ) arg8 fullShare H ∗ owns (c : Thread nD τ) arg9 fullShare S ∗ owns (c : Thread nD τ) arg10 fullShare C' ∗ owns (c : Thread nD τ) arg11 fullShare H' ∗ owns (c : Thread nD τ) arg12 fullShare S' ∗ owns (c : Thread nD τ) arg13 fullShare Cv ∗ owns (c : Thread nD τ) arg14 fullShare D ∗ owns (c : Thread nD τ) arg15 fullShare W ∗ owns (c : Thread nD τ) arg16 fullShare Y ∗ owns (c : Thread nD τ) arg17 fullShare T ∗ owns (c : Thread nD τ) arg18 fullShare st ∗ owns (c : Thread nD τ) arg19 fullShare M ∗ owns (c : Thread nD τ) arg20 fullShare I
        ∗ (iprop(owns (c : Thread nD τ) arg2 fullShare X ∗ owns (c : Thread nD τ) arg3 fullShare X' ∗ owns (c : Thread nD τ) arg4 fullShare A ∗ owns (c : Thread nD τ) arg5 fullShare R ∗ owns (c : Thread nD τ) arg6 fullShare R' ∗ owns (c : Thread nD τ) arg7 fullShare (if k0_cond1 i = 1#1 then codesBy X R else C) ∗ owns (c : Thread nD τ) arg8 fullShare (if k0_cond1 i = 1#1 then headsBy X R else H) ∗ owns (c : Thread nD τ) arg9 fullShare (if k0_cond1 i = 1#1 then scalesBy X R else S) ∗ owns (c : Thread nD τ) arg10 fullShare (if k0_cond1 i = 1#1 then codesBy X' R' else C') ∗ owns (c : Thread nD τ) arg11 fullShare (if k0_cond1 i = 1#1 then headsBy X' R' else H') ∗ owns (c : Thread nD τ) arg12 fullShare (if k0_cond1 i = 1#1 then scalesBy X' R' else S') ∗ owns (c : Thread nD τ) arg13 fullShare (if k0_cond2 i = 1#1 then vcodesBy (stashBlk st (i 1)) I else Cv) ∗ owns (c : Thread nD τ) arg14 fullShare (if k0_cond2 i = 1#1 then vtOf (stashBlk st (i 1)) I else D) ∗ owns (c : Thread nD τ) arg15 fullShare (if k0_cond3 i = 1#1 then (if k0_cond4 i = 1#1 then vscalesBy (k0_pay11 i A M) else W) else W) ∗ (∃ d, owns (c : Thread nD τ) arg16 fullShare d) ∗ (∃ d, owns (c : Thread nD τ) arg17 fullShare d) ∗ owns (c : Thread nD τ) arg18 fullShare (if k0_cond3 i = 1#1 then stashed st (i 1) A else st) ∗ owns (c : Thread nD τ) arg19 fullShare (if k0_cond3 i = 1#1 then k0_pay11 i A M else M) ∗ owns (c : Thread nD τ) arg20 fullShare (if k0_cond3 i = 1#1 then (if k0_cond4 i = 1#1 then vinvOf (k0_pay11 i A M) else I) else I)) -∗ K ⟨⟩))
      ⊢ wp frame (wpE (defs₀ (F := F)) Variants.none c none) E (cc0_quantise i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_eq]
  rw [body_seq]
  iintro ⟨H2, H3, H4, H5, H6, H7, H8, H9, H10, H11, H12, H13, H14, H15, H16, H17, H18, H19, H20, Hk⟩
  rw [wp_bind]; iapply (stage1 c E i arg2 arg3 arg5 arg6 arg7 harg7 arg8 harg8 arg9 arg10 harg10 arg11 harg11 arg12 arg16 arg17 X X' R R' C H S C' H' S' Y T _)
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H16]; · iexact H16
  isplitl [H17]; · iexact H17
  iintro ⟨H2, H3, H5, H6, H7, H8, H9, H10, H11, H12, ⟨%Y₁, H16⟩, ⟨%T₁, H17⟩⟩
  rw [wp_bind]; iapply (stage2 c E i arg13 harg13 arg14 harg14 arg17 arg18 harg18 arg20 Cv D T₁ st I _)
  isplitl [H13]; · iexact H13
  isplitl [H14]; · iexact H14
  isplitl [H17]; · iexact H17
  isplitl [H18]; · iexact H18
  isplitl [H20]; · iexact H20
  iintro ⟨H13, H14, ⟨%T₂, H17⟩, H18, H20⟩
  rw [wp_bind]; iapply (stage3 c E i arg4 arg15 arg18 harg18 arg19 arg20 A W st M I _)
  isplitl [H4]; · iexact H4
  isplitl [H15]; · iexact H15
  isplitl [H18]; · iexact H18
  isplitl [H19]; · iexact H19
  isplitl [H20]; · iexact H20
  iintro ⟨H4, H15, H18, H19, H20⟩
  iapply (le_wp_ret frame (wpE (defs₀ (F := F)) Variants.none c none) E _ K)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [H19]; · iexact H19
  iexact H20

end

end Cert.Quantise.Quant

end
-- ==== Proof.QuantPrinted.Data.lean ====
/- The quantise call's proof data: what the scratch buffers hold between points, what every output's buffer holds after each
   point, the body's obligation, the run, and that every execution ends with the argument arrays unchanged and every semaphore at
   zero. The value token blocks wait in a ring of sixteen; a group's largest values are kept until its last point, where the
   inverse scales are fixed, and the group's codes are written sixteen points later. -/
module

public import proofs.«01_k».proof.Proof.QuantPrinted.BodySpec
public import proofs.«01_k».proof.Proof.Gen.Quantise.Frame
public import proofs.«01_k».proof.Proof.Gen.Quantise.Points
public import proofs.«01_k».proof.Proof.Gen.Quantise.Launch
public import Idealize.ShloMosaic.Lib.Pipeline.FrameBody
public import Idealize.ShloMosaic.Lib.Pipeline.TableIdle
public import Idealize.ShloMosaic.Lib.Claim

@[expose] public section

set_option synthInstance.maxSize 4096
set_option maxRecDepth 65536

noncomputable section

namespace Cert.Quantise.Quant

open Idealize.ShloMosaic Idealize.ShloMosaic.TcCoe Idealize.ShloMosaic.Tactic Idealize.ShloMosaic.VecWindow
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Quantise Cert.Quantise.Gen Cert.Quant

variable {F : FTy → Type} [FloatOps F]

local notation "𝕄" => MT nD τ sig Unit (Elt F) ℕ (UR sig nD τ) ℕ

/-! ## The grid's points -/

/-- The `n`-th point. -/
def pt (n : ℕ) : Fin cfg0.N := ⟨n % 160, lt_of_lt_of_eq (Nat.mod_lt _ (by decide)) N_0.symm⟩
theorem pt_val (t : Fin cfg0.N) : pt t.val = t := Fin.ext (Nat.mod_eq_of_lt (lt_of_lt_of_eq t.isLt N_0))
theorem lt_160 (t : Fin cfg0.N) : t.val < 160 := lt_of_lt_of_eq t.isLt N_0
/-- The point, or the last that encodes a query block. -/
def clp (t : Fin cfg0.N) : Fin cfg0.N := pt (min t.val 143)
theorem clp_of_lt (t : Fin cfg0.N) (h : t.val < 144) : clp t = t := by
  unfold clp; rw [Nat.min_eq_left (by omega)]; exact pt_val t

theorem coord1 : ∀ t : Fin cfg0.N, (cfg0.grid.coords t 1).val = t.val % 16 := by decide +kernel
theorem cond1_iff : ∀ t : Fin cfg0.N, k0_cond1 (cfg0.grid.coords t) = 1#1 ↔ t.val < 144 := by decide +kernel
theorem cond2_iff : ∀ t : Fin cfg0.N, k0_cond2 (cfg0.grid.coords t) = 1#1 ↔ 16 ≤ t.val := by decide +kernel
theorem cond3_iff : ∀ t : Fin cfg0.N, k0_cond3 (cfg0.grid.coords t) = 1#1 ↔ t.val < 144 := by decide +kernel
theorem cond4_iff : ∀ t : Fin cfg0.N, k0_cond4 (cfg0.grid.coords t) = 1#1 ↔ t.val % 16 = 15 := by decide +kernel

/-! ## When an output's buffer holds a block still to be written back -/

theorem fresh_step_5 : ∀ t : Fin cfg0.N, (decide (t.val + 1 ≤ 143) || decide (t.val + 1 = 160)) = ((cfg0.win 5).flushF t || (cfg0.idle 5 (cfg0.grid.coords t) && (decide (t.val ≤ 143) || decide (t.val = 160)))) := by decide +kernel
theorem fresh_5 (n : ℕ) (h : n ≤ 160) : cfg0.fresh 5 n = (decide (n ≤ 143) || decide (n = 160)) :=
  cfg0.fresh_tab 5 (fun n => decide (n ≤ 143) || decide (n = 160)) rfl (fun t => by rw [Pipeline.Window.flush_eq_flushF]; exact fresh_step_5 t) n (le_of_le_of_eq h N_0.symm)
theorem late_5 : ∀ t : Fin cfg0.N, cfg0.idle 5 (cfg0.grid.coords t) = true → (cfg0.win 5).flushF t = true → t.val = 159 := by decide +kernel
theorem fresh_step_6 : ∀ t : Fin cfg0.N, (decide (t.val + 1 ≤ 143) || decide (t.val + 1 = 160)) = ((cfg0.win 6).flushF t || (cfg0.idle 6 (cfg0.grid.coords t) && (decide (t.val ≤ 143) || decide (t.val = 160)))) := by decide +kernel
theorem fresh_6 (n : ℕ) (h : n ≤ 160) : cfg0.fresh 6 n = (decide (n ≤ 143) || decide (n = 160)) :=
  cfg0.fresh_tab 6 (fun n => decide (n ≤ 143) || decide (n = 160)) rfl (fun t => by rw [Pipeline.Window.flush_eq_flushF]; exact fresh_step_6 t) n (le_of_le_of_eq h N_0.symm)
theorem late_6 : ∀ t : Fin cfg0.N, cfg0.idle 6 (cfg0.grid.coords t) = true → (cfg0.win 6).flushF t = true → t.val = 159 := by decide +kernel
theorem fresh_step_7 : ∀ t : Fin cfg0.N, (decide (t.val + 1 ≤ 143) || decide (t.val + 1 = 160)) = ((cfg0.win 7).flushF t || (cfg0.idle 7 (cfg0.grid.coords t) && (decide (t.val ≤ 143) || decide (t.val = 160)))) := by decide +kernel
theorem fresh_7 (n : ℕ) (h : n ≤ 160) : cfg0.fresh 7 n = (decide (n ≤ 143) || decide (n = 160)) :=
  cfg0.fresh_tab 7 (fun n => decide (n ≤ 143) || decide (n = 160)) rfl (fun t => by rw [Pipeline.Window.flush_eq_flushF]; exact fresh_step_7 t) n (le_of_le_of_eq h N_0.symm)
theorem late_7 : ∀ t : Fin cfg0.N, cfg0.idle 7 (cfg0.grid.coords t) = true → (cfg0.win 7).flushF t = true → t.val = 159 := by decide +kernel
theorem fresh_step_8 : ∀ t : Fin cfg0.N, (decide (t.val + 1 ≤ 143) || decide (t.val + 1 = 160)) = ((cfg0.win 8).flushF t || (cfg0.idle 8 (cfg0.grid.coords t) && (decide (t.val ≤ 143) || decide (t.val = 160)))) := by decide +kernel
theorem fresh_8 (n : ℕ) (h : n ≤ 160) : cfg0.fresh 8 n = (decide (n ≤ 143) || decide (n = 160)) :=
  cfg0.fresh_tab 8 (fun n => decide (n ≤ 143) || decide (n = 160)) rfl (fun t => by rw [Pipeline.Window.flush_eq_flushF]; exact fresh_step_8 t) n (le_of_le_of_eq h N_0.symm)
theorem late_8 : ∀ t : Fin cfg0.N, cfg0.idle 8 (cfg0.grid.coords t) = true → (cfg0.win 8).flushF t = true → t.val = 159 := by decide +kernel
theorem fresh_step_9 : ∀ t : Fin cfg0.N, (decide (t.val + 1 ≤ 143) || decide (t.val + 1 = 160)) = ((cfg0.win 9).flushF t || (cfg0.idle 9 (cfg0.grid.coords t) && (decide (t.val ≤ 143) || decide (t.val = 160)))) := by decide +kernel
theorem fresh_9 (n : ℕ) (h : n ≤ 160) : cfg0.fresh 9 n = (decide (n ≤ 143) || decide (n = 160)) :=
  cfg0.fresh_tab 9 (fun n => decide (n ≤ 143) || decide (n = 160)) rfl (fun t => by rw [Pipeline.Window.flush_eq_flushF]; exact fresh_step_9 t) n (le_of_le_of_eq h N_0.symm)
theorem late_9 : ∀ t : Fin cfg0.N, cfg0.idle 9 (cfg0.grid.coords t) = true → (cfg0.win 9).flushF t = true → t.val = 159 := by decide +kernel
theorem fresh_step_10 : ∀ t : Fin cfg0.N, (decide (t.val + 1 ≤ 143) || decide (t.val + 1 = 160)) = ((cfg0.win 10).flushF t || (cfg0.idle 10 (cfg0.grid.coords t) && (decide (t.val ≤ 143) || decide (t.val = 160)))) := by decide +kernel
theorem fresh_10 (n : ℕ) (h : n ≤ 160) : cfg0.fresh 10 n = (decide (n ≤ 143) || decide (n = 160)) :=
  cfg0.fresh_tab 10 (fun n => decide (n ≤ 143) || decide (n = 160)) rfl (fun t => by rw [Pipeline.Window.flush_eq_flushF]; exact fresh_step_10 t) n (le_of_le_of_eq h N_0.symm)
theorem late_10 : ∀ t : Fin cfg0.N, cfg0.idle 10 (cfg0.grid.coords t) = true → (cfg0.win 10).flushF t = true → t.val = 159 := by decide +kernel
theorem fresh_step_13 : ∀ t : Fin cfg0.N, (decide (t.val + 1 ≤ 143) || decide (t.val + 1 = 160)) = ((cfg0.win 13).flushF t || (cfg0.idle 13 (cfg0.grid.coords t) && (decide (t.val ≤ 143) || decide (t.val = 160)))) := by decide +kernel
theorem fresh_13 (n : ℕ) (h : n ≤ 160) : cfg0.fresh 13 n = (decide (n ≤ 143) || decide (n = 160)) :=
  cfg0.fresh_tab 13 (fun n => decide (n ≤ 143) || decide (n = 160)) rfl (fun t => by rw [Pipeline.Window.flush_eq_flushF]; exact fresh_step_13 t) n (le_of_le_of_eq h N_0.symm)
theorem late_13 : ∀ t : Fin cfg0.N, cfg0.idle 13 (cfg0.grid.coords t) = true → (cfg0.win 13).flushF t = true → t.val = 159 := by decide +kernel
theorem late_11 : ∀ t : Fin cfg0.N, cfg0.idle 11 (cfg0.grid.coords t) = true → (cfg0.win 11).flushF t = false := by decide +kernel
theorem late_12 : ∀ t : Fin cfg0.N, cfg0.idle 12 (cfg0.grid.coords t) = true → (cfg0.win 12).flushF t = false := by decide +kernel

variable (m : (ℓ : Loc nD τ sig) → Buf (Elt F) ℓ) (ρ : Dev nD → PrngReg)

/-! ## What the scratch buffers hold -/

/-- The value block of point `n`, as the ring keeps it. -/
def sb (c : Dev nD) (n : ℕ) : Vec F S1x512x1024 .bf16 := k0_pay10 (iblk m c 2 (pt n))
/-- The largest values so far of the group point `n` is in. -/
def mxAt (c : Dev nD) : ℕ → Vec F S8x1024 .f32
  | 0 => k0_pay11 (cfg0.grid.coords (pt 0)) (iblk m c 2 (pt 0)) (constant S8x1024 .f32 0x00000000#32)
  | n + 1 => k0_pay11 (cfg0.grid.coords (pt (n + 1))) (iblk m c 2 (pt (n + 1))) (mxAt c n)

/-- At a group's first point the largest values are started anew. -/
theorem pay11_first (i : grid0.Coords) (h : (i 1).val = 0) (A : Vec F S1x512x1024 .bf16) (M M' : Vec F S8x1024 .f32) : k0_pay11 i A M = k0_pay11 i A M' := by
  unfold k0_pay11
  dsimp only
  rw [h]
  rfl

/-- What the ring, the largest values and the inverse scales are when point `n` begins. -/
structure Inv (c : Dev nD) (n : ℕ) (st : Vec F S16x512x1024 .bf16) (M : Vec F S8x1024 .f32) (I : Vec F S1x1024 .f32) : Prop where
  ring : ∀ p, p < n → p < 144 → n ≤ p + 16 → stashBlk st ⟨p % 16, Nat.mod_lt _ (by decide)⟩ = sb m c p
  mx : 0 < n → n ≤ 144 → M = mxAt m c (n - 1)
  inv : 16 ≤ n → n < 160 → I = vinvOf (mxAt m c (16 * (n / 16) - 1))

theorem ring_same (st : Vec F S16x512x1024 .bf16) (n : Fin 16) (A : Vec F S1x512x1024 .bf16) : stashBlk (stashed st n A) n = k0_pay10 A := by
  unfold stashBlk stashed
  exact window_put_same _ _ _ _ _
theorem ring_other (st : Vec F S16x512x1024 .bf16) (n n' : Fin 16) (A : Vec F S1x512x1024 .bf16) (h : n.val ≠ n'.val) : stashBlk (stashed st n A) n' = stashBlk st n' := by
  unfold stashBlk stashed
  refine window_put_of_disjoint _ _ _ _ _ _ _ 0 ?_
  show n'.val + 1 ≤ n.val ∨ n.val + 1 ≤ n'.val
  omega

theorem inv_zero (c : Dev nD) (st : Vec F S16x512x1024 .bf16) (M : Vec F S8x1024 .f32) (I : Vec F S1x1024 .f32) : Inv m c 0 st M I :=
  ⟨fun p h => absurd h (Nat.not_lt_zero p), fun h => absurd h (Nat.not_lt_zero 0), fun h => absurd h (by decide)⟩

/-- A point keeps it. -/
theorem inv_step (c : Dev nD) (t : Fin cfg0.N) (st : Vec F S16x512x1024 .bf16) (M : Vec F S8x1024 .f32) (I : Vec F S1x1024 .f32) (h : Inv m c t.val st M I) :
    Inv m c (t.val + 1)
      (if k0_cond3 (cfg0.grid.coords t) = 1#1 then stashed st (cfg0.grid.coords t 1) (iblk m c 2 t) else st)
      (if k0_cond3 (cfg0.grid.coords t) = 1#1 then k0_pay11 (cfg0.grid.coords t) (iblk m c 2 t) M else M)
      (if k0_cond3 (cfg0.grid.coords t) = 1#1 then (if k0_cond4 (cfg0.grid.coords t) = 1#1 then vinvOf (k0_pay11 (cfg0.grid.coords t) (iblk m c 2 t) M) else I) else I) := by
  have hN := lt_160 t
  have hmx : t.val < 144 → k0_pay11 (cfg0.grid.coords t) (iblk m c 2 t) M = mxAt m c t.val := by
    intro ht
    rcases Nat.eq_zero_or_pos t.val with h0 | hp
    · have e : pt 0 = t := by rw [← h0]; exact pt_val t
      rw [h0]; unfold mxAt; rw [e]
      exact pay11_first _ (by rw [coord1, h0]) _ _ _
    · obtain ⟨n, hn⟩ : ∃ n, t.val = n + 1 := ⟨t.val - 1, by omega⟩
      have e : pt (n + 1) = t := by rw [← hn]; exact pt_val t
      rw [h.mx hp (by omega), hn, Nat.add_sub_cancel]
      conv => rhs; unfold mxAt
      rw [e]
  by_cases h3 : t.val < 144
  · rw [if_pos ((cond3_iff t).2 h3), if_pos ((cond3_iff t).2 h3), if_pos ((cond3_iff t).2 h3)]
    refine ⟨fun p hp hp' hn => ?_, fun _ _ => hmx h3, fun h16 h160 => ?_⟩
    · by_cases hpt : p = t.val
      · have e : (⟨p % 16, Nat.mod_lt _ (by decide)⟩ : Fin 16) = cfg0.grid.coords t 1 := Fin.ext (by rw [coord1, hpt])
        rw [e]; refine (ring_same _ _ _).trans ?_; unfold sb; rw [hpt, pt_val]
      · refine (ring_other _ (cfg0.grid.coords t 1) _ _ (fun e => ?_)).trans (h.ring p (by omega) hp' (by omega))
        have e' : t.val % 16 = p % 16 := (coord1 t).symm.trans e
        omega
    · by_cases h4 : t.val % 16 = 15
      · rw [if_pos ((cond4_iff t).2 h4), hmx h3]
        congr 2; omega
      · rw [if_neg (fun e => h4 ((cond4_iff t).1 e)), h.inv (by omega) (by omega)]
        congr 3; omega
  · have h3' : ¬ k0_cond3 (cfg0.grid.coords t) = 1#1 := fun e => h3 ((cond3_iff t).1 e)
    rw [if_neg h3', if_neg h3', if_neg h3']
    refine ⟨fun p hp hp' hn => h.ring p (by omega) hp' (by omega), fun _ h' => absurd h' (by omega), fun h16 h160 => ?_⟩
    rw [h.inv (by omega) (by omega)]
    congr 3; omega

/-- What the body reads off the ring sixteen points after it was put there, -/
theorem ring_read (c : Dev nD) (t : Fin cfg0.N) (st : Vec F S16x512x1024 .bf16) (M : Vec F S8x1024 .f32) (I : Vec F S1x1024 .f32) (h : Inv m c t.val st M I) (h2 : 16 ≤ t.val) :
    stashBlk st (cfg0.grid.coords t 1) = sb m c (t.val - 16) := by
  have hN := lt_160 t
  have e : cfg0.grid.coords t 1 = (⟨(t.val - 16) % 16, Nat.mod_lt _ (by decide)⟩ : Fin 16) := Fin.ext (by rw [coord1]; show t.val % 16 = (t.val - 16) % 16; omega)
  rw [e]; exact h.ring _ (by omega) (by omega) (by omega)
/-- and the largest values a point leaves. -/
theorem mx_read (c : Dev nD) (t : Fin cfg0.N) (st : Vec F S16x512x1024 .bf16) (M : Vec F S8x1024 .f32) (I : Vec F S1x1024 .f32) (h : Inv m c t.val st M I) (h3 : t.val < 144) :
    k0_pay11 (cfg0.grid.coords t) (iblk m c 2 t) M = mxAt m c t.val := by
  have := (inv_step m c t st M I h).mx (by omega) (by omega)
  rw [if_pos ((cond3_iff t).2 h3)] at this
  exact this

/-! ## The pipeline's proof data -/

/-- What the pipeline keeps between points, at anything, -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ ∃ r, prngReg c r) := by
  unfold Pipeline.ΦA; rw [scopedRest0_eq]
  simp only [owns_whole]; try rfl
/-- and as point `n` finds it. -/
def PhiN (c : Dev nD) (n : ℕ) : sProp 𝕄 :=
  iprop((∃ d, owns (c : Thread nD τ) (Memref.whole cc0_scratch0) fullShare d) ∗ (∃ d, owns (c : Thread nD τ) (Memref.whole cc0_scratch1) fullShare d)
      ∗ (∃ st M I, ⌜Inv m c n st M I⌝ ∗ owns (c : Thread nD τ) (Memref.whole cc0_scratch2) fullShare st ∗ owns (c : Thread nD τ) (Memref.whole cc0_scratch3) fullShare M ∗ owns (c : Thread nD τ) (Memref.whole cc0_scratch4) fullShare I)
      ∗ ∃ r, prngReg c r)

theorem Phi_in (c : Dev nD) : (Pipeline.ΦA spec0 c : sProp 𝕄) ⊢ PhiN m c 0 := by
  rw [PhiA_eq]; unfold PhiN
  iintro ⟨⟨H0, H1, ⟨%st, H2⟩, ⟨%M, H3⟩, ⟨%I, H4⟩⟩, HP⟩
  isplitl [H0]; · iexact H0
  isplitl [H1]; · iexact H1
  isplitl [H2 H3 H4]
  · iexists st; iexists M; iexists I
    isplitr; · ipureintro; exact inv_zero m c st M I
    isplitl [H2]; · iexact H2
    isplitl [H3]; · iexact H3
    iexact H4
  iexact HP
theorem Phi_out (c : Dev nD) (n : ℕ) : PhiN m c n ⊢ (Pipeline.ΦA spec0 c : sProp 𝕄) := by
  rw [PhiA_eq]; unfold PhiN
  iintro ⟨H0, H1, ⟨%st, %M, %I, -, H2, H3, H4⟩, HP⟩
  isplitl [H0 H1 H2 H3 H4]
  · isplitl [H0]; · iexact H0
    isplitl [H1]; · iexact H1
    isplitl [H2]; · iexists st; iexact H2
    isplitl [H3]; · iexists M; iexact H3
    iexists I; iexact H4
  iexact HP

/-- The proof data of the one pipeline on core `c`. Past the last point that encodes a query (a key) block the outputs' buffers keep
    what that point left, so `after` is stated there as at that point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesBy (iblk m c 0 (clp t)) (iblk m c 3 (clp t))
    | ⟨6, _⟩ => headsBy (iblk m c 0 (clp t)) (iblk m c 3 (clp t))
    | ⟨7, _⟩ => scalesBy (iblk m c 0 (clp t)) (iblk m c 3 (clp t))
    | ⟨8, _⟩ => codesBy (iblk m c 1 (clp t)) (iblk m c 4 (clp t))
    | ⟨9, _⟩ => headsBy (iblk m c 1 (clp t)) (iblk m c 4 (clp t))
    | ⟨10, _⟩ => scalesBy (iblk m c 1 (clp t)) (iblk m c 4 (clp t))
    | ⟨11, _⟩ => vcodesBy (sb m c (t.val - 16)) (vinvOf (mxAt m c (16 * (t.val / 16) - 1)))
    | ⟨12, _⟩ => vtOf (sb m c (t.val - 16)) (vinvOf (mxAt m c (16 * (t.val / 16) - 1)))
    | ⟨13, _⟩ => vscalesBy (mxAt m c (min (16 * (t.val / 16) + 15) 143))
  Φ k := PhiN m c k.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesBy (iblk m c 0 (clp t)) (iblk m c 3 (clp t)) := by dsimp only [dats]
theorem after0_6 (c : Dev nD) (t : Fin cfg0.N) : (dats m 0 c).after 6 t = headsBy (iblk m c 0 (clp t)) (iblk m c 3 (clp t)) := by dsimp only [dats]
theorem after0_7 (c : Dev nD) (t : Fin cfg0.N) : (dats m 0 c).after 7 t = scalesBy (iblk m c 0 (clp t)) (iblk m c 3 (clp t)) := by dsimp only [dats]
theorem after0_8 (c : Dev nD) (t : Fin cfg0.N) : (dats m 0 c).after 8 t = codesBy (iblk m c 1 (clp t)) (iblk m c 4 (clp t)) := by dsimp only [dats]
theorem after0_9 (c : Dev nD) (t : Fin cfg0.N) : (dats m 0 c).after 9 t = headsBy (iblk m c 1 (clp t)) (iblk m c 4 (clp t)) := by dsimp only [dats]
theorem after0_10 (c : Dev nD) (t : Fin cfg0.N) : (dats m 0 c).after 10 t = scalesBy (iblk m c 1 (clp t)) (iblk m c 4 (clp t)) := by dsimp only [dats]
theorem after0_11 (c : Dev nD) (t : Fin cfg0.N) : (dats m 0 c).after 11 t = vcodesBy (sb m c (t.val - 16)) (vinvOf (mxAt m c (16 * (t.val / 16) - 1))) := by dsimp only [dats]
theorem after0_12 (c : Dev nD) (t : Fin cfg0.N) : (dats m 0 c).after 12 t = vtOf (sb m c (t.val - 16)) (vinvOf (mxAt m c (16 * (t.val / 16) - 1))) := by dsimp only [dats]
theorem after0_13 (c : Dev nD) (t : Fin cfg0.N) : (dats m 0 c).after 13 t = vscalesBy (mxAt m c (min (16 * (t.val / 16) + 15) 143)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## What a point that does not store leaves -/

/-- An output's buffer that holds what the window wants of it: what the body stored, or, where it stored nothing, what was found. -/
theorem leaves_of (c : Dev nD) (w : Fin cfg0.W) (t : Fin cfg0.N) (d) (X : (cfg0.win w).block.Idx → Elt F (cfg0.win w).elt)
    (hlive : cfg0.idle w (cfg0.grid.coords t) = false → X = (dats m 0 c).after w t)
    (hidle : cfg0.idle w (cfg0.grid.coords t) = true → X = (dats m 0 c).before w t d)
    (hlast : cfg0.idle w (cfg0.grid.coords t) = true → (cfg0.win w).flush t = true → (dats m 0 c).before w t d = (dats m 0 c).after w t) :
    (owns (c : Thread nD τ) ((cfg0.win w).stage (cfg0.slots t w)) fullShare X : sProp 𝕄) ⊢ (dats m 0 c).leavesExact w t := by
  unfold Dat.leavesExact
  cases hi : cfg0.idle w (cfg0.grid.coords t)
  · rw [hlive hi]
  · cases hf : (cfg0.win w).flush t
    · rw [hidle hi]
      iintro H
      iexists d
      iexact H
    · rw [hidle hi, hlast hi hf]

theorem last_5 (c : Dev nD) (t : Fin cfg0.N) (d) (hi : cfg0.idle 5 (cfg0.grid.coords t) = true) (hf : (cfg0.win 5).flush t = true) :
    (dats m 0 c).before 5 t d = (dats m 0 c).after 5 t := by
  have hcarry : ∀ (t : Fin cfg0.N) (_ : t.val ≠ 0), cfg0.idle 5 (cfg0.grid.coords t) = true → cfg0.fresh 5 t.val = false →
      (dats m 0 c).after 5 t = (dats m 0 c).after 5 ⟨t.val - 1, by omega⟩ := by
    intro t h0 _ hfr
    have hN := lt_160 t
    have ht : 144 ≤ t.val := by
      rw [fresh_5 _ hN.le] at hfr
      simp only [Bool.or_eq_false_iff, decide_eq_false_iff_not] at hfr
      omega
    · rw [after0_5, after0_5]
      have e : clp t = clp ⟨t.val - 1, by omega⟩ := by unfold clp; congr 1; show min t.val 143 = min (t.val - 1) 143; omega
      rw [e]
  have ht : t.val = 159 := late_5 t hi (by rw [← Pipeline.Window.flush_eq_flushF]; exact hf)
  have hfr : cfg0.fresh 5 t.val = false := by rw [ht, fresh_5 _ (by decide)]; rfl
  rw [(dats m 0 c).before_out_traj 5 rfl (fun _ _ => rfl) hcarry t.val t rfl d, hfr, if_neg Bool.false_ne_true]
  exact (hcarry t (by omega) hi hfr).symm
theorem last_6 (c : Dev nD) (t : Fin cfg0.N) (d) (hi : cfg0.idle 6 (cfg0.grid.coords t) = true) (hf : (cfg0.win 6).flush t = true) :
    (dats m 0 c).before 6 t d = (dats m 0 c).after 6 t := by
  have hcarry : ∀ (t : Fin cfg0.N) (_ : t.val ≠ 0), cfg0.idle 6 (cfg0.grid.coords t) = true → cfg0.fresh 6 t.val = false →
      (dats m 0 c).after 6 t = (dats m 0 c).after 6 ⟨t.val - 1, by omega⟩ := by
    intro t h0 _ hfr
    have hN := lt_160 t
    have ht : 144 ≤ t.val := by
      rw [fresh_6 _ hN.le] at hfr
      simp only [Bool.or_eq_false_iff, decide_eq_false_iff_not] at hfr
      omega
    · rw [after0_6, after0_6]
      have e : clp t = clp ⟨t.val - 1, by omega⟩ := by unfold clp; congr 1; show min t.val 143 = min (t.val - 1) 143; omega
      rw [e]
  have ht : t.val = 159 := late_6 t hi (by rw [← Pipeline.Window.flush_eq_flushF]; exact hf)
  have hfr : cfg0.fresh 6 t.val = false := by rw [ht, fresh_6 _ (by decide)]; rfl
  rw [(dats m 0 c).before_out_traj 6 rfl (fun _ _ => rfl) hcarry t.val t rfl d, hfr, if_neg Bool.false_ne_true]
  exact (hcarry t (by omega) hi hfr).symm
theorem last_7 (c : Dev nD) (t : Fin cfg0.N) (d) (hi : cfg0.idle 7 (cfg0.grid.coords t) = true) (hf : (cfg0.win 7).flush t = true) :
    (dats m 0 c).before 7 t d = (dats m 0 c).after 7 t := by
  have hcarry : ∀ (t : Fin cfg0.N) (_ : t.val ≠ 0), cfg0.idle 7 (cfg0.grid.coords t) = true → cfg0.fresh 7 t.val = false →
      (dats m 0 c).after 7 t = (dats m 0 c).after 7 ⟨t.val - 1, by omega⟩ := by
    intro t h0 _ hfr
    have hN := lt_160 t
    have ht : 144 ≤ t.val := by
      rw [fresh_7 _ hN.le] at hfr
      simp only [Bool.or_eq_false_iff, decide_eq_false_iff_not] at hfr
      omega
    · rw [after0_7, after0_7]
      have e : clp t = clp ⟨t.val - 1, by omega⟩ := by unfold clp; congr 1; show min t.val 143 = min (t.val - 1) 143; omega
      rw [e]
  have ht : t.val = 159 := late_7 t hi (by rw [← Pipeline.Window.flush_eq_flushF]; exact hf)
  have hfr : cfg0.fresh 7 t.val = false := by rw [ht, fresh_7 _ (by decide)]; rfl
  rw [(dats m 0 c).before_out_traj 7 rfl (fun _ _ => rfl) hcarry t.val t rfl d, hfr, if_neg Bool.false_ne_true]
  exact (hcarry t (by omega) hi hfr).symm
theorem last_8 (c : Dev nD) (t : Fin cfg0.N) (d) (hi : cfg0.idle 8 (cfg0.grid.coords t) = true) (hf : (cfg0.win 8).flush t = true) :
    (dats m 0 c).before 8 t d = (dats m 0 c).after 8 t := by
  have hcarry : ∀ (t : Fin cfg0.N) (_ : t.val ≠ 0), cfg0.idle 8 (cfg0.grid.coords t) = true → cfg0.fresh 8 t.val = false →
      (dats m 0 c).after 8 t = (dats m 0 c).after 8 ⟨t.val - 1, by omega⟩ := by
    intro t h0 _ hfr
    have hN := lt_160 t
    have ht : 144 ≤ t.val := by
      rw [fresh_8 _ hN.le] at hfr
      simp only [Bool.or_eq_false_iff, decide_eq_false_iff_not] at hfr
      omega
    · rw [after0_8, after0_8]
      have e : clp t = clp ⟨t.val - 1, by omega⟩ := by unfold clp; congr 1; show min t.val 143 = min (t.val - 1) 143; omega
      rw [e]
  have ht : t.val = 159 := late_8 t hi (by rw [← Pipeline.Window.flush_eq_flushF]; exact hf)
  have hfr : cfg0.fresh 8 t.val = false := by rw [ht, fresh_8 _ (by decide)]; rfl
  rw [(dats m 0 c).before_out_traj 8 rfl (fun _ _ => rfl) hcarry t.val t rfl d, hfr, if_neg Bool.false_ne_true]
  exact (hcarry t (by omega) hi hfr).symm
theorem last_9 (c : Dev nD) (t : Fin cfg0.N) (d) (hi : cfg0.idle 9 (cfg0.grid.coords t) = true) (hf : (cfg0.win 9).flush t = true) :
    (dats m 0 c).before 9 t d = (dats m 0 c).after 9 t := by
  have hcarry : ∀ (t : Fin cfg0.N) (_ : t.val ≠ 0), cfg0.idle 9 (cfg0.grid.coords t) = true → cfg0.fresh 9 t.val = false →
      (dats m 0 c).after 9 t = (dats m 0 c).after 9 ⟨t.val - 1, by omega⟩ := by
    intro t h0 _ hfr
    have hN := lt_160 t
    have ht : 144 ≤ t.val := by
      rw [fresh_9 _ hN.le] at hfr
      simp only [Bool.or_eq_false_iff, decide_eq_false_iff_not] at hfr
      omega
    · rw [after0_9, after0_9]
      have e : clp t = clp ⟨t.val - 1, by omega⟩ := by unfold clp; congr 1; show min t.val 143 = min (t.val - 1) 143; omega
      rw [e]
  have ht : t.val = 159 := late_9 t hi (by rw [← Pipeline.Window.flush_eq_flushF]; exact hf)
  have hfr : cfg0.fresh 9 t.val = false := by rw [ht, fresh_9 _ (by decide)]; rfl
  rw [(dats m 0 c).before_out_traj 9 rfl (fun _ _ => rfl) hcarry t.val t rfl d, hfr, if_neg Bool.false_ne_true]
  exact (hcarry t (by omega) hi hfr).symm
theorem last_10 (c : Dev nD) (t : Fin cfg0.N) (d) (hi : cfg0.idle 10 (cfg0.grid.coords t) = true) (hf : (cfg0.win 10).flush t = true) :
    (dats m 0 c).before 10 t d = (dats m 0 c).after 10 t := by
  have hcarry : ∀ (t : Fin cfg0.N) (_ : t.val ≠ 0), cfg0.idle 10 (cfg0.grid.coords t) = true → cfg0.fresh 10 t.val = false →
      (dats m 0 c).after 10 t = (dats m 0 c).after 10 ⟨t.val - 1, by omega⟩ := by
    intro t h0 _ hfr
    have hN := lt_160 t
    have ht : 144 ≤ t.val := by
      rw [fresh_10 _ hN.le] at hfr
      simp only [Bool.or_eq_false_iff, decide_eq_false_iff_not] at hfr
      omega
    · rw [after0_10, after0_10]
      have e : clp t = clp ⟨t.val - 1, by omega⟩ := by unfold clp; congr 1; show min t.val 143 = min (t.val - 1) 143; omega
      rw [e]
  have ht : t.val = 159 := late_10 t hi (by rw [← Pipeline.Window.flush_eq_flushF]; exact hf)
  have hfr : cfg0.fresh 10 t.val = false := by rw [ht, fresh_10 _ (by decide)]; rfl
  rw [(dats m 0 c).before_out_traj 10 rfl (fun _ _ => rfl) hcarry t.val t rfl d, hfr, if_neg Bool.false_ne_true]
  exact (hcarry t (by omega) hi hfr).symm
theorem last_13 (c : Dev nD) (t : Fin cfg0.N) (d) (hi : cfg0.idle 13 (cfg0.grid.coords t) = true) (hf : (cfg0.win 13).flush t = true) :
    (dats m 0 c).before 13 t d = (dats m 0 c).after 13 t := by
  have hcarry : ∀ (t : Fin cfg0.N) (_ : t.val ≠ 0), cfg0.idle 13 (cfg0.grid.coords t) = true → cfg0.fresh 13 t.val = false →
      (dats m 0 c).after 13 t = (dats m 0 c).after 13 ⟨t.val - 1, by omega⟩ := by
    intro t h0 _ hfr
    have hN := lt_160 t
    have ht : 144 ≤ t.val := by
      rw [fresh_13 _ hN.le] at hfr
      simp only [Bool.or_eq_false_iff, decide_eq_false_iff_not] at hfr
      omega
    · rw [after0_13, after0_13]
      have e : min (16 * (t.val / 16) + 15) 143 = min (16 * ((t.val - 1) / 16) + 15) 143 := by omega
      show vscalesBy (mxAt m c (min (16 * (t.val / 16) + 15) 143)) = vscalesBy (mxAt m c (min (16 * ((t.val - 1) / 16) + 15) 143))
      rw [e]
  have ht : t.val = 159 := late_13 t hi (by rw [← Pipeline.Window.flush_eq_flushF]; exact hf)
  have hfr : cfg0.fresh 13 t.val = false := by rw [ht, fresh_13 _ (by decide)]; rfl
  rw [(dats m 0 c).before_out_traj 13 rfl (fun _ _ => rfl) hcarry t.val t rfl d, hfr, if_neg Bool.false_ne_true]
  exact (hcarry t (by omega) hi hfr).symm
theorem last_11 (c : Dev nD) (t : Fin cfg0.N) (d) (hi : cfg0.idle 11 (cfg0.grid.coords t) = true) (hf : (cfg0.win 11).flush t = true) :
    (dats m 0 c).before 11 t d = (dats m 0 c).after 11 t := by
  rw [Pipeline.Window.flush_eq_flushF, late_11 t hi] at hf
  exact absurd hf Bool.false_ne_true
theorem last_12 (c : Dev nD) (t : Fin cfg0.N) (d) (hi : cfg0.idle 12 (cfg0.grid.coords t) = true) (hf : (cfg0.win 12).flush t = true) :
    (dats m 0 c).before 12 t d = (dats m 0 c).after 12 t := by
  rw [Pipeline.Window.flush_eq_flushF, late_12 t hi] at hf
  exact absurd hf Bool.false_ne_true
/-- A window is idle where its condition fails. -/
theorem idle_false {b : BitVec 1} (h : (!(b == 1#1)) = false) : b = 1#1 := by
  revert h; revert b; decide
theorem idle_true {b : BitVec 1} (h : (!(b == 1#1)) = true) : ¬ b = 1#1 := by
  revert h; revert b; decide
theorem idle_false2 {a b : BitVec 1} (h : (!(a == 1#1 && b == 1#1)) = false) : a = 1#1 ∧ b = 1#1 := by
  revert h; revert a b; decide
theorem idle_true2 {a b : BitVec 1} (h : (!(a == 1#1 && b == 1#1)) = true) : ¬ (a = 1#1 ∧ b = 1#1) := by
  revert h; revert a b; decide

theorem leaves_5 (c : Dev nD) (t : Fin cfg0.N) (d) :
    (owns (c : Thread nD τ) (st0_5 t) fullShare (if k0_cond1 (cfg0.grid.coords t) = 1#1 then codesBy (iblk m c 0 t) (iblk m c 3 t) else (dats m 0 c).before 5 t d) : sProp 𝕄) ⊢ (dats m 0 c).leavesExact 5 t := by
  refine leaves_of m c 5 t d _ (fun hi => ?_) (fun hi => ?_) (last_5 m c t d)
  · have h : k0_cond1 (cfg0.grid.coords t) = 1#1 := idle_false hi
    rw [if_pos h, after0_5, clp_of_lt t ((cond1_iff t).1 h)]
  · exact if_neg (idle_true hi)
theorem leaves_6 (c : Dev nD) (t : Fin cfg0.N) (d) :
    (owns (c : Thread nD τ) (st0_6 t) fullShare (if k0_cond1 (cfg0.grid.coords t) = 1#1 then headsBy (iblk m c 0 t) (iblk m c 3 t) else (dats m 0 c).before 6 t d) : sProp 𝕄) ⊢ (dats m 0 c).leavesExact 6 t := by
  refine leaves_of m c 6 t d _ (fun hi => ?_) (fun hi => ?_) (last_6 m c t d)
  · have h : k0_cond1 (cfg0.grid.coords t) = 1#1 := idle_false hi
    rw [if_pos h, after0_6, clp_of_lt t ((cond1_iff t).1 h)]
  · exact if_neg (idle_true hi)
theorem leaves_7 (c : Dev nD) (t : Fin cfg0.N) (d) :
    (owns (c : Thread nD τ) (st0_7 t) fullShare (if k0_cond1 (cfg0.grid.coords t) = 1#1 then scalesBy (iblk m c 0 t) (iblk m c 3 t) else (dats m 0 c).before 7 t d) : sProp 𝕄) ⊢ (dats m 0 c).leavesExact 7 t := by
  refine leaves_of m c 7 t d _ (fun hi => ?_) (fun hi => ?_) (last_7 m c t d)
  · have h : k0_cond1 (cfg0.grid.coords t) = 1#1 := idle_false hi
    rw [if_pos h, after0_7, clp_of_lt t ((cond1_iff t).1 h)]
  · exact if_neg (idle_true hi)
theorem leaves_8 (c : Dev nD) (t : Fin cfg0.N) (d) :
    (owns (c : Thread nD τ) (st0_8 t) fullShare (if k0_cond1 (cfg0.grid.coords t) = 1#1 then codesBy (iblk m c 1 t) (iblk m c 4 t) else (dats m 0 c).before 8 t d) : sProp 𝕄) ⊢ (dats m 0 c).leavesExact 8 t := by
  refine leaves_of m c 8 t d _ (fun hi => ?_) (fun hi => ?_) (last_8 m c t d)
  · have h : k0_cond1 (cfg0.grid.coords t) = 1#1 := idle_false hi
    rw [if_pos h, after0_8, clp_of_lt t ((cond1_iff t).1 h)]
  · exact if_neg (idle_true hi)
theorem leaves_9 (c : Dev nD) (t : Fin cfg0.N) (d) :
    (owns (c : Thread nD τ) (st0_9 t) fullShare (if k0_cond1 (cfg0.grid.coords t) = 1#1 then headsBy (iblk m c 1 t) (iblk m c 4 t) else (dats m 0 c).before 9 t d) : sProp 𝕄) ⊢ (dats m 0 c).leavesExact 9 t := by
  refine leaves_of m c 9 t d _ (fun hi => ?_) (fun hi => ?_) (last_9 m c t d)
  · have h : k0_cond1 (cfg0.grid.coords t) = 1#1 := idle_false hi
    rw [if_pos h, after0_9, clp_of_lt t ((cond1_iff t).1 h)]
  · exact if_neg (idle_true hi)
theorem leaves_10 (c : Dev nD) (t : Fin cfg0.N) (d) :
    (owns (c : Thread nD τ) (st0_10 t) fullShare (if k0_cond1 (cfg0.grid.coords t) = 1#1 then scalesBy (iblk m c 1 t) (iblk m c 4 t) else (dats m 0 c).before 10 t d) : sProp 𝕄) ⊢ (dats m 0 c).leavesExact 10 t := by
  refine leaves_of m c 10 t d _ (fun hi => ?_) (fun hi => ?_) (last_10 m c t d)
  · have h : k0_cond1 (cfg0.grid.coords t) = 1#1 := idle_false hi
    rw [if_pos h, after0_10, clp_of_lt t ((cond1_iff t).1 h)]
  · exact if_neg (idle_true hi)
theorem leaves_11 (c : Dev nD) (t : Fin cfg0.N) (d) (st : Vec F S16x512x1024 .bf16) (M : Vec F S8x1024 .f32) (I : Vec F S1x1024 .f32) (h : Inv m c t.val st M I) :
    (owns (c : Thread nD τ) (st0_11 t) fullShare (if k0_cond2 (cfg0.grid.coords t) = 1#1 then vcodesBy (stashBlk st (cfg0.grid.coords t 1)) I else (dats m 0 c).before 11 t d) : sProp 𝕄) ⊢ (dats m 0 c).leavesExact 11 t := by
  refine leaves_of m c 11 t d _ (fun hi => ?_) (fun hi => ?_) (last_11 m c t d)
  · have h2 : k0_cond2 (cfg0.grid.coords t) = 1#1 := idle_false hi
    have h16 := (cond2_iff t).1 h2
    rw [if_pos h2, after0_11, ring_read m c t st M I h h16, h.inv h16 (lt_160 t)]
  · exact if_neg (idle_true hi)
theorem leaves_12 (c : Dev nD) (t : Fin cfg0.N) (d) (st : Vec F S16x512x1024 .bf16) (M : Vec F S8x1024 .f32) (I : Vec F S1x1024 .f32) (h : Inv m c t.val st M I) :
    (owns (c : Thread nD τ) (st0_12 t) fullShare (if k0_cond2 (cfg0.grid.coords t) = 1#1 then vtOf (stashBlk st (cfg0.grid.coords t 1)) I else (dats m 0 c).before 12 t d) : sProp 𝕄) ⊢ (dats m 0 c).leavesExact 12 t := by
  refine leaves_of m c 12 t d _ (fun hi => ?_) (fun hi => ?_) (last_12 m c t d)
  · have h2 : k0_cond2 (cfg0.grid.coords t) = 1#1 := idle_false hi
    have h16 := (cond2_iff t).1 h2
    rw [if_pos h2, after0_12, ring_read m c t st M I h h16, h.inv h16 (lt_160 t)]
  · exact if_neg (idle_true hi)
theorem leaves_13 (c : Dev nD) (t : Fin cfg0.N) (d) (st : Vec F S16x512x1024 .bf16) (M : Vec F S8x1024 .f32) (I : Vec F S1x1024 .f32) (h : Inv m c t.val st M I) :
    (owns (c : Thread nD τ) (st0_13 t) fullShare (if k0_cond3 (cfg0.grid.coords t) = 1#1 then (if k0_cond4 (cfg0.grid.coords t) = 1#1 then vscalesBy (k0_pay11 (cfg0.grid.coords t) (iblk m c 2 t) M) else (dats m 0 c).before 13 t d) else (dats m 0 c).before 13 t d) : sProp 𝕄) ⊢ (dats m 0 c).leavesExact 13 t := by
  refine leaves_of m c 13 t d _ (fun hi => ?_) (fun hi => ?_) (last_13 m c t d)
  · obtain ⟨h3, h4⟩ : k0_cond3 (cfg0.grid.coords t) = 1#1 ∧ k0_cond4 (cfg0.grid.coords t) = 1#1 := idle_false2 hi
    have h3' := (cond3_iff t).1 h3
    have h4' := (cond4_iff t).1 h4
    have e : min (16 * (t.val / 16) + 15) 143 = t.val := by omega
    rw [if_pos h3, if_pos h4, after0_13, e, mx_read m c t st M I h h3']
  · have hn : ¬ (k0_cond3 (cfg0.grid.coords t) = 1#1 ∧ k0_cond4 (cfg0.grid.coords t) = 1#1) := idle_true2 hi
    by_cases h3 : k0_cond3 (cfg0.grid.coords t) = 1#1
    · rw [if_pos h3, if_neg (fun h4 => hn ⟨h3, h4⟩)]
    · rw [if_neg h3]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiN m c (t.val + 1) from rfl,
    show (dats m 0 c).owesAt () t.succ = (dats m 0 c).owesAt () t.castSucc from rfl,
    after0_0, after0_1, after0_2, after0_3, after0_4]
  rw [show (dats m 0 c).Φ t.castSucc = PhiN m c t.val from rfl]
  unfold PhiN
  iintro ⟨⟨⟨%dY, HY⟩, ⟨%dT, HT⟩, ⟨%st, %M, %I, %hinv, HS2, HS3, HS4⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_spec c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) dY dT st M I _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HY]; · iexact HY
  isplitl [HT]; · iexact HT
  isplitl [HS2]; · iexact HS2
  isplitl [HS3]; · iexact HS3
  isplitl [HS4]; · iexact HS4
  iintro ⟨H0, H1, H2, H3, H4, H5, H6, H7, H8, H9, H10, H11, H12, H13  , HY, HT, HS2, HS3, HS4⟩
  isplitl [HY HT HS2 HS3 HS4 HP]
  · isplitl [HY]; · iexact HY
    isplitl [HT]; · iexact HT
    isplitl [HS2 HS3 HS4]
    · iexists _; iexists _; iexists _
      isplitr; · ipureintro; exact inv_step m c t st M I hinv
      isplitl [HS2]; · iexact HS2
      isplitl [HS3]; · iexact HS3
      iexact HS4
    iexact HP
  isplitl [Ho]; · iexact Ho
  isplitl [H0]; · iexact H0
  isplitl [H1]; · iexact H1
  isplitl [H2]; · iexact H2
  isplitl [H3]; · iexact H3
  isplitl [H4]; · iexact H4
  isplitl [H5]; · iapply (leaves_5 m c t d5); iexact H5
  isplitl [H6]; · iapply (leaves_6 m c t d6); iexact H6
  isplitl [H7]; · iapply (leaves_7 m c t d7); iexact H7
  isplitl [H8]; · iapply (leaves_8 m c t d8); iexact H8
  isplitl [H9]; · iapply (leaves_9 m c t d9); iexact H9
  isplitl [H10]; · iapply (leaves_10 m c t d10); iexact H10
  isplitl [H11]; · iapply (leaves_11 m c t d11 st M I hinv); iexact H11
  isplitl [H12]; · iapply (leaves_12 m c t d12 st M I hinv); iexact H12
  iapply (leaves_13 m c t d13 st M I hinv); iexact H13

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array of the pipeline ends at what the library computes from the proof data, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := fun c => Phi_in m c) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Quantise.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.Printed.Frame
public import proofs.«01_k».proof.Proof.Gen.ReferenceIdeal.Value
public import proofs.«01_k».proof.Proof.Gen.Pre_positive_scales
public import proofs.«01_k».proof.Proof.Array
public import proofs.«01_k».proof.Proof.Precondition
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.QuantiseReferenceIdeal
public import proofs.«01_k».proof.Proof.Gen.QuantiseReferenceIdeal.Skeleton
public import proofs.«01_k».proof.Proof.Gen.QuantiseReferenceIdeal.Frame
public import proofs.«01_k».proof.Proof.Gen.QuantiseReferenceIdeal.Value
public import proofs.«01_k».proof.Proof.Quant.KerArray
public import proofs.«01_k».proof.Proof.QuantPrinted.Data
public import Idealize.ShloMosaic.Adequacy
public import Idealize.ShloMosaic.Init

@[expose] public section

noncomputable section

namespace Cert.Proof

open Idealize.ShloMosaic Idealize.SL.Sem

/-- Kernel and reference end with the same array: the kernel with the reference's function of its own arguments
    (`Array.lean`), the reference with that function of arguments that agree. -/
theorem algebraic : Cert.algebraic_KernelIdeal_ReferenceIdeal_pre_positive_scales := by
  intro m g m' g' hpre hagree
  refine ⟨fun c => Cert.KernelIdeal.Att.target m c,
    Cert.KernelIdeal.Att.run m g (Cert.KernelIdeal.Att.positive m hpre),
    (θ_run (Cert.ReferenceIdeal.defs (F := Ideal)) _ _).mono (fun r h c => ?_) (Cert.ReferenceIdeal.Value.run m' g')⟩
  obtain ⟨h0, h1, h2, h3, h4, h5⟩ := hagree c
  refine ⟨(h c).1.trans ?_, (h c).2⟩
  rw [h0, h1, h2, h3, h4, h5]

set_option maxHeartbeats 2000000 in
/-- The quantise call and its reference end with the same nine arrays: each array of the kernel is the reference's
    function of the kernel's own arguments (`Quant/KerArray.lean`), the reference's arrays are those functions of
    arguments that agree (`Quant/RefArray.lean`). -/
theorem algebraic_quantise : Cert.algebraic_QuantiseIdeal_QuantiseReferenceIdeal := by
  intro m g m' g' _ hagree
  refine ⟨fun c => Cert.QuantiseReferenceIdeal.Quant.codesR (m ((c.tc : Thread Cert.QuantiseIdeal.nD Cert.QuantiseIdeal.τ).loc Cert.QuantiseIdeal.main_arg3)) (m ((c.tc : Thread Cert.QuantiseIdeal.nD Cert.QuantiseIdeal.τ).loc Cert.QuantiseIdeal.main_arg0)),
    fun c => Cert.QuantiseReferenceIdeal.Quant.headsR (m ((c.tc : Thread Cert.QuantiseIdeal.nD Cert.QuantiseIdeal.τ).loc Cert.QuantiseIdeal.main_arg3)) (m ((c.tc : Thread Cert.QuantiseIdeal.nD Cert.QuantiseIdeal.τ).loc Cert.QuantiseIdeal.main_arg0)),
    fun c => Cert.QuantiseReferenceIdeal.Quant.scalesR (m ((c.tc : Thread Cert.QuantiseIdeal.nD Cert.QuantiseIdeal.τ).loc Cert.QuantiseIdeal.main_arg3)) (m ((c.tc : Thread Cert.QuantiseIdeal.nD Cert.QuantiseIdeal.τ).loc Cert.QuantiseIdeal.main_arg0)),
    fun c => Cert.QuantiseReferenceIdeal.Quant.codesR (m ((c.tc : Thread Cert.QuantiseIdeal.nD Cert.QuantiseIdeal.τ).loc Cert.QuantiseIdeal.main_arg3)) (m ((c.tc : Thread Cert.QuantiseIdeal.nD Cert.QuantiseIdeal.τ).loc Cert.QuantiseIdeal.main_arg1)),
    fun c => Cert.QuantiseReferenceIdeal.Quant.headsR (m ((c.tc : Thread Cert.QuantiseIdeal.nD Cert.QuantiseIdeal.τ).loc Cert.QuantiseIdeal.main_arg3)) (m ((c.tc : Thread Cert.QuantiseIdeal.nD Cert.QuantiseIdeal.τ).loc Cert.QuantiseIdeal.main_arg1)),
    fun c => Cert.QuantiseReferenceIdeal.Quant.scalesR (m ((c.tc : Thread Cert.QuantiseIdeal.nD Cert.QuantiseIdeal.τ).loc Cert.QuantiseIdeal.main_arg3)) (m ((c.tc : Thread Cert.QuantiseIdeal.nD Cert.QuantiseIdeal.τ).loc Cert.QuantiseIdeal.main_arg1)),
    fun c => Cert.QuantiseReferenceIdeal.Quant.vcodesR (Cert.QuantiseReferenceIdeal.Quant.heads (m ((c.tc : Thread Cert.QuantiseIdeal.nD Cert.QuantiseIdeal.τ).loc Cert.QuantiseIdeal.main_arg2))),
    fun c => Cert.QuantiseReferenceIdeal.Quant.vtR (Cert.QuantiseReferenceIdeal.Quant.heads (m ((c.tc : Thread Cert.QuantiseIdeal.nD Cert.QuantiseIdeal.τ).loc Cert.QuantiseIdeal.main_arg2))),
    fun c => Cert.QuantiseReferenceIdeal.Quant.vscalesR (Cert.QuantiseReferenceIdeal.Quant.heads (m ((c.tc : Thread Cert.QuantiseIdeal.nD Cert.QuantiseIdeal.τ).loc Cert.QuantiseIdeal.main_arg2))),
    (θ_run (Cert.QuantiseIdeal.defs (F := Ideal)) _ _).mono (fun r h c => ?_)
      (θ_run_and (Cert.QuantiseIdeal.Quant.run_main (F := Ideal) m g) (Cert.QuantiseIdeal.Quant.unchanged (F := Ideal) m g)),
    (θ_run (Cert.QuantiseReferenceIdeal.defs (F := Ideal)) _ _).mono (fun r h c => ?_) (Cert.QuantiseReferenceIdeal.Value.run_blocks (F := Ideal) m' g')⟩
  · exact ⟨((h.1 c).1 5).trans (Cert.QuantiseIdeal.Quant.final5 m c), ((h.1 c).1 6).trans (Cert.QuantiseIdeal.Quant.final6 m c), ((h.1 c).1 7).trans (Cert.QuantiseIdeal.Quant.final7 m c),
      ((h.1 c).1 8).trans (Cert.QuantiseIdeal.Quant.final8 m c), ((h.1 c).1 9).trans (Cert.QuantiseIdeal.Quant.final9 m c), ((h.1 c).1 10).trans (Cert.QuantiseIdeal.Quant.final10 m c),
      ((h.1 c).1 11).trans (Cert.QuantiseIdeal.Quant.final11 m c), ((h.1 c).1 12).trans (Cert.QuantiseIdeal.Quant.final12 m c), ((h.1 c).1 13).trans (Cert.QuantiseIdeal.Quant.final13 m c), h.2 c⟩
  · have h0 := (hagree c).1
    have h1 := (hagree c).2.1
    have h2 := (hagree c).2.2.1
    have h3 := (hagree c).2.2.2
    refine ⟨(h c).1.trans ?_, (h c).2.1.trans ?_, (h c).2.2.1.trans ?_, (h c).2.2.2.1.trans ?_, (h c).2.2.2.2.1.trans ?_, (h c).2.2.2.2.2.1.trans ?_,
      (h c).2.2.2.2.2.2.1.trans ?_, (h c).2.2.2.2.2.2.2.1.trans ?_, (h c).2.2.2.2.2.2.2.2.1.trans ?_, (h c).2.2.2.2.2.2.2.2.2⟩
    · rw [Cert.QuantiseReferenceIdeal.Quant.final4, h0, h3]
    · rw [Cert.QuantiseReferenceIdeal.Quant.final5, h0, h3]
    · rw [Cert.QuantiseReferenceIdeal.Quant.final6, h0, h3]
    · rw [Cert.QuantiseReferenceIdeal.Quant.final7, h1, h3]
    · rw [Cert.QuantiseReferenceIdeal.Quant.final8, h1, h3]
    · rw [Cert.QuantiseReferenceIdeal.Quant.final9, h1, h3]
    · rw [Cert.QuantiseReferenceIdeal.Quant.final10, h2]
    · rw [Cert.QuantiseReferenceIdeal.Quant.final11, h2]
    · rw [Cert.QuantiseReferenceIdeal.Quant.final12, h2]

theorem claim : Cert.Claim := ⟨Cert.Kernel.Gen.facts, Cert.KernelIdeal.Gen.facts, Cert.ReferenceIdeal.Gen.facts,
  Cert.Quantise.Gen.facts, Cert.QuantiseIdeal.Gen.facts, Cert.QuantiseReferenceIdeal.Gen.facts, Cert.Pre_positive_scales.Gen.facts,
  fun m ρ _ => Cert.Kernel.Att.frame m ρ, fun m ρ _ => Cert.KernelIdeal.Att.frame m ρ, fun m ρ _ => Cert.KernelIdeal.Att.frame m ρ,
  fun m ρ _ => Cert.ReferenceIdeal.Gen.frame m ρ, fun m ρ _ => Cert.ReferenceIdeal.Gen.frame m ρ,
  fun m ρ _ => Cert.Quantise.Quant.frame m ρ, fun m ρ _ => Cert.QuantiseIdeal.Quant.frame m ρ, fun m ρ _ => Cert.QuantiseReferenceIdeal.Gen.frame m ρ,
  IdealRules.named_const.statement _ _ _ _ _ rfl, algebraic, trivial, algebraic_quantise⟩

end Cert.Proof

end
